-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2 = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_DownA (m : (ℓ : Loc Cert.DownA.nD Cert.DownA.τ Cert.DownA.sig) → Buf (Elt Bits) ℓ) : Prop :=
  True

def Pre_DownAIdeal (m : (ℓ : Loc Cert.DownAIdeal.nD Cert.DownAIdeal.τ Cert.DownAIdeal.sig) → Buf (Elt Ideal) ℓ) : Prop :=
  True

def Pre_DownARefIdeal (m : (ℓ : Loc Cert.DownARefIdeal.nD Cert.DownARefIdeal.τ Cert.DownARefIdeal.sig) → Buf (Elt Ideal) ℓ) : Prop :=
  True

def Pre_DownB (m : (ℓ : Loc Cert.DownB.nD Cert.DownB.τ Cert.DownB.sig) → Buf (Elt Bits) ℓ) : Prop :=
  True

def Pre_DownBIdeal (m : (ℓ : Loc Cert.DownBIdeal.nD Cert.DownBIdeal.τ Cert.DownBIdeal.sig) → Buf (Elt Ideal) ℓ) : Prop :=
  True

def Pre_DownBRefIdeal (m : (ℓ : Loc Cert.DownBRefIdeal.nD Cert.DownBRefIdeal.τ Cert.DownBRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ExpUp [hPre_tables_up : Cert.Pre_tables_up.Facts] (m : (ℓ : Loc Cert.ExpUp.nD Cert.ExpUp.τ Cert.ExpUp.sig) → Buf (Elt Bits) ℓ) : Prop :=
  ∀ c : Dev Cert.ExpUp.nD,
    (Cert.Pre_tables_up.fn (F := Bits) (m ((c.tc : Thread Cert.ExpUp.nD Cert.ExpUp.τ).loc Cert.ExpUp.main_arg0)) (m ((c.tc : Thread Cert.ExpUp.nD Cert.ExpUp.τ).loc Cert.ExpUp.main_arg1)) (m ((c.tc : Thread Cert.ExpUp.nD Cert.ExpUp.τ).loc Cert.ExpUp.main_arg2)) (m ((c.tc : Thread Cert.ExpUp.nD Cert.ExpUp.τ).loc Cert.ExpUp.main_arg3)) (m ((c.tc : Thread Cert.ExpUp.nD Cert.ExpUp.τ).loc Cert.ExpUp.main_arg4)) (m ((c.tc : Thread Cert.ExpUp.nD Cert.ExpUp.τ).loc Cert.ExpUp.main_arg5))).1 = (fun _ => 1#1)
    ∧ (Cert.Pre_tables_up.fn (F := Bits) (m ((c.tc : Thread Cert.ExpUp.nD Cert.ExpUp.τ).loc Cert.ExpUp.main_arg0)) (m ((c.tc : Thread Cert.ExpUp.nD Cert.ExpUp.τ).loc Cert.ExpUp.main_arg1)) (m ((c.tc : Thread Cert.ExpUp.nD Cert.ExpUp.τ).loc Cert.ExpUp.main_arg2)) (m ((c.tc : Thread Cert.ExpUp.nD Cert.ExpUp.τ).loc Cert.ExpUp.main_arg3)) (m ((c.tc : Thread Cert.ExpUp.nD Cert.ExpUp.τ).loc Cert.ExpUp.main_arg4)) (m ((c.tc : Thread Cert.ExpUp.nD Cert.ExpUp.τ).loc Cert.ExpUp.main_arg5))).2.1 = (fun _ => 1#1)
    ∧ (Cert.Pre_tables_up.fn (F := Bits) (m ((c.tc : Thread Cert.ExpUp.nD Cert.ExpUp.τ).loc Cert.ExpUp.main_arg0)) (m ((c.tc : Thread Cert.ExpUp.nD Cert.ExpUp.τ).loc Cert.ExpUp.main_arg1)) (m ((c.tc : Thread Cert.ExpUp.nD Cert.ExpUp.τ).loc Cert.ExpUp.main_arg2)) (m ((c.tc : Thread Cert.ExpUp.nD Cert.ExpUp.τ).loc Cert.ExpUp.main_arg3)) (m ((c.tc : Thread Cert.ExpUp.nD Cert.ExpUp.τ).loc Cert.ExpUp.main_arg4)) (m ((c.tc : Thread Cert.ExpUp.nD Cert.ExpUp.τ).loc Cert.ExpUp.main_arg5))).2.2.1 = (fun _ => 1#1)
    ∧ (Cert.Pre_tables_up.fn (F := Bits) (m ((c.tc : Thread Cert.ExpUp.nD Cert.ExpUp.τ).loc Cert.ExpUp.main_arg0)) (m ((c.tc : Thread Cert.ExpUp.nD Cert.ExpUp.τ).loc Cert.ExpUp.main_arg1)) (m ((c.tc : Thread Cert.ExpUp.nD Cert.ExpUp.τ).loc Cert.ExpUp.main_arg2)) (m ((c.tc : Thread Cert.ExpUp.nD Cert.ExpUp.τ).loc Cert.ExpUp.main_arg3)) (m ((c.tc : Thread Cert.ExpUp.nD Cert.ExpUp.τ).loc Cert.ExpUp.main_arg4)) (m ((c.tc : Thread Cert.ExpUp.nD Cert.ExpUp.τ).loc Cert.ExpUp.main_arg5))).2.2.2 = (fun _ => 1#1)

def Pre_ExpUpIdeal [hPre_tables_up : Cert.Pre_tables_up.Facts] (m : (ℓ : Loc Cert.ExpUpIdeal.nD Cert.ExpUpIdeal.τ Cert.ExpUpIdeal.sig) → Buf (Elt Ideal) ℓ) : Prop :=
  ∀ c : Dev Cert.ExpUpIdeal.nD,
    (Cert.Pre_tables_up.fn (F := Ideal) (m ((c.tc : Thread Cert.ExpUpIdeal.nD Cert.ExpUpIdeal.τ).loc Cert.ExpUpIdeal.main_arg0)) (m ((c.tc : Thread Cert.ExpUpIdeal.nD Cert.ExpUpIdeal.τ).loc Cert.ExpUpIdeal.main_arg1)) (m ((c.tc : Thread Cert.ExpUpIdeal.nD Cert.ExpUpIdeal.τ).loc Cert.ExpUpIdeal.main_arg2)) (m ((c.tc : Thread Cert.ExpUpIdeal.nD Cert.ExpUpIdeal.τ).loc Cert.ExpUpIdeal.main_arg3)) (m ((c.tc : Thread Cert.ExpUpIdeal.nD Cert.ExpUpIdeal.τ).loc Cert.ExpUpIdeal.main_arg4)) (m ((c.tc : Thread Cert.ExpUpIdeal.nD Cert.ExpUpIdeal.τ).loc Cert.ExpUpIdeal.main_arg5))).1 = (fun _ => 1#1)
    ∧ (Cert.Pre_tables_up.fn (F := Ideal) (m ((c.tc : Thread Cert.ExpUpIdeal.nD Cert.ExpUpIdeal.τ).loc Cert.ExpUpIdeal.main_arg0)) (m ((c.tc : Thread Cert.ExpUpIdeal.nD Cert.ExpUpIdeal.τ).loc Cert.ExpUpIdeal.main_arg1)) (m ((c.tc : Thread Cert.ExpUpIdeal.nD Cert.ExpUpIdeal.τ).loc Cert.ExpUpIdeal.main_arg2)) (m ((c.tc : Thread Cert.ExpUpIdeal.nD Cert.ExpUpIdeal.τ).loc Cert.ExpUpIdeal.main_arg3)) (m ((c.tc : Thread Cert.ExpUpIdeal.nD Cert.ExpUpIdeal.τ).loc Cert.ExpUpIdeal.main_arg4)) (m ((c.tc : Thread Cert.ExpUpIdeal.nD Cert.ExpUpIdeal.τ).loc Cert.ExpUpIdeal.main_arg5))).2.1 = (fun _ => 1#1)
    ∧ (Cert.Pre_tables_up.fn (F := Ideal) (m ((c.tc : Thread Cert.ExpUpIdeal.nD Cert.ExpUpIdeal.τ).loc Cert.ExpUpIdeal.main_arg0)) (m ((c.tc : Thread Cert.ExpUpIdeal.nD Cert.ExpUpIdeal.τ).loc Cert.ExpUpIdeal.main_arg1)) (m ((c.tc : Thread Cert.ExpUpIdeal.nD Cert.ExpUpIdeal.τ).loc Cert.ExpUpIdeal.main_arg2)) (m ((c.tc : Thread Cert.ExpUpIdeal.nD Cert.ExpUpIdeal.τ).loc Cert.ExpUpIdeal.main_arg3)) (m ((c.tc : Thread Cert.ExpUpIdeal.nD Cert.ExpUpIdeal.τ).loc Cert.ExpUpIdeal.main_arg4)) (m ((c.tc : Thread Cert.ExpUpIdeal.nD Cert.ExpUpIdeal.τ).loc Cert.ExpUpIdeal.main_arg5))).2.2.1 = (fun _ => 1#1)
    ∧ (Cert.Pre_tables_up.fn (F := Ideal) (m ((c.tc : Thread Cert.ExpUpIdeal.nD Cert.ExpUpIdeal.τ).loc Cert.ExpUpIdeal.main_arg0)) (m ((c.tc : Thread Cert.ExpUpIdeal.nD Cert.ExpUpIdeal.τ).loc Cert.ExpUpIdeal.main_arg1)) (m ((c.tc : Thread Cert.ExpUpIdeal.nD Cert.ExpUpIdeal.τ).loc Cert.ExpUpIdeal.main_arg2)) (m ((c.tc : Thread Cert.ExpUpIdeal.nD Cert.ExpUpIdeal.τ).loc Cert.ExpUpIdeal.main_arg3)) (m ((c.tc : Thread Cert.ExpUpIdeal.nD Cert.ExpUpIdeal.τ).loc Cert.ExpUpIdeal.main_arg4)) (m ((c.tc : Thread Cert.ExpUpIdeal.nD Cert.ExpUpIdeal.τ).loc Cert.ExpUpIdeal.main_arg5))).2.2.2 = (fun _ => 1#1)

def Pre_ExpUpRefIdeal [hPre_tables_up : Cert.Pre_tables_up.Facts] (m : (ℓ : Loc Cert.ExpUpRefIdeal.nD Cert.ExpUpRefIdeal.τ Cert.ExpUpRefIdeal.sig) → Buf (Elt Ideal) ℓ) : Prop :=
  ∀ c : Dev Cert.ExpUpRefIdeal.nD,
    (Cert.Pre_tables_up.fn (F := Ideal) (m ((c.tc : Thread Cert.ExpUpRefIdeal.nD Cert.ExpUpRefIdeal.τ).loc Cert.ExpUpRefIdeal.main_arg0)) (m ((c.tc : Thread Cert.ExpUpRefIdeal.nD Cert.ExpUpRefIdeal.τ).loc Cert.ExpUpRefIdeal.main_arg1)) (m ((c.tc : Thread Cert.ExpUpRefIdeal.nD Cert.ExpUpRefIdeal.τ).loc Cert.ExpUpRefIdeal.main_arg2)) (m ((c.tc : Thread Cert.ExpUpRefIdeal.nD Cert.ExpUpRefIdeal.τ).loc Cert.ExpUpRefIdeal.main_arg3)) (m ((c.tc : Thread Cert.ExpUpRefIdeal.nD Cert.ExpUpRefIdeal.τ).loc Cert.ExpUpRefIdeal.main_arg4)) (m ((c.tc : Thread Cert.ExpUpRefIdeal.nD Cert.ExpUpRefIdeal.τ).loc Cert.ExpUpRefIdeal.main_arg5))).1 = (fun _ => 1#1)
    ∧ (Cert.Pre_tables_up.fn (F := Ideal) (m ((c.tc : Thread Cert.ExpUpRefIdeal.nD Cert.ExpUpRefIdeal.τ).loc Cert.ExpUpRefIdeal.main_arg0)) (m ((c.tc : Thread Cert.ExpUpRefIdeal.nD Cert.ExpUpRefIdeal.τ).loc Cert.ExpUpRefIdeal.main_arg1)) (m ((c.tc : Thread Cert.ExpUpRefIdeal.nD Cert.ExpUpRefIdeal.τ).loc Cert.ExpUpRefIdeal.main_arg2)) (m ((c.tc : Thread Cert.ExpUpRefIdeal.nD Cert.ExpUpRefIdeal.τ).loc Cert.ExpUpRefIdeal.main_arg3)) (m ((c.tc : Thread Cert.ExpUpRefIdeal.nD Cert.ExpUpRefIdeal.τ).loc Cert.ExpUpRefIdeal.main_arg4)) (m ((c.tc : Thread Cert.ExpUpRefIdeal.nD Cert.ExpUpRefIdeal.τ).loc Cert.ExpUpRefIdeal.main_arg5))).2.1 = (fun _ => 1#1)
    ∧ (Cert.Pre_tables_up.fn (F := Ideal) (m ((c.tc : Thread Cert.ExpUpRefIdeal.nD Cert.ExpUpRefIdeal.τ).loc Cert.ExpUpRefIdeal.main_arg0)) (m ((c.tc : Thread Cert.ExpUpRefIdeal.nD Cert.ExpUpRefIdeal.τ).loc Cert.ExpUpRefIdeal.main_arg1)) (m ((c.tc : Thread Cert.ExpUpRefIdeal.nD Cert.ExpUpRefIdeal.τ).loc Cert.ExpUpRefIdeal.main_arg2)) (m ((c.tc : Thread Cert.ExpUpRefIdeal.nD Cert.ExpUpRefIdeal.τ).loc Cert.ExpUpRefIdeal.main_arg3)) (m ((c.tc : Thread Cert.ExpUpRefIdeal.nD Cert.ExpUpRefIdeal.τ).loc Cert.ExpUpRefIdeal.main_arg4)) (m ((c.tc : Thread Cert.ExpUpRefIdeal.nD Cert.ExpUpRefIdeal.τ).loc Cert.ExpUpRefIdeal.main_arg5))).2.2.1 = (fun _ => 1#1)
    ∧ (Cert.Pre_tables_up.fn (F := Ideal) (m ((c.tc : Thread Cert.ExpUpRefIdeal.nD Cert.ExpUpRefIdeal.τ).loc Cert.ExpUpRefIdeal.main_arg0)) (m ((c.tc : Thread Cert.ExpUpRefIdeal.nD Cert.ExpUpRefIdeal.τ).loc Cert.ExpUpRefIdeal.main_arg1)) (m ((c.tc : Thread Cert.ExpUpRefIdeal.nD Cert.ExpUpRefIdeal.τ).loc Cert.ExpUpRefIdeal.main_arg2)) (m ((c.tc : Thread Cert.ExpUpRefIdeal.nD Cert.ExpUpRefIdeal.τ).loc Cert.ExpUpRefIdeal.main_arg3)) (m ((c.tc : Thread Cert.ExpUpRefIdeal.nD Cert.ExpUpRefIdeal.τ).loc Cert.ExpUpRefIdeal.main_arg4)) (m ((c.tc : Thread Cert.ExpUpRefIdeal.nD Cert.ExpUpRefIdeal.τ).loc Cert.ExpUpRefIdeal.main_arg5))).2.2.2 = (fun _ => 1#1)

def Pre_ExpDown [hPre_tables_down : Cert.Pre_tables_down.Facts] (m : (ℓ : Loc Cert.ExpDown.nD Cert.ExpDown.τ Cert.ExpDown.sig) → Buf (Elt Bits) ℓ) : Prop :=
  ∀ c : Dev Cert.ExpDown.nD,
    (Cert.Pre_tables_down.fn (F := Bits) (m ((c.tc : Thread Cert.ExpDown.nD Cert.ExpDown.τ).loc Cert.ExpDown.main_arg0)) (m ((c.tc : Thread Cert.ExpDown.nD Cert.ExpDown.τ).loc Cert.ExpDown.main_arg1)) (m ((c.tc : Thread Cert.ExpDown.nD Cert.ExpDown.τ).loc Cert.ExpDown.main_arg2)) (m ((c.tc : Thread Cert.ExpDown.nD Cert.ExpDown.τ).loc Cert.ExpDown.main_arg3)) (m ((c.tc : Thread Cert.ExpDown.nD Cert.ExpDown.τ).loc Cert.ExpDown.main_arg4))).1 = (fun _ => 1#1)
    ∧ (Cert.Pre_tables_down.fn (F := Bits) (m ((c.tc : Thread Cert.ExpDown.nD Cert.ExpDown.τ).loc Cert.ExpDown.main_arg0)) (m ((c.tc : Thread Cert.ExpDown.nD Cert.ExpDown.τ).loc Cert.ExpDown.main_arg1)) (m ((c.tc : Thread Cert.ExpDown.nD Cert.ExpDown.τ).loc Cert.ExpDown.main_arg2)) (m ((c.tc : Thread Cert.ExpDown.nD Cert.ExpDown.τ).loc Cert.ExpDown.main_arg3)) (m ((c.tc : Thread Cert.ExpDown.nD Cert.ExpDown.τ).loc Cert.ExpDown.main_arg4))).2.1 = (fun _ => 1#1)
    ∧ (Cert.Pre_tables_down.fn (F := Bits) (m ((c.tc : Thread Cert.ExpDown.nD Cert.ExpDown.τ).loc Cert.ExpDown.main_arg0)) (m ((c.tc : Thread Cert.ExpDown.nD Cert.ExpDown.τ).loc Cert.ExpDown.main_arg1)) (m ((c.tc : Thread Cert.ExpDown.nD Cert.ExpDown.τ).loc Cert.ExpDown.main_arg2)) (m ((c.tc : Thread Cert.ExpDown.nD Cert.ExpDown.τ).loc Cert.ExpDown.main_arg3)) (m ((c.tc : Thread Cert.ExpDown.nD Cert.ExpDown.τ).loc Cert.ExpDown.main_arg4))).2.2.1 = (fun _ => 1#1)
    ∧ (Cert.Pre_tables_down.fn (F := Bits) (m ((c.tc : Thread Cert.ExpDown.nD Cert.ExpDown.τ).loc Cert.ExpDown.main_arg0)) (m ((c.tc : Thread Cert.ExpDown.nD Cert.ExpDown.τ).loc Cert.ExpDown.main_arg1)) (m ((c.tc : Thread Cert.ExpDown.nD Cert.ExpDown.τ).loc Cert.ExpDown.main_arg2)) (m ((c.tc : Thread Cert.ExpDown.nD Cert.ExpDown.τ).loc Cert.ExpDown.main_arg3)) (m ((c.tc : Thread Cert.ExpDown.nD Cert.ExpDown.τ).loc Cert.ExpDown.main_arg4))).2.2.2 = (fun _ => 1#1)

def Pre_ExpDownIdeal [hPre_tables_down : Cert.Pre_tables_down.Facts] (m : (ℓ : Loc Cert.ExpDownIdeal.nD Cert.ExpDownIdeal.τ Cert.ExpDownIdeal.sig) → Buf (Elt Ideal) ℓ) : Prop :=
  ∀ c : Dev Cert.ExpDownIdeal.nD,
    (Cert.Pre_tables_down.fn (F := Ideal) (m ((c.tc : Thread Cert.ExpDownIdeal.nD Cert.ExpDownIdeal.τ).loc Cert.ExpDownIdeal.main_arg0)) (m ((c.tc : Thread Cert.ExpDownIdeal.nD Cert.ExpDownIdeal.τ).loc Cert.ExpDownIdeal.main_arg1)) (m ((c.tc : Thread Cert.ExpDownIdeal.nD Cert.ExpDownIdeal.τ).loc Cert.ExpDownIdeal.main_arg2)) (m ((c.tc : Thread Cert.ExpDownIdeal.nD Cert.ExpDownIdeal.τ).loc Cert.ExpDownIdeal.main_arg3)) (m ((c.tc : Thread Cert.ExpDownIdeal.nD Cert.ExpDownIdeal.τ).loc Cert.ExpDownIdeal.main_arg4))).1 = (fun _ => 1#1)
    ∧ (Cert.Pre_tables_down.fn (F := Ideal) (m ((c.tc : Thread Cert.ExpDownIdeal.nD Cert.ExpDownIdeal.τ).loc Cert.ExpDownIdeal.main_arg0)) (m ((c.tc : Thread Cert.ExpDownIdeal.nD Cert.ExpDownIdeal.τ).loc Cert.ExpDownIdeal.main_arg1)) (m ((c.tc : Thread Cert.ExpDownIdeal.nD Cert.ExpDownIdeal.τ).loc Cert.ExpDownIdeal.main_arg2)) (m ((c.tc : Thread Cert.ExpDownIdeal.nD Cert.ExpDownIdeal.τ).loc Cert.ExpDownIdeal.main_arg3)) (m ((c.tc : Thread Cert.ExpDownIdeal.nD Cert.ExpDownIdeal.τ).loc Cert.ExpDownIdeal.main_arg4))).2.1 = (fun _ => 1#1)
    ∧ (Cert.Pre_tables_down.fn (F := Ideal) (m ((c.tc : Thread Cert.ExpDownIdeal.nD Cert.ExpDownIdeal.τ).loc Cert.ExpDownIdeal.main_arg0)) (m ((c.tc : Thread Cert.ExpDownIdeal.nD Cert.ExpDownIdeal.τ).loc Cert.ExpDownIdeal.main_arg1)) (m ((c.tc : Thread Cert.ExpDownIdeal.nD Cert.ExpDownIdeal.τ).loc Cert.ExpDownIdeal.main_arg2)) (m ((c.tc : Thread Cert.ExpDownIdeal.nD Cert.ExpDownIdeal.τ).loc Cert.ExpDownIdeal.main_arg3)) (m ((c.tc : Thread Cert.ExpDownIdeal.nD Cert.ExpDownIdeal.τ).loc Cert.ExpDownIdeal.main_arg4))).2.2.1 = (fun _ => 1#1)
    ∧ (Cert.Pre_tables_down.fn (F := Ideal) (m ((c.tc : Thread Cert.ExpDownIdeal.nD Cert.ExpDownIdeal.τ).loc Cert.ExpDownIdeal.main_arg0)) (m ((c.tc : Thread Cert.ExpDownIdeal.nD Cert.ExpDownIdeal.τ).loc Cert.ExpDownIdeal.main_arg1)) (m ((c.tc : Thread Cert.ExpDownIdeal.nD Cert.ExpDownIdeal.τ).loc Cert.ExpDownIdeal.main_arg2)) (m ((c.tc : Thread Cert.ExpDownIdeal.nD Cert.ExpDownIdeal.τ).loc Cert.ExpDownIdeal.main_arg3)) (m ((c.tc : Thread Cert.ExpDownIdeal.nD Cert.ExpDownIdeal.τ).loc Cert.ExpDownIdeal.main_arg4))).2.2.2 = (fun _ => 1#1)

def Pre_ExpDownRefIdeal [hPre_tables_down : Cert.Pre_tables_down.Facts] (m : (ℓ : Loc Cert.ExpDownRefIdeal.nD Cert.ExpDownRefIdeal.τ Cert.ExpDownRefIdeal.sig) → Buf (Elt Ideal) ℓ) : Prop :=
  ∀ c : Dev Cert.ExpDownRefIdeal.nD,
    (Cert.Pre_tables_down.fn (F := Ideal) (m ((c.tc : Thread Cert.ExpDownRefIdeal.nD Cert.ExpDownRefIdeal.τ).loc Cert.ExpDownRefIdeal.main_arg0)) (m ((c.tc : Thread Cert.ExpDownRefIdeal.nD Cert.ExpDownRefIdeal.τ).loc Cert.ExpDownRefIdeal.main_arg1)) (m ((c.tc : Thread Cert.ExpDownRefIdeal.nD Cert.ExpDownRefIdeal.τ).loc Cert.ExpDownRefIdeal.main_arg2)) (m ((c.tc : Thread Cert.ExpDownRefIdeal.nD Cert.ExpDownRefIdeal.τ).loc Cert.ExpDownRefIdeal.main_arg3)) (m ((c.tc : Thread Cert.ExpDownRefIdeal.nD Cert.ExpDownRefIdeal.τ).loc Cert.ExpDownRefIdeal.main_arg4))).1 = (fun _ => 1#1)
    ∧ (Cert.Pre_tables_down.fn (F := Ideal) (m ((c.tc : Thread Cert.ExpDownRefIdeal.nD Cert.ExpDownRefIdeal.τ).loc Cert.ExpDownRefIdeal.main_arg0)) (m ((c.tc : Thread Cert.ExpDownRefIdeal.nD Cert.ExpDownRefIdeal.τ).loc Cert.ExpDownRefIdeal.main_arg1)) (m ((c.tc : Thread Cert.ExpDownRefIdeal.nD Cert.ExpDownRefIdeal.τ).loc Cert.ExpDownRefIdeal.main_arg2)) (m ((c.tc : Thread Cert.ExpDownRefIdeal.nD Cert.ExpDownRefIdeal.τ).loc Cert.ExpDownRefIdeal.main_arg3)) (m ((c.tc : Thread Cert.ExpDownRefIdeal.nD Cert.ExpDownRefIdeal.τ).loc Cert.ExpDownRefIdeal.main_arg4))).2.1 = (fun _ => 1#1)
    ∧ (Cert.Pre_tables_down.fn (F := Ideal) (m ((c.tc : Thread Cert.ExpDownRefIdeal.nD Cert.ExpDownRefIdeal.τ).loc Cert.ExpDownRefIdeal.main_arg0)) (m ((c.tc : Thread Cert.ExpDownRefIdeal.nD Cert.ExpDownRefIdeal.τ).loc Cert.ExpDownRefIdeal.main_arg1)) (m ((c.tc : Thread Cert.ExpDownRefIdeal.nD Cert.ExpDownRefIdeal.τ).loc Cert.ExpDownRefIdeal.main_arg2)) (m ((c.tc : Thread Cert.ExpDownRefIdeal.nD Cert.ExpDownRefIdeal.τ).loc Cert.ExpDownRefIdeal.main_arg3)) (m ((c.tc : Thread Cert.ExpDownRefIdeal.nD Cert.ExpDownRefIdeal.τ).loc Cert.ExpDownRefIdeal.main_arg4))).2.2.1 = (fun _ => 1#1)
    ∧ (Cert.Pre_tables_down.fn (F := Ideal) (m ((c.tc : Thread Cert.ExpDownRefIdeal.nD Cert.ExpDownRefIdeal.τ).loc Cert.ExpDownRefIdeal.main_arg0)) (m ((c.tc : Thread Cert.ExpDownRefIdeal.nD Cert.ExpDownRefIdeal.τ).loc Cert.ExpDownRefIdeal.main_arg1)) (m ((c.tc : Thread Cert.ExpDownRefIdeal.nD Cert.ExpDownRefIdeal.τ).loc Cert.ExpDownRefIdeal.main_arg2)) (m ((c.tc : Thread Cert.ExpDownRefIdeal.nD Cert.ExpDownRefIdeal.τ).loc Cert.ExpDownRefIdeal.main_arg3)) (m ((c.tc : Thread Cert.ExpDownRefIdeal.nD Cert.ExpDownRefIdeal.τ).loc Cert.ExpDownRefIdeal.main_arg4))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_Latents (m : (ℓ : Loc Cert.Latents.nD Cert.Latents.τ Cert.Latents.sig) → Buf (Elt Bits) ℓ) : Prop :=
  True

def Pre_LatentsIdeal (m : (ℓ : Loc Cert.LatentsIdeal.nD Cert.LatentsIdeal.τ Cert.LatentsIdeal.sig) → Buf (Elt Ideal) ℓ) : Prop :=
  True

def Pre_LatentsRefIdeal (m : (ℓ : Loc Cert.LatentsRefIdeal.nD Cert.LatentsRefIdeal.τ Cert.LatentsRefIdeal.sig) → Buf (Elt Ideal) ℓ) : Prop :=
  True

def Pre_KeyCols (m : (ℓ : Loc Cert.KeyCols.nD Cert.KeyCols.τ Cert.KeyCols.sig) → Buf (Elt Bits) ℓ) : Prop :=
  True

def Pre_KeyColsIdeal (m : (ℓ : Loc Cert.KeyColsIdeal.nD Cert.KeyColsIdeal.τ Cert.KeyColsIdeal.sig) → Buf (Elt Ideal) ℓ) : Prop :=
  True

def Pre_KeyColsRefIdeal (m : (ℓ : Loc Cert.KeyColsRefIdeal.nD Cert.KeyColsRefIdeal.τ Cert.KeyColsRefIdeal.sig) → Buf (Elt Ideal) ℓ) : Prop :=
  True

def Pre_QNope (m : (ℓ : Loc Cert.QNope.nD Cert.QNope.τ Cert.QNope.sig) → Buf (Elt Bits) ℓ) : Prop :=
  True

def Pre_QNopeIdeal (m : (ℓ : Loc Cert.QNopeIdeal.nD Cert.QNopeIdeal.τ Cert.QNopeIdeal.sig) → Buf (Elt Ideal) ℓ) : Prop :=
  True

def Pre_QNopeRefIdeal (m : (ℓ : Loc Cert.QNopeRefIdeal.nD Cert.QNopeRefIdeal.τ Cert.QNopeRefIdeal.sig) → Buf (Elt Ideal) ℓ) : Prop :=
  True

def Pre_KNope (m : (ℓ : Loc Cert.KNope.nD Cert.KNope.τ Cert.KNope.sig) → Buf (Elt Bits) ℓ) : Prop :=
  True

def Pre_KNopeIdeal (m : (ℓ : Loc Cert.KNopeIdeal.nD Cert.KNopeIdeal.τ Cert.KNopeIdeal.sig) → Buf (Elt Ideal) ℓ) : Prop :=
  True

def Pre_KNopeRefIdeal (m : (ℓ : Loc Cert.KNopeRefIdeal.nD Cert.KNopeRefIdeal.τ Cert.KNopeRefIdeal.sig) → Buf (Elt Ideal) ℓ) : Prop :=
  True

def Pre_LruSample (m : (ℓ : Loc Cert.LruSample.nD Cert.LruSample.τ Cert.LruSample.sig) → Buf (Elt Bits) ℓ) : Prop :=
  True

def Pre_LruSampleIdeal (m : (ℓ : Loc Cert.LruSampleIdeal.nD Cert.LruSampleIdeal.τ Cert.LruSampleIdeal.sig) → Buf (Elt Ideal) ℓ) : Prop :=
  True

def Pre_LruSampleRefIdeal (m : (ℓ : Loc Cert.LruSampleRefIdeal.nD Cert.LruSampleRefIdeal.τ Cert.LruSampleRefIdeal.sig) → Buf (Elt Ideal) ℓ) : Prop :=
  True

def Pre_VUp (m : (ℓ : Loc Cert.VUp.nD Cert.VUp.τ Cert.VUp.sig) → Buf (Elt Bits) ℓ) : Prop :=
  True

def Pre_VUpIdeal (m : (ℓ : Loc Cert.VUpIdeal.nD Cert.VUpIdeal.τ Cert.VUpIdeal.sig) → Buf (Elt Ideal) ℓ) : Prop :=
  True

def Pre_VUpRefIdeal (m : (ℓ : Loc Cert.VUpRefIdeal.nD Cert.VUpRefIdeal.τ Cert.VUpRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_DownA [hDownA : Cert.DownA.Facts] : Prop :=
  ∀ (m : (ℓ : Loc Cert.DownA.nD Cert.DownA.τ Cert.DownA.sig) → Buf (Elt Bits) ℓ) (g : Dev Cert.DownA.nD → PrngReg), Pre_DownA m →
    θ_run (Cert.DownA.defs (F := Bits)) (onTc (τ := Cert.DownA.τ) (Cert.DownA.main (F := Bits))) ⟨m, fun _ => 0, g⟩ (fun r => (∀ c : Dev Cert.DownA.nD,
      r.2.mem ((c.tc : Thread Cert.DownA.nD Cert.DownA.τ).loc Cert.DownA.main_arg0) = m ((c.tc : Thread Cert.DownA.nD Cert.DownA.τ).loc Cert.DownA.main_arg0)
      ∧ r.2.mem ((c.tc : Thread Cert.DownA.nD Cert.DownA.τ).loc Cert.DownA.main_arg1) = m ((c.tc : Thread Cert.DownA.nD Cert.DownA.τ).loc Cert.DownA.main_arg1))
      ∧ r.2.sem = fun _ => 0)

def quiescent_DownAIdeal [hDownAIdeal : Cert.DownAIdeal.Facts] : Prop :=
  ∀ (m : (ℓ : Loc Cert.DownAIdeal.nD Cert.DownAIdeal.τ Cert.DownAIdeal.sig) → Buf (Elt Ideal) ℓ) (g : Dev Cert.DownAIdeal.nD → PrngReg), Pre_DownAIdeal m →
    θ_run (Cert.DownAIdeal.defs (F := Ideal)) (onTc (τ := Cert.DownAIdeal.τ) (Cert.DownAIdeal.main (F := Ideal))) ⟨m, fun _ => 0, g⟩ (fun r => (∀ c : Dev Cert.DownAIdeal.nD,
      r.2.mem ((c.tc : Thread Cert.DownAIdeal.nD Cert.DownAIdeal.τ).loc Cert.DownAIdeal.main_arg0) = m ((c.tc : Thread Cert.DownAIdeal.nD Cert.DownAIdeal.τ).loc Cert.DownAIdeal.main_arg0)
      ∧ r.2.mem ((c.tc : Thread Cert.DownAIdeal.nD Cert.DownAIdeal.τ).loc Cert.DownAIdeal.main_arg1) = m ((c.tc : Thread Cert.DownAIdeal.nD Cert.DownAIdeal.τ).loc Cert.DownAIdeal.main_arg1))
      ∧ r.2.sem = fun _ => 0)

def quiescent_DownARefIdeal [hDownARefIdeal : Cert.DownARefIdeal.Facts] : Prop :=
  ∀ (m : (ℓ : Loc Cert.DownARefIdeal.nD Cert.DownARefIdeal.τ Cert.DownARefIdeal.sig) → Buf (Elt Ideal) ℓ) (g : Dev Cert.DownARefIdeal.nD → PrngReg), Pre_DownARefIdeal m →
    θ_run (Cert.DownARefIdeal.defs (F := Ideal)) (onTc (τ := Cert.DownARefIdeal.τ) (Cert.DownARefIdeal.main (F := Ideal))) ⟨m, fun _ => 0, g⟩ (fun r => (∀ c : Dev Cert.DownARefIdeal.nD,
      r.2.mem ((c.tc : Thread Cert.DownARefIdeal.nD Cert.DownARefIdeal.τ).loc Cert.DownARefIdeal.main_arg0) = m ((c.tc : Thread Cert.DownARefIdeal.nD Cert.DownARefIdeal.τ).loc Cert.DownARefIdeal.main_arg0)
      ∧ r.2.mem ((c.tc : Thread Cert.DownARefIdeal.nD Cert.DownARefIdeal.τ).loc Cert.DownARefIdeal.main_arg1) = m ((c.tc : Thread Cert.DownARefIdeal.nD Cert.DownARefIdeal.τ).loc Cert.DownARefIdeal.main_arg1))
      ∧ r.2.sem = fun _ => 0)

def quiescent_DownB [hDownB : Cert.DownB.Facts] : Prop :=
  ∀ (m : (ℓ : Loc Cert.DownB.nD Cert.DownB.τ Cert.DownB.sig) → Buf (Elt Bits) ℓ) (g : Dev Cert.DownB.nD → PrngReg), Pre_DownB m →
    θ_run (Cert.DownB.defs (F := Bits)) (onTc (τ := Cert.DownB.τ) (Cert.DownB.main (F := Bits))) ⟨m, fun _ => 0, g⟩ (fun r => (∀ c : Dev Cert.DownB.nD,
      r.2.mem ((c.tc : Thread Cert.DownB.nD Cert.DownB.τ).loc Cert.DownB.main_arg0) = m ((c.tc : Thread Cert.DownB.nD Cert.DownB.τ).loc Cert.DownB.main_arg0)
      ∧ r.2.mem ((c.tc : Thread Cert.DownB.nD Cert.DownB.τ).loc Cert.DownB.main_arg1) = m ((c.tc : Thread Cert.DownB.nD Cert.DownB.τ).loc Cert.DownB.main_arg1)
      ∧ r.2.mem ((c.tc : Thread Cert.DownB.nD Cert.DownB.τ).loc Cert.DownB.main_arg2) = m ((c.tc : Thread Cert.DownB.nD Cert.DownB.τ).loc Cert.DownB.main_arg2))
      ∧ r.2.sem = fun _ => 0)

def quiescent_DownBIdeal [hDownBIdeal : Cert.DownBIdeal.Facts] : Prop :=
  ∀ (m : (ℓ : Loc Cert.DownBIdeal.nD Cert.DownBIdeal.τ Cert.DownBIdeal.sig) → Buf (Elt Ideal) ℓ) (g : Dev Cert.DownBIdeal.nD → PrngReg), Pre_DownBIdeal m →
    θ_run (Cert.DownBIdeal.defs (F := Ideal)) (onTc (τ := Cert.DownBIdeal.τ) (Cert.DownBIdeal.main (F := Ideal))) ⟨m, fun _ => 0, g⟩ (fun r => (∀ c : Dev Cert.DownBIdeal.nD,
      r.2.mem ((c.tc : Thread Cert.DownBIdeal.nD Cert.DownBIdeal.τ).loc Cert.DownBIdeal.main_arg0) = m ((c.tc : Thread Cert.DownBIdeal.nD Cert.DownBIdeal.τ).loc Cert.DownBIdeal.main_arg0)
      ∧ r.2.mem ((c.tc : Thread Cert.DownBIdeal.nD Cert.DownBIdeal.τ).loc Cert.DownBIdeal.main_arg1) = m ((c.tc : Thread Cert.DownBIdeal.nD Cert.DownBIdeal.τ).loc Cert.DownBIdeal.main_arg1)
      ∧ r.2.mem ((c.tc : Thread Cert.DownBIdeal.nD Cert.DownBIdeal.τ).loc Cert.DownBIdeal.main_arg2) = m ((c.tc : Thread Cert.DownBIdeal.nD Cert.DownBIdeal.τ).loc Cert.DownBIdeal.main_arg2))
      ∧ r.2.sem = fun _ => 0)

def quiescent_DownBRefIdeal [hDownBRefIdeal : Cert.DownBRefIdeal.Facts] : Prop :=
  ∀ (m : (ℓ : Loc Cert.DownBRefIdeal.nD Cert.DownBRefIdeal.τ Cert.DownBRefIdeal.sig) → Buf (Elt Ideal) ℓ) (g : Dev Cert.DownBRefIdeal.nD → PrngReg), Pre_DownBRefIdeal m →
    θ_run (Cert.DownBRefIdeal.defs (F := Ideal)) (onTc (τ := Cert.DownBRefIdeal.τ) (Cert.DownBRefIdeal.main (F := Ideal))) ⟨m, fun _ => 0, g⟩ (fun r => (∀ c : Dev Cert.DownBRefIdeal.nD,
      r.2.mem ((c.tc : Thread Cert.DownBRefIdeal.nD Cert.DownBRefIdeal.τ).loc Cert.DownBRefIdeal.main_arg0) = m ((c.tc : Thread Cert.DownBRefIdeal.nD Cert.DownBRefIdeal.τ).loc Cert.DownBRefIdeal.main_arg0)
      ∧ r.2.mem ((c.tc : Thread Cert.DownBRefIdeal.nD Cert.DownBRefIdeal.τ).loc Cert.DownBRefIdeal.main_arg1) = m ((c.tc : Thread Cert.DownBRefIdeal.nD Cert.DownBRefIdeal.τ).loc Cert.DownBRefIdeal.main_arg1)
      ∧ r.2.mem ((c.tc : Thread Cert.DownBRefIdeal.nD Cert.DownBRefIdeal.τ).loc Cert.DownBRefIdeal.main_arg2) = m ((c.tc : Thread Cert.DownBRefIdeal.nD Cert.DownBRefIdeal.τ).loc Cert.DownBRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_ExpUp [hExpUp : Cert.ExpUp.Facts] [hPre_tables_up : Cert.Pre_tables_up.Facts] : Prop :=
  ∀ (m : (ℓ : Loc Cert.ExpUp.nD Cert.ExpUp.τ Cert.ExpUp.sig) → Buf (Elt Bits) ℓ) (g : Dev Cert.ExpUp.nD → PrngReg), Pre_ExpUp m →
    θ_run (Cert.ExpUp.defs (F := Bits)) (onTc (τ := Cert.ExpUp.τ) (Cert.ExpUp.main (F := Bits))) ⟨m, fun _ => 0, g⟩ (fun r => (∀ c : Dev Cert.ExpUp.nD,
      r.2.mem ((c.tc : Thread Cert.ExpUp.nD Cert.ExpUp.τ).loc Cert.ExpUp.main_arg0) = m ((c.tc : Thread Cert.ExpUp.nD Cert.ExpUp.τ).loc Cert.ExpUp.main_arg0)
      ∧ r.2.mem ((c.tc : Thread Cert.ExpUp.nD Cert.ExpUp.τ).loc Cert.ExpUp.main_arg1) = m ((c.tc : Thread Cert.ExpUp.nD Cert.ExpUp.τ).loc Cert.ExpUp.main_arg1)
      ∧ r.2.mem ((c.tc : Thread Cert.ExpUp.nD Cert.ExpUp.τ).loc Cert.ExpUp.main_arg2) = m ((c.tc : Thread Cert.ExpUp.nD Cert.ExpUp.τ).loc Cert.ExpUp.main_arg2)
      ∧ r.2.mem ((c.tc : Thread Cert.ExpUp.nD Cert.ExpUp.τ).loc Cert.ExpUp.main_arg3) = m ((c.tc : Thread Cert.ExpUp.nD Cert.ExpUp.τ).loc Cert.ExpUp.main_arg3)
      ∧ r.2.mem ((c.tc : Thread Cert.ExpUp.nD Cert.ExpUp.τ).loc Cert.ExpUp.main_arg4) = m ((c.tc : Thread Cert.ExpUp.nD Cert.ExpUp.τ).loc Cert.ExpUp.main_arg4)
      ∧ r.2.mem ((c.tc : Thread Cert.ExpUp.nD Cert.ExpUp.τ).loc Cert.ExpUp.main_arg5) = m ((c.tc : Thread Cert.ExpUp.nD Cert.ExpUp.τ).loc Cert.ExpUp.main_arg5))
      ∧ r.2.sem = fun _ => 0)

def quiescent_ExpUpIdeal [hExpUpIdeal : Cert.ExpUpIdeal.Facts] [hPre_tables_up : Cert.Pre_tables_up.Facts] : Prop :=
  ∀ (m : (ℓ : Loc Cert.ExpUpIdeal.nD Cert.ExpUpIdeal.τ Cert.ExpUpIdeal.sig) → Buf (Elt Ideal) ℓ) (g : Dev Cert.ExpUpIdeal.nD → PrngReg), Pre_ExpUpIdeal m →
    θ_run (Cert.ExpUpIdeal.defs (F := Ideal)) (onTc (τ := Cert.ExpUpIdeal.τ) (Cert.ExpUpIdeal.main (F := Ideal))) ⟨m, fun _ => 0, g⟩ (fun r => (∀ c : Dev Cert.ExpUpIdeal.nD,
      r.2.mem ((c.tc : Thread Cert.ExpUpIdeal.nD Cert.ExpUpIdeal.τ).loc Cert.ExpUpIdeal.main_arg0) = m ((c.tc : Thread Cert.ExpUpIdeal.nD Cert.ExpUpIdeal.τ).loc Cert.ExpUpIdeal.main_arg0)
      ∧ r.2.mem ((c.tc : Thread Cert.ExpUpIdeal.nD Cert.ExpUpIdeal.τ).loc Cert.ExpUpIdeal.main_arg1) = m ((c.tc : Thread Cert.ExpUpIdeal.nD Cert.ExpUpIdeal.τ).loc Cert.ExpUpIdeal.main_arg1)
      ∧ r.2.mem ((c.tc : Thread Cert.ExpUpIdeal.nD Cert.ExpUpIdeal.τ).loc Cert.ExpUpIdeal.main_arg2) = m ((c.tc : Thread Cert.ExpUpIdeal.nD Cert.ExpUpIdeal.τ).loc Cert.ExpUpIdeal.main_arg2)
      ∧ r.2.mem ((c.tc : Thread Cert.ExpUpIdeal.nD Cert.ExpUpIdeal.τ).loc Cert.ExpUpIdeal.main_arg3) = m ((c.tc : Thread Cert.ExpUpIdeal.nD Cert.ExpUpIdeal.τ).loc Cert.ExpUpIdeal.main_arg3)
      ∧ r.2.mem ((c.tc : Thread Cert.ExpUpIdeal.nD Cert.ExpUpIdeal.τ).loc Cert.ExpUpIdeal.main_arg4) = m ((c.tc : Thread Cert.ExpUpIdeal.nD Cert.ExpUpIdeal.τ).loc Cert.ExpUpIdeal.main_arg4)
      ∧ r.2.mem ((c.tc : Thread Cert.ExpUpIdeal.nD Cert.ExpUpIdeal.τ).loc Cert.ExpUpIdeal.main_arg5) = m ((c.tc : Thread Cert.ExpUpIdeal.nD Cert.ExpUpIdeal.τ).loc Cert.ExpUpIdeal.main_arg5))
      ∧ r.2.sem = fun _ => 0)

def quiescent_ExpUpRefIdeal [hExpUpRefIdeal : Cert.ExpUpRefIdeal.Facts] [hPre_tables_up : Cert.Pre_tables_up.Facts] : Prop :=
  ∀ (m : (ℓ : Loc Cert.ExpUpRefIdeal.nD Cert.ExpUpRefIdeal.τ Cert.ExpUpRefIdeal.sig) → Buf (Elt Ideal) ℓ) (g : Dev Cert.ExpUpRefIdeal.nD → PrngReg), Pre_ExpUpRefIdeal m →
    θ_run (Cert.ExpUpRefIdeal.defs (F := Ideal)) (onTc (τ := Cert.ExpUpRefIdeal.τ) (Cert.ExpUpRefIdeal.main (F := Ideal))) ⟨m, fun _ => 0, g⟩ (fun r => (∀ c : Dev Cert.ExpUpRefIdeal.nD,
      r.2.mem ((c.tc : Thread Cert.ExpUpRefIdeal.nD Cert.ExpUpRefIdeal.τ).loc Cert.ExpUpRefIdeal.main_arg0) = m ((c.tc : Thread Cert.ExpUpRefIdeal.nD Cert.ExpUpRefIdeal.τ).loc Cert.ExpUpRefIdeal.main_arg0)
      ∧ r.2.mem ((c.tc : Thread Cert.ExpUpRefIdeal.nD Cert.ExpUpRefIdeal.τ).loc Cert.ExpUpRefIdeal.main_arg1) = m ((c.tc : Thread Cert.ExpUpRefIdeal.nD Cert.ExpUpRefIdeal.τ).loc Cert.ExpUpRefIdeal.main_arg1)
      ∧ r.2.mem ((c.tc : Thread Cert.ExpUpRefIdeal.nD Cert.ExpUpRefIdeal.τ).loc Cert.ExpUpRefIdeal.main_arg2) = m ((c.tc : Thread Cert.ExpUpRefIdeal.nD Cert.ExpUpRefIdeal.τ).loc Cert.ExpUpRefIdeal.main_arg2)
      ∧ r.2.mem ((c.tc : Thread Cert.ExpUpRefIdeal.nD Cert.ExpUpRefIdeal.τ).loc Cert.ExpUpRefIdeal.main_arg3) = m ((c.tc : Thread Cert.ExpUpRefIdeal.nD Cert.ExpUpRefIdeal.τ).loc Cert.ExpUpRefIdeal.main_arg3)
      ∧ r.2.mem ((c.tc : Thread Cert.ExpUpRefIdeal.nD Cert.ExpUpRefIdeal.τ).loc Cert.ExpUpRefIdeal.main_arg4) = m ((c.tc : Thread Cert.ExpUpRefIdeal.nD Cert.ExpUpRefIdeal.τ).loc Cert.ExpUpRefIdeal.main_arg4)
      ∧ r.2.mem ((c.tc : Thread Cert.ExpUpRefIdeal.nD Cert.ExpUpRefIdeal.τ).loc Cert.ExpUpRefIdeal.main_arg5) = m ((c.tc : Thread Cert.ExpUpRefIdeal.nD Cert.ExpUpRefIdeal.τ).loc Cert.ExpUpRefIdeal.main_arg5))
      ∧ r.2.sem = fun _ => 0)

def quiescent_ExpDown [hExpDown : Cert.ExpDown.Facts] [hPre_tables_down : Cert.Pre_tables_down.Facts] : Prop :=
  ∀ (m : (ℓ : Loc Cert.ExpDown.nD Cert.ExpDown.τ Cert.ExpDown.sig) → Buf (Elt Bits) ℓ) (g : Dev Cert.ExpDown.nD → PrngReg), Pre_ExpDown m →
    θ_run (Cert.ExpDown.defs (F := Bits)) (onTc (τ := Cert.ExpDown.τ) (Cert.ExpDown.main (F := Bits))) ⟨m, fun _ => 0, g⟩ (fun r => (∀ c : Dev Cert.ExpDown.nD,
      r.2.mem ((c.tc : Thread Cert.ExpDown.nD Cert.ExpDown.τ).loc Cert.ExpDown.main_arg0) = m ((c.tc : Thread Cert.ExpDown.nD Cert.ExpDown.τ).loc Cert.ExpDown.main_arg0)
      ∧ r.2.mem ((c.tc : Thread Cert.ExpDown.nD Cert.ExpDown.τ).loc Cert.ExpDown.main_arg1) = m ((c.tc : Thread Cert.ExpDown.nD Cert.ExpDown.τ).loc Cert.ExpDown.main_arg1)
      ∧ r.2.mem ((c.tc : Thread Cert.ExpDown.nD Cert.ExpDown.τ).loc Cert.ExpDown.main_arg2) = m ((c.tc : Thread Cert.ExpDown.nD Cert.ExpDown.τ).loc Cert.ExpDown.main_arg2)
      ∧ r.2.mem ((c.tc : Thread Cert.ExpDown.nD Cert.ExpDown.τ).loc Cert.ExpDown.main_arg3) = m ((c.tc : Thread Cert.ExpDown.nD Cert.ExpDown.τ).loc Cert.ExpDown.main_arg3)
      ∧ r.2.mem ((c.tc : Thread Cert.ExpDown.nD Cert.ExpDown.τ).loc Cert.ExpDown.main_arg4) = m ((c.tc : Thread Cert.ExpDown.nD Cert.ExpDown.τ).loc Cert.ExpDown.main_arg4))
      ∧ r.2.sem = fun _ => 0)

def quiescent_ExpDownIdeal [hExpDownIdeal : Cert.ExpDownIdeal.Facts] [hPre_tables_down : Cert.Pre_tables_down.Facts] : Prop :=
  ∀ (m : (ℓ : Loc Cert.ExpDownIdeal.nD Cert.ExpDownIdeal.τ Cert.ExpDownIdeal.sig) → Buf (Elt Ideal) ℓ) (g : Dev Cert.ExpDownIdeal.nD → PrngReg), Pre_ExpDownIdeal m →
    θ_run (Cert.ExpDownIdeal.defs (F := Ideal)) (onTc (τ := Cert.ExpDownIdeal.τ) (Cert.ExpDownIdeal.main (F := Ideal))) ⟨m, fun _ => 0, g⟩ (fun r => (∀ c : Dev Cert.ExpDownIdeal.nD,
      r.2.mem ((c.tc : Thread Cert.ExpDownIdeal.nD Cert.ExpDownIdeal.τ).loc Cert.ExpDownIdeal.main_arg0) = m ((c.tc : Thread Cert.ExpDownIdeal.nD Cert.ExpDownIdeal.τ).loc Cert.ExpDownIdeal.main_arg0)
      ∧ r.2.mem ((c.tc : Thread Cert.ExpDownIdeal.nD Cert.ExpDownIdeal.τ).loc Cert.ExpDownIdeal.main_arg1) = m ((c.tc : Thread Cert.ExpDownIdeal.nD Cert.ExpDownIdeal.τ).loc Cert.ExpDownIdeal.main_arg1)
      ∧ r.2.mem ((c.tc : Thread Cert.ExpDownIdeal.nD Cert.ExpDownIdeal.τ).loc Cert.ExpDownIdeal.main_arg2) = m ((c.tc : Thread Cert.ExpDownIdeal.nD Cert.ExpDownIdeal.τ).loc Cert.ExpDownIdeal.main_arg2)
      ∧ r.2.mem ((c.tc : Thread Cert.ExpDownIdeal.nD Cert.ExpDownIdeal.τ).loc Cert.ExpDownIdeal.main_arg3) = m ((c.tc : Thread Cert.ExpDownIdeal.nD Cert.ExpDownIdeal.τ).loc Cert.ExpDownIdeal.main_arg3)
      ∧ r.2.mem ((c.tc : Thread Cert.ExpDownIdeal.nD Cert.ExpDownIdeal.τ).loc Cert.ExpDownIdeal.main_arg4) = m ((c.tc : Thread Cert.ExpDownIdeal.nD Cert.ExpDownIdeal.τ).loc Cert.ExpDownIdeal.main_arg4))
      ∧ r.2.sem = fun _ => 0)

def quiescent_ExpDownRefIdeal [hExpDownRefIdeal : Cert.ExpDownRefIdeal.Facts] [hPre_tables_down : Cert.Pre_tables_down.Facts] : Prop :=
  ∀ (m : (ℓ : Loc Cert.ExpDownRefIdeal.nD Cert.ExpDownRefIdeal.τ Cert.ExpDownRefIdeal.sig) → Buf (Elt Ideal) ℓ) (g : Dev Cert.ExpDownRefIdeal.nD → PrngReg), Pre_ExpDownRefIdeal m →
    θ_run (Cert.ExpDownRefIdeal.defs (F := Ideal)) (onTc (τ := Cert.ExpDownRefIdeal.τ) (Cert.ExpDownRefIdeal.main (F := Ideal))) ⟨m, fun _ => 0, g⟩ (fun r => (∀ c : Dev Cert.ExpDownRefIdeal.nD,
      r.2.mem ((c.tc : Thread Cert.ExpDownRefIdeal.nD Cert.ExpDownRefIdeal.τ).loc Cert.ExpDownRefIdeal.main_arg0) = m ((c.tc : Thread Cert.ExpDownRefIdeal.nD Cert.ExpDownRefIdeal.τ).loc Cert.ExpDownRefIdeal.main_arg0)
      ∧ r.2.mem ((c.tc : Thread Cert.ExpDownRefIdeal.nD Cert.ExpDownRefIdeal.τ).loc Cert.ExpDownRefIdeal.main_arg1) = m ((c.tc : Thread Cert.ExpDownRefIdeal.nD Cert.ExpDownRefIdeal.τ).loc Cert.ExpDownRefIdeal.main_arg1)
      ∧ r.2.mem ((c.tc : Thread Cert.ExpDownRefIdeal.nD Cert.ExpDownRefIdeal.τ).loc Cert.ExpDownRefIdeal.main_arg2) = m ((c.tc : Thread Cert.ExpDownRefIdeal.nD Cert.ExpDownRefIdeal.τ).loc Cert.ExpDownRefIdeal.main_arg2)
      ∧ r.2.mem ((c.tc : Thread Cert.ExpDownRefIdeal.nD Cert.ExpDownRefIdeal.τ).loc Cert.ExpDownRefIdeal.main_arg3) = m ((c.tc : Thread Cert.ExpDownRefIdeal.nD Cert.ExpDownRefIdeal.τ).loc Cert.ExpDownRefIdeal.main_arg3)
      ∧ r.2.mem ((c.tc : Thread Cert.ExpDownRefIdeal.nD Cert.ExpDownRefIdeal.τ).loc Cert.ExpDownRefIdeal.main_arg4) = m ((c.tc : Thread Cert.ExpDownRefIdeal.nD Cert.ExpDownRefIdeal.τ).loc Cert.ExpDownRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2))
      ∧ r.2.sem = fun _ => 0)

def quiescent_Latents [hLatents : Cert.Latents.Facts] : Prop :=
  ∀ (m : (ℓ : Loc Cert.Latents.nD Cert.Latents.τ Cert.Latents.sig) → Buf (Elt Bits) ℓ) (g : Dev Cert.Latents.nD → PrngReg), Pre_Latents m →
    θ_run (Cert.Latents.defs (F := Bits)) (onTc (τ := Cert.Latents.τ) (Cert.Latents.main (F := Bits))) ⟨m, fun _ => 0, g⟩ (fun r => (∀ c : Dev Cert.Latents.nD,
      r.2.mem ((c.tc : Thread Cert.Latents.nD Cert.Latents.τ).loc Cert.Latents.main_arg0) = m ((c.tc : Thread Cert.Latents.nD Cert.Latents.τ).loc Cert.Latents.main_arg0)
      ∧ r.2.mem ((c.tc : Thread Cert.Latents.nD Cert.Latents.τ).loc Cert.Latents.main_arg1) = m ((c.tc : Thread Cert.Latents.nD Cert.Latents.τ).loc Cert.Latents.main_arg1)
      ∧ r.2.mem ((c.tc : Thread Cert.Latents.nD Cert.Latents.τ).loc Cert.Latents.main_arg2) = m ((c.tc : Thread Cert.Latents.nD Cert.Latents.τ).loc Cert.Latents.main_arg2)
      ∧ r.2.mem ((c.tc : Thread Cert.Latents.nD Cert.Latents.τ).loc Cert.Latents.main_arg3) = m ((c.tc : Thread Cert.Latents.nD Cert.Latents.τ).loc Cert.Latents.main_arg3))
      ∧ r.2.sem = fun _ => 0)

def quiescent_LatentsIdeal [hLatentsIdeal : Cert.LatentsIdeal.Facts] : Prop :=
  ∀ (m : (ℓ : Loc Cert.LatentsIdeal.nD Cert.LatentsIdeal.τ Cert.LatentsIdeal.sig) → Buf (Elt Ideal) ℓ) (g : Dev Cert.LatentsIdeal.nD → PrngReg), Pre_LatentsIdeal m →
    θ_run (Cert.LatentsIdeal.defs (F := Ideal)) (onTc (τ := Cert.LatentsIdeal.τ) (Cert.LatentsIdeal.main (F := Ideal))) ⟨m, fun _ => 0, g⟩ (fun r => (∀ c : Dev Cert.LatentsIdeal.nD,
      r.2.mem ((c.tc : Thread Cert.LatentsIdeal.nD Cert.LatentsIdeal.τ).loc Cert.LatentsIdeal.main_arg0) = m ((c.tc : Thread Cert.LatentsIdeal.nD Cert.LatentsIdeal.τ).loc Cert.LatentsIdeal.main_arg0)
      ∧ r.2.mem ((c.tc : Thread Cert.LatentsIdeal.nD Cert.LatentsIdeal.τ).loc Cert.LatentsIdeal.main_arg1) = m ((c.tc : Thread Cert.LatentsIdeal.nD Cert.LatentsIdeal.τ).loc Cert.LatentsIdeal.main_arg1)
      ∧ r.2.mem ((c.tc : Thread Cert.LatentsIdeal.nD Cert.LatentsIdeal.τ).loc Cert.LatentsIdeal.main_arg2) = m ((c.tc : Thread Cert.LatentsIdeal.nD Cert.LatentsIdeal.τ).loc Cert.LatentsIdeal.main_arg2)
      ∧ r.2.mem ((c.tc : Thread Cert.LatentsIdeal.nD Cert.LatentsIdeal.τ).loc Cert.LatentsIdeal.main_arg3) = m ((c.tc : Thread Cert.LatentsIdeal.nD Cert.LatentsIdeal.τ).loc Cert.LatentsIdeal.main_arg3))
      ∧ r.2.sem = fun _ => 0)

def quiescent_LatentsRefIdeal [hLatentsRefIdeal : Cert.LatentsRefIdeal.Facts] : Prop :=
  ∀ (m : (ℓ : Loc Cert.LatentsRefIdeal.nD Cert.LatentsRefIdeal.τ Cert.LatentsRefIdeal.sig) → Buf (Elt Ideal) ℓ) (g : Dev Cert.LatentsRefIdeal.nD → PrngReg), Pre_LatentsRefIdeal m →
    θ_run (Cert.LatentsRefIdeal.defs (F := Ideal)) (onTc (τ := Cert.LatentsRefIdeal.τ) (Cert.LatentsRefIdeal.main (F := Ideal))) ⟨m, fun _ => 0, g⟩ (fun r => (∀ c : Dev Cert.LatentsRefIdeal.nD,
      r.2.mem ((c.tc : Thread Cert.LatentsRefIdeal.nD Cert.LatentsRefIdeal.τ).loc Cert.LatentsRefIdeal.main_arg0) = m ((c.tc : Thread Cert.LatentsRefIdeal.nD Cert.LatentsRefIdeal.τ).loc Cert.LatentsRefIdeal.main_arg0)
      ∧ r.2.mem ((c.tc : Thread Cert.LatentsRefIdeal.nD Cert.LatentsRefIdeal.τ).loc Cert.LatentsRefIdeal.main_arg1) = m ((c.tc : Thread Cert.LatentsRefIdeal.nD Cert.LatentsRefIdeal.τ).loc Cert.LatentsRefIdeal.main_arg1)
      ∧ r.2.mem ((c.tc : Thread Cert.LatentsRefIdeal.nD Cert.LatentsRefIdeal.τ).loc Cert.LatentsRefIdeal.main_arg2) = m ((c.tc : Thread Cert.LatentsRefIdeal.nD Cert.LatentsRefIdeal.τ).loc Cert.LatentsRefIdeal.main_arg2)
      ∧ r.2.mem ((c.tc : Thread Cert.LatentsRefIdeal.nD Cert.LatentsRefIdeal.τ).loc Cert.LatentsRefIdeal.main_arg3) = m ((c.tc : Thread Cert.LatentsRefIdeal.nD Cert.LatentsRefIdeal.τ).loc Cert.LatentsRefIdeal.main_arg3))
      ∧ r.2.sem = fun _ => 0)

def quiescent_KeyCols [hKeyCols : Cert.KeyCols.Facts] : Prop :=
  ∀ (m : (ℓ : Loc Cert.KeyCols.nD Cert.KeyCols.τ Cert.KeyCols.sig) → Buf (Elt Bits) ℓ) (g : Dev Cert.KeyCols.nD → PrngReg), Pre_KeyCols m →
    θ_run (Cert.KeyCols.defs (F := Bits)) (onTc (τ := Cert.KeyCols.τ) (Cert.KeyCols.main (F := Bits))) ⟨m, fun _ => 0, g⟩ (fun r => (∀ c : Dev Cert.KeyCols.nD,
      r.2.mem ((c.tc : Thread Cert.KeyCols.nD Cert.KeyCols.τ).loc Cert.KeyCols.main_arg0) = m ((c.tc : Thread Cert.KeyCols.nD Cert.KeyCols.τ).loc Cert.KeyCols.main_arg0)
      ∧ r.2.mem ((c.tc : Thread Cert.KeyCols.nD Cert.KeyCols.τ).loc Cert.KeyCols.main_arg1) = m ((c.tc : Thread Cert.KeyCols.nD Cert.KeyCols.τ).loc Cert.KeyCols.main_arg1))
      ∧ r.2.sem = fun _ => 0)

def quiescent_KeyColsIdeal [hKeyColsIdeal : Cert.KeyColsIdeal.Facts] : Prop :=
  ∀ (m : (ℓ : Loc Cert.KeyColsIdeal.nD Cert.KeyColsIdeal.τ Cert.KeyColsIdeal.sig) → Buf (Elt Ideal) ℓ) (g : Dev Cert.KeyColsIdeal.nD → PrngReg), Pre_KeyColsIdeal m →
    θ_run (Cert.KeyColsIdeal.defs (F := Ideal)) (onTc (τ := Cert.KeyColsIdeal.τ) (Cert.KeyColsIdeal.main (F := Ideal))) ⟨m, fun _ => 0, g⟩ (fun r => (∀ c : Dev Cert.KeyColsIdeal.nD,
      r.2.mem ((c.tc : Thread Cert.KeyColsIdeal.nD Cert.KeyColsIdeal.τ).loc Cert.KeyColsIdeal.main_arg0) = m ((c.tc : Thread Cert.KeyColsIdeal.nD Cert.KeyColsIdeal.τ).loc Cert.KeyColsIdeal.main_arg0)
      ∧ r.2.mem ((c.tc : Thread Cert.KeyColsIdeal.nD Cert.KeyColsIdeal.τ).loc Cert.KeyColsIdeal.main_arg1) = m ((c.tc : Thread Cert.KeyColsIdeal.nD Cert.KeyColsIdeal.τ).loc Cert.KeyColsIdeal.main_arg1))
      ∧ r.2.sem = fun _ => 0)

def quiescent_KeyColsRefIdeal [hKeyColsRefIdeal : Cert.KeyColsRefIdeal.Facts] : Prop :=
  ∀ (m : (ℓ : Loc Cert.KeyColsRefIdeal.nD Cert.KeyColsRefIdeal.τ Cert.KeyColsRefIdeal.sig) → Buf (Elt Ideal) ℓ) (g : Dev Cert.KeyColsRefIdeal.nD → PrngReg), Pre_KeyColsRefIdeal m →
    θ_run (Cert.KeyColsRefIdeal.defs (F := Ideal)) (onTc (τ := Cert.KeyColsRefIdeal.τ) (Cert.KeyColsRefIdeal.main (F := Ideal))) ⟨m, fun _ => 0, g⟩ (fun r => (∀ c : Dev Cert.KeyColsRefIdeal.nD,
      r.2.mem ((c.tc : Thread Cert.KeyColsRefIdeal.nD Cert.KeyColsRefIdeal.τ).loc Cert.KeyColsRefIdeal.main_arg0) = m ((c.tc : Thread Cert.KeyColsRefIdeal.nD Cert.KeyColsRefIdeal.τ).loc Cert.KeyColsRefIdeal.main_arg0)
      ∧ r.2.mem ((c.tc : Thread Cert.KeyColsRefIdeal.nD Cert.KeyColsRefIdeal.τ).loc Cert.KeyColsRefIdeal.main_arg1) = m ((c.tc : Thread Cert.KeyColsRefIdeal.nD Cert.KeyColsRefIdeal.τ).loc Cert.KeyColsRefIdeal.main_arg1))
      ∧ r.2.sem = fun _ => 0)

def quiescent_QNope [hQNope : Cert.QNope.Facts] : Prop :=
  ∀ (m : (ℓ : Loc Cert.QNope.nD Cert.QNope.τ Cert.QNope.sig) → Buf (Elt Bits) ℓ) (g : Dev Cert.QNope.nD → PrngReg), Pre_QNope m →
    θ_run (Cert.QNope.defs (F := Bits)) (onTc (τ := Cert.QNope.τ) (Cert.QNope.main (F := Bits))) ⟨m, fun _ => 0, g⟩ (fun r => (∀ c : Dev Cert.QNope.nD,
      r.2.mem ((c.tc : Thread Cert.QNope.nD Cert.QNope.τ).loc Cert.QNope.main_arg0) = m ((c.tc : Thread Cert.QNope.nD Cert.QNope.τ).loc Cert.QNope.main_arg0)
      ∧ r.2.mem ((c.tc : Thread Cert.QNope.nD Cert.QNope.τ).loc Cert.QNope.main_arg1) = m ((c.tc : Thread Cert.QNope.nD Cert.QNope.τ).loc Cert.QNope.main_arg1))
      ∧ r.2.sem = fun _ => 0)

def quiescent_QNopeIdeal [hQNopeIdeal : Cert.QNopeIdeal.Facts] : Prop :=
  ∀ (m : (ℓ : Loc Cert.QNopeIdeal.nD Cert.QNopeIdeal.τ Cert.QNopeIdeal.sig) → Buf (Elt Ideal) ℓ) (g : Dev Cert.QNopeIdeal.nD → PrngReg), Pre_QNopeIdeal m →
    θ_run (Cert.QNopeIdeal.defs (F := Ideal)) (onTc (τ := Cert.QNopeIdeal.τ) (Cert.QNopeIdeal.main (F := Ideal))) ⟨m, fun _ => 0, g⟩ (fun r => (∀ c : Dev Cert.QNopeIdeal.nD,
      r.2.mem ((c.tc : Thread Cert.QNopeIdeal.nD Cert.QNopeIdeal.τ).loc Cert.QNopeIdeal.main_arg0) = m ((c.tc : Thread Cert.QNopeIdeal.nD Cert.QNopeIdeal.τ).loc Cert.QNopeIdeal.main_arg0)
      ∧ r.2.mem ((c.tc : Thread Cert.QNopeIdeal.nD Cert.QNopeIdeal.τ).loc Cert.QNopeIdeal.main_arg1) = m ((c.tc : Thread Cert.QNopeIdeal.nD Cert.QNopeIdeal.τ).loc Cert.QNopeIdeal.main_arg1))
      ∧ r.2.sem = fun _ => 0)

def quiescent_QNopeRefIdeal [hQNopeRefIdeal : Cert.QNopeRefIdeal.Facts] : Prop :=
  ∀ (m : (ℓ : Loc Cert.QNopeRefIdeal.nD Cert.QNopeRefIdeal.τ Cert.QNopeRefIdeal.sig) → Buf (Elt Ideal) ℓ) (g : Dev Cert.QNopeRefIdeal.nD → PrngReg), Pre_QNopeRefIdeal m →
    θ_run (Cert.QNopeRefIdeal.defs (F := Ideal)) (onTc (τ := Cert.QNopeRefIdeal.τ) (Cert.QNopeRefIdeal.main (F := Ideal))) ⟨m, fun _ => 0, g⟩ (fun r => (∀ c : Dev Cert.QNopeRefIdeal.nD,
      r.2.mem ((c.tc : Thread Cert.QNopeRefIdeal.nD Cert.QNopeRefIdeal.τ).loc Cert.QNopeRefIdeal.main_arg0) = m ((c.tc : Thread Cert.QNopeRefIdeal.nD Cert.QNopeRefIdeal.τ).loc Cert.QNopeRefIdeal.main_arg0)
      ∧ r.2.mem ((c.tc : Thread Cert.QNopeRefIdeal.nD Cert.QNopeRefIdeal.τ).loc Cert.QNopeRefIdeal.main_arg1) = m ((c.tc : Thread Cert.QNopeRefIdeal.nD Cert.QNopeRefIdeal.τ).loc Cert.QNopeRefIdeal.main_arg1))
      ∧ r.2.sem = fun _ => 0)

def quiescent_KNope [hKNope : Cert.KNope.Facts] : Prop :=
  ∀ (m : (ℓ : Loc Cert.KNope.nD Cert.KNope.τ Cert.KNope.sig) → Buf (Elt Bits) ℓ) (g : Dev Cert.KNope.nD → PrngReg), Pre_KNope m →
    θ_run (Cert.KNope.defs (F := Bits)) (onTc (τ := Cert.KNope.τ) (Cert.KNope.main (F := Bits))) ⟨m, fun _ => 0, g⟩ (fun r => (∀ c : Dev Cert.KNope.nD,
      r.2.mem ((c.tc : Thread Cert.KNope.nD Cert.KNope.τ).loc Cert.KNope.main_arg0) = m ((c.tc : Thread Cert.KNope.nD Cert.KNope.τ).loc Cert.KNope.main_arg0)
      ∧ r.2.mem ((c.tc : Thread Cert.KNope.nD Cert.KNope.τ).loc Cert.KNope.main_arg1) = m ((c.tc : Thread Cert.KNope.nD Cert.KNope.τ).loc Cert.KNope.main_arg1))
      ∧ r.2.sem = fun _ => 0)

def quiescent_KNopeIdeal [hKNopeIdeal : Cert.KNopeIdeal.Facts] : Prop :=
  ∀ (m : (ℓ : Loc Cert.KNopeIdeal.nD Cert.KNopeIdeal.τ Cert.KNopeIdeal.sig) → Buf (Elt Ideal) ℓ) (g : Dev Cert.KNopeIdeal.nD → PrngReg), Pre_KNopeIdeal m →
    θ_run (Cert.KNopeIdeal.defs (F := Ideal)) (onTc (τ := Cert.KNopeIdeal.τ) (Cert.KNopeIdeal.main (F := Ideal))) ⟨m, fun _ => 0, g⟩ (fun r => (∀ c : Dev Cert.KNopeIdeal.nD,
      r.2.mem ((c.tc : Thread Cert.KNopeIdeal.nD Cert.KNopeIdeal.τ).loc Cert.KNopeIdeal.main_arg0) = m ((c.tc : Thread Cert.KNopeIdeal.nD Cert.KNopeIdeal.τ).loc Cert.KNopeIdeal.main_arg0)
      ∧ r.2.mem ((c.tc : Thread Cert.KNopeIdeal.nD Cert.KNopeIdeal.τ).loc Cert.KNopeIdeal.main_arg1) = m ((c.tc : Thread Cert.KNopeIdeal.nD Cert.KNopeIdeal.τ).loc Cert.KNopeIdeal.main_arg1))
      ∧ r.2.sem = fun _ => 0)

def quiescent_KNopeRefIdeal [hKNopeRefIdeal : Cert.KNopeRefIdeal.Facts] : Prop :=
  ∀ (m : (ℓ : Loc Cert.KNopeRefIdeal.nD Cert.KNopeRefIdeal.τ Cert.KNopeRefIdeal.sig) → Buf (Elt Ideal) ℓ) (g : Dev Cert.KNopeRefIdeal.nD → PrngReg), Pre_KNopeRefIdeal m →
    θ_run (Cert.KNopeRefIdeal.defs (F := Ideal)) (onTc (τ := Cert.KNopeRefIdeal.τ) (Cert.KNopeRefIdeal.main (F := Ideal))) ⟨m, fun _ => 0, g⟩ (fun r => (∀ c : Dev Cert.KNopeRefIdeal.nD,
      r.2.mem ((c.tc : Thread Cert.KNopeRefIdeal.nD Cert.KNopeRefIdeal.τ).loc Cert.KNopeRefIdeal.main_arg0) = m ((c.tc : Thread Cert.KNopeRefIdeal.nD Cert.KNopeRefIdeal.τ).loc Cert.KNopeRefIdeal.main_arg0)
      ∧ r.2.mem ((c.tc : Thread Cert.KNopeRefIdeal.nD Cert.KNopeRefIdeal.τ).loc Cert.KNopeRefIdeal.main_arg1) = m ((c.tc : Thread Cert.KNopeRefIdeal.nD Cert.KNopeRefIdeal.τ).loc Cert.KNopeRefIdeal.main_arg1))
      ∧ r.2.sem = fun _ => 0)

def quiescent_LruSample [hLruSample : Cert.LruSample.Facts] : Prop :=
  ∀ (m : (ℓ : Loc Cert.LruSample.nD Cert.LruSample.τ Cert.LruSample.sig) → Buf (Elt Bits) ℓ) (g : Dev Cert.LruSample.nD → PrngReg), Pre_LruSample m →
    θ_run (Cert.LruSample.defs (F := Bits)) (onTc (τ := Cert.LruSample.τ) (Cert.LruSample.main (F := Bits))) ⟨m, fun _ => 0, g⟩ (fun r => (∀ c : Dev Cert.LruSample.nD,
      r.2.mem ((c.tc : Thread Cert.LruSample.nD Cert.LruSample.τ).loc Cert.LruSample.main_arg0) = m ((c.tc : Thread Cert.LruSample.nD Cert.LruSample.τ).loc Cert.LruSample.main_arg0)
      ∧ r.2.mem ((c.tc : Thread Cert.LruSample.nD Cert.LruSample.τ).loc Cert.LruSample.main_arg1) = m ((c.tc : Thread Cert.LruSample.nD Cert.LruSample.τ).loc Cert.LruSample.main_arg1)
      ∧ r.2.mem ((c.tc : Thread Cert.LruSample.nD Cert.LruSample.τ).loc Cert.LruSample.main_arg2) = m ((c.tc : Thread Cert.LruSample.nD Cert.LruSample.τ).loc Cert.LruSample.main_arg2)
      ∧ r.2.mem ((c.tc : Thread Cert.LruSample.nD Cert.LruSample.τ).loc Cert.LruSample.main_arg3) = m ((c.tc : Thread Cert.LruSample.nD Cert.LruSample.τ).loc Cert.LruSample.main_arg3)
      ∧ r.2.mem ((c.tc : Thread Cert.LruSample.nD Cert.LruSample.τ).loc Cert.LruSample.main_arg4) = m ((c.tc : Thread Cert.LruSample.nD Cert.LruSample.τ).loc Cert.LruSample.main_arg4)
      ∧ r.2.mem ((c.tc : Thread Cert.LruSample.nD Cert.LruSample.τ).loc Cert.LruSample.main_arg5) = m ((c.tc : Thread Cert.LruSample.nD Cert.LruSample.τ).loc Cert.LruSample.main_arg5)
      ∧ r.2.mem ((c.tc : Thread Cert.LruSample.nD Cert.LruSample.τ).loc Cert.LruSample.main_arg6) = m ((c.tc : Thread Cert.LruSample.nD Cert.LruSample.τ).loc Cert.LruSample.main_arg6)
      ∧ r.2.mem ((c.tc : Thread Cert.LruSample.nD Cert.LruSample.τ).loc Cert.LruSample.main_arg7) = m ((c.tc : Thread Cert.LruSample.nD Cert.LruSample.τ).loc Cert.LruSample.main_arg7)
      ∧ r.2.mem ((c.tc : Thread Cert.LruSample.nD Cert.LruSample.τ).loc Cert.LruSample.main_arg8) = m ((c.tc : Thread Cert.LruSample.nD Cert.LruSample.τ).loc Cert.LruSample.main_arg8)
      ∧ r.2.mem ((c.tc : Thread Cert.LruSample.nD Cert.LruSample.τ).loc Cert.LruSample.main_arg9) = m ((c.tc : Thread Cert.LruSample.nD Cert.LruSample.τ).loc Cert.LruSample.main_arg9))
      ∧ r.2.sem = fun _ => 0)

def quiescent_LruSampleIdeal [hLruSampleIdeal : Cert.LruSampleIdeal.Facts] : Prop :=
  ∀ (m : (ℓ : Loc Cert.LruSampleIdeal.nD Cert.LruSampleIdeal.τ Cert.LruSampleIdeal.sig) → Buf (Elt Ideal) ℓ) (g : Dev Cert.LruSampleIdeal.nD → PrngReg), Pre_LruSampleIdeal m →
    θ_run (Cert.LruSampleIdeal.defs (F := Ideal)) (onTc (τ := Cert.LruSampleIdeal.τ) (Cert.LruSampleIdeal.main (F := Ideal))) ⟨m, fun _ => 0, g⟩ (fun r => (∀ c : Dev Cert.LruSampleIdeal.nD,
      r.2.mem ((c.tc : Thread Cert.LruSampleIdeal.nD Cert.LruSampleIdeal.τ).loc Cert.LruSampleIdeal.main_arg0) = m ((c.tc : Thread Cert.LruSampleIdeal.nD Cert.LruSampleIdeal.τ).loc Cert.LruSampleIdeal.main_arg0)
      ∧ r.2.mem ((c.tc : Thread Cert.LruSampleIdeal.nD Cert.LruSampleIdeal.τ).loc Cert.LruSampleIdeal.main_arg1) = m ((c.tc : Thread Cert.LruSampleIdeal.nD Cert.LruSampleIdeal.τ).loc Cert.LruSampleIdeal.main_arg1)
      ∧ r.2.mem ((c.tc : Thread Cert.LruSampleIdeal.nD Cert.LruSampleIdeal.τ).loc Cert.LruSampleIdeal.main_arg2) = m ((c.tc : Thread Cert.LruSampleIdeal.nD Cert.LruSampleIdeal.τ).loc Cert.LruSampleIdeal.main_arg2)
      ∧ r.2.mem ((c.tc : Thread Cert.LruSampleIdeal.nD Cert.LruSampleIdeal.τ).loc Cert.LruSampleIdeal.main_arg3) = m ((c.tc : Thread Cert.LruSampleIdeal.nD Cert.LruSampleIdeal.τ).loc Cert.LruSampleIdeal.main_arg3)
      ∧ r.2.mem ((c.tc : Thread Cert.LruSampleIdeal.nD Cert.LruSampleIdeal.τ).loc Cert.LruSampleIdeal.main_arg4) = m ((c.tc : Thread Cert.LruSampleIdeal.nD Cert.LruSampleIdeal.τ).loc Cert.LruSampleIdeal.main_arg4)
      ∧ r.2.mem ((c.tc : Thread Cert.LruSampleIdeal.nD Cert.LruSampleIdeal.τ).loc Cert.LruSampleIdeal.main_arg5) = m ((c.tc : Thread Cert.LruSampleIdeal.nD Cert.LruSampleIdeal.τ).loc Cert.LruSampleIdeal.main_arg5)
      ∧ r.2.mem ((c.tc : Thread Cert.LruSampleIdeal.nD Cert.LruSampleIdeal.τ).loc Cert.LruSampleIdeal.main_arg6) = m ((c.tc : Thread Cert.LruSampleIdeal.nD Cert.LruSampleIdeal.τ).loc Cert.LruSampleIdeal.main_arg6)
      ∧ r.2.mem ((c.tc : Thread Cert.LruSampleIdeal.nD Cert.LruSampleIdeal.τ).loc Cert.LruSampleIdeal.main_arg7) = m ((c.tc : Thread Cert.LruSampleIdeal.nD Cert.LruSampleIdeal.τ).loc Cert.LruSampleIdeal.main_arg7)
      ∧ r.2.mem ((c.tc : Thread Cert.LruSampleIdeal.nD Cert.LruSampleIdeal.τ).loc Cert.LruSampleIdeal.main_arg8) = m ((c.tc : Thread Cert.LruSampleIdeal.nD Cert.LruSampleIdeal.τ).loc Cert.LruSampleIdeal.main_arg8)
      ∧ r.2.mem ((c.tc : Thread Cert.LruSampleIdeal.nD Cert.LruSampleIdeal.τ).loc Cert.LruSampleIdeal.main_arg9) = m ((c.tc : Thread Cert.LruSampleIdeal.nD Cert.LruSampleIdeal.τ).loc Cert.LruSampleIdeal.main_arg9))
      ∧ r.2.sem = fun _ => 0)

def quiescent_LruSampleRefIdeal [hLruSampleRefIdeal : Cert.LruSampleRefIdeal.Facts] : Prop :=
  ∀ (m : (ℓ : Loc Cert.LruSampleRefIdeal.nD Cert.LruSampleRefIdeal.τ Cert.LruSampleRefIdeal.sig) → Buf (Elt Ideal) ℓ) (g : Dev Cert.LruSampleRefIdeal.nD → PrngReg), Pre_LruSampleRefIdeal m →
    θ_run (Cert.LruSampleRefIdeal.defs (F := Ideal)) (onTc (τ := Cert.LruSampleRefIdeal.τ) (Cert.LruSampleRefIdeal.main (F := Ideal))) ⟨m, fun _ => 0, g⟩ (fun r => (∀ c : Dev Cert.LruSampleRefIdeal.nD,
      r.2.mem ((c.tc : Thread Cert.LruSampleRefIdeal.nD Cert.LruSampleRefIdeal.τ).loc Cert.LruSampleRefIdeal.main_arg0) = m ((c.tc : Thread Cert.LruSampleRefIdeal.nD Cert.LruSampleRefIdeal.τ).loc Cert.LruSampleRefIdeal.main_arg0)
      ∧ r.2.mem ((c.tc : Thread Cert.LruSampleRefIdeal.nD Cert.LruSampleRefIdeal.τ).loc Cert.LruSampleRefIdeal.main_arg1) = m ((c.tc : Thread Cert.LruSampleRefIdeal.nD Cert.LruSampleRefIdeal.τ).loc Cert.LruSampleRefIdeal.main_arg1)
      ∧ r.2.mem ((c.tc : Thread Cert.LruSampleRefIdeal.nD Cert.LruSampleRefIdeal.τ).loc Cert.LruSampleRefIdeal.main_arg2) = m ((c.tc : Thread Cert.LruSampleRefIdeal.nD Cert.LruSampleRefIdeal.τ).loc Cert.LruSampleRefIdeal.main_arg2)
      ∧ r.2.mem ((c.tc : Thread Cert.LruSampleRefIdeal.nD Cert.LruSampleRefIdeal.τ).loc Cert.LruSampleRefIdeal.main_arg3) = m ((c.tc : Thread Cert.LruSampleRefIdeal.nD Cert.LruSampleRefIdeal.τ).loc Cert.LruSampleRefIdeal.main_arg3)
      ∧ r.2.mem ((c.tc : Thread Cert.LruSampleRefIdeal.nD Cert.LruSampleRefIdeal.τ).loc Cert.LruSampleRefIdeal.main_arg4) = m ((c.tc : Thread Cert.LruSampleRefIdeal.nD Cert.LruSampleRefIdeal.τ).loc Cert.LruSampleRefIdeal.main_arg4)
      ∧ r.2.mem ((c.tc : Thread Cert.LruSampleRefIdeal.nD Cert.LruSampleRefIdeal.τ).loc Cert.LruSampleRefIdeal.main_arg5) = m ((c.tc : Thread Cert.LruSampleRefIdeal.nD Cert.LruSampleRefIdeal.τ).loc Cert.LruSampleRefIdeal.main_arg5)
      ∧ r.2.mem ((c.tc : Thread Cert.LruSampleRefIdeal.nD Cert.LruSampleRefIdeal.τ).loc Cert.LruSampleRefIdeal.main_arg6) = m ((c.tc : Thread Cert.LruSampleRefIdeal.nD Cert.LruSampleRefIdeal.τ).loc Cert.LruSampleRefIdeal.main_arg6)
      ∧ r.2.mem ((c.tc : Thread Cert.LruSampleRefIdeal.nD Cert.LruSampleRefIdeal.τ).loc Cert.LruSampleRefIdeal.main_arg7) = m ((c.tc : Thread Cert.LruSampleRefIdeal.nD Cert.LruSampleRefIdeal.τ).loc Cert.LruSampleRefIdeal.main_arg7)
      ∧ r.2.mem ((c.tc : Thread Cert.LruSampleRefIdeal.nD Cert.LruSampleRefIdeal.τ).loc Cert.LruSampleRefIdeal.main_arg8) = m ((c.tc : Thread Cert.LruSampleRefIdeal.nD Cert.LruSampleRefIdeal.τ).loc Cert.LruSampleRefIdeal.main_arg8)
      ∧ r.2.mem ((c.tc : Thread Cert.LruSampleRefIdeal.nD Cert.LruSampleRefIdeal.τ).loc Cert.LruSampleRefIdeal.main_arg9) = m ((c.tc : Thread Cert.LruSampleRefIdeal.nD Cert.LruSampleRefIdeal.τ).loc Cert.LruSampleRefIdeal.main_arg9))
      ∧ r.2.sem = fun _ => 0)

def quiescent_VUp [hVUp : Cert.VUp.Facts] : Prop :=
  ∀ (m : (ℓ : Loc Cert.VUp.nD Cert.VUp.τ Cert.VUp.sig) → Buf (Elt Bits) ℓ) (g : Dev Cert.VUp.nD → PrngReg), Pre_VUp m →
    θ_run (Cert.VUp.defs (F := Bits)) (onTc (τ := Cert.VUp.τ) (Cert.VUp.main (F := Bits))) ⟨m, fun _ => 0, g⟩ (fun r => (∀ c : Dev Cert.VUp.nD,
      r.2.mem ((c.tc : Thread Cert.VUp.nD Cert.VUp.τ).loc Cert.VUp.main_arg0) = m ((c.tc : Thread Cert.VUp.nD Cert.VUp.τ).loc Cert.VUp.main_arg0)
      ∧ r.2.mem ((c.tc : Thread Cert.VUp.nD Cert.VUp.τ).loc Cert.VUp.main_arg1) = m ((c.tc : Thread Cert.VUp.nD Cert.VUp.τ).loc Cert.VUp.main_arg1))
      ∧ r.2.sem = fun _ => 0)

def quiescent_VUpIdeal [hVUpIdeal : Cert.VUpIdeal.Facts] : Prop :=
  ∀ (m : (ℓ : Loc Cert.VUpIdeal.nD Cert.VUpIdeal.τ Cert.VUpIdeal.sig) → Buf (Elt Ideal) ℓ) (g : Dev Cert.VUpIdeal.nD → PrngReg), Pre_VUpIdeal m →
    θ_run (Cert.VUpIdeal.defs (F := Ideal)) (onTc (τ := Cert.VUpIdeal.τ) (Cert.VUpIdeal.main (F := Ideal))) ⟨m, fun _ => 0, g⟩ (fun r => (∀ c : Dev Cert.VUpIdeal.nD,
      r.2.mem ((c.tc : Thread Cert.VUpIdeal.nD Cert.VUpIdeal.τ).loc Cert.VUpIdeal.main_arg0) = m ((c.tc : Thread Cert.VUpIdeal.nD Cert.VUpIdeal.τ).loc Cert.VUpIdeal.main_arg0)
      ∧ r.2.mem ((c.tc : Thread Cert.VUpIdeal.nD Cert.VUpIdeal.τ).loc Cert.VUpIdeal.main_arg1) = m ((c.tc : Thread Cert.VUpIdeal.nD Cert.VUpIdeal.τ).loc Cert.VUpIdeal.main_arg1))
      ∧ r.2.sem = fun _ => 0)

def quiescent_VUpRefIdeal [hVUpRefIdeal : Cert.VUpRefIdeal.Facts] : Prop :=
  ∀ (m : (ℓ : Loc Cert.VUpRefIdeal.nD Cert.VUpRefIdeal.τ Cert.VUpRefIdeal.sig) → Buf (Elt Ideal) ℓ) (g : Dev Cert.VUpRefIdeal.nD → PrngReg), Pre_VUpRefIdeal m →
    θ_run (Cert.VUpRefIdeal.defs (F := Ideal)) (onTc (τ := Cert.VUpRefIdeal.τ) (Cert.VUpRefIdeal.main (F := Ideal))) ⟨m, fun _ => 0, g⟩ (fun r => (∀ c : Dev Cert.VUpRefIdeal.nD,
      r.2.mem ((c.tc : Thread Cert.VUpRefIdeal.nD Cert.VUpRefIdeal.τ).loc Cert.VUpRefIdeal.main_arg0) = m ((c.tc : Thread Cert.VUpRefIdeal.nD Cert.VUpRefIdeal.τ).loc Cert.VUpRefIdeal.main_arg0)
      ∧ r.2.mem ((c.tc : Thread Cert.VUpRefIdeal.nD Cert.VUpRefIdeal.τ).loc Cert.VUpRefIdeal.main_arg1) = m ((c.tc : Thread Cert.VUpRefIdeal.nD Cert.VUpRefIdeal.τ).loc Cert.VUpRefIdeal.main_arg1))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v39) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v8) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v4) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_DownA_DownAIdeal : Prop :=
  True

def algebraic_DownAIdeal_DownARefIdeal [hDownAIdeal : Cert.DownAIdeal.Facts] [hDownARefIdeal : Cert.DownARefIdeal.Facts] : Prop :=
  ∀ (m : (ℓ : Loc Cert.DownAIdeal.nD Cert.DownAIdeal.τ Cert.DownAIdeal.sig) → Buf (Elt Ideal) ℓ) (g : Dev Cert.DownAIdeal.nD → PrngReg)
    (m' : (ℓ : Loc Cert.DownARefIdeal.nD Cert.DownARefIdeal.τ Cert.DownARefIdeal.sig) → Buf (Elt Ideal) ℓ) (g' : Dev Cert.DownARefIdeal.nD → PrngReg), Pre_DownAIdeal m →
    (∀ c : Dev Cert.DownAIdeal.nD,
      m' ((c.tc : Thread Cert.DownARefIdeal.nD Cert.DownARefIdeal.τ).loc Cert.DownARefIdeal.main_arg0) = m ((c.tc : Thread Cert.DownAIdeal.nD Cert.DownAIdeal.τ).loc Cert.DownAIdeal.main_arg0)
      ∧ m' ((c.tc : Thread Cert.DownARefIdeal.nD Cert.DownARefIdeal.τ).loc Cert.DownARefIdeal.main_arg1) = m ((c.tc : Thread Cert.DownAIdeal.nD Cert.DownAIdeal.τ).loc Cert.DownAIdeal.main_arg1)) →
    ∃ (v0 : (c : Dev Cert.DownAIdeal.nD) → Buf (Elt Ideal) ((c.tc : Thread Cert.DownAIdeal.nD Cert.DownAIdeal.τ).loc Cert.DownAIdeal.main_v0)),
      θ_run (Cert.DownAIdeal.defs (F := Ideal)) (onTc (τ := Cert.DownAIdeal.τ) (Cert.DownAIdeal.main (F := Ideal))) ⟨m, fun _ => 0, g⟩ (fun r => ∀ c : Dev Cert.DownAIdeal.nD,
          r.2.mem ((c.tc : Thread Cert.DownAIdeal.nD Cert.DownAIdeal.τ).loc Cert.DownAIdeal.main_v0) = v0 c
          ∧ r.2.mem ((c.tc : Thread Cert.DownAIdeal.nD Cert.DownAIdeal.τ).loc Cert.DownAIdeal.main_arg0) = m ((c.tc : Thread Cert.DownAIdeal.nD Cert.DownAIdeal.τ).loc Cert.DownAIdeal.main_arg0)
          ∧ r.2.mem ((c.tc : Thread Cert.DownAIdeal.nD Cert.DownAIdeal.τ).loc Cert.DownAIdeal.main_arg1) = m ((c.tc : Thread Cert.DownAIdeal.nD Cert.DownAIdeal.τ).loc Cert.DownAIdeal.main_arg1))
      ∧ θ_run (Cert.DownARefIdeal.defs (F := Ideal)) (onTc (τ := Cert.DownARefIdeal.τ) (Cert.DownARefIdeal.main (F := Ideal))) ⟨m', fun _ => 0, g'⟩ (fun r => ∀ c : Dev Cert.DownARefIdeal.nD,
          r.2.mem ((c.tc : Thread Cert.DownARefIdeal.nD Cert.DownARefIdeal.τ).loc Cert.DownARefIdeal.main_v4) = v0 c
          ∧ r.2.mem ((c.tc : Thread Cert.DownARefIdeal.nD Cert.DownARefIdeal.τ).loc Cert.DownARefIdeal.main_arg0) = m' ((c.tc : Thread Cert.DownARefIdeal.nD Cert.DownARefIdeal.τ).loc Cert.DownARefIdeal.main_arg0)
          ∧ r.2.mem ((c.tc : Thread Cert.DownARefIdeal.nD Cert.DownARefIdeal.τ).loc Cert.DownARefIdeal.main_arg1) = m' ((c.tc : Thread Cert.DownARefIdeal.nD Cert.DownARefIdeal.τ).loc Cert.DownARefIdeal.main_arg1))

def preserves_DownB_DownBIdeal : Prop :=
  True

def algebraic_DownBIdeal_DownBRefIdeal [hDownBIdeal : Cert.DownBIdeal.Facts] [hDownBRefIdeal : Cert.DownBRefIdeal.Facts] : Prop :=
  ∀ (m : (ℓ : Loc Cert.DownBIdeal.nD Cert.DownBIdeal.τ Cert.DownBIdeal.sig) → Buf (Elt Ideal) ℓ) (g : Dev Cert.DownBIdeal.nD → PrngReg)
    (m' : (ℓ : Loc Cert.DownBRefIdeal.nD Cert.DownBRefIdeal.τ Cert.DownBRefIdeal.sig) → Buf (Elt Ideal) ℓ) (g' : Dev Cert.DownBRefIdeal.nD → PrngReg), Pre_DownBIdeal m →
    (∀ c : Dev Cert.DownBIdeal.nD,
      m' ((c.tc : Thread Cert.DownBRefIdeal.nD Cert.DownBRefIdeal.τ).loc Cert.DownBRefIdeal.main_arg0) = m ((c.tc : Thread Cert.DownBIdeal.nD Cert.DownBIdeal.τ).loc Cert.DownBIdeal.main_arg0)
      ∧ m' ((c.tc : Thread Cert.DownBRefIdeal.nD Cert.DownBRefIdeal.τ).loc Cert.DownBRefIdeal.main_arg1) = m ((c.tc : Thread Cert.DownBIdeal.nD Cert.DownBIdeal.τ).loc Cert.DownBIdeal.main_arg1)
      ∧ m' ((c.tc : Thread Cert.DownBRefIdeal.nD Cert.DownBRefIdeal.τ).loc Cert.DownBRefIdeal.main_arg2) = m ((c.tc : Thread Cert.DownBIdeal.nD Cert.DownBIdeal.τ).loc Cert.DownBIdeal.main_arg2)) →
    ∃ (v0 : (c : Dev Cert.DownBIdeal.nD) → Buf (Elt Ideal) ((c.tc : Thread Cert.DownBIdeal.nD Cert.DownBIdeal.τ).loc Cert.DownBIdeal.main_v0)),
      θ_run (Cert.DownBIdeal.defs (F := Ideal)) (onTc (τ := Cert.DownBIdeal.τ) (Cert.DownBIdeal.main (F := Ideal))) ⟨m, fun _ => 0, g⟩ (fun r => ∀ c : Dev Cert.DownBIdeal.nD,
          r.2.mem ((c.tc : Thread Cert.DownBIdeal.nD Cert.DownBIdeal.τ).loc Cert.DownBIdeal.main_v0) = v0 c
          ∧ r.2.mem ((c.tc : Thread Cert.DownBIdeal.nD Cert.DownBIdeal.τ).loc Cert.DownBIdeal.main_arg0) = m ((c.tc : Thread Cert.DownBIdeal.nD Cert.DownBIdeal.τ).loc Cert.DownBIdeal.main_arg0)
          ∧ r.2.mem ((c.tc : Thread Cert.DownBIdeal.nD Cert.DownBIdeal.τ).loc Cert.DownBIdeal.main_arg1) = m ((c.tc : Thread Cert.DownBIdeal.nD Cert.DownBIdeal.τ).loc Cert.DownBIdeal.main_arg1)
          ∧ r.2.mem ((c.tc : Thread Cert.DownBIdeal.nD Cert.DownBIdeal.τ).loc Cert.DownBIdeal.main_arg2) = m ((c.tc : Thread Cert.DownBIdeal.nD Cert.DownBIdeal.τ).loc Cert.DownBIdeal.main_arg2))
      ∧ θ_run (Cert.DownBRefIdeal.defs (F := Ideal)) (onTc (τ := Cert.DownBRefIdeal.τ) (Cert.DownBRefIdeal.main (F := Ideal))) ⟨m', fun _ => 0, g'⟩ (fun r => ∀ c : Dev Cert.DownBRefIdeal.nD,
          r.2.mem ((c.tc : Thread Cert.DownBRefIdeal.nD Cert.DownBRefIdeal.τ).loc Cert.DownBRefIdeal.main_v5) = v0 c
          ∧ r.2.mem ((c.tc : Thread Cert.DownBRefIdeal.nD Cert.DownBRefIdeal.τ).loc Cert.DownBRefIdeal.main_arg0) = m' ((c.tc : Thread Cert.DownBRefIdeal.nD Cert.DownBRefIdeal.τ).loc Cert.DownBRefIdeal.main_arg0)
          ∧ r.2.mem ((c.tc : Thread Cert.DownBRefIdeal.nD Cert.DownBRefIdeal.τ).loc Cert.DownBRefIdeal.main_arg1) = m' ((c.tc : Thread Cert.DownBRefIdeal.nD Cert.DownBRefIdeal.τ).loc Cert.DownBRefIdeal.main_arg1)
          ∧ r.2.mem ((c.tc : Thread Cert.DownBRefIdeal.nD Cert.DownBRefIdeal.τ).loc Cert.DownBRefIdeal.main_arg2) = m' ((c.tc : Thread Cert.DownBRefIdeal.nD Cert.DownBRefIdeal.τ).loc Cert.DownBRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_ExpUp_ExpUpIdeal : Prop :=
  True

def algebraic_ExpUpIdeal_ExpUpRefIdeal [hExpUpIdeal : Cert.ExpUpIdeal.Facts] [hExpUpRefIdeal : Cert.ExpUpRefIdeal.Facts] [hPre_tables_up : Cert.Pre_tables_up.Facts] : Prop :=
  ∀ (m : (ℓ : Loc Cert.ExpUpIdeal.nD Cert.ExpUpIdeal.τ Cert.ExpUpIdeal.sig) → Buf (Elt Ideal) ℓ) (g : Dev Cert.ExpUpIdeal.nD → PrngReg)
    (m' : (ℓ : Loc Cert.ExpUpRefIdeal.nD Cert.ExpUpRefIdeal.τ Cert.ExpUpRefIdeal.sig) → Buf (Elt Ideal) ℓ) (g' : Dev Cert.ExpUpRefIdeal.nD → PrngReg), Pre_ExpUpIdeal m →
    (∀ c : Dev Cert.ExpUpIdeal.nD,
      m' ((c.tc : Thread Cert.ExpUpRefIdeal.nD Cert.ExpUpRefIdeal.τ).loc Cert.ExpUpRefIdeal.main_arg0) = m ((c.tc : Thread Cert.ExpUpIdeal.nD Cert.ExpUpIdeal.τ).loc Cert.ExpUpIdeal.main_arg0)
      ∧ m' ((c.tc : Thread Cert.ExpUpRefIdeal.nD Cert.ExpUpRefIdeal.τ).loc Cert.ExpUpRefIdeal.main_arg1) = m ((c.tc : Thread Cert.ExpUpIdeal.nD Cert.ExpUpIdeal.τ).loc Cert.ExpUpIdeal.main_arg1)
      ∧ m' ((c.tc : Thread Cert.ExpUpRefIdeal.nD Cert.ExpUpRefIdeal.τ).loc Cert.ExpUpRefIdeal.main_arg2) = m ((c.tc : Thread Cert.ExpUpIdeal.nD Cert.ExpUpIdeal.τ).loc Cert.ExpUpIdeal.main_arg2)
      ∧ m' ((c.tc : Thread Cert.ExpUpRefIdeal.nD Cert.ExpUpRefIdeal.τ).loc Cert.ExpUpRefIdeal.main_arg3) = m ((c.tc : Thread Cert.ExpUpIdeal.nD Cert.ExpUpIdeal.τ).loc Cert.ExpUpIdeal.main_arg3)
      ∧ m' ((c.tc : Thread Cert.ExpUpRefIdeal.nD Cert.ExpUpRefIdeal.τ).loc Cert.ExpUpRefIdeal.main_arg4) = m ((c.tc : Thread Cert.ExpUpIdeal.nD Cert.ExpUpIdeal.τ).loc Cert.ExpUpIdeal.main_arg4)
      ∧ m' ((c.tc : Thread Cert.ExpUpRefIdeal.nD Cert.ExpUpRefIdeal.τ).loc Cert.ExpUpRefIdeal.main_arg5) = m ((c.tc : Thread Cert.ExpUpIdeal.nD Cert.ExpUpIdeal.τ).loc Cert.ExpUpIdeal.main_arg5)) →
    ∃ (v0 : (c : Dev Cert.ExpUpIdeal.nD) → Buf (Elt Ideal) ((c.tc : Thread Cert.ExpUpIdeal.nD Cert.ExpUpIdeal.τ).loc Cert.ExpUpIdeal.main_v0)),
      θ_run (Cert.ExpUpIdeal.defs (F := Ideal)) (onTc (τ := Cert.ExpUpIdeal.τ) (Cert.ExpUpIdeal.main (F := Ideal))) ⟨m, fun _ => 0, g⟩ (fun r => ∀ c : Dev Cert.ExpUpIdeal.nD,
          r.2.mem ((c.tc : Thread Cert.ExpUpIdeal.nD Cert.ExpUpIdeal.τ).loc Cert.ExpUpIdeal.main_v0) = v0 c
          ∧ r.2.mem ((c.tc : Thread Cert.ExpUpIdeal.nD Cert.ExpUpIdeal.τ).loc Cert.ExpUpIdeal.main_arg0) = m ((c.tc : Thread Cert.ExpUpIdeal.nD Cert.ExpUpIdeal.τ).loc Cert.ExpUpIdeal.main_arg0)
          ∧ r.2.mem ((c.tc : Thread Cert.ExpUpIdeal.nD Cert.ExpUpIdeal.τ).loc Cert.ExpUpIdeal.main_arg1) = m ((c.tc : Thread Cert.ExpUpIdeal.nD Cert.ExpUpIdeal.τ).loc Cert.ExpUpIdeal.main_arg1)
          ∧ r.2.mem ((c.tc : Thread Cert.ExpUpIdeal.nD Cert.ExpUpIdeal.τ).loc Cert.ExpUpIdeal.main_arg2) = m ((c.tc : Thread Cert.ExpUpIdeal.nD Cert.ExpUpIdeal.τ).loc Cert.ExpUpIdeal.main_arg2)
          ∧ r.2.mem ((c.tc : Thread Cert.ExpUpIdeal.nD Cert.ExpUpIdeal.τ).loc Cert.ExpUpIdeal.main_arg3) = m ((c.tc : Thread Cert.ExpUpIdeal.nD Cert.ExpUpIdeal.τ).loc Cert.ExpUpIdeal.main_arg3)
          ∧ r.2.mem ((c.tc : Thread Cert.ExpUpIdeal.nD Cert.ExpUpIdeal.τ).loc Cert.ExpUpIdeal.main_arg4) = m ((c.tc : Thread Cert.ExpUpIdeal.nD Cert.ExpUpIdeal.τ).loc Cert.ExpUpIdeal.main_arg4)
          ∧ r.2.mem ((c.tc : Thread Cert.ExpUpIdeal.nD Cert.ExpUpIdeal.τ).loc Cert.ExpUpIdeal.main_arg5) = m ((c.tc : Thread Cert.ExpUpIdeal.nD Cert.ExpUpIdeal.τ).loc Cert.ExpUpIdeal.main_arg5))
      ∧ θ_run (Cert.ExpUpRefIdeal.defs (F := Ideal)) (onTc (τ := Cert.ExpUpRefIdeal.τ) (Cert.ExpUpRefIdeal.main (F := Ideal))) ⟨m', fun _ => 0, g'⟩ (fun r => ∀ c : Dev Cert.ExpUpRefIdeal.nD,
          r.2.mem ((c.tc : Thread Cert.ExpUpRefIdeal.nD Cert.ExpUpRefIdeal.τ).loc Cert.ExpUpRefIdeal.main_v34) = v0 c
          ∧ r.2.mem ((c.tc : Thread Cert.ExpUpRefIdeal.nD Cert.ExpUpRefIdeal.τ).loc Cert.ExpUpRefIdeal.main_arg0) = m' ((c.tc : Thread Cert.ExpUpRefIdeal.nD Cert.ExpUpRefIdeal.τ).loc Cert.ExpUpRefIdeal.main_arg0)
          ∧ r.2.mem ((c.tc : Thread Cert.ExpUpRefIdeal.nD Cert.ExpUpRefIdeal.τ).loc Cert.ExpUpRefIdeal.main_arg1) = m' ((c.tc : Thread Cert.ExpUpRefIdeal.nD Cert.ExpUpRefIdeal.τ).loc Cert.ExpUpRefIdeal.main_arg1)
          ∧ r.2.mem ((c.tc : Thread Cert.ExpUpRefIdeal.nD Cert.ExpUpRefIdeal.τ).loc Cert.ExpUpRefIdeal.main_arg2) = m' ((c.tc : Thread Cert.ExpUpRefIdeal.nD Cert.ExpUpRefIdeal.τ).loc Cert.ExpUpRefIdeal.main_arg2)
          ∧ r.2.mem ((c.tc : Thread Cert.ExpUpRefIdeal.nD Cert.ExpUpRefIdeal.τ).loc Cert.ExpUpRefIdeal.main_arg3) = m' ((c.tc : Thread Cert.ExpUpRefIdeal.nD Cert.ExpUpRefIdeal.τ).loc Cert.ExpUpRefIdeal.main_arg3)
          ∧ r.2.mem ((c.tc : Thread Cert.ExpUpRefIdeal.nD Cert.ExpUpRefIdeal.τ).loc Cert.ExpUpRefIdeal.main_arg4) = m' ((c.tc : Thread Cert.ExpUpRefIdeal.nD Cert.ExpUpRefIdeal.τ).loc Cert.ExpUpRefIdeal.main_arg4)
          ∧ r.2.mem ((c.tc : Thread Cert.ExpUpRefIdeal.nD Cert.ExpUpRefIdeal.τ).loc Cert.ExpUpRefIdeal.main_arg5) = m' ((c.tc : Thread Cert.ExpUpRefIdeal.nD Cert.ExpUpRefIdeal.τ).loc Cert.ExpUpRefIdeal.main_arg5))

def preserves_ExpDown_ExpDownIdeal : Prop :=
  True

def algebraic_ExpDownIdeal_ExpDownRefIdeal [hExpDownIdeal : Cert.ExpDownIdeal.Facts] [hExpDownRefIdeal : Cert.ExpDownRefIdeal.Facts] [hPre_tables_down : Cert.Pre_tables_down.Facts] : Prop :=
  ∀ (m : (ℓ : Loc Cert.ExpDownIdeal.nD Cert.ExpDownIdeal.τ Cert.ExpDownIdeal.sig) → Buf (Elt Ideal) ℓ) (g : Dev Cert.ExpDownIdeal.nD → PrngReg)
    (m' : (ℓ : Loc Cert.ExpDownRefIdeal.nD Cert.ExpDownRefIdeal.τ Cert.ExpDownRefIdeal.sig) → Buf (Elt Ideal) ℓ) (g' : Dev Cert.ExpDownRefIdeal.nD → PrngReg), Pre_ExpDownIdeal m →
    (∀ c : Dev Cert.ExpDownIdeal.nD,
      m' ((c.tc : Thread Cert.ExpDownRefIdeal.nD Cert.ExpDownRefIdeal.τ).loc Cert.ExpDownRefIdeal.main_arg0) = m ((c.tc : Thread Cert.ExpDownIdeal.nD Cert.ExpDownIdeal.τ).loc Cert.ExpDownIdeal.main_arg0)
      ∧ m' ((c.tc : Thread Cert.ExpDownRefIdeal.nD Cert.ExpDownRefIdeal.τ).loc Cert.ExpDownRefIdeal.main_arg1) = m ((c.tc : Thread Cert.ExpDownIdeal.nD Cert.ExpDownIdeal.τ).loc Cert.ExpDownIdeal.main_arg1)
      ∧ m' ((c.tc : Thread Cert.ExpDownRefIdeal.nD Cert.ExpDownRefIdeal.τ).loc Cert.ExpDownRefIdeal.main_arg2) = m ((c.tc : Thread Cert.ExpDownIdeal.nD Cert.ExpDownIdeal.τ).loc Cert.ExpDownIdeal.main_arg2)
      ∧ m' ((c.tc : Thread Cert.ExpDownRefIdeal.nD Cert.ExpDownRefIdeal.τ).loc Cert.ExpDownRefIdeal.main_arg3) = m ((c.tc : Thread Cert.ExpDownIdeal.nD Cert.ExpDownIdeal.τ).loc Cert.ExpDownIdeal.main_arg3)
      ∧ m' ((c.tc : Thread Cert.ExpDownRefIdeal.nD Cert.ExpDownRefIdeal.τ).loc Cert.ExpDownRefIdeal.main_arg4) = m ((c.tc : Thread Cert.ExpDownIdeal.nD Cert.ExpDownIdeal.τ).loc Cert.ExpDownIdeal.main_arg4)) →
    ∃ (v0 : (c : Dev Cert.ExpDownIdeal.nD) → Buf (Elt Ideal) ((c.tc : Thread Cert.ExpDownIdeal.nD Cert.ExpDownIdeal.τ).loc Cert.ExpDownIdeal.main_v0)),
      θ_run (Cert.ExpDownIdeal.defs (F := Ideal)) (onTc (τ := Cert.ExpDownIdeal.τ) (Cert.ExpDownIdeal.main (F := Ideal))) ⟨m, fun _ => 0, g⟩ (fun r => ∀ c : Dev Cert.ExpDownIdeal.nD,
          r.2.mem ((c.tc : Thread Cert.ExpDownIdeal.nD Cert.ExpDownIdeal.τ).loc Cert.ExpDownIdeal.main_v0) = v0 c
          ∧ r.2.mem ((c.tc : Thread Cert.ExpDownIdeal.nD Cert.ExpDownIdeal.τ).loc Cert.ExpDownIdeal.main_arg0) = m ((c.tc : Thread Cert.ExpDownIdeal.nD Cert.ExpDownIdeal.τ).loc Cert.ExpDownIdeal.main_arg0)
          ∧ r.2.mem ((c.tc : Thread Cert.ExpDownIdeal.nD Cert.ExpDownIdeal.τ).loc Cert.ExpDownIdeal.main_arg1) = m ((c.tc : Thread Cert.ExpDownIdeal.nD Cert.ExpDownIdeal.τ).loc Cert.ExpDownIdeal.main_arg1)
          ∧ r.2.mem ((c.tc : Thread Cert.ExpDownIdeal.nD Cert.ExpDownIdeal.τ).loc Cert.ExpDownIdeal.main_arg2) = m ((c.tc : Thread Cert.ExpDownIdeal.nD Cert.ExpDownIdeal.τ).loc Cert.ExpDownIdeal.main_arg2)
          ∧ r.2.mem ((c.tc : Thread Cert.ExpDownIdeal.nD Cert.ExpDownIdeal.τ).loc Cert.ExpDownIdeal.main_arg3) = m ((c.tc : Thread Cert.ExpDownIdeal.nD Cert.ExpDownIdeal.τ).loc Cert.ExpDownIdeal.main_arg3)
          ∧ r.2.mem ((c.tc : Thread Cert.ExpDownIdeal.nD Cert.ExpDownIdeal.τ).loc Cert.ExpDownIdeal.main_arg4) = m ((c.tc : Thread Cert.ExpDownIdeal.nD Cert.ExpDownIdeal.τ).loc Cert.ExpDownIdeal.main_arg4))
      ∧ θ_run (Cert.ExpDownRefIdeal.defs (F := Ideal)) (onTc (τ := Cert.ExpDownRefIdeal.τ) (Cert.ExpDownRefIdeal.main (F := Ideal))) ⟨m', fun _ => 0, g'⟩ (fun r => ∀ c : Dev Cert.ExpDownRefIdeal.nD,
          r.2.mem ((c.tc : Thread Cert.ExpDownRefIdeal.nD Cert.ExpDownRefIdeal.τ).loc Cert.ExpDownRefIdeal.main_v18) = v0 c
          ∧ r.2.mem ((c.tc : Thread Cert.ExpDownRefIdeal.nD Cert.ExpDownRefIdeal.τ).loc Cert.ExpDownRefIdeal.main_arg0) = m' ((c.tc : Thread Cert.ExpDownRefIdeal.nD Cert.ExpDownRefIdeal.τ).loc Cert.ExpDownRefIdeal.main_arg0)
          ∧ r.2.mem ((c.tc : Thread Cert.ExpDownRefIdeal.nD Cert.ExpDownRefIdeal.τ).loc Cert.ExpDownRefIdeal.main_arg1) = m' ((c.tc : Thread Cert.ExpDownRefIdeal.nD Cert.ExpDownRefIdeal.τ).loc Cert.ExpDownRefIdeal.main_arg1)
          ∧ r.2.mem ((c.tc : Thread Cert.ExpDownRefIdeal.nD Cert.ExpDownRefIdeal.τ).loc Cert.ExpDownRefIdeal.main_arg2) = m' ((c.tc : Thread Cert.ExpDownRefIdeal.nD Cert.ExpDownRefIdeal.τ).loc Cert.ExpDownRefIdeal.main_arg2)
          ∧ r.2.mem ((c.tc : Thread Cert.ExpDownRefIdeal.nD Cert.ExpDownRefIdeal.τ).loc Cert.ExpDownRefIdeal.main_arg3) = m' ((c.tc : Thread Cert.ExpDownRefIdeal.nD Cert.ExpDownRefIdeal.τ).loc Cert.ExpDownRefIdeal.main_arg3)
          ∧ r.2.mem ((c.tc : Thread Cert.ExpDownRefIdeal.nD Cert.ExpDownRefIdeal.τ).loc Cert.ExpDownRefIdeal.main_arg4) = m' ((c.tc : Thread Cert.ExpDownRefIdeal.nD Cert.ExpDownRefIdeal.τ).loc Cert.ExpDownRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)) →
    ∃ (v0 : (c : Dev Cert.ResidIdeal.nD) → Buf (Elt Ideal) ((c.tc : Thread Cert.ResidIdeal.nD Cert.ResidIdeal.τ).loc Cert.ResidIdeal.main_v3)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v3) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v15) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2))

def preserves_Latents_LatentsIdeal : Prop :=
  True

def algebraic_LatentsIdeal_LatentsRefIdeal [hLatentsIdeal : Cert.LatentsIdeal.Facts] [hLatentsRefIdeal : Cert.LatentsRefIdeal.Facts] : Prop :=
  ∀ (m : (ℓ : Loc Cert.LatentsIdeal.nD Cert.LatentsIdeal.τ Cert.LatentsIdeal.sig) → Buf (Elt Ideal) ℓ) (g : Dev Cert.LatentsIdeal.nD → PrngReg)
    (m' : (ℓ : Loc Cert.LatentsRefIdeal.nD Cert.LatentsRefIdeal.τ Cert.LatentsRefIdeal.sig) → Buf (Elt Ideal) ℓ) (g' : Dev Cert.LatentsRefIdeal.nD → PrngReg), Pre_LatentsIdeal m →
    (∀ c : Dev Cert.LatentsIdeal.nD,
      m' ((c.tc : Thread Cert.LatentsRefIdeal.nD Cert.LatentsRefIdeal.τ).loc Cert.LatentsRefIdeal.main_arg0) = m ((c.tc : Thread Cert.LatentsIdeal.nD Cert.LatentsIdeal.τ).loc Cert.LatentsIdeal.main_arg0)
      ∧ m' ((c.tc : Thread Cert.LatentsRefIdeal.nD Cert.LatentsRefIdeal.τ).loc Cert.LatentsRefIdeal.main_arg1) = m ((c.tc : Thread Cert.LatentsIdeal.nD Cert.LatentsIdeal.τ).loc Cert.LatentsIdeal.main_arg1)
      ∧ m' ((c.tc : Thread Cert.LatentsRefIdeal.nD Cert.LatentsRefIdeal.τ).loc Cert.LatentsRefIdeal.main_arg2) = m ((c.tc : Thread Cert.LatentsIdeal.nD Cert.LatentsIdeal.τ).loc Cert.LatentsIdeal.main_arg2)
      ∧ m' ((c.tc : Thread Cert.LatentsRefIdeal.nD Cert.LatentsRefIdeal.τ).loc Cert.LatentsRefIdeal.main_arg3) = m ((c.tc : Thread Cert.LatentsIdeal.nD Cert.LatentsIdeal.τ).loc Cert.LatentsIdeal.main_arg3)) →
    ∃ (v0 : (c : Dev Cert.LatentsIdeal.nD) → Buf (Elt Ideal) ((c.tc : Thread Cert.LatentsIdeal.nD Cert.LatentsIdeal.τ).loc Cert.LatentsIdeal.main_v32_0)) (v1 : (c : Dev Cert.LatentsIdeal.nD) → Buf (Elt Ideal) ((c.tc : Thread Cert.LatentsIdeal.nD Cert.LatentsIdeal.τ).loc Cert.LatentsIdeal.main_v32_1)) (v2 : (c : Dev Cert.LatentsIdeal.nD) → Buf (Elt Ideal) ((c.tc : Thread Cert.LatentsIdeal.nD Cert.LatentsIdeal.τ).loc Cert.LatentsIdeal.main_v32_2)) (v3 : (c : Dev Cert.LatentsIdeal.nD) → Buf (Elt Ideal) ((c.tc : Thread Cert.LatentsIdeal.nD Cert.LatentsIdeal.τ).loc Cert.LatentsIdeal.main_v32_3)) (v4 : (c : Dev Cert.LatentsIdeal.nD) → Buf (Elt Ideal) ((c.tc : Thread Cert.LatentsIdeal.nD Cert.LatentsIdeal.τ).loc Cert.LatentsIdeal.main_v32_4)),
      θ_run (Cert.LatentsIdeal.defs (F := Ideal)) (onTc (τ := Cert.LatentsIdeal.τ) (Cert.LatentsIdeal.main (F := Ideal))) ⟨m, fun _ => 0, g⟩ (fun r => ∀ c : Dev Cert.LatentsIdeal.nD,
          r.2.mem ((c.tc : Thread Cert.LatentsIdeal.nD Cert.LatentsIdeal.τ).loc Cert.LatentsIdeal.main_v32_0) = v0 c
          ∧ r.2.mem ((c.tc : Thread Cert.LatentsIdeal.nD Cert.LatentsIdeal.τ).loc Cert.LatentsIdeal.main_v32_1) = v1 c
          ∧ r.2.mem ((c.tc : Thread Cert.LatentsIdeal.nD Cert.LatentsIdeal.τ).loc Cert.LatentsIdeal.main_v32_2) = v2 c
          ∧ r.2.mem ((c.tc : Thread Cert.LatentsIdeal.nD Cert.LatentsIdeal.τ).loc Cert.LatentsIdeal.main_v32_3) = v3 c
          ∧ r.2.mem ((c.tc : Thread Cert.LatentsIdeal.nD Cert.LatentsIdeal.τ).loc Cert.LatentsIdeal.main_v32_4) = v4 c
          ∧ r.2.mem ((c.tc : Thread Cert.LatentsIdeal.nD Cert.LatentsIdeal.τ).loc Cert.LatentsIdeal.main_arg0) = m ((c.tc : Thread Cert.LatentsIdeal.nD Cert.LatentsIdeal.τ).loc Cert.LatentsIdeal.main_arg0)
          ∧ r.2.mem ((c.tc : Thread Cert.LatentsIdeal.nD Cert.LatentsIdeal.τ).loc Cert.LatentsIdeal.main_arg1) = m ((c.tc : Thread Cert.LatentsIdeal.nD Cert.LatentsIdeal.τ).loc Cert.LatentsIdeal.main_arg1)
          ∧ r.2.mem ((c.tc : Thread Cert.LatentsIdeal.nD Cert.LatentsIdeal.τ).loc Cert.LatentsIdeal.main_arg2) = m ((c.tc : Thread Cert.LatentsIdeal.nD Cert.LatentsIdeal.τ).loc Cert.LatentsIdeal.main_arg2)
          ∧ r.2.mem ((c.tc : Thread Cert.LatentsIdeal.nD Cert.LatentsIdeal.τ).loc Cert.LatentsIdeal.main_arg3) = m ((c.tc : Thread Cert.LatentsIdeal.nD Cert.LatentsIdeal.τ).loc Cert.LatentsIdeal.main_arg3))
      ∧ θ_run (Cert.LatentsRefIdeal.defs (F := Ideal)) (onTc (τ := Cert.LatentsRefIdeal.τ) (Cert.LatentsRefIdeal.main (F := Ideal))) ⟨m', fun _ => 0, g'⟩ (fun r => ∀ c : Dev Cert.LatentsRefIdeal.nD,
          r.2.mem ((c.tc : Thread Cert.LatentsRefIdeal.nD Cert.LatentsRefIdeal.τ).loc Cert.LatentsRefIdeal.main_v63) = v0 c
          ∧ r.2.mem ((c.tc : Thread Cert.LatentsRefIdeal.nD Cert.LatentsRefIdeal.τ).loc Cert.LatentsRefIdeal.main_v38) = v1 c
          ∧ r.2.mem ((c.tc : Thread Cert.LatentsRefIdeal.nD Cert.LatentsRefIdeal.τ).loc Cert.LatentsRefIdeal.main_v64) = v2 c
          ∧ r.2.mem ((c.tc : Thread Cert.LatentsRefIdeal.nD Cert.LatentsRefIdeal.τ).loc Cert.LatentsRefIdeal.main_v62) = v3 c
          ∧ r.2.mem ((c.tc : Thread Cert.LatentsRefIdeal.nD Cert.LatentsRefIdeal.τ).loc Cert.LatentsRefIdeal.main_v66) = v4 c
          ∧ r.2.mem ((c.tc : Thread Cert.LatentsRefIdeal.nD Cert.LatentsRefIdeal.τ).loc Cert.LatentsRefIdeal.main_arg0) = m' ((c.tc : Thread Cert.LatentsRefIdeal.nD Cert.LatentsRefIdeal.τ).loc Cert.LatentsRefIdeal.main_arg0)
          ∧ r.2.mem ((c.tc : Thread Cert.LatentsRefIdeal.nD Cert.LatentsRefIdeal.τ).loc Cert.LatentsRefIdeal.main_arg1) = m' ((c.tc : Thread Cert.LatentsRefIdeal.nD Cert.LatentsRefIdeal.τ).loc Cert.LatentsRefIdeal.main_arg1)
          ∧ r.2.mem ((c.tc : Thread Cert.LatentsRefIdeal.nD Cert.LatentsRefIdeal.τ).loc Cert.LatentsRefIdeal.main_arg2) = m' ((c.tc : Thread Cert.LatentsRefIdeal.nD Cert.LatentsRefIdeal.τ).loc Cert.LatentsRefIdeal.main_arg2)
          ∧ r.2.mem ((c.tc : Thread Cert.LatentsRefIdeal.nD Cert.LatentsRefIdeal.τ).loc Cert.LatentsRefIdeal.main_arg3) = m' ((c.tc : Thread Cert.LatentsRefIdeal.nD Cert.LatentsRefIdeal.τ).loc Cert.LatentsRefIdeal.main_arg3))

def preserves_KeyCols_KeyColsIdeal : Prop :=
  True

def algebraic_KeyColsIdeal_KeyColsRefIdeal [hKeyColsIdeal : Cert.KeyColsIdeal.Facts] [hKeyColsRefIdeal : Cert.KeyColsRefIdeal.Facts] : Prop :=
  ∀ (m : (ℓ : Loc Cert.KeyColsIdeal.nD Cert.KeyColsIdeal.τ Cert.KeyColsIdeal.sig) → Buf (Elt Ideal) ℓ) (g : Dev Cert.KeyColsIdeal.nD → PrngReg)
    (m' : (ℓ : Loc Cert.KeyColsRefIdeal.nD Cert.KeyColsRefIdeal.τ Cert.KeyColsRefIdeal.sig) → Buf (Elt Ideal) ℓ) (g' : Dev Cert.KeyColsRefIdeal.nD → PrngReg), Pre_KeyColsIdeal m →
    (∀ c : Dev Cert.KeyColsIdeal.nD,
      m' ((c.tc : Thread Cert.KeyColsRefIdeal.nD Cert.KeyColsRefIdeal.τ).loc Cert.KeyColsRefIdeal.main_arg0) = m ((c.tc : Thread Cert.KeyColsIdeal.nD Cert.KeyColsIdeal.τ).loc Cert.KeyColsIdeal.main_arg0)
      ∧ m' ((c.tc : Thread Cert.KeyColsRefIdeal.nD Cert.KeyColsRefIdeal.τ).loc Cert.KeyColsRefIdeal.main_arg1) = m ((c.tc : Thread Cert.KeyColsIdeal.nD Cert.KeyColsIdeal.τ).loc Cert.KeyColsIdeal.main_arg1)) →
    ∃ (v0 : (c : Dev Cert.KeyColsIdeal.nD) → Buf (Elt Ideal) ((c.tc : Thread Cert.KeyColsIdeal.nD Cert.KeyColsIdeal.τ).loc Cert.KeyColsIdeal.main_v1)),
      θ_run (Cert.KeyColsIdeal.defs (F := Ideal)) (onTc (τ := Cert.KeyColsIdeal.τ) (Cert.KeyColsIdeal.main (F := Ideal))) ⟨m, fun _ => 0, g⟩ (fun r => ∀ c : Dev Cert.KeyColsIdeal.nD,
          r.2.mem ((c.tc : Thread Cert.KeyColsIdeal.nD Cert.KeyColsIdeal.τ).loc Cert.KeyColsIdeal.main_v1) = v0 c
          ∧ r.2.mem ((c.tc : Thread Cert.KeyColsIdeal.nD Cert.KeyColsIdeal.τ).loc Cert.KeyColsIdeal.main_arg0) = m ((c.tc : Thread Cert.KeyColsIdeal.nD Cert.KeyColsIdeal.τ).loc Cert.KeyColsIdeal.main_arg0)
          ∧ r.2.mem ((c.tc : Thread Cert.KeyColsIdeal.nD Cert.KeyColsIdeal.τ).loc Cert.KeyColsIdeal.main_arg1) = m ((c.tc : Thread Cert.KeyColsIdeal.nD Cert.KeyColsIdeal.τ).loc Cert.KeyColsIdeal.main_arg1))
      ∧ θ_run (Cert.KeyColsRefIdeal.defs (F := Ideal)) (onTc (τ := Cert.KeyColsRefIdeal.τ) (Cert.KeyColsRefIdeal.main (F := Ideal))) ⟨m', fun _ => 0, g'⟩ (fun r => ∀ c : Dev Cert.KeyColsRefIdeal.nD,
          r.2.mem ((c.tc : Thread Cert.KeyColsRefIdeal.nD Cert.KeyColsRefIdeal.τ).loc Cert.KeyColsRefIdeal.main_v4) = v0 c
          ∧ r.2.mem ((c.tc : Thread Cert.KeyColsRefIdeal.nD Cert.KeyColsRefIdeal.τ).loc Cert.KeyColsRefIdeal.main_arg0) = m' ((c.tc : Thread Cert.KeyColsRefIdeal.nD Cert.KeyColsRefIdeal.τ).loc Cert.KeyColsRefIdeal.main_arg0)
          ∧ r.2.mem ((c.tc : Thread Cert.KeyColsRefIdeal.nD Cert.KeyColsRefIdeal.τ).loc Cert.KeyColsRefIdeal.main_arg1) = m' ((c.tc : Thread Cert.KeyColsRefIdeal.nD Cert.KeyColsRefIdeal.τ).loc Cert.KeyColsRefIdeal.main_arg1))

def preserves_QNope_QNopeIdeal : Prop :=
  True

def algebraic_QNopeIdeal_QNopeRefIdeal [hQNopeIdeal : Cert.QNopeIdeal.Facts] [hQNopeRefIdeal : Cert.QNopeRefIdeal.Facts] : Prop :=
  ∀ (m : (ℓ : Loc Cert.QNopeIdeal.nD Cert.QNopeIdeal.τ Cert.QNopeIdeal.sig) → Buf (Elt Ideal) ℓ) (g : Dev Cert.QNopeIdeal.nD → PrngReg)
    (m' : (ℓ : Loc Cert.QNopeRefIdeal.nD Cert.QNopeRefIdeal.τ Cert.QNopeRefIdeal.sig) → Buf (Elt Ideal) ℓ) (g' : Dev Cert.QNopeRefIdeal.nD → PrngReg), Pre_QNopeIdeal m →
    (∀ c : Dev Cert.QNopeIdeal.nD,
      m' ((c.tc : Thread Cert.QNopeRefIdeal.nD Cert.QNopeRefIdeal.τ).loc Cert.QNopeRefIdeal.main_arg0) = m ((c.tc : Thread Cert.QNopeIdeal.nD Cert.QNopeIdeal.τ).loc Cert.QNopeIdeal.main_arg0)
      ∧ m' ((c.tc : Thread Cert.QNopeRefIdeal.nD Cert.QNopeRefIdeal.τ).loc Cert.QNopeRefIdeal.main_arg1) = m ((c.tc : Thread Cert.QNopeIdeal.nD Cert.QNopeIdeal.τ).loc Cert.QNopeIdeal.main_arg1)) →
    ∃ (v0 : (c : Dev Cert.QNopeIdeal.nD) → Buf (Elt Ideal) ((c.tc : Thread Cert.QNopeIdeal.nD Cert.QNopeIdeal.τ).loc Cert.QNopeIdeal.main_v5)),
      θ_run (Cert.QNopeIdeal.defs (F := Ideal)) (onTc (τ := Cert.QNopeIdeal.τ) (Cert.QNopeIdeal.main (F := Ideal))) ⟨m, fun _ => 0, g⟩ (fun r => ∀ c : Dev Cert.QNopeIdeal.nD,
          r.2.mem ((c.tc : Thread Cert.QNopeIdeal.nD Cert.QNopeIdeal.τ).loc Cert.QNopeIdeal.main_v5) = v0 c
          ∧ r.2.mem ((c.tc : Thread Cert.QNopeIdeal.nD Cert.QNopeIdeal.τ).loc Cert.QNopeIdeal.main_arg0) = m ((c.tc : Thread Cert.QNopeIdeal.nD Cert.QNopeIdeal.τ).loc Cert.QNopeIdeal.main_arg0)
          ∧ r.2.mem ((c.tc : Thread Cert.QNopeIdeal.nD Cert.QNopeIdeal.τ).loc Cert.QNopeIdeal.main_arg1) = m ((c.tc : Thread Cert.QNopeIdeal.nD Cert.QNopeIdeal.τ).loc Cert.QNopeIdeal.main_arg1))
      ∧ θ_run (Cert.QNopeRefIdeal.defs (F := Ideal)) (onTc (τ := Cert.QNopeRefIdeal.τ) (Cert.QNopeRefIdeal.main (F := Ideal))) ⟨m', fun _ => 0, g'⟩ (fun r => ∀ c : Dev Cert.QNopeRefIdeal.nD,
          r.2.mem ((c.tc : Thread Cert.QNopeRefIdeal.nD Cert.QNopeRefIdeal.τ).loc Cert.QNopeRefIdeal.main_v7) = v0 c
          ∧ r.2.mem ((c.tc : Thread Cert.QNopeRefIdeal.nD Cert.QNopeRefIdeal.τ).loc Cert.QNopeRefIdeal.main_arg0) = m' ((c.tc : Thread Cert.QNopeRefIdeal.nD Cert.QNopeRefIdeal.τ).loc Cert.QNopeRefIdeal.main_arg0)
          ∧ r.2.mem ((c.tc : Thread Cert.QNopeRefIdeal.nD Cert.QNopeRefIdeal.τ).loc Cert.QNopeRefIdeal.main_arg1) = m' ((c.tc : Thread Cert.QNopeRefIdeal.nD Cert.QNopeRefIdeal.τ).loc Cert.QNopeRefIdeal.main_arg1))

def preserves_KNope_KNopeIdeal : Prop :=
  True

def algebraic_KNopeIdeal_KNopeRefIdeal [hKNopeIdeal : Cert.KNopeIdeal.Facts] [hKNopeRefIdeal : Cert.KNopeRefIdeal.Facts] : Prop :=
  ∀ (m : (ℓ : Loc Cert.KNopeIdeal.nD Cert.KNopeIdeal.τ Cert.KNopeIdeal.sig) → Buf (Elt Ideal) ℓ) (g : Dev Cert.KNopeIdeal.nD → PrngReg)
    (m' : (ℓ : Loc Cert.KNopeRefIdeal.nD Cert.KNopeRefIdeal.τ Cert.KNopeRefIdeal.sig) → Buf (Elt Ideal) ℓ) (g' : Dev Cert.KNopeRefIdeal.nD → PrngReg), Pre_KNopeIdeal m →
    (∀ c : Dev Cert.KNopeIdeal.nD,
      m' ((c.tc : Thread Cert.KNopeRefIdeal.nD Cert.KNopeRefIdeal.τ).loc Cert.KNopeRefIdeal.main_arg0) = m ((c.tc : Thread Cert.KNopeIdeal.nD Cert.KNopeIdeal.τ).loc Cert.KNopeIdeal.main_arg0)
      ∧ m' ((c.tc : Thread Cert.KNopeRefIdeal.nD Cert.KNopeRefIdeal.τ).loc Cert.KNopeRefIdeal.main_arg1) = m ((c.tc : Thread Cert.KNopeIdeal.nD Cert.KNopeIdeal.τ).loc Cert.KNopeIdeal.main_arg1)) →
    ∃ (v0 : (c : Dev Cert.KNopeIdeal.nD) → Buf (Elt Ideal) ((c.tc : Thread Cert.KNopeIdeal.nD Cert.KNopeIdeal.τ).loc Cert.KNopeIdeal.main_v5)),
      θ_run (Cert.KNopeIdeal.defs (F := Ideal)) (onTc (τ := Cert.KNopeIdeal.τ) (Cert.KNopeIdeal.main (F := Ideal))) ⟨m, fun _ => 0, g⟩ (fun r => ∀ c : Dev Cert.KNopeIdeal.nD,
          r.2.mem ((c.tc : Thread Cert.KNopeIdeal.nD Cert.KNopeIdeal.τ).loc Cert.KNopeIdeal.main_v5) = v0 c
          ∧ r.2.mem ((c.tc : Thread Cert.KNopeIdeal.nD Cert.KNopeIdeal.τ).loc Cert.KNopeIdeal.main_arg0) = m ((c.tc : Thread Cert.KNopeIdeal.nD Cert.KNopeIdeal.τ).loc Cert.KNopeIdeal.main_arg0)
          ∧ r.2.mem ((c.tc : Thread Cert.KNopeIdeal.nD Cert.KNopeIdeal.τ).loc Cert.KNopeIdeal.main_arg1) = m ((c.tc : Thread Cert.KNopeIdeal.nD Cert.KNopeIdeal.τ).loc Cert.KNopeIdeal.main_arg1))
      ∧ θ_run (Cert.KNopeRefIdeal.defs (F := Ideal)) (onTc (τ := Cert.KNopeRefIdeal.τ) (Cert.KNopeRefIdeal.main (F := Ideal))) ⟨m', fun _ => 0, g'⟩ (fun r => ∀ c : Dev Cert.KNopeRefIdeal.nD,
          r.2.mem ((c.tc : Thread Cert.KNopeRefIdeal.nD Cert.KNopeRefIdeal.τ).loc Cert.KNopeRefIdeal.main_v8) = v0 c
          ∧ r.2.mem ((c.tc : Thread Cert.KNopeRefIdeal.nD Cert.KNopeRefIdeal.τ).loc Cert.KNopeRefIdeal.main_arg0) = m' ((c.tc : Thread Cert.KNopeRefIdeal.nD Cert.KNopeRefIdeal.τ).loc Cert.KNopeRefIdeal.main_arg0)
          ∧ r.2.mem ((c.tc : Thread Cert.KNopeRefIdeal.nD Cert.KNopeRefIdeal.τ).loc Cert.KNopeRefIdeal.main_arg1) = m' ((c.tc : Thread Cert.KNopeRefIdeal.nD Cert.KNopeRefIdeal.τ).loc Cert.KNopeRefIdeal.main_arg1))

def preserves_LruSample_LruSampleIdeal : Prop :=
  True

def algebraic_LruSampleIdeal_LruSampleRefIdeal [hLruSampleIdeal : Cert.LruSampleIdeal.Facts] [hLruSampleRefIdeal : Cert.LruSampleRefIdeal.Facts] : Prop :=
  ∀ (m : (ℓ : Loc Cert.LruSampleIdeal.nD Cert.LruSampleIdeal.τ Cert.LruSampleIdeal.sig) → Buf (Elt Ideal) ℓ) (g : Dev Cert.LruSampleIdeal.nD → PrngReg)
    (m' : (ℓ : Loc Cert.LruSampleRefIdeal.nD Cert.LruSampleRefIdeal.τ Cert.LruSampleRefIdeal.sig) → Buf (Elt Ideal) ℓ) (g' : Dev Cert.LruSampleRefIdeal.nD → PrngReg), Pre_LruSampleIdeal m →
    (∀ c : Dev Cert.LruSampleIdeal.nD,
      m' ((c.tc : Thread Cert.LruSampleRefIdeal.nD Cert.LruSampleRefIdeal.τ).loc Cert.LruSampleRefIdeal.main_arg0) = m ((c.tc : Thread Cert.LruSampleIdeal.nD Cert.LruSampleIdeal.τ).loc Cert.LruSampleIdeal.main_arg0)
      ∧ m' ((c.tc : Thread Cert.LruSampleRefIdeal.nD Cert.LruSampleRefIdeal.τ).loc Cert.LruSampleRefIdeal.main_arg1) = m ((c.tc : Thread Cert.LruSampleIdeal.nD Cert.LruSampleIdeal.τ).loc Cert.LruSampleIdeal.main_arg1)
      ∧ m' ((c.tc : Thread Cert.LruSampleRefIdeal.nD Cert.LruSampleRefIdeal.τ).loc Cert.LruSampleRefIdeal.main_arg2) = m ((c.tc : Thread Cert.LruSampleIdeal.nD Cert.LruSampleIdeal.τ).loc Cert.LruSampleIdeal.main_arg2)
      ∧ m' ((c.tc : Thread Cert.LruSampleRefIdeal.nD Cert.LruSampleRefIdeal.τ).loc Cert.LruSampleRefIdeal.main_arg3) = m ((c.tc : Thread Cert.LruSampleIdeal.nD Cert.LruSampleIdeal.τ).loc Cert.LruSampleIdeal.main_arg3)
      ∧ m' ((c.tc : Thread Cert.LruSampleRefIdeal.nD Cert.LruSampleRefIdeal.τ).loc Cert.LruSampleRefIdeal.main_arg4) = m ((c.tc : Thread Cert.LruSampleIdeal.nD Cert.LruSampleIdeal.τ).loc Cert.LruSampleIdeal.main_arg4)
      ∧ m' ((c.tc : Thread Cert.LruSampleRefIdeal.nD Cert.LruSampleRefIdeal.τ).loc Cert.LruSampleRefIdeal.main_arg5) = m ((c.tc : Thread Cert.LruSampleIdeal.nD Cert.LruSampleIdeal.τ).loc Cert.LruSampleIdeal.main_arg5)
      ∧ m' ((c.tc : Thread Cert.LruSampleRefIdeal.nD Cert.LruSampleRefIdeal.τ).loc Cert.LruSampleRefIdeal.main_arg6) = m ((c.tc : Thread Cert.LruSampleIdeal.nD Cert.LruSampleIdeal.τ).loc Cert.LruSampleIdeal.main_arg6)
      ∧ m' ((c.tc : Thread Cert.LruSampleRefIdeal.nD Cert.LruSampleRefIdeal.τ).loc Cert.LruSampleRefIdeal.main_arg7) = m ((c.tc : Thread Cert.LruSampleIdeal.nD Cert.LruSampleIdeal.τ).loc Cert.LruSampleIdeal.main_arg7)
      ∧ m' ((c.tc : Thread Cert.LruSampleRefIdeal.nD Cert.LruSampleRefIdeal.τ).loc Cert.LruSampleRefIdeal.main_arg8) = m ((c.tc : Thread Cert.LruSampleIdeal.nD Cert.LruSampleIdeal.τ).loc Cert.LruSampleIdeal.main_arg8)
      ∧ m' ((c.tc : Thread Cert.LruSampleRefIdeal.nD Cert.LruSampleRefIdeal.τ).loc Cert.LruSampleRefIdeal.main_arg9) = m ((c.tc : Thread Cert.LruSampleIdeal.nD Cert.LruSampleIdeal.τ).loc Cert.LruSampleIdeal.main_arg9)) →
    ∃ (v0 : (c : Dev Cert.LruSampleIdeal.nD) → Buf (Elt Ideal) ((c.tc : Thread Cert.LruSampleIdeal.nD Cert.LruSampleIdeal.τ).loc Cert.LruSampleIdeal.main_v37_0)) (v1 : (c : Dev Cert.LruSampleIdeal.nD) → Buf (Elt Ideal) ((c.tc : Thread Cert.LruSampleIdeal.nD Cert.LruSampleIdeal.τ).loc Cert.LruSampleIdeal.main_v37_1)),
      θ_run (Cert.LruSampleIdeal.defs (F := Ideal)) (onTc (τ := Cert.LruSampleIdeal.τ) (Cert.LruSampleIdeal.main (F := Ideal))) ⟨m, fun _ => 0, g⟩ (fun r => ∀ c : Dev Cert.LruSampleIdeal.nD,
          r.2.mem ((c.tc : Thread Cert.LruSampleIdeal.nD Cert.LruSampleIdeal.τ).loc Cert.LruSampleIdeal.main_v37_0) = v0 c
          ∧ r.2.mem ((c.tc : Thread Cert.LruSampleIdeal.nD Cert.LruSampleIdeal.τ).loc Cert.LruSampleIdeal.main_v37_1) = v1 c
          ∧ r.2.mem ((c.tc : Thread Cert.LruSampleIdeal.nD Cert.LruSampleIdeal.τ).loc Cert.LruSampleIdeal.main_arg0) = m ((c.tc : Thread Cert.LruSampleIdeal.nD Cert.LruSampleIdeal.τ).loc Cert.LruSampleIdeal.main_arg0)
          ∧ r.2.mem ((c.tc : Thread Cert.LruSampleIdeal.nD Cert.LruSampleIdeal.τ).loc Cert.LruSampleIdeal.main_arg1) = m ((c.tc : Thread Cert.LruSampleIdeal.nD Cert.LruSampleIdeal.τ).loc Cert.LruSampleIdeal.main_arg1)
          ∧ r.2.mem ((c.tc : Thread Cert.LruSampleIdeal.nD Cert.LruSampleIdeal.τ).loc Cert.LruSampleIdeal.main_arg2) = m ((c.tc : Thread Cert.LruSampleIdeal.nD Cert.LruSampleIdeal.τ).loc Cert.LruSampleIdeal.main_arg2)
          ∧ r.2.mem ((c.tc : Thread Cert.LruSampleIdeal.nD Cert.LruSampleIdeal.τ).loc Cert.LruSampleIdeal.main_arg3) = m ((c.tc : Thread Cert.LruSampleIdeal.nD Cert.LruSampleIdeal.τ).loc Cert.LruSampleIdeal.main_arg3)
          ∧ r.2.mem ((c.tc : Thread Cert.LruSampleIdeal.nD Cert.LruSampleIdeal.τ).loc Cert.LruSampleIdeal.main_arg4) = m ((c.tc : Thread Cert.LruSampleIdeal.nD Cert.LruSampleIdeal.τ).loc Cert.LruSampleIdeal.main_arg4)
          ∧ r.2.mem ((c.tc : Thread Cert.LruSampleIdeal.nD Cert.LruSampleIdeal.τ).loc Cert.LruSampleIdeal.main_arg5) = m ((c.tc : Thread Cert.LruSampleIdeal.nD Cert.LruSampleIdeal.τ).loc Cert.LruSampleIdeal.main_arg5)
          ∧ r.2.mem ((c.tc : Thread Cert.LruSampleIdeal.nD Cert.LruSampleIdeal.τ).loc Cert.LruSampleIdeal.main_arg6) = m ((c.tc : Thread Cert.LruSampleIdeal.nD Cert.LruSampleIdeal.τ).loc Cert.LruSampleIdeal.main_arg6)
          ∧ r.2.mem ((c.tc : Thread Cert.LruSampleIdeal.nD Cert.LruSampleIdeal.τ).loc Cert.LruSampleIdeal.main_arg7) = m ((c.tc : Thread Cert.LruSampleIdeal.nD Cert.LruSampleIdeal.τ).loc Cert.LruSampleIdeal.main_arg7)
          ∧ r.2.mem ((c.tc : Thread Cert.LruSampleIdeal.nD Cert.LruSampleIdeal.τ).loc Cert.LruSampleIdeal.main_arg8) = m ((c.tc : Thread Cert.LruSampleIdeal.nD Cert.LruSampleIdeal.τ).loc Cert.LruSampleIdeal.main_arg8)
          ∧ r.2.mem ((c.tc : Thread Cert.LruSampleIdeal.nD Cert.LruSampleIdeal.τ).loc Cert.LruSampleIdeal.main_arg9) = m ((c.tc : Thread Cert.LruSampleIdeal.nD Cert.LruSampleIdeal.τ).loc Cert.LruSampleIdeal.main_arg9))
      ∧ θ_run (Cert.LruSampleRefIdeal.defs (F := Ideal)) (onTc (τ := Cert.LruSampleRefIdeal.τ) (Cert.LruSampleRefIdeal.main (F := Ideal))) ⟨m', fun _ => 0, g'⟩ (fun r => ∀ c : Dev Cert.LruSampleRefIdeal.nD,
          r.2.mem ((c.tc : Thread Cert.LruSampleRefIdeal.nD Cert.LruSampleRefIdeal.τ).loc Cert.LruSampleRefIdeal.main_v89) = v0 c
          ∧ r.2.mem ((c.tc : Thread Cert.LruSampleRefIdeal.nD Cert.LruSampleRefIdeal.τ).loc Cert.LruSampleRefIdeal.main_v88) = v1 c
          ∧ r.2.mem ((c.tc : Thread Cert.LruSampleRefIdeal.nD Cert.LruSampleRefIdeal.τ).loc Cert.LruSampleRefIdeal.main_arg0) = m' ((c.tc : Thread Cert.LruSampleRefIdeal.nD Cert.LruSampleRefIdeal.τ).loc Cert.LruSampleRefIdeal.main_arg0)
          ∧ r.2.mem ((c.tc : Thread Cert.LruSampleRefIdeal.nD Cert.LruSampleRefIdeal.τ).loc Cert.LruSampleRefIdeal.main_arg1) = m' ((c.tc : Thread Cert.LruSampleRefIdeal.nD Cert.LruSampleRefIdeal.τ).loc Cert.LruSampleRefIdeal.main_arg1)
          ∧ r.2.mem ((c.tc : Thread Cert.LruSampleRefIdeal.nD Cert.LruSampleRefIdeal.τ).loc Cert.LruSampleRefIdeal.main_arg2) = m' ((c.tc : Thread Cert.LruSampleRefIdeal.nD Cert.LruSampleRefIdeal.τ).loc Cert.LruSampleRefIdeal.main_arg2)
          ∧ r.2.mem ((c.tc : Thread Cert.LruSampleRefIdeal.nD Cert.LruSampleRefIdeal.τ).loc Cert.LruSampleRefIdeal.main_arg3) = m' ((c.tc : Thread Cert.LruSampleRefIdeal.nD Cert.LruSampleRefIdeal.τ).loc Cert.LruSampleRefIdeal.main_arg3)
          ∧ r.2.mem ((c.tc : Thread Cert.LruSampleRefIdeal.nD Cert.LruSampleRefIdeal.τ).loc Cert.LruSampleRefIdeal.main_arg4) = m' ((c.tc : Thread Cert.LruSampleRefIdeal.nD Cert.LruSampleRefIdeal.τ).loc Cert.LruSampleRefIdeal.main_arg4)
          ∧ r.2.mem ((c.tc : Thread Cert.LruSampleRefIdeal.nD Cert.LruSampleRefIdeal.τ).loc Cert.LruSampleRefIdeal.main_arg5) = m' ((c.tc : Thread Cert.LruSampleRefIdeal.nD Cert.LruSampleRefIdeal.τ).loc Cert.LruSampleRefIdeal.main_arg5)
          ∧ r.2.mem ((c.tc : Thread Cert.LruSampleRefIdeal.nD Cert.LruSampleRefIdeal.τ).loc Cert.LruSampleRefIdeal.main_arg6) = m' ((c.tc : Thread Cert.LruSampleRefIdeal.nD Cert.LruSampleRefIdeal.τ).loc Cert.LruSampleRefIdeal.main_arg6)
          ∧ r.2.mem ((c.tc : Thread Cert.LruSampleRefIdeal.nD Cert.LruSampleRefIdeal.τ).loc Cert.LruSampleRefIdeal.main_arg7) = m' ((c.tc : Thread Cert.LruSampleRefIdeal.nD Cert.LruSampleRefIdeal.τ).loc Cert.LruSampleRefIdeal.main_arg7)
          ∧ r.2.mem ((c.tc : Thread Cert.LruSampleRefIdeal.nD Cert.LruSampleRefIdeal.τ).loc Cert.LruSampleRefIdeal.main_arg8) = m' ((c.tc : Thread Cert.LruSampleRefIdeal.nD Cert.LruSampleRefIdeal.τ).loc Cert.LruSampleRefIdeal.main_arg8)
          ∧ r.2.mem ((c.tc : Thread Cert.LruSampleRefIdeal.nD Cert.LruSampleRefIdeal.τ).loc Cert.LruSampleRefIdeal.main_arg9) = m' ((c.tc : Thread Cert.LruSampleRefIdeal.nD Cert.LruSampleRefIdeal.τ).loc Cert.LruSampleRefIdeal.main_arg9))

def preserves_VUp_VUpIdeal : Prop :=
  True

def algebraic_VUpIdeal_VUpRefIdeal [hVUpIdeal : Cert.VUpIdeal.Facts] [hVUpRefIdeal : Cert.VUpRefIdeal.Facts] : Prop :=
  ∀ (m : (ℓ : Loc Cert.VUpIdeal.nD Cert.VUpIdeal.τ Cert.VUpIdeal.sig) → Buf (Elt Ideal) ℓ) (g : Dev Cert.VUpIdeal.nD → PrngReg)
    (m' : (ℓ : Loc Cert.VUpRefIdeal.nD Cert.VUpRefIdeal.τ Cert.VUpRefIdeal.sig) → Buf (Elt Ideal) ℓ) (g' : Dev Cert.VUpRefIdeal.nD → PrngReg), Pre_VUpIdeal m →
    (∀ c : Dev Cert.VUpIdeal.nD,
      m' ((c.tc : Thread Cert.VUpRefIdeal.nD Cert.VUpRefIdeal.τ).loc Cert.VUpRefIdeal.main_arg0) = m ((c.tc : Thread Cert.VUpIdeal.nD Cert.VUpIdeal.τ).loc Cert.VUpIdeal.main_arg0)
      ∧ m' ((c.tc : Thread Cert.VUpRefIdeal.nD Cert.VUpRefIdeal.τ).loc Cert.VUpRefIdeal.main_arg1) = m ((c.tc : Thread Cert.VUpIdeal.nD Cert.VUpIdeal.τ).loc Cert.VUpIdeal.main_arg1)) →
    ∃ (v0 : (c : Dev Cert.VUpIdeal.nD) → Buf (Elt Ideal) ((c.tc : Thread Cert.VUpIdeal.nD Cert.VUpIdeal.τ).loc Cert.VUpIdeal.main_v5)),
      θ_run (Cert.VUpIdeal.defs (F := Ideal)) (onTc (τ := Cert.VUpIdeal.τ) (Cert.VUpIdeal.main (F := Ideal))) ⟨m, fun _ => 0, g⟩ (fun r => ∀ c : Dev Cert.VUpIdeal.nD,
          r.2.mem ((c.tc : Thread Cert.VUpIdeal.nD Cert.VUpIdeal.τ).loc Cert.VUpIdeal.main_v5) = v0 c
          ∧ r.2.mem ((c.tc : Thread Cert.VUpIdeal.nD Cert.VUpIdeal.τ).loc Cert.VUpIdeal.main_arg0) = m ((c.tc : Thread Cert.VUpIdeal.nD Cert.VUpIdeal.τ).loc Cert.VUpIdeal.main_arg0)
          ∧ r.2.mem ((c.tc : Thread Cert.VUpIdeal.nD Cert.VUpIdeal.τ).loc Cert.VUpIdeal.main_arg1) = m ((c.tc : Thread Cert.VUpIdeal.nD Cert.VUpIdeal.τ).loc Cert.VUpIdeal.main_arg1))
      ∧ θ_run (Cert.VUpRefIdeal.defs (F := Ideal)) (onTc (τ := Cert.VUpRefIdeal.τ) (Cert.VUpRefIdeal.main (F := Ideal))) ⟨m', fun _ => 0, g'⟩ (fun r => ∀ c : Dev Cert.VUpRefIdeal.nD,
          r.2.mem ((c.tc : Thread Cert.VUpRefIdeal.nD Cert.VUpRefIdeal.τ).loc Cert.VUpRefIdeal.main_v8) = v0 c
          ∧ r.2.mem ((c.tc : Thread Cert.VUpRefIdeal.nD Cert.VUpRefIdeal.τ).loc Cert.VUpRefIdeal.main_arg0) = m' ((c.tc : Thread Cert.VUpRefIdeal.nD Cert.VUpRefIdeal.τ).loc Cert.VUpRefIdeal.main_arg0)
          ∧ r.2.mem ((c.tc : Thread Cert.VUpRefIdeal.nD Cert.VUpRefIdeal.τ).loc Cert.VUpRefIdeal.main_arg1) = m' ((c.tc : Thread Cert.VUpRefIdeal.nD Cert.VUpRefIdeal.τ).loc Cert.VUpRefIdeal.main_arg1))

def Claim : Prop :=
  ∃ (hAttn : Cert.Attn.Facts) (hAttnIdeal : Cert.AttnIdeal.Facts) (hAttnRefIdeal : Cert.AttnRefIdeal.Facts) (hSwiglu : Cert.Swiglu.Facts) (hSwigluIdeal : Cert.SwigluIdeal.Facts) (hSwigluRefIdeal : Cert.SwigluRefIdeal.Facts) (hGates : Cert.Gates.Facts) (hGatesIdeal : Cert.GatesIdeal.Facts) (hGatesRefIdeal : Cert.GatesRefIdeal.Facts) (hDownA : Cert.DownA.Facts) (hDownAIdeal : Cert.DownAIdeal.Facts) (hDownARefIdeal : Cert.DownARefIdeal.Facts) (hDownB : Cert.DownB.Facts) (hDownBIdeal : Cert.DownBIdeal.Facts) (hDownBRefIdeal : Cert.DownBRefIdeal.Facts) (hOutProj : Cert.OutProj.Facts) (hOutProjIdeal : Cert.OutProjIdeal.Facts) (hOutProjRefIdeal : Cert.OutProjRefIdeal.Facts) (hMerge : Cert.Merge.Facts) (hMergeIdeal : Cert.MergeIdeal.Facts) (hMergeRefIdeal : Cert.MergeRefIdeal.Facts) (hExpUp : Cert.ExpUp.Facts) (hExpUpIdeal : Cert.ExpUpIdeal.Facts) (hExpUpRefIdeal : Cert.ExpUpRefIdeal.Facts) (hExpDown : Cert.ExpDown.Facts) (hExpDownIdeal : Cert.ExpDownIdeal.Facts) (hExpDownRefIdeal : Cert.ExpDownRefIdeal.Facts) (hInProj : Cert.InProj.Facts) (hInProjIdeal : Cert.InProjIdeal.Facts) (hInProjRefIdeal : Cert.InProjRefIdeal.Facts) (hResid : Cert.Resid.Facts) (hResidIdeal : Cert.ResidIdeal.Facts) (hResidRefIdeal : Cert.ResidRefIdeal.Facts) (hLatents : Cert.Latents.Facts) (hLatentsIdeal : Cert.LatentsIdeal.Facts) (hLatentsRefIdeal : Cert.LatentsRefIdeal.Facts) (hKeyCols : Cert.KeyCols.Facts) (hKeyColsIdeal : Cert.KeyColsIdeal.Facts) (hKeyColsRefIdeal : Cert.KeyColsRefIdeal.Facts) (hQNope : Cert.QNope.Facts) (hQNopeIdeal : Cert.QNopeIdeal.Facts) (hQNopeRefIdeal : Cert.QNopeRefIdeal.Facts) (hKNope : Cert.KNope.Facts) (hKNopeIdeal : Cert.KNopeIdeal.Facts) (hKNopeRefIdeal : Cert.KNopeRefIdeal.Facts) (hLruSample : Cert.LruSample.Facts) (hLruSampleIdeal : Cert.LruSampleIdeal.Facts) (hLruSampleRefIdeal : Cert.LruSampleRefIdeal.Facts) (hVUp : Cert.VUp.Facts) (hVUpIdeal : Cert.VUpIdeal.Facts) (hVUpRefIdeal : Cert.VUpRefIdeal.Facts) (hPre_finite : Cert.Pre_finite.Facts) (hPre_tables_up : Cert.Pre_tables_up.Facts) (hPre_tables_down : Cert.Pre_tables_down.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Gates (hGates := hGates)
    ∧ quiescent_GatesIdeal (hGatesIdeal := hGatesIdeal)
    ∧ quiescent_GatesRefIdeal (hGatesRefIdeal := hGatesRefIdeal)
    ∧ quiescent_DownA (hDownA := hDownA)
    ∧ quiescent_DownAIdeal (hDownAIdeal := hDownAIdeal)
    ∧ quiescent_DownARefIdeal (hDownARefIdeal := hDownARefIdeal)
    ∧ quiescent_DownB (hDownB := hDownB)
    ∧ quiescent_DownBIdeal (hDownBIdeal := hDownBIdeal)
    ∧ quiescent_DownBRefIdeal (hDownBRefIdeal := hDownBRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_ExpUp (hExpUp := hExpUp) (hPre_tables_up := hPre_tables_up)
    ∧ quiescent_ExpUpIdeal (hExpUpIdeal := hExpUpIdeal) (hPre_tables_up := hPre_tables_up)
    ∧ quiescent_ExpUpRefIdeal (hExpUpRefIdeal := hExpUpRefIdeal) (hPre_tables_up := hPre_tables_up)
    ∧ quiescent_ExpDown (hExpDown := hExpDown) (hPre_tables_down := hPre_tables_down)
    ∧ quiescent_ExpDownIdeal (hExpDownIdeal := hExpDownIdeal) (hPre_tables_down := hPre_tables_down)
    ∧ quiescent_ExpDownRefIdeal (hExpDownRefIdeal := hExpDownRefIdeal) (hPre_tables_down := hPre_tables_down)
    ∧ quiescent_InProj (hInProj := hInProj)
    ∧ quiescent_InProjIdeal (hInProjIdeal := hInProjIdeal)
    ∧ quiescent_InProjRefIdeal (hInProjRefIdeal := hInProjRefIdeal)
    ∧ quiescent_Resid (hResid := hResid)
    ∧ quiescent_ResidIdeal (hResidIdeal := hResidIdeal)
    ∧ quiescent_ResidRefIdeal (hResidRefIdeal := hResidRefIdeal)
    ∧ quiescent_Latents (hLatents := hLatents)
    ∧ quiescent_LatentsIdeal (hLatentsIdeal := hLatentsIdeal)
    ∧ quiescent_LatentsRefIdeal (hLatentsRefIdeal := hLatentsRefIdeal)
    ∧ quiescent_KeyCols (hKeyCols := hKeyCols)
    ∧ quiescent_KeyColsIdeal (hKeyColsIdeal := hKeyColsIdeal)
    ∧ quiescent_KeyColsRefIdeal (hKeyColsRefIdeal := hKeyColsRefIdeal)
    ∧ quiescent_QNope (hQNope := hQNope)
    ∧ quiescent_QNopeIdeal (hQNopeIdeal := hQNopeIdeal)
    ∧ quiescent_QNopeRefIdeal (hQNopeRefIdeal := hQNopeRefIdeal)
    ∧ quiescent_KNope (hKNope := hKNope)
    ∧ quiescent_KNopeIdeal (hKNopeIdeal := hKNopeIdeal)
    ∧ quiescent_KNopeRefIdeal (hKNopeRefIdeal := hKNopeRefIdeal)
    ∧ quiescent_LruSample (hLruSample := hLruSample)
    ∧ quiescent_LruSampleIdeal (hLruSampleIdeal := hLruSampleIdeal)
    ∧ quiescent_LruSampleRefIdeal (hLruSampleRefIdeal := hLruSampleRefIdeal)
    ∧ quiescent_VUp (hVUp := hVUp)
    ∧ quiescent_VUpIdeal (hVUpIdeal := hVUpIdeal)
    ∧ quiescent_VUpRefIdeal (hVUpRefIdeal := hVUpRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Swiglu_SwigluIdeal
    ∧ algebraic_SwigluIdeal_SwigluRefIdeal (hSwigluIdeal := hSwigluIdeal) (hSwigluRefIdeal := hSwigluRefIdeal)
    ∧ preserves_Gates_GatesIdeal
    ∧ algebraic_GatesIdeal_GatesRefIdeal (hGatesIdeal := hGatesIdeal) (hGatesRefIdeal := hGatesRefIdeal)
    ∧ preserves_DownA_DownAIdeal
    ∧ algebraic_DownAIdeal_DownARefIdeal (hDownAIdeal := hDownAIdeal) (hDownARefIdeal := hDownARefIdeal)
    ∧ preserves_DownB_DownBIdeal
    ∧ algebraic_DownBIdeal_DownBRefIdeal (hDownBIdeal := hDownBIdeal) (hDownBRefIdeal := hDownBRefIdeal)
    ∧ preserves_OutProj_OutProjIdeal
    ∧ algebraic_OutProjIdeal_OutProjRefIdeal (hOutProjIdeal := hOutProjIdeal) (hOutProjRefIdeal := hOutProjRefIdeal)
    ∧ preserves_Merge_MergeIdeal
    ∧ algebraic_MergeIdeal_MergeRefIdeal (hMergeIdeal := hMergeIdeal) (hMergeRefIdeal := hMergeRefIdeal)
    ∧ preserves_ExpUp_ExpUpIdeal
    ∧ algebraic_ExpUpIdeal_ExpUpRefIdeal (hExpUpIdeal := hExpUpIdeal) (hExpUpRefIdeal := hExpUpRefIdeal) (hPre_tables_up := hPre_tables_up)
    ∧ preserves_ExpDown_ExpDownIdeal
    ∧ algebraic_ExpDownIdeal_ExpDownRefIdeal (hExpDownIdeal := hExpDownIdeal) (hExpDownRefIdeal := hExpDownRefIdeal) (hPre_tables_down := hPre_tables_down)
    ∧ preserves_InProj_InProjIdeal
    ∧ algebraic_InProjIdeal_InProjRefIdeal (hInProjIdeal := hInProjIdeal) (hInProjRefIdeal := hInProjRefIdeal)
    ∧ preserves_Resid_ResidIdeal
    ∧ algebraic_ResidIdeal_ResidRefIdeal (hResidIdeal := hResidIdeal) (hResidRefIdeal := hResidRefIdeal)
    ∧ preserves_Latents_LatentsIdeal
    ∧ algebraic_LatentsIdeal_LatentsRefIdeal (hLatentsIdeal := hLatentsIdeal) (hLatentsRefIdeal := hLatentsRefIdeal)
    ∧ preserves_KeyCols_KeyColsIdeal
    ∧ algebraic_KeyColsIdeal_KeyColsRefIdeal (hKeyColsIdeal := hKeyColsIdeal) (hKeyColsRefIdeal := hKeyColsRefIdeal)
    ∧ preserves_QNope_QNopeIdeal
    ∧ algebraic_QNopeIdeal_QNopeRefIdeal (hQNopeIdeal := hQNopeIdeal) (hQNopeRefIdeal := hQNopeRefIdeal)
    ∧ preserves_KNope_KNopeIdeal
    ∧ algebraic_KNopeIdeal_KNopeRefIdeal (hKNopeIdeal := hKNopeIdeal) (hKNopeRefIdeal := hKNopeRefIdeal)
    ∧ preserves_LruSample_LruSampleIdeal
    ∧ algebraic_LruSampleIdeal_LruSampleRefIdeal (hLruSampleIdeal := hLruSampleIdeal) (hLruSampleRefIdeal := hLruSampleRefIdeal)
    ∧ preserves_VUp_VUpIdeal
    ∧ algebraic_VUpIdeal_VUpRefIdeal (hVUpIdeal := hVUpIdeal) (hVUpRefIdeal := hVUpRefIdeal)
-- ==== Pre_finite.lean ====
abbrev S8320x2048 : Shape := ⟨2, ![8320, 2048]⟩
abbrev S8320x1024 : Shape := ⟨2, ![8320, 1024]⟩
abbrev S8192x2048 : Shape := ⟨2, ![8192, 2048]⟩
abbrev S8192x64 : Shape := ⟨2, ![8192, 64]⟩
abbrev S_ : Shape := ⟨0, ![]⟩

class Facts : Prop where
  bitsLt_bf16_f32 : FTy.bits .bf16 < FTy.bits .f32
  bcast_S_S8320x2048 : S_.BroadcastsInDim S8320x2048 (![] : Fin 0 → Fin S8320x2048.rank)
  bcast_S_S8320x1024 : S_.BroadcastsInDim S8320x1024 (![] : Fin 0 → Fin S8320x1024.rank)
  bcast_S_S8192x2048 : S_.BroadcastsInDim S8192x2048 (![] : Fin 0 → Fin S8192x2048.rank)
  bcast_S_S8192x64 : S_.BroadcastsInDim S8192x64 (![] : Fin 0 → Fin S8192x64.rank)

variable [Facts]

def fn {F : FTy → Type} [FloatOps F] (main_arg0 : FVec F S8320x2048 .bf16) (main_arg1 : FVec F S8320x1024 .bf16) (main_arg2 : FVec F S8192x2048 .bf16) (main_arg3 : FVec F S8192x64 .bf16) (main_arg4 : FVec F S8192x2048 .bf16) : IVec S8320x2048 1 × IVec S8320x1024 1 × IVec S8192x2048 1 × IVec S8192x64 1 :=
  let main_v0 : FVec F S8320x2048 .f32 := (extf .f32 · bitsLt_bf16_f32) main_arg0
  let main_v1 : FVec F S8320x2048 .f32 := Host.absf main_v0
  let main_cst : FVec F S_ .f32 := constant S_ .f32 0x7F800000#32
  let main_v2 : FVec F S8320x2048 .f32 := broadcastInDim S8320x2048 ![] bcast_S_S8320x2048 main_cst
  let main_v3 : IVec S8320x2048 1 := cmpf .olt main_v1 main_v2
  let main_v4 : FVec F S8320x1024 .f32 := (extf .f32 · bitsLt_bf16_f32) main_arg1
  let main_v5 : FVec F S8320x1024 .f32 := Host.absf main_v4
  let main_cst_0 : FVec F S_ .f32 := constant S_ .f32 0x7F800000#32
  let main_v6 : FVec F S8320x1024 .f32 := broadcastInDim S8320x1024 ![] bcast_S_S8320x1024 main_cst_0
  let main_v7 : IVec S8320x1024 1 := cmpf .olt main_v5 main_v6
  let main_v8 : FVec F S8192x2048 .f32 := (extf .f32 · bitsLt_bf16_f32) main_arg2
  let main_v9 : FVec F S8192x2048 .f32 := Host.absf main_v8
  let main_cst_1 : FVec F S_ .f32 := constant S_ .f32 0x7F800000#32
  let main_v10 : FVec F S8192x2048 .f32 := broadcastInDim S8192x2048 ![] bcast_S_S8192x2048 main_cst_1
  let main_v11 : IVec S8192x2048 1 := cmpf .olt main_v9 main_v10
  let main_v12 : FVec F S8192x64 .f32 := (extf .f32 · bitsLt_bf16_f32) main_arg3
  let main_v13 : FVec F S8192x64 .f32 := Host.absf main_v12
  let main_cst_2 : FVec F S_ .f32 := constant S_ .f32 0x7F800000#32
  let main_v14 : FVec F S8192x64 .f32 := broadcastInDim S8192x64 ![] bcast_S_S8192x64 main_cst_2
  let main_v15 : IVec S8192x64 1 := cmpf .olt main_v13 main_v14
  (main_v3, main_v7, main_v11, main_v15)
-- ==== Pre_tables_down.lean ====
abbrev S41 : Shape := ⟨1, ![41]⟩
abbrev S1 : Shape := ⟨1, ![1]⟩
abbrev S20992x4096 : Shape := ⟨2, ![20992, 4096]⟩
abbrev S1x8x4096x4096 : Shape := ⟨4, ![1, 8, 4096, 4096]⟩
abbrev S_ : Shape := ⟨0, ![]⟩

class Facts : Prop where
  bcast_S_S1 : S_.BroadcastsInDim S1 (![] : Fin 0 → Fin S1.rank)
  bcast_S_S41 : S_.BroadcastsInDim S41 (![] : Fin 0 → Fin S41.rank)
  bcast_S1_S41_0 : S1.BroadcastsInDim S41 (![0] : Fin 1 → Fin S41.rank)

variable [Facts]

def fn {F : FTy → Type} [FloatOps F] (main_arg0 : IVec S41 32) (main_arg1 : IVec S1 32) (main_arg2 : IVec S41 32) (main_arg3 : FVec F S20992x4096 .bf16) (main_arg4 : FVec F S1x8x4096x4096 .f32) : IVec S1 1 × IVec S41 1 × IVec S41 1 × IVec S41 1 :=
  let main_c : IVec S_ 32 := constantI S_ 32 1#32
  let main_v0 : IVec S1 32 := broadcastInDim S1 ![] bcast_S_S1 main_c
  let main_v1 : IVec S1 1 := cmpi .sge main_arg1 main_v0
  let main_c_0 : IVec S_ 32 := constantI S_ 32 0#32
  let main_v2 : IVec S41 32 := broadcastInDim S41 ![] bcast_S_S41 main_c_0
  let main_v3 : IVec S41 1 := cmpi .sge main_arg2 main_v2
  let main_c_1 : IVec S_ 32 := constantI S_ 32 8#32
  let main_v4 : IVec S41 32 := broadcastInDim S41 ![] bcast_S_S41 main_c_1
  let main_v5 : IVec S41 1 := cmpi .slt main_arg2 main_v4
  let main_v6 : IVec S41 32 := iotaInDim S41 32 0
  let main_v7 : IVec S41 32 := broadcastInDim S41 ![0] bcast_S1_S41_0 main_arg1
  let main_v8 : IVec S41 1 := cmpi .sge main_v6 main_v7
  let main_v9 : IVec S41 1 := cmpi .eq main_arg2 main_arg0
  let main_v10 : IVec S41 1 := ori main_v8 main_v9
  (main_v1, main_v3, main_v5, main_v10)
-- ==== Pre_tables_up.lean ====
abbrev S41 : Shape := ⟨1, ![41]⟩
abbrev S1 : Shape := ⟨1, ![1]⟩
abbrev S20992x4096 : Shape := ⟨2, ![20992, 4096]⟩
abbrev S1x8x4096x4096 : Shape := ⟨4, ![1, 8, 4096, 4096]⟩
abbrev S_ : Shape := ⟨0, ![]⟩

class Facts : Prop where
  bcast_S_S1 : S_.BroadcastsInDim S1 (![] : Fin 0 → Fin S1.rank)
  bcast_S_S41 : S_.BroadcastsInDim S41 (![] : Fin 0 → Fin S41.rank)
  bcast_S1_S41_0 : S1.BroadcastsInDim S41 (![0] : Fin 1 → Fin S41.rank)

variable [Facts]

def fn {F : FTy → Type} [FloatOps F] (main_arg0 : IVec S41 32) (main_arg1 : IVec S1 32) (main_arg2 : IVec S41 32) (main_arg3 : FVec F S20992x4096 .bf16) (main_arg4 : FVec F S1x8x4096x4096 .f32) (main_arg5 : FVec F S1x8x4096x4096 .f32) : IVec S1 1 × IVec S41 1 × IVec S41 1 × IVec S41 1 :=
  let main_c : IVec S_ 32 := constantI S_ 32 1#32
  let main_v0 : IVec S1 32 := broadcastInDim S1 ![] bcast_S_S1 main_c
  let main_v1 : IVec S1 1 := cmpi .sge main_arg1 main_v0
  let main_c_0 : IVec S_ 32 := constantI S_ 32 0#32
  let main_v2 : IVec S41 32 := broadcastInDim S41 ![] bcast_S_S41 main_c_0
  let main_v3 : IVec S41 1 := cmpi .sge main_arg2 main_v2
  let main_c_1 : IVec S_ 32 := constantI S_ 32 8#32
  let main_v4 : IVec S41 32 := broadcastInDim S41 ![] bcast_S_S41 main_c_1
  let main_v5 : IVec S41 1 := cmpi .slt main_arg2 main_v4
  let main_v6 : IVec S41 32 := iotaInDim S41 32 0
  let main_v7 : IVec S41 32 := broadcastInDim S41 ![0] bcast_S1_S41_0 main_arg1
  let main_v8 : IVec S41 1 := cmpi .sge main_v6 main_v7
  let main_v9 : IVec S41 1 := cmpi .eq main_arg2 main_arg0
  let main_v10 : IVec S41 1 := ori main_v8 main_v9
  (main_v1, main_v3, main_v5, main_v10)
-- ==== Attn.lean ====
abbrev S8320x2048 : Shape := ⟨2, ![8320, 2048]⟩
abbrev S8320x1024 : Shape := ⟨2, ![8320, 1024]⟩
abbrev S8192x2048 : Shape := ⟨2, ![8192, 2048]⟩
abbrev S8192x64 : Shape := ⟨2, ![8192, 64]⟩
abbrev S8192x128 : Shape := ⟨2, ![8192, 128]⟩
abbrev S256x512 : Shape := ⟨2, ![256, 512]⟩
abbrev S256x256 : Shape := ⟨2, ![256, 256]⟩
abbrev S2048x512 : Shape := ⟨2, ![2048, 512]⟩
abbrev S2048x128 : Shape := ⟨2, ![2048, 128]⟩
abbrev S256x128 : Shape := ⟨2, ![256, 128]⟩
abbrev S256x1 : Shape := ⟨2, ![256, 1]⟩
abbrev S512x128 : Shape := ⟨2, ![512, 128]⟩
abbrev S512x256 : Shape := ⟨2, ![512, 256]⟩
abbrev S256 : Shape := ⟨1, ![256]⟩

abbrev nBuf : Space → Nat
  | .hbm => 7
  | .vmem => 12
  | .smem => 0
  | _ => 0

abbrev bufTy : (tb : Table) → Fin (tcTables nBuf tb) → BufTy
  | .hbm, ⟨0, _⟩ => ⟨S8320x2048, .bf16⟩
  | .hbm, ⟨1, _⟩ => ⟨S8320x1024, .bf16⟩
  | .hbm, ⟨2, _⟩ => ⟨S8192x2048, .bf16⟩
  | .hbm, ⟨3, _⟩ => ⟨S8192x64, .bf16⟩
  | .hbm, ⟨4, _⟩ => ⟨S8192x2048, .bf16⟩
  | .hbm, ⟨5, _⟩ => ⟨S8192x128, .bf16⟩
  | .hbm, ⟨6, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S2048x512, .bf16⟩
  | .local _ .vmem, ⟨5, _⟩ => ⟨S2048x512, .bf16⟩
  | .local _ .vmem, ⟨6, _⟩ => ⟨S2048x128, .bf16⟩
  | .local _ .vmem, ⟨7, _⟩ => ⟨S2048x128, .bf16⟩
  | .local _ .vmem, ⟨8, _⟩ => ⟨S2048x512, .bf16⟩
  | .local _ .vmem, ⟨9, _⟩ => ⟨S2048x512, .bf16⟩
  | .local _ .vmem, ⟨10, _⟩ => ⟨S256x512, .bf16⟩
  | .local _ .vmem, ⟨11, _⟩ => ⟨S256x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_41 : BitVec 32 := 0#32
  let arg2 : BitVec 32 := BitVec.ofNat 32 (i 2).val
  let c256_i32_32 : BitVec 32 := 256#32
  let v58 : BitVec 32 := Scalar.muli arg2 c256_i32_32
  let c256_i32_33 : BitVec 32 := 256#32
  let v59 : BitVec 32 := Scalar.addi v58 c256_i32_33
  let c512_i32 : BitVec 32 := 512#32
  let v60 : BitVec 32 := Scalar.addi v59 c512_i32
  let c1_i32 : BitVec 32 := 1#32
  let v61 : BitVec 32 := Scalar.subi v60 c1_i32
  let c0_i32_35 : BitVec 32 := 0#32
  let v63 : BitVec 1 := Scalar.cmpi .sgt v61 c0_i32_35
  let v64 : BitVec 32 := Scalar.extui v63
  let c0_i32_36 : BitVec 32 := 0#32
  let v65 : BitVec 1 := Scalar.cmpi .slt v61 c0_i32_36
  let v66 : BitVec 32 := Scalar.extui v65
  let v67 : BitVec 32 := Scalar.subi v64 v66
  let c512_i32_34 : BitVec 32 := 512#32
  let c0_i32_37 : BitVec 32 := 0#32
  let v68 : BitVec 1 := Scalar.cmpi .sgt c512_i32_34 c0_i32_37
  let v69 : BitVec 32 := Scalar.extui v68
  let c0_i32_38 : BitVec 32 := 0#32
  let v70 : BitVec 1 := Scalar.cmpi .slt c512_i32_34 c0_i32_38
  let v71 : BitVec 32 := Scalar.extui v70
  let v72 : BitVec 32 := Scalar.subi v69 v71
  let v73 : BitVec 1 := Scalar.cmpi .ne v67 v72
  let v74 : BitVec 32 := Scalar.remsi v61 c512_i32_34
  let c0_i32_39 : BitVec 32 := 0#32
  let v75 : BitVec 1 := Scalar.cmpi .ne v74 c0_i32_39
  let v76 : BitVec 1 := Scalar.andi v73 v75
  let v62 : BitVec 32 := Scalar.divsi v61 c512_i32_34
  let c1_i32_40 : BitVec 32 := 1#32
  let v77 : BitVec 32 := Scalar.subi v62 c1_i32_40
  let v78 : BitVec 32 := Scalar.select v76 v77 v62
  let v79 : BitVec 32 := Scalar.subi v78 c0_i32_41
  let c1_i32_42 : BitVec 32 := 1#32
  let v81 : BitVec 32 := Scalar.divsi v79 c1_i32_42
  let v82 : BitVec 32 := Scalar.muli v81 c1_i32_42
  let v83 : BitVec 32 := Scalar.addi c0_i32_41 v82
  let c1_i32_43 : BitVec 32 := 1#32
  ⟨c0_i32_41, v83, c1_i32_43⟩
def k0_mult1 (i : grid0.Coords) (k0_t1 : Fin (k0_t1_loop i).trips) : BitVec 32 :=
  let c0_i32_41 : BitVec 32 := 0#32
  let c1_i32_43 : BitVec 32 := 1#32
  let arg9 : BitVec 32 := Scf.iv c0_i32_41 c1_i32_43 k0_t1
  let c512_i32_47 : BitVec 32 := 512#32
  let v97 : BitVec 32 := Scalar.muli arg9 c512_i32_47
  v97
def k0_off1 (i : grid0.Coords) (k0_t1 : Fin (k0_t1_loop i).trips) : Fin 2 → Nat :=
  let c0_i32_41 : BitVec 32 := 0#32
  let c1_i32_43 : BitVec 32 := 1#32
  let arg9 : BitVec 32 := Scf.iv c0_i32_41 c1_i32_43 k0_t1
  let c512_i32_47 : BitVec 32 := 512#32
  let v97 : BitVec 32 := Scalar.muli arg9 c512_i32_47
  let v98 : BitVec 32 := v97
  let v99 : Index := Scalar.indexCast v98
  let c0_48 : Index := 0#32
  ![v99.toNat, 0]
def k0_off2 (i : grid0.Coords) (k0_t1 : Fin (k0_t1_loop i).trips) : Fin 2 → Nat :=
  let c0_i32_41 : BitVec 32 := 0#32
  let c1_i32_43 : BitVec 32 := 1#32
  let arg9 : BitVec 32 := Scf.iv c0_i32_41 c1_i32_43 k0_t1
  let c512_i32_47 : BitVec 32 := 512#32
  let v97 : BitVec 32 := Scalar.muli arg9 c512_i32_47
  let v98 : BitVec 32 := v97
  let v105 : Index := Scalar.indexCast v98
  let c0_49 : Index := 0#32
  ![v105.toNat, 0]
def k0_off3 (i : grid0.Coords) (k0_t1 : Fin (k0_t1_loop i).trips) : Fin 2 → Nat :=
  let c0_i32_41 : BitVec 32 := 0#32
  let c1_i32_43 : BitVec 32 := 1#32
  let arg9 : BitVec 32 := Scf.iv c0_i32_41 c1_i32_43 k0_t1
  let c512_i32_47 : BitVec 32 := 512#32
  let v97 : BitVec 32 := Scalar.muli arg9 c512_i32_47
  let v98 : BitVec 32 := v97
  let v132 : Index := Scalar.indexCast v98
  let c128_57 : Index := 128#32
  ![v132.toNat, 128]
def k0_off4 (i : grid0.Coords) (k0_t1 : Fin (k0_t1_loop i).trips) : Fin 2 → Nat :=
  let c0_i32_41 : BitVec 32 := 0#32
  let c1_i32_43 : BitVec 32 := 1#32
  let arg9 : BitVec 32 := Scf.iv c0_i32_41 c1_i32_43 k0_t1
  let c512_i32_47 : BitVec 32 := 512#32
  let v97 : BitVec 32 := Scalar.muli arg9 c512_i32_47
  let v98 : BitVec 32 := v97
  let v159 : Index := Scalar.indexCast v98
  let c256_65 : Index := 256#32
  ![v159.toNat, 256]
def k0_off5 (i : grid0.Coords) (k0_t1 : Fin (k0_t1_loop i).trips) : Fin 2 → Nat :=
  let c0_i32_41 : BitVec 32 := 0#32
  let c1_i32_43 : BitVec 32 := 1#32
  let arg9 : BitVec 32 := Scf.iv c0_i32_41 c1_i32_43 k0_t1
  let c512_i32_47 : BitVec 32 := 512#32
  let v97 : BitVec 32 := Scalar.muli arg9 c512_i32_47
  let v98 : BitVec 32 := v97
  let v186 : Index := Scalar.indexCast v98
  let c384_73 : Index := 384#32
  ![v186.toNat, 384]
@[reducible] def k0_t2_loop (i : grid0.Coords) : Scf.Loop 32 :=
  let c0_i32_41 : BitVec 32 := 0#32
  let arg2 : BitVec 32 := BitVec.ofNat 32 (i 2).val
  let c256_i32_32 : BitVec 32 := 256#32
  let v58 : BitVec 32 := Scalar.muli arg2 c256_i32_32
  let c256_i32_33 : BitVec 32 := 256#32
  let v59 : BitVec 32 := Scalar.addi v58 c256_i32_33
  let c512_i32 : BitVec 32 := 512#32
  let v60 : BitVec 32 := Scalar.addi v59 c512_i32
  let c1_i32 : BitVec 32 := 1#32
  let v61 : BitVec 32 := Scalar.subi v60 c1_i32
  let c0_i32_35 : BitVec 32 := 0#32
  let v63 : BitVec 1 := Scalar.cmpi .sgt v61 c0_i32_35
  let v64 : BitVec 32 := Scalar.extui v63
  let c0_i32_36 : BitVec 32 := 0#32
  let v65 : BitVec 1 := Scalar.cmpi .slt v61 c0_i32_36
  let v66 : BitVec 32 := Scalar.extui v65
  let v67 : BitVec 32 := Scalar.subi v64 v66
  let c512_i32_34 : BitVec 32 := 512#32
  let c0_i32_37 : BitVec 32 := 0#32
  let v68 : BitVec 1 := Scalar.cmpi .sgt c512_i32_34 c0_i32_37
  let v69 : BitVec 32 := Scalar.extui v68
  let c0_i32_38 : BitVec 32 := 0#32
  let v70 : BitVec 1 := Scalar.cmpi .slt c512_i32_34 c0_i32_38
  let v71 : BitVec 32 := Scalar.extui v70
  let v72 : BitVec 32 := Scalar.subi v69 v71
  let v73 : BitVec 1 := Scalar.cmpi .ne v67 v72
  let v74 : BitVec 32 := Scalar.remsi v61 c512_i32_34
  let c0_i32_39 : BitVec 32 := 0#32
  let v75 : BitVec 1 := Scalar.cmpi .ne v74 c0_i32_39
  let v76 : BitVec 1 := Scalar.andi v73 v75
  let v62 : BitVec 32 := Scalar.divsi v61 c512_i32_34
  let c1_i32_40 : BitVec 32 := 1#32
  let v77 : BitVec 32 := Scalar.subi v62 c1_i32_40
  let v78 : BitVec 32 := Scalar.select v76 v77 v62
  let v79 : BitVec 32 := Scalar.subi v78 c0_i32_41
  let c1_i32_42 : BitVec 32 := 1#32
  let v81 : BitVec 32 := Scalar.divsi v79 c1_i32_42
  let v82 : BitVec 32 := Scalar.muli v81 c1_i32_42
  let v83 : BitVec 32 := Scalar.addi c0_i32_41 v82
  let v80 : BitVec 32 := Scalar.addi c0_i32_41 v79
  let c1_i32_44 : BitVec 32 := 1#32
  ⟨v83, v80, c1_i32_44⟩
def k0_mult2 (i : grid0.Coords) (k0_t2 : Fin (k0_t2_loop i).trips) : BitVec 32 :=
  let c0_i32_41 : BitVec 32 := 0#32
  let arg2 : BitVec 32 := BitVec.ofNat 32 (i 2).val
  let c256_i32_32 : BitVec 32 := 256#32
  let v58 : BitVec 32 := Scalar.muli arg2 c256_i32_32
  let c256_i32_33 : BitVec 32 := 256#32
  let v59 : BitVec 32 := Scalar.addi v58 c256_i32_33
  let c512_i32 : BitVec 32 := 512#32
  let v60 : BitVec 32 := Scalar.addi v59 c512_i32
  let c1_i32 : BitVec 32 := 1#32
  let v61 : BitVec 32 := Scalar.subi v60 c1_i32
  let c0_i32_35 : BitVec 32 := 0#32
  let v63 : BitVec 1 := Scalar.cmpi .sgt v61 c0_i32_35
  let v64 : BitVec 32 := Scalar.extui v63
  let c0_i32_36 : BitVec 32 := 0#32
  let v65 : BitVec 1 := Scalar.cmpi .slt v61 c0_i32_36
  let v66 : BitVec 32 := Scalar.extui v65
  let v67 : BitVec 32 := Scalar.subi v64 v66
  let c512_i32_34 : BitVec 32 := 512#32
  let c0_i32_37 : BitVec 32 := 0#32
  let v68 : BitVec 1 := Scalar.cmpi .sgt c512_i32_34 c0_i32_37
  let v69 : BitVec 32 := Scalar.extui v68
  let c0_i32_38 : BitVec 32 := 0#32
  let v70 : BitVec 1 := Scalar.cmpi .slt c512_i32_34 c0_i32_38
  let v71 : BitVec 32 := Scalar.extui v70
  let v72 : BitVec 32 := Scalar.subi v69 v71
  let v73 : BitVec 1 := Scalar.cmpi .ne v67 v72
  let v74 : BitVec 32 := Scalar.remsi v61 c512_i32_34
  let c0_i32_39 : BitVec 32 := 0#32
  let v75 : BitVec 1 := Scalar.cmpi .ne v74 c0_i32_39
  let v76 : BitVec 1 := Scalar.andi v73 v75
  let v62 : BitVec 32 := Scalar.divsi v61 c512_i32_34
  let c1_i32_40 : BitVec 32 := 1#32
  let v77 : BitVec 32 := Scalar.subi v62 c1_i32_40
  let v78 : BitVec 32 := Scalar.select v76 v77 v62
  let v79 : BitVec 32 := Scalar.subi v78 c0_i32_41
  let c1_i32_42 : BitVec 32 := 1#32
  let v81 : BitVec 32 := Scalar.divsi v79 c1_i32_42
  let v82 : BitVec 32 := Scalar.muli v81 c1_i32_42
  let v83 : BitVec 32 := Scalar.addi c0_i32_41 v82
  let c1_i32_44 : BitVec 32 := 1#32
  let arg9 : BitVec 32 := Scf.iv v83 c1_i32_44 k0_t2
  let c512_i32_47 : BitVec 32 := 512#32
  let v97 : BitVec 32 := Scalar.muli arg9 c512_i32_47
  v97
def k0_off6 (i : grid0.Coords) (k0_t2 : Fin (k0_t2_loop i).trips) : Fin 2 → Nat :=
  let c0_i32_41 : BitVec 32 := 0#32
  let arg2 : BitVec 32 := BitVec.ofNat 32 (i 2).val
  let c256_i32_32 : BitVec 32 := 256#32
  let v58 : BitVec 32 := Scalar.muli arg2 c256_i32_32
  let c256_i32_33 : BitVec 32 := 256#32
  let v59 : BitVec 32 := Scalar.addi v58 c256_i32_33
  let c512_i32 : BitVec 32 := 512#32
  let v60 : BitVec 32 := Scalar.addi v59 c512_i32
  let c1_i32 : BitVec 32 := 1#32
  let v61 : BitVec 32 := Scalar.subi v60 c1_i32
  let c0_i32_35 : BitVec 32 := 0#32
  let v63 : BitVec 1 := Scalar.cmpi .sgt v61 c0_i32_35
  let v64 : BitVec 32 := Scalar.extui v63
  let c0_i32_36 : BitVec 32 := 0#32
  let v65 : BitVec 1 := Scalar.cmpi .slt v61 c0_i32_36
  let v66 : BitVec 32 := Scalar.extui v65
  let v67 : BitVec 32 := Scalar.subi v64 v66
  let c512_i32_34 : BitVec 32 := 512#32
  let c0_i32_37 : BitVec 32 := 0#32
  let v68 : BitVec 1 := Scalar.cmpi .sgt c512_i32_34 c0_i32_37
  let v69 : BitVec 32 := Scalar.extui v68
  let c0_i32_38 : BitVec 32 := 0#32
  let v70 : BitVec 1 := Scalar.cmpi .slt c512_i32_34 c0_i32_38
  let v71 : BitVec 32 := Scalar.extui v70
  let v72 : BitVec 32 := Scalar.subi v69 v71
  let v73 : BitVec 1 := Scalar.cmpi .ne v67 v72
  let v74 : BitVec 32 := Scalar.remsi v61 c512_i32_34
  let c0_i32_39 : BitVec 32 := 0#32
  let v75 : BitVec 1 := Scalar.cmpi .ne v74 c0_i32_39
  let v76 : BitVec 1 := Scalar.andi v73 v75
  let v62 : BitVec 32 := Scalar.divsi v61 c512_i32_34
  let c1_i32_40 : BitVec 32 := 1#32
  let v77 : BitVec 32 := Scalar.subi v62 c1_i32_40
  let v78 : BitVec 32 := Scalar.select v76 v77 v62
  let v79 : BitVec 32 := Scalar.subi v78 c0_i32_41
  let c1_i32_42 : BitVec 32 := 1#32
  let v81 : BitVec 32 := Scalar.divsi v79 c1_i32_42
  let v82 : BitVec 32 := Scalar.muli v81 c1_i32_42
  let v83 : BitVec 32 := Scalar.addi c0_i32_41 v82
  let c1_i32_44 : BitVec 32 := 1#32
  let arg9 : BitVec 32 := Scf.iv v83 c1_i32_44 k0_t2
  let c512_i32_47 : BitVec 32 := 512#32
  let v97 : BitVec 32 := Scalar.muli arg9 c512_i32_47
  let v98 : BitVec 32 := v97
  let v99 : Index := Scalar.indexCast v98
  let c0_48 : Index := 0#32
  ![v99.toNat, 0]
def k0_off7 (i : grid0.Coords) (k0_t2 : Fin (k0_t2_loop i).trips) : Fin 2 → Nat :=
  let c0_i32_41 : BitVec 32 := 0#32
  let arg2 : BitVec 32 := BitVec.ofNat 32 (i 2).val
  let c256_i32_32 : BitVec 32 := 256#32
  let v58 : BitVec 32 := Scalar.muli arg2 c256_i32_32
  let c256_i32_33 : BitVec 32 := 256#32
  let v59 : BitVec 32 := Scalar.addi v58 c256_i32_33
  let c512_i32 : BitVec 32 := 512#32
  let v60 : BitVec 32 := Scalar.addi v59 c512_i32
  let c1_i32 : BitVec 32 := 1#32
  let v61 : BitVec 32 := Scalar.subi v60 c1_i32
  let c0_i32_35 : BitVec 32 := 0#32
  let v63 : BitVec 1 := Scalar.cmpi .sgt v61 c0_i32_35
  let v64 : BitVec 32 := Scalar.extui v63
  let c0_i32_36 : BitVec 32 := 0#32
  let v65 : BitVec 1 := Scalar.cmpi .slt v61 c0_i32_36
  let v66 : BitVec 32 := Scalar.extui v65
  let v67 : BitVec 32 := Scalar.subi v64 v66
  let c512_i32_34 : BitVec 32 := 512#32
  let c0_i32_37 : BitVec 32 := 0#32
  let v68 : BitVec 1 := Scalar.cmpi .sgt c512_i32_34 c0_i32_37
  let v69 : BitVec 32 := Scalar.extui v68
  let c0_i32_38 : BitVec 32 := 0#32
  let v70 : BitVec 1 := Scalar.cmpi .slt c512_i32_34 c0_i32_38
  let v71 : BitVec 32 := Scalar.extui v70
  let v72 : BitVec 32 := Scalar.subi v69 v71
  let v73 : BitVec 1 := Scalar.cmpi .ne v67 v72
  let v74 : BitVec 32 := Scalar.remsi v61 c512_i32_34
  let c0_i32_39 : BitVec 32 := 0#32
  let v75 : BitVec 1 := Scalar.cmpi .ne v74 c0_i32_39
  let v76 : BitVec 1 := Scalar.andi v73 v75
  let v62 : BitVec 32 := Scalar.divsi v61 c512_i32_34
  let c1_i32_40 : BitVec 32 := 1#32
  let v77 : BitVec 32 := Scalar.subi v62 c1_i32_40
  let v78 : BitVec 32 := Scalar.select v76 v77 v62
  let v79 : BitVec 32 := Scalar.subi v78 c0_i32_41
  let c1_i32_42 : BitVec 32 := 1#32
  let v81 : BitVec 32 := Scalar.divsi v79 c1_i32_42
  let v82 : BitVec 32 := Scalar.muli v81 c1_i32_42
  let v83 : BitVec 32 := Scalar.addi c0_i32_41 v82
  let c1_i32_44 : BitVec 32 := 1#32
  let arg9 : BitVec 32 := Scf.iv v83 c1_i32_44 k0_t2
  let c512_i32_47 : BitVec 32 := 512#32
  let v97 : BitVec 32 := Scalar.muli arg9 c512_i32_47
  let v98 : BitVec 32 := v97
  let v105 : Index := Scalar.indexCast v98
  let c0_49 : Index := 0#32
  ![v105.toNat, 0]
def k0_off8 (i : grid0.Coords) (k0_t2 : Fin (k0_t2_loop i).trips) : Fin 2 → Nat :=
  let c0_i32_41 : BitVec 32 := 0#32
  let arg2 : BitVec 32 := BitVec.ofNat 32 (i 2).val
  let c256_i32_32 : BitVec 32 := 256#32
  let v58 : BitVec 32 := Scalar.muli arg2 c256_i32_32
  let c256_i32_33 : BitVec 32 := 256#32
  let v59 : BitVec 32 := Scalar.addi v58 c256_i32_33
  let c512_i32 : BitVec 32 := 512#32
  let v60 : BitVec 32 := Scalar.addi v59 c512_i32
  let c1_i32 : BitVec 32 := 1#32
  let v61 : BitVec 32 := Scalar.subi v60 c1_i32
  let c0_i32_35 : BitVec 32 := 0#32
  let v63 : BitVec 1 := Scalar.cmpi .sgt v61 c0_i32_35
  let v64 : BitVec 32 := Scalar.extui v63
  let c0_i32_36 : BitVec 32 := 0#32
  let v65 : BitVec 1 := Scalar.cmpi .slt v61 c0_i32_36
  let v66 : BitVec 32 := Scalar.extui v65
  let v67 : BitVec 32 := Scalar.subi v64 v66
  let c512_i32_34 : BitVec 32 := 512#32
  let c0_i32_37 : BitVec 32 := 0#32
  let v68 : BitVec 1 := Scalar.cmpi .sgt c512_i32_34 c0_i32_37
  let v69 : BitVec 32 := Scalar.extui v68
  let c0_i32_38 : BitVec 32 := 0#32
  let v70 : BitVec 1 := Scalar.cmpi .slt c512_i32_34 c0_i32_38
  let v71 : BitVec 32 := Scalar.extui v70
  let v72 : BitVec 32 := Scalar.subi v69 v71
  let v73 : BitVec 1 := Scalar.cmpi .ne v67 v72
  let v74 : BitVec 32 := Scalar.remsi v61 c512_i32_34
  let c0_i32_39 : BitVec 32 := 0#32
  let v75 : BitVec 1 := Scalar.cmpi .ne v74 c0_i32_39
  let v76 : BitVec 1 := Scalar.andi v73 v75
  let v62 : BitVec 32 := Scalar.divsi v61 c512_i32_34
  let c1_i32_40 : BitVec 32 := 1#32
  let v77 : BitVec 32 := Scalar.subi v62 c1_i32_40
  let v78 : BitVec 32 := Scalar.select v76 v77 v62
  let v79 : BitVec 32 := Scalar.subi v78 c0_i32_41
  let c1_i32_42 : BitVec 32 := 1#32
  let v81 : BitVec 32 := Scalar.divsi v79 c1_i32_42
  let v82 : BitVec 32 := Scalar.muli v81 c1_i32_42
  let v83 : BitVec 32 := Scalar.addi c0_i32_41 v82
  let c1_i32_44 : BitVec 32 := 1#32
  let arg9 : BitVec 32 := Scf.iv v83 c1_i32_44 k0_t2
  let c512_i32_47 : BitVec 32 := 512#32
  let v97 : BitVec 32 := Scalar.muli arg9 c512_i32_47
  let v98 : BitVec 32 := v97
  let v132 : Index := Scalar.indexCast v98
  let c128_57 : Index := 128#32
  ![v132.toNat, 128]
def k0_off9 (i : grid0.Coords) (k0_t2 : Fin (k0_t2_loop i).trips) : Fin 2 → Nat :=
  let c0_i32_41 : BitVec 32 := 0#32
  let arg2 : BitVec 32 := BitVec.ofNat 32 (i 2).val
  let c256_i32_32 : BitVec 32 := 256#32
  let v58 : BitVec 32 := Scalar.muli arg2 c256_i32_32
  let c256_i32_33 : BitVec 32 := 256#32
  let v59 : BitVec 32 := Scalar.addi v58 c256_i32_33
  let c512_i32 : BitVec 32 := 512#32
  let v60 : BitVec 32 := Scalar.addi v59 c512_i32
  let c1_i32 : BitVec 32 := 1#32
  let v61 : BitVec 32 := Scalar.subi v60 c1_i32
  let c0_i32_35 : BitVec 32 := 0#32
  let v63 : BitVec 1 := Scalar.cmpi .sgt v61 c0_i32_35
  let v64 : BitVec 32 := Scalar.extui v63
  let c0_i32_36 : BitVec 32 := 0#32
  let v65 : BitVec 1 := Scalar.cmpi .slt v61 c0_i32_36
  let v66 : BitVec 32 := Scalar.extui v65
  let v67 : BitVec 32 := Scalar.subi v64 v66
  let c512_i32_34 : BitVec 32 := 512#32
  let c0_i32_37 : BitVec 32 := 0#32
  let v68 : BitVec 1 := Scalar.cmpi .sgt c512_i32_34 c0_i32_37
  let v69 : BitVec 32 := Scalar.extui v68
  let c0_i32_38 : BitVec 32 := 0#32
  let v70 : BitVec 1 := Scalar.cmpi .slt c512_i32_34 c0_i32_38
  let v71 : BitVec 32 := Scalar.extui v70
  let v72 : BitVec 32 := Scalar.subi v69 v71
  let v73 : BitVec 1 := Scalar.cmpi .ne v67 v72
  let v74 : BitVec 32 := Scalar.remsi v61 c512_i32_34
  let c0_i32_39 : BitVec 32 := 0#32
  let v75 : BitVec 1 := Scalar.cmpi .ne v74 c0_i32_39
  let v76 : BitVec 1 := Scalar.andi v73 v75
  let v62 : BitVec 32 := Scalar.divsi v61 c512_i32_34
  let c1_i32_40 : BitVec 32 := 1#32
  let v77 : BitVec 32 := Scalar.subi v62 c1_i32_40
  let v78 : BitVec 32 := Scalar.select v76 v77 v62
  let v79 : BitVec 32 := Scalar.subi v78 c0_i32_41
  let c1_i32_42 : BitVec 32 := 1#32
  let v81 : BitVec 32 := Scalar.divsi v79 c1_i32_42
  let v82 : BitVec 32 := Scalar.muli v81 c1_i32_42
  let v83 : BitVec 32 := Scalar.addi c0_i32_41 v82
  let c1_i32_44 : BitVec 32 := 1#32
  let arg9 : BitVec 32 := Scf.iv v83 c1_i32_44 k0_t2
  let c512_i32_47 : BitVec 32 := 512#32
  let v97 : BitVec 32 := Scalar.muli arg9 c512_i32_47
  let v98 : BitVec 32 := v97
  let v159 : Index := Scalar.indexCast v98
  let c256_65 : Index := 256#32
  ![v159.toNat, 256]
def k0_off10 (i : grid0.Coords) (k0_t2 : Fin (k0_t2_loop i).trips) : Fin 2 → Nat :=
  let c0_i32_41 : BitVec 32 := 0#32
  let arg2 : BitVec 32 := BitVec.ofNat 32 (i 2).val
  let c256_i32_32 : BitVec 32 := 256#32
  let v58 : BitVec 32 := Scalar.muli arg2 c256_i32_32
  let c256_i32_33 : BitVec 32 := 256#32
  let v59 : BitVec 32 := Scalar.addi v58 c256_i32_33
  let c512_i32 : BitVec 32 := 512#32
  let v60 : BitVec 32 := Scalar.addi v59 c512_i32
  let c1_i32 : BitVec 32 := 1#32
  let v61 : BitVec 32 := Scalar.subi v60 c1_i32
  let c0_i32_35 : BitVec 32 := 0#32
  let v63 : BitVec 1 := Scalar.cmpi .sgt v61 c0_i32_35
  let v64 : BitVec 32 := Scalar.extui v63
  let c0_i32_36 : BitVec 32 := 0#32
  let v65 : BitVec 1 := Scalar.cmpi .slt v61 c0_i32_36
  let v66 : BitVec 32 := Scalar.extui v65
  let v67 : BitVec 32 := Scalar.subi v64 v66
  let c512_i32_34 : BitVec 32 := 512#32
  let c0_i32_37 : BitVec 32 := 0#32
  let v68 : BitVec 1 := Scalar.cmpi .sgt c512_i32_34 c0_i32_37
  let v69 : BitVec 32 := Scalar.extui v68
  let c0_i32_38 : BitVec 32 := 0#32
  let v70 : BitVec 1 := Scalar.cmpi .slt c512_i32_34 c0_i32_38
  let v71 : BitVec 32 := Scalar.extui v70
  let v72 : BitVec 32 := Scalar.subi v69 v71
  let v73 : BitVec 1 := Scalar.cmpi .ne v67 v72
  let v74 : BitVec 32 := Scalar.remsi v61 c512_i32_34
  let c0_i32_39 : BitVec 32 := 0#32
  let v75 : BitVec 1 := Scalar.cmpi .ne v74 c0_i32_39
  let v76 : BitVec 1 := Scalar.andi v73 v75
  let v62 : BitVec 32 := Scalar.divsi v61 c512_i32_34
  let c1_i32_40 : BitVec 32 := 1#32
  let v77 : BitVec 32 := Scalar.subi v62 c1_i32_40
  let v78 : BitVec 32 := Scalar.select v76 v77 v62
  let v79 : BitVec 32 := Scalar.subi v78 c0_i32_41
  let c1_i32_42 : BitVec 32 := 1#32
  let v81 : BitVec 32 := Scalar.divsi v79 c1_i32_42
  let v82 : BitVec 32 := Scalar.muli v81 c1_i32_42
  let v83 : BitVec 32 := Scalar.addi c0_i32_41 v82
  let c1_i32_44 : BitVec 32 := 1#32
  let arg9 : BitVec 32 := Scf.iv v83 c1_i32_44 k0_t2
  let c512_i32_47 : BitVec 32 := 512#32
  let v97 : BitVec 32 := Scalar.muli arg9 c512_i32_47
  let v98 : BitVec 32 := v97
  let v186 : Index := Scalar.indexCast v98
  let c384_73 : Index := 384#32
  ![v186.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S8320x2048 : Shape := ⟨2, ![8320, 2048]⟩
abbrev S8320x1024 : Shape := ⟨2, ![8320, 1024]⟩
abbrev S8192x2048 : Shape := ⟨2, ![8192, 2048]⟩
abbrev S8192x64 : Shape := ⟨2, ![8192, 64]⟩
abbrev S4x2048x16x128 : Shape := ⟨4, ![4, 2048, 16, 128]⟩
abbrev S8192x1024 : Shape := ⟨2, ![8192, 1024]⟩
abbrev S4x2048x16x64 : Shape := ⟨4, ![4, 2048, 16, 64]⟩
abbrev S4x2048x64 : Shape := ⟨3, ![4, 2048, 64]⟩
abbrev S4x16x2048x2048 : Shape := ⟨4, ![4, 16, 2048, 2048]⟩
abbrev S4x2048x2048x16 : Shape := ⟨4, ![4, 2048, 2048, 16]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x1024, .bf16⟩
  | .hbm, ⟨2, _⟩ => ⟨S8192x2048, .bf16⟩
  | .hbm, ⟨3, _⟩ => ⟨S8192x64, .bf16⟩
  | .hbm, ⟨4, _⟩ => ⟨S8192x2048, .bf16⟩
  | .hbm, ⟨5, _⟩ => ⟨S8192x2048, .bf16⟩
  | .hbm, ⟨6, _⟩ => ⟨S8192x2048, .f32⟩
  | .hbm, ⟨7, _⟩ => ⟨S4x2048x16x128, .f32⟩
  | .hbm, ⟨8, _⟩ => ⟨S8192x1024, .bf16⟩
  | .hbm, ⟨9, _⟩ => ⟨S8192x1024, .f32⟩
  | .hbm, ⟨10, _⟩ => ⟨S4x2048x16x64, .f32⟩
  | .hbm, ⟨11, _⟩ => ⟨S8192x2048, .f32⟩
  | .hbm, ⟨12, _⟩ => ⟨S4x2048x16x128, .f32⟩
  | .hbm, ⟨13, _⟩ => ⟨S8192x64, .f32⟩
  | .hbm, ⟨14, _⟩ => ⟨S4x2048x64, .f32⟩
  | .hbm, ⟨15, _⟩ => ⟨S8192x2048, .f32⟩
  | .hbm, ⟨16, _⟩ => ⟨S4x2048x16x128, .f32⟩
  | .hbm, ⟨17, _⟩ => ⟨S4x16x2048x2048, .f32⟩
  | .hbm, ⟨18, _⟩ => ⟨S4x2048x2048x16, .f32⟩
  | .hbm, ⟨19, _⟩ => ⟨S4x16x2048x2048, .f32⟩
  | .hbm, ⟨20, _⟩ => ⟨S4x16x2048x2048, .f32⟩
  | .hbm, ⟨21, _⟩ => ⟨S_, .f32⟩
  | .hbm, ⟨22, _⟩ => ⟨S4x16x2048x2048, .f32⟩
  | .hbm, ⟨23, _⟩ => ⟨S4x16x2048x2048, .f32⟩
  | .hbm, ⟨24, _⟩ => ⟨S2048, .i32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S4x16x2048x2048, .i1⟩
  | .hbm, ⟨33, _⟩ => ⟨S4x16x2048x2048, .f32⟩
  | .hbm, ⟨34, _⟩ => ⟨S4x16x2048x2048, .f32⟩
  | .hbm, ⟨35, _⟩ => ⟨S_, .f32⟩
  | .hbm, ⟨36, _⟩ => ⟨S4x16x2048, .f32⟩
  | .hbm, ⟨37, _⟩ => ⟨S_, .f32⟩
  | .hbm, ⟨38, _⟩ => ⟨S4x16x2048, .f32⟩
  | .hbm, ⟨39, _⟩ => ⟨S4x16x2048, .f32⟩
  | .hbm, ⟨40, _⟩ => ⟨S4x16x2048x1, .f32⟩
  | .hbm, ⟨41, _⟩ => ⟨S4x16x2048x2048, .f32⟩
  | .hbm, ⟨42, _⟩ => ⟨S4x16x2048x2048, .f32⟩
  | .hbm, ⟨43, _⟩ => ⟨S4x16x2048x2048, .f32⟩
  | .hbm, ⟨44, _⟩ => ⟨S_, .f32⟩
  | .hbm, ⟨45, _⟩ => ⟨S4x16x2048, .f32⟩
  | .hbm, ⟨46, _⟩ => ⟨S4x16x2048x1, .f32⟩
  | .hbm, ⟨47, _⟩ => ⟨S4x16x2048x2048, .f32⟩
  | .hbm, ⟨48, _⟩ => ⟨S4x16x2048x2048, .f32⟩
  | .hbm, ⟨49, _⟩ => ⟨S4x16x128x2048, .f32⟩
  | .hbm, ⟨50, _⟩ => ⟨S4x2048x16x128, .f32⟩
  | .hbm, ⟨51, _⟩ => ⟨S8192x2048, .f32⟩
  | .hbm, ⟨52, _⟩ => ⟨S8192x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Swiglu.lean ====
abbrev S8320x4096 : Shape := ⟨2, ![8320, 4096]⟩
abbrev S1x4096x11008 : Shape := ⟨3, ![1, 4096, 11008]⟩
abbrev S8320x11008 : Shape := ⟨2, ![8320, 11008]⟩
abbrev S1040x4096 : Shape := ⟨2, ![1040, 4096]⟩
abbrev S1x4096x256 : Shape := ⟨3, ![1, 4096, 256]⟩
abbrev S1040x256 : Shape := ⟨2, ![1040, 256]⟩
abbrev S4096x256 : Shape := ⟨2, ![4096, 256]⟩

abbrev nBuf : Space → Nat
  | .hbm => 4
  | .vmem => 10
  | .smem => 0
  | _ => 0

abbrev bufTy : (tb : Table) → Fin (tcTables nBuf tb) → BufTy
  | .hbm, ⟨0, _⟩ => ⟨S8320x4096, .bf16⟩
  | .hbm, ⟨1, _⟩ => ⟨S1x4096x11008, .f32⟩
  | .hbm, ⟨2, _⟩ => ⟨S1x4096x11008, .f32⟩
  | .hbm, ⟨3, _⟩ => ⟨S8320x11008, .bf16⟩
  | .local _ .vmem, ⟨0, _⟩ => ⟨S1040x4096, .bf16⟩
  | .local _ .vmem, ⟨1, _⟩ => ⟨S1040x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1040x256, .bf16⟩
  | .local _ .vmem, ⟨7, _⟩ => ⟨S1040x256, .bf16⟩
  | .local _ .vmem, ⟨8, _⟩ => ⟨S4096x256, .bf16⟩
  | .local _ .vmem, ⟨9, _⟩ => ⟨S4096x256, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1040x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S8320x4096 : Shape := ⟨2, ![8320, 4096]⟩
abbrev S1x4096x11008 : Shape := ⟨3, ![1, 4096, 11008]⟩
abbrev S4096x11008 : Shape := ⟨2, ![4096, 11008]⟩
abbrev S8320x11008 : Shape := ⟨2, ![8320, 11008]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x11008, .f32⟩
  | .hbm, ⟨2, _⟩ => ⟨S1x4096x11008, .f32⟩
  | .hbm, ⟨3, _⟩ => ⟨S8320x4096, .f32⟩
  | .hbm, ⟨4, _⟩ => ⟨S4096x11008, .f32⟩
  | .hbm, ⟨5, _⟩ => ⟨S8320x11008, .f32⟩
  | .hbm, ⟨6, _⟩ => ⟨S8320x4096, .f32⟩
  | .hbm, ⟨7, _⟩ => ⟨S4096x11008, .f32⟩
  | .hbm, ⟨8, _⟩ => ⟨S8320x11008, .f32⟩
  | .hbm, ⟨9, _⟩ => ⟨S8320x11008, .f32⟩
  | .hbm, ⟨10, _⟩ => ⟨S8320x11008, .f32⟩
  | .hbm, ⟨11, _⟩ => ⟨S_, .f32⟩
  | .hbm, ⟨12, _⟩ => ⟨S8320x11008, .f32⟩
  | .hbm, ⟨13, _⟩ => ⟨S8320x11008, .f32⟩
  | .hbm, ⟨14, _⟩ => ⟨S_, .f32⟩
  | .hbm, ⟨15, _⟩ => ⟨S8320x11008, .f32⟩
  | .hbm, ⟨16, _⟩ => ⟨S8320x11008, .f32⟩
  | .hbm, ⟨17, _⟩ => ⟨S8320x11008, .f32⟩
  | .hbm, ⟨18, _⟩ => ⟨S8320x11008, .f32⟩
  | .hbm, ⟨19, _⟩ => ⟨S8320x11008, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Gates.lean ====
abbrev S8320x4096 : Shape := ⟨2, ![8320, 4096]⟩
abbrev S2x4096x15936 : Shape := ⟨3, ![2, 4096, 15936]⟩
abbrev S2x15936x4096 : Shape := ⟨3, ![2, 15936, 4096]⟩
abbrev S8320x12288 : Shape := ⟨2, ![8320, 12288]⟩
abbrev S1040x4096 : Shape := ⟨2, ![1040, 4096]⟩
abbrev S1x512x4096 : Shape := ⟨3, ![1, 512, 4096]⟩
abbrev S1040x512 : Shape := ⟨2, ![1040, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S2x4096x15936, .f32⟩
  | .hbm, ⟨2, _⟩ => ⟨S2x15936x4096, .f32⟩
  | .hbm, ⟨3, _⟩ => ⟨S8320x12288, .f32⟩
  | .local _ .vmem, ⟨0, _⟩ => ⟨S1040x4096, .bf16⟩
  | .local _ .vmem, ⟨1, _⟩ => ⟨S1040x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1040x512, .f32⟩
  | .local _ .vmem, ⟨5, _⟩ => ⟨S1040x512, .f32⟩
  | .local _ .vmem, ⟨6, _⟩ => ⟨S512x4096, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 8], ![false, false]⟩

def k0_mult1 (i : grid0.Coords) : BitVec 32 :=
  let c3648_i32 : BitVec 32 := 3648#32
  let arg0 : BitVec 32 := BitVec.ofNat 32 (i 0).val
  let c512_i32 : BitVec 32 := 512#32
  let v0 : BitVec 32 := Scalar.muli arg0 c512_i32
  let v1 : BitVec 32 := Scalar.addi c3648_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c3648_i32 : BitVec 32 := 3648#32
  let v1 : BitVec 32 := Scalar.addi c3648_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8320x4096 : Shape := ⟨2, ![8320, 4096]⟩
abbrev S2x4096x15936 : Shape := ⟨3, ![2, 4096, 15936]⟩
abbrev S1x4096x15936 : Shape := ⟨3, ![1, 4096, 15936]⟩
abbrev S4096x15936 : Shape := ⟨2, ![4096, 15936]⟩
abbrev S8320x15936 : Shape := ⟨2, ![8320, 15936]⟩
abbrev S8320x12288 : Shape := ⟨2, ![8320, 12288]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x15936, .f32⟩
  | .hbm, ⟨2, _⟩ => ⟨S8320x4096, .f32⟩
  | .hbm, ⟨3, _⟩ => ⟨S1x4096x15936, .f32⟩
  | .hbm, ⟨4, _⟩ => ⟨S4096x15936, .f32⟩
  | .hbm, ⟨5, _⟩ => ⟨S8320x15936, .f32⟩
  | .hbm, ⟨6, _⟩ => ⟨S8320x12288, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownA.lean ====
abbrev S8320x11008 : Shape := ⟨2, ![8320, 11008]⟩
abbrev S1x11008x4096 : Shape := ⟨3, ![1, 11008, 4096]⟩
abbrev S8320x4096 : Shape := ⟨2, ![8320, 4096]⟩
abbrev S640x5504 : Shape := ⟨2, ![640, 5504]⟩
abbrev S1x5504x512 : Shape := ⟨3, ![1, 5504, 512]⟩
abbrev S640x512 : Shape := ⟨2, ![640, 512]⟩
abbrev S5504x512 : Shape := ⟨2, ![5504, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x11008, .bf16⟩
  | .hbm, ⟨1, _⟩ => ⟨S1x11008x4096, .f32⟩
  | .hbm, ⟨2, _⟩ => ⟨S8320x4096, .f32⟩
  | .local _ .vmem, ⟨0, _⟩ => ⟨S640x5504, .bf16⟩
  | .local _ .vmem, ⟨1, _⟩ => ⟨S640x5504, .bf16⟩
  | .local _ .vmem, ⟨2, _⟩ => ⟨S1x5504x512, .f32⟩
  | .local _ .vmem, ⟨3, _⟩ => ⟨S1x5504x512, .f32⟩
  | .local _ .vmem, ⟨4, _⟩ => ⟨S640x512, .f32⟩
  | .local _ .vmem, ⟨5, _⟩ => ⟨S640x512, .f32⟩
  | .local _ .vmem, ⟨6, _⟩ => ⟨S5504x512, .bf16⟩
  | _, _ => ⟨S8320x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5504x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownARefIdeal.lean ====
abbrev S8320x11008 : Shape := ⟨2, ![8320, 11008]⟩
abbrev S1x11008x4096 : Shape := ⟨3, ![1, 11008, 4096]⟩
abbrev S8320x5504 : Shape := ⟨2, ![8320, 5504]⟩
abbrev S1x5504x4096 : Shape := ⟨3, ![1, 5504, 4096]⟩
abbrev S5504x4096 : Shape := ⟨2, ![5504, 4096]⟩
abbrev S8320x4096 : Shape := ⟨2, ![8320, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8320x11008, .bf16⟩
  | .hbm, ⟨1, _⟩ => ⟨S1x11008x4096, .f32⟩
  | .hbm, ⟨2, _⟩ => ⟨S8320x5504, .bf16⟩
  | .hbm, ⟨3, _⟩ => ⟨S8320x5504, .f32⟩
  | .hbm, ⟨4, _⟩ => ⟨S1x5504x4096, .f32⟩
  | .hbm, ⟨5, _⟩ => ⟨S5504x4096, .f32⟩
  | .hbm, ⟨6, _⟩ => ⟨S8320x4096, .f32⟩
  | _, _ => ⟨S8320x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownB.lean ====
abbrev S8320x11008 : Shape := ⟨2, ![8320, 11008]⟩
abbrev S1x11008x4096 : Shape := ⟨3, ![1, 11008, 4096]⟩
abbrev S8320x4096 : Shape := ⟨2, ![8320, 4096]⟩
abbrev S640x5504 : Shape := ⟨2, ![640, 5504]⟩
abbrev S1x5504x512 : Shape := ⟨3, ![1, 5504, 512]⟩
abbrev S640x512 : Shape := ⟨2, ![640, 512]⟩
abbrev S5504x512 : Shape := ⟨2, ![5504, 512]⟩

abbrev nBuf : Space → Nat
  | .hbm => 4
  | .vmem => 9
  | .smem => 0
  | _ => 0

abbrev bufTy : (tb : Table) → Fin (tcTables nBuf tb) → BufTy
  | .hbm, ⟨0, _⟩ => ⟨S8320x11008, .bf16⟩
  | .hbm, ⟨1, _⟩ => ⟨S1x11008x4096, .f32⟩
  | .hbm, ⟨2, _⟩ => ⟨S8320x4096, .f32⟩
  | .hbm, ⟨3, _⟩ => ⟨S8320x4096, .f32⟩
  | .local _ .vmem, ⟨0, _⟩ => ⟨S640x5504, .bf16⟩
  | .local _ .vmem, ⟨1, _⟩ => ⟨S640x5504, .bf16⟩
  | .local _ .vmem, ⟨2, _⟩ => ⟨S1x5504x512, .f32⟩
  | .local _ .vmem, ⟨3, _⟩ => ⟨S1x5504x512, .f32⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | .local _ .vmem, ⟨8, _⟩ => ⟨S5504x512, .bf16⟩
  | _, _ => ⟨S8320x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![v0.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c1_i32 : BitVec 32 := 1#32
  let c0_i32_1 : BitVec 32 := 0#32
  ![c0_i32_0.toNat, c1_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5504x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownBRefIdeal.lean ====
abbrev S8320x11008 : Shape := ⟨2, ![8320, 11008]⟩
abbrev S1x11008x4096 : Shape := ⟨3, ![1, 11008, 4096]⟩
abbrev S8320x4096 : Shape := ⟨2, ![8320, 4096]⟩
abbrev S8320x5504 : Shape := ⟨2, ![8320, 5504]⟩
abbrev S1x5504x4096 : Shape := ⟨3, ![1, 5504, 4096]⟩
abbrev S5504x4096 : Shape := ⟨2, ![5504, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8320x11008, .bf16⟩
  | .hbm, ⟨1, _⟩ => ⟨S1x11008x4096, .f32⟩
  | .hbm, ⟨2, _⟩ => ⟨S8320x4096, .f32⟩
  | .hbm, ⟨3, _⟩ => ⟨S8320x5504, .bf16⟩
  | .hbm, ⟨4, _⟩ => ⟨S8320x5504, .f32⟩
  | .hbm, ⟨5, _⟩ => ⟨S1x5504x4096, .f32⟩
  | .hbm, ⟨6, _⟩ => ⟨S5504x4096, .f32⟩
  | .hbm, ⟨7, _⟩ => ⟨S8320x4096, .f32⟩
  | .hbm, ⟨8, _⟩ => ⟨S8320x4096, .f32⟩
  | _, _ => ⟨S8320x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S8320x4096 : Shape := ⟨2, ![8320, 4096]⟩
abbrev S2x4096x4096 : Shape := ⟨3, ![2, 4096, 4096]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x4096, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .f32⟩
  | .local _ .vmem, ⟨5, _⟩ => ⟨S1040x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S8320x4096 : Shape := ⟨2, ![8320, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x4096, .f32⟩
  | .hbm, ⟨3, _⟩ => ⟨S1x4096x4096, .f32⟩
  | .hbm, ⟨4, _⟩ => ⟨S4096x4096, .f32⟩
  | .hbm, ⟨5, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S8320x1024 : Shape := ⟨2, ![8320, 1024]⟩
abbrev S8320x2048 : Shape := ⟨2, ![8320, 2048]⟩
abbrev S2x1024x4096 : Shape := ⟨3, ![2, 1024, 4096]⟩
abbrev S2x2048x4096 : Shape := ⟨3, ![2, 2048, 4096]⟩
abbrev S8320x12288 : Shape := ⟨2, ![8320, 12288]⟩
abbrev S8320x4096 : Shape := ⟨2, ![8320, 4096]⟩
abbrev S520x1024 : Shape := ⟨2, ![520, 1024]⟩
abbrev S520x2048 : Shape := ⟨2, ![520, 2048]⟩
abbrev S1x1024x512 : Shape := ⟨3, ![1, 1024, 512]⟩
abbrev S1x2048x512 : Shape := ⟨3, ![1, 2048, 512]⟩
abbrev S520x512 : Shape := ⟨2, ![520, 512]⟩
abbrev S1024x512 : Shape := ⟨2, ![1024, 512]⟩
abbrev S2048x512 : Shape := ⟨2, ![2048, 512]⟩

abbrev nBuf : Space → Nat
  | .hbm => 8
  | .vmem => 23
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x2048, .bf16⟩
  | .hbm, ⟨3, _⟩ => ⟨S2x1024x4096, .f32⟩
  | .hbm, ⟨4, _⟩ => ⟨S2x1024x4096, .f32⟩
  | .hbm, ⟨5, _⟩ => ⟨S2x2048x4096, .f32⟩
  | .hbm, ⟨6, _⟩ => ⟨S8320x12288, .f32⟩
  | .hbm, ⟨7, _⟩ => ⟨S8320x4096, .bf16⟩
  | .local _ .vmem, ⟨0, _⟩ => ⟨S520x1024, .bf16⟩
  | .local _ .vmem, ⟨1, _⟩ => ⟨S520x1024, .bf16⟩
  | .local _ .vmem, ⟨2, _⟩ => ⟨S520x1024, .bf16⟩
  | .local _ .vmem, ⟨3, _⟩ => ⟨S520x1024, .bf16⟩
  | .local _ .vmem, ⟨4, _⟩ => ⟨S520x2048, .bf16⟩
  | .local _ .vmem, ⟨5, _⟩ => ⟨S520x2048, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x2048x512, .f32⟩
  | .local _ .vmem, ⟨11, _⟩ => ⟨S1x2048x512, .f32⟩
  | .local _ .vmem, ⟨12, _⟩ => ⟨S520x512, .f32⟩
  | .local _ .vmem, ⟨13, _⟩ => ⟨S520x512, .f32⟩
  | .local _ .vmem, ⟨14, _⟩ => ⟨S520x512, .f32⟩
  | .local _ .vmem, ⟨15, _⟩ => ⟨S520x512, .f32⟩
  | .local _ .vmem, ⟨16, _⟩ => ⟨S520x512, .f32⟩
  | .local _ .vmem, ⟨17, _⟩ => ⟨S520x512, .f32⟩
  | .local _ .vmem, ⟨18, _⟩ => ⟨S520x512, .bf16⟩
  | .local _ .vmem, ⟨19, _⟩ => ⟨S520x512, .bf16⟩
  | .local _ .vmem, ⟨20, _⟩ => ⟨S1024x512, .bf16⟩
  | .local _ .vmem, ⟨21, _⟩ => ⟨S1024x512, .bf16⟩
  | .local _ .vmem, ⟨22, _⟩ => ⟨S2048x512, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S520x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S520x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S520x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S520x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S520x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S520x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S520x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8320x1024 : Shape := ⟨2, ![8320, 1024]⟩
abbrev S8320x2048 : Shape := ⟨2, ![8320, 2048]⟩
abbrev S2x1024x4096 : Shape := ⟨3, ![2, 1024, 4096]⟩
abbrev S2x2048x4096 : Shape := ⟨3, ![2, 2048, 4096]⟩
abbrev S8320x12288 : Shape := ⟨2, ![8320, 12288]⟩
abbrev S8320x4096 : Shape := ⟨2, ![8320, 4096]⟩
abbrev S_ : Shape := ⟨0, ![]⟩
abbrev S1x1024x4096 : Shape := ⟨3, ![1, 1024, 4096]⟩
abbrev S1024x4096 : Shape := ⟨2, ![1024, 4096]⟩
abbrev S1x2048x4096 : Shape := ⟨3, ![1, 2048, 4096]⟩
abbrev S2048x4096 : Shape := ⟨2, ![2048, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x2048, .bf16⟩
  | .hbm, ⟨3, _⟩ => ⟨S2x1024x4096, .f32⟩
  | .hbm, ⟨4, _⟩ => ⟨S2x1024x4096, .f32⟩
  | .hbm, ⟨5, _⟩ => ⟨S2x2048x4096, .f32⟩
  | .hbm, ⟨6, _⟩ => ⟨S8320x12288, .f32⟩
  | .hbm, ⟨7, _⟩ => ⟨S8320x4096, .f32⟩
  | .hbm, ⟨8, _⟩ => ⟨S8320x4096, .f32⟩
  | .hbm, ⟨9, _⟩ => ⟨S8320x4096, .f32⟩
  | .hbm, ⟨10, _⟩ => ⟨S_, .f32⟩
  | .hbm, ⟨11, _⟩ => ⟨S8320x4096, .f32⟩
  | .hbm, ⟨12, _⟩ => ⟨S8320x4096, .f32⟩
  | .hbm, ⟨13, _⟩ => ⟨S_, .f32⟩
  | .hbm, ⟨14, _⟩ => ⟨S8320x4096, .f32⟩
  | .hbm, ⟨15, _⟩ => ⟨S8320x4096, .f32⟩
  | .hbm, ⟨16, _⟩ => ⟨S8320x1024, .f32⟩
  | .hbm, ⟨17, _⟩ => ⟨S1x1024x4096, .f32⟩
  | .hbm, ⟨18, _⟩ => ⟨S1024x4096, .f32⟩
  | .hbm, ⟨19, _⟩ => ⟨S8320x4096, .f32⟩
  | .hbm, ⟨20, _⟩ => ⟨S8320x4096, .f32⟩
  | .hbm, ⟨21, _⟩ => ⟨S8320x4096, .f32⟩
  | .hbm, ⟨22, _⟩ => ⟨S8320x4096, .f32⟩
  | .hbm, ⟨23, _⟩ => ⟨S8320x4096, .f32⟩
  | .hbm, ⟨24, _⟩ => ⟨S_, .f32⟩
  | .hbm, ⟨25, _⟩ => ⟨S8320x4096, .f32⟩
  | .hbm, ⟨26, _⟩ => ⟨S8320x4096, .f32⟩
  | .hbm, ⟨27, _⟩ => ⟨S_, .f32⟩
  | .hbm, ⟨28, _⟩ => ⟨S8320x4096, .f32⟩
  | .hbm, ⟨29, _⟩ => ⟨S8320x4096, .f32⟩
  | .hbm, ⟨30, _⟩ => ⟨S8320x1024, .f32⟩
  | .hbm, ⟨31, _⟩ => ⟨S1x1024x4096, .f32⟩
  | .hbm, ⟨32, _⟩ => ⟨S1024x4096, .f32⟩
  | .hbm, ⟨33, _⟩ => ⟨S8320x4096, .f32⟩
  | .hbm, ⟨34, _⟩ => ⟨S8320x4096, .f32⟩
  | .hbm, ⟨35, _⟩ => ⟨S8320x4096, .f32⟩
  | .hbm, ⟨36, _⟩ => ⟨S8320x4096, .f32⟩
  | .hbm, ⟨37, _⟩ => ⟨S8320x4096, .f32⟩
  | .hbm, ⟨38, _⟩ => ⟨S8320x4096, .f32⟩
  | .hbm, ⟨39, _⟩ => ⟨S_, .f32⟩
  | .hbm, ⟨40, _⟩ => ⟨S8320x4096, .f32⟩
  | .hbm, ⟨41, _⟩ => ⟨S8320x4096, .f32⟩
  | .hbm, ⟨42, _⟩ => ⟨S_, .f32⟩
  | .hbm, ⟨43, _⟩ => ⟨S8320x4096, .f32⟩
  | .hbm, ⟨44, _⟩ => ⟨S8320x4096, .f32⟩
  | .hbm, ⟨45, _⟩ => ⟨S8320x2048, .f32⟩
  | .hbm, ⟨46, _⟩ => ⟨S1x2048x4096, .f32⟩
  | .hbm, ⟨47, _⟩ => ⟨S2048x4096, .f32⟩
  | .hbm, ⟨48, _⟩ => ⟨S8320x4096, .f32⟩
  | .hbm, ⟨49, _⟩ => ⟨S8320x4096, .f32⟩
  | .hbm, ⟨50, _⟩ => ⟨S8320x4096, .f32⟩
  | .hbm, ⟨51, _⟩ => ⟨S8320x4096, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== ExpUp.lean ====
abbrev S41 : Shape := ⟨1, ![41]⟩
abbrev S1 : Shape := ⟨1, ![1]⟩
abbrev S20992x4096 : Shape := ⟨2, ![20992, 4096]⟩
abbrev S1x8x4096x4096 : Shape := ⟨4, ![1, 8, 4096, 4096]⟩
abbrev S512x4096 : Shape := ⟨2, ![512, 4096]⟩
abbrev S1x1x4096x512 : Shape := ⟨4, ![1, 1, 4096, 512]⟩
abbrev S512x512 : Shape := ⟨2, ![512, 512]⟩
abbrev S4096x512 : Shape := ⟨2, ![4096, 512]⟩

abbrev nBuf : Space → Nat
  | .hbm => 4
  | .vmem => 10
  | .smem => 3
  | _ => 0

abbrev bufTy : (tb : Table) → Fin (tcTables nBuf tb) → BufTy
  | .hbm, ⟨0, _⟩ => ⟨S20992x4096, .bf16⟩
  | .hbm, ⟨1, _⟩ => ⟨S1x8x4096x4096, .f32⟩
  | .hbm, ⟨2, _⟩ => ⟨S1x8x4096x4096, .f32⟩
  | .hbm, ⟨3, _⟩ => ⟨S20992x4096, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S512x512, .bf16⟩
  | .local _ .vmem, ⟨7, _⟩ => ⟨S512x512, .bf16⟩
  | .local _ .vmem, ⟨8, _⟩ => ⟨S4096x512, .bf16⟩
  | .local _ .vmem, ⟨9, _⟩ => ⟨S4096x512, .bf16⟩
  | .local _ .smem, ⟨0, _⟩ => ⟨S41, .i32⟩
  | .local _ .smem, ⟨1, _⟩ => ⟨S1, .i32⟩
  | .local _ .smem, ⟨2, _⟩ => ⟨S41, .i32⟩
  | _, _ => ⟨S20992x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 41], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S41.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S41) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S41.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S41) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ExpUpRefIdeal.lean ====
abbrev S41 : Shape := ⟨1, ![41]⟩
abbrev S1 : Shape := ⟨1, ![1]⟩
abbrev S20992x4096 : Shape := ⟨2, ![20992, 4096]⟩
abbrev S1x8x4096x4096 : Shape := ⟨4, ![1, 8, 4096, 4096]⟩
abbrev S41x512x4096 : Shape := ⟨3, ![41, 512, 4096]⟩
abbrev S8x4096x4096 : Shape := ⟨3, ![8, 4096, 4096]⟩
abbrev S41x512x8x4096 : Shape := ⟨4, ![41, 512, 8, 4096]⟩
abbrev S41x1 : Shape := ⟨2, ![41, 1]⟩
abbrev S8 : Shape := ⟨1, ![8]⟩
abbrev S1x8 : Shape := ⟨2, ![1, 8]⟩
abbrev S41x8 : Shape := ⟨2, ![41, 8]⟩
abbrev S41x1x8x1 : Shape := ⟨4, ![41, 1, 8, 1]⟩
abbrev S_ : Shape := ⟨0, ![]⟩
abbrev S41x1x1 : Shape := ⟨3, ![41, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S41, .i32⟩
  | .hbm, ⟨1, _⟩ => ⟨S1, .i32⟩
  | .hbm, ⟨2, _⟩ => ⟨S41, .i32⟩
  | .hbm, ⟨3, _⟩ => ⟨S20992x4096, .bf16⟩
  | .hbm, ⟨4, _⟩ => ⟨S1x8x4096x4096, .f32⟩
  | .hbm, ⟨5, _⟩ => ⟨S1x8x4096x4096, .f32⟩
  | .hbm, ⟨6, _⟩ => ⟨S20992x4096, .f32⟩
  | .hbm, ⟨7, _⟩ => ⟨S41x512x4096, .f32⟩
  | .hbm, ⟨8, _⟩ => ⟨S8x4096x4096, .f32⟩
  | .hbm, ⟨9, _⟩ => ⟨S41x512x8x4096, .f32⟩
  | .hbm, ⟨10, _⟩ => ⟨S41x1, .i32⟩
  | .hbm, ⟨11, _⟩ => ⟨S8, .i32⟩
  | .hbm, ⟨12, _⟩ => ⟨S1x8, .i32⟩
  | .hbm, ⟨13, _⟩ => ⟨S41x8, .i32⟩
  | .hbm, ⟨14, _⟩ => ⟨S41x8, .i32⟩
  | .hbm, ⟨15, _⟩ => ⟨S41x8, .i1⟩
  | .hbm, ⟨16, _⟩ => ⟨S41x1x8x1, .i1⟩
  | .hbm, ⟨17, _⟩ => ⟨S_, .f32⟩
  | .hbm, ⟨18, _⟩ => ⟨S_, .f32⟩
  | .hbm, ⟨19, _⟩ => ⟨S41x512x8x4096, .i1⟩
  | .hbm, ⟨20, _⟩ => ⟨S41x512x8x4096, .f32⟩
  | .hbm, ⟨21, _⟩ => ⟨S41x512x8x4096, .f32⟩
  | .hbm, ⟨22, _⟩ => ⟨S_, .f32⟩
  | .hbm, ⟨23, _⟩ => ⟨S41x512x4096, .f32⟩
  | .hbm, ⟨24, _⟩ => ⟨S20992x4096, .f32⟩
  | .hbm, ⟨25, _⟩ => ⟨S41x512x4096, .f32⟩
  | .hbm, ⟨26, _⟩ => ⟨S8x4096x4096, .f32⟩
  | .hbm, ⟨27, _⟩ => ⟨S41x512x8x4096, .f32⟩
  | .hbm, ⟨28, _⟩ => ⟨S41x1, .i32⟩
  | .hbm, ⟨29, _⟩ => ⟨S8, .i32⟩
  | .hbm, ⟨30, _⟩ => ⟨S1x8, .i32⟩
  | .hbm, ⟨31, _⟩ => ⟨S41x8, .i32⟩
  | .hbm, ⟨32, _⟩ => ⟨S41x8, .i32⟩
  | .hbm, ⟨33, _⟩ => ⟨S41x8, .i1⟩
  | .hbm, ⟨34, _⟩ => ⟨S41x1x8x1, .i1⟩
  | .hbm, ⟨35, _⟩ => ⟨S_, .f32⟩
  | .hbm, ⟨36, _⟩ => ⟨S_, .f32⟩
  | .hbm, ⟨37, _⟩ => ⟨S41x512x8x4096, .i1⟩
  | .hbm, ⟨38, _⟩ => ⟨S41x512x8x4096, .f32⟩
  | .hbm, ⟨39, _⟩ => ⟨S41x512x8x4096, .f32⟩
  | .hbm, ⟨40, _⟩ => ⟨S_, .f32⟩
  | .hbm, ⟨41, _⟩ => ⟨S41x512x4096, .f32⟩
  | .hbm, ⟨42, _⟩ => ⟨S41, .i32⟩
  | .hbm, ⟨43, _⟩ => ⟨S41, .i32⟩
  | .hbm, ⟨44, _⟩ => ⟨S41, .i1⟩
  | .hbm, ⟨45, _⟩ => ⟨S41x1x1, .i1⟩
  | .hbm, ⟨46, _⟩ => ⟨S41x512x4096, .f32⟩
  | .hbm, ⟨47, _⟩ => ⟨S41x512x4096, .f32⟩
  | .hbm, ⟨48, _⟩ => ⟨S_, .f32⟩
  | .hbm, ⟨49, _⟩ => ⟨S41x512x4096, .f32⟩
  | .hbm, ⟨50, _⟩ => ⟨S41x512x4096, .f32⟩
  | .hbm, ⟨51, _⟩ => ⟨S_, .f32⟩
  | .hbm, ⟨52, _⟩ => ⟨S41x512x4096, .f32⟩
  | .hbm, ⟨53, _⟩ => ⟨S41x512x4096, .f32⟩
  | .hbm, ⟨54, _⟩ => ⟨S41x512x4096, .f32⟩
  | .hbm, ⟨55, _⟩ => ⟨S41x512x4096, .f32⟩
  | .hbm, ⟨56, _⟩ => ⟨S_, .f32⟩
  | .hbm, ⟨57, _⟩ => ⟨S_, .f32⟩
  | .hbm, ⟨58, _⟩ => ⟨S41x512x4096, .i1⟩
  | .hbm, ⟨59, _⟩ => ⟨S41x512x4096, .f32⟩
  | .hbm, ⟨60, _⟩ => ⟨S41x512x4096, .f32⟩
  | .hbm, ⟨61, _⟩ => ⟨S20992x4096, .f32⟩
  | .hbm, ⟨62, _⟩ => ⟨S20992x4096, .bf16⟩
  | _, _ => ⟨S41, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩

abbrev nD : Nat := 1
abbrev τ : Topo := Topo.v7x

variable {F : FTy → Type} [FloatOps F]
-- ==== ExpDown.lean ====
abbrev S41 : Shape := ⟨1, ![41]⟩
abbrev S1 : Shape := ⟨1, ![1]⟩
abbrev S20992x4096 : Shape := ⟨2, ![20992, 4096]⟩
abbrev S1x8x4096x4096 : Shape := ⟨4, ![1, 8, 4096, 4096]⟩
abbrev S512x4096 : Shape := ⟨2, ![512, 4096]⟩
abbrev S1x1x4096x512 : Shape := ⟨4, ![1, 1, 4096, 512]⟩
abbrev S512x512 : Shape := ⟨2, ![512, 512]⟩
abbrev S4096x512 : Shape := ⟨2, ![4096, 512]⟩

abbrev nBuf : Space → Nat
  | .hbm => 3
  | .vmem => 7
  | .smem => 3
  | _ => 0

abbrev bufTy : (tb : Table) → Fin (tcTables nBuf tb) → BufTy
  | .hbm, ⟨0, _⟩ => ⟨S20992x4096, .bf16⟩
  | .hbm, ⟨1, _⟩ => ⟨S1x8x4096x4096, .f32⟩
  | .hbm, ⟨2, _⟩ => ⟨S20992x4096, .f32⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S512x512, .f32⟩
  | .local _ .vmem, ⟨5, _⟩ => ⟨S512x512, .f32⟩
  | .local _ .vmem, ⟨6, _⟩ => ⟨S4096x512, .bf16⟩
  | .local _ .smem, ⟨0, _⟩ => ⟨S41, .i32⟩
  | .local _ .smem, ⟨1, _⟩ => ⟨S1, .i32⟩
  | .local _ .smem, ⟨2, _⟩ => ⟨S41, .i32⟩
  | _, _ => ⟨S20992x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 41], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S41.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S41) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ExpDownRefIdeal.lean ====
abbrev S41 : Shape := ⟨1, ![41]⟩
abbrev S1 : Shape := ⟨1, ![1]⟩
abbrev S20992x4096 : Shape := ⟨2, ![20992, 4096]⟩
abbrev S1x8x4096x4096 : Shape := ⟨4, ![1, 8, 4096, 4096]⟩
abbrev S41x1x1 : Shape := ⟨3, ![41, 1, 1]⟩
abbrev S41x512x4096 : Shape := ⟨3, ![41, 512, 4096]⟩
abbrev S8x4096x4096 : Shape := ⟨3, ![8, 4096, 4096]⟩
abbrev S41x512x8x4096 : Shape := ⟨4, ![41, 512, 8, 4096]⟩
abbrev S41x1 : Shape := ⟨2, ![41, 1]⟩
abbrev S8 : Shape := ⟨1, ![8]⟩
abbrev S1x8 : Shape := ⟨2, ![1, 8]⟩
abbrev S41x8 : Shape := ⟨2, ![41, 8]⟩
abbrev S41x1x8x1 : Shape := ⟨4, ![41, 1, 8, 1]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S41, .i32⟩
  | .hbm, ⟨1, _⟩ => ⟨S1, .i32⟩
  | .hbm, ⟨2, _⟩ => ⟨S41, .i32⟩
  | .hbm, ⟨3, _⟩ => ⟨S20992x4096, .bf16⟩
  | .hbm, ⟨4, _⟩ => ⟨S1x8x4096x4096, .f32⟩
  | .hbm, ⟨5, _⟩ => ⟨S41, .i32⟩
  | .hbm, ⟨6, _⟩ => ⟨S41, .i32⟩
  | .hbm, ⟨7, _⟩ => ⟨S41, .i1⟩
  | .hbm, ⟨8, _⟩ => ⟨S41x1x1, .i1⟩
  | .hbm, ⟨9, _⟩ => ⟨S20992x4096, .f32⟩
  | .hbm, ⟨10, _⟩ => ⟨S41x512x4096, .f32⟩
  | .hbm, ⟨11, _⟩ => ⟨S8x4096x4096, .f32⟩
  | .hbm, ⟨12, _⟩ => ⟨S41x512x8x4096, .f32⟩
  | .hbm, ⟨13, _⟩ => ⟨S41x1, .i32⟩
  | .hbm, ⟨14, _⟩ => ⟨S8, .i32⟩
  | .hbm, ⟨15, _⟩ => ⟨S1x8, .i32⟩
  | .hbm, ⟨16, _⟩ => ⟨S41x8, .i32⟩
  | .hbm, ⟨17, _⟩ => ⟨S41x8, .i32⟩
  | .hbm, ⟨18, _⟩ => ⟨S41x8, .i1⟩
  | .hbm, ⟨19, _⟩ => ⟨S41x1x8x1, .i1⟩
  | .hbm, ⟨20, _⟩ => ⟨S_, .f32⟩
  | .hbm, ⟨21, _⟩ => ⟨S_, .f32⟩
  | .hbm, ⟨22, _⟩ => ⟨S41x512x8x4096, .i1⟩
  | .hbm, ⟨23, _⟩ => ⟨S41x512x8x4096, .f32⟩
  | .hbm, ⟨24, _⟩ => ⟨S41x512x8x4096, .f32⟩
  | .hbm, ⟨25, _⟩ => ⟨S_, .f32⟩
  | .hbm, ⟨26, _⟩ => ⟨S41x512x4096, .f32⟩
  | .hbm, ⟨27, _⟩ => ⟨S_, .f32⟩
  | .hbm, ⟨28, _⟩ => ⟨S_, .f32⟩
  | .hbm, ⟨29, _⟩ => ⟨S41x512x4096, .i1⟩
  | .hbm, ⟨30, _⟩ => ⟨S41x512x4096, .f32⟩
  | .hbm, ⟨31, _⟩ => ⟨S41x512x4096, .f32⟩
  | .hbm, ⟨32, _⟩ => ⟨S20992x4096, .f32⟩
  | _, _ => ⟨S41, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== InProj.lean ====
abbrev S8320x4096 : Shape := ⟨2, ![8320, 4096]⟩
abbrev S2x4096x15936 : Shape := ⟨3, ![2, 4096, 15936]⟩
abbrev S2x15936x4096 : Shape := ⟨3, ![2, 15936, 4096]⟩
abbrev S8320x3584 : Shape := ⟨2, ![8320, 3584]⟩
abbrev S1040x4096 : Shape := ⟨2, ![1040, 4096]⟩
abbrev S1x512x4096 : Shape := ⟨3, ![1, 512, 4096]⟩
abbrev S1040x512 : Shape := ⟨2, ![1040, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S2x4096x15936, .f32⟩
  | .hbm, ⟨2, _⟩ => ⟨S2x15936x4096, .f32⟩
  | .hbm, ⟨3, _⟩ => ⟨S8320x3584, .f32⟩
  | .local _ .vmem, ⟨0, _⟩ => ⟨S1040x4096, .bf16⟩
  | .local _ .vmem, ⟨1, _⟩ => ⟨S1040x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1040x512, .f32⟩
  | .local _ .vmem, ⟨5, _⟩ => ⟨S1040x512, .f32⟩
  | .local _ .vmem, ⟨6, _⟩ => ⟨S512x4096, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def k0_mult1 (i : grid0.Coords) : BitVec 32 :=
  let c0_i32 : BitVec 32 := 0#32
  let arg0 : BitVec 32 := BitVec.ofNat 32 (i 0).val
  let c512_i32 : BitVec 32 := 512#32
  let v0 : BitVec 32 := Scalar.muli arg0 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8320x4096 : Shape := ⟨2, ![8320, 4096]⟩
abbrev S2x4096x15936 : Shape := ⟨3, ![2, 4096, 15936]⟩
abbrev S1x4096x15936 : Shape := ⟨3, ![1, 4096, 15936]⟩
abbrev S4096x15936 : Shape := ⟨2, ![4096, 15936]⟩
abbrev S8320x15936 : Shape := ⟨2, ![8320, 15936]⟩
abbrev S8320x3584 : Shape := ⟨2, ![8320, 3584]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x15936, .f32⟩
  | .hbm, ⟨2, _⟩ => ⟨S8320x4096, .f32⟩
  | .hbm, ⟨3, _⟩ => ⟨S1x4096x15936, .f32⟩
  | .hbm, ⟨4, _⟩ => ⟨S4096x15936, .f32⟩
  | .hbm, ⟨5, _⟩ => ⟨S8320x15936, .f32⟩
  | .hbm, ⟨6, _⟩ => ⟨S8320x3584, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Resid.lean ====
abbrev S8320x4096 : Shape := ⟨2, ![8320, 4096]⟩
abbrev S2x4096 : Shape := ⟨2, ![2, 4096]⟩
abbrev S1x4096 : Shape := ⟨2, ![1, 4096]⟩
abbrev S4096 : Shape := ⟨1, ![4096]⟩
abbrev S208x4096 : Shape := ⟨2, ![208, 4096]⟩
abbrev S208 : Shape := ⟨1, ![208]⟩
abbrev S208x1 : Shape := ⟨2, ![208, 1]⟩

abbrev nBuf : Space → Nat
  | .hbm => 7
  | .vmem => 7
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S2x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8320x4096, .f32⟩
  | .local _ .vmem, ⟨0, _⟩ => ⟨S208x4096, .f32⟩
  | .local _ .vmem, ⟨1, _⟩ => ⟨S208x4096, .f32⟩
  | .local _ .vmem, ⟨2, _⟩ => ⟨S208x4096, .f32⟩
  | .local _ .vmem, ⟨3, _⟩ => ⟨S208x4096, .f32⟩
  | .local _ .vmem, ⟨4, _⟩ => ⟨S1x4096, .f32⟩
  | .local _ .vmem, ⟨5, _⟩ => ⟨S208x4096, .f32⟩
  | .local _ .vmem, ⟨6, _⟩ => ⟨S208x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S208x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidRefIdeal.lean ====
abbrev S8320x4096 : Shape := ⟨2, ![8320, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S8320 : Shape := ⟨1, ![8320]⟩
abbrev S8320x1 : Shape := ⟨2, ![8320, 1]⟩

abbrev nBuf : Space → Nat
  | .hbm => 22
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S2x4096, .f32⟩
  | .hbm, ⟨3, _⟩ => ⟨S1x4096, .f32⟩
  | .hbm, ⟨4, _⟩ => ⟨S4096, .f32⟩
  | .hbm, ⟨5, _⟩ => ⟨S8320x4096, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x4096, .f32⟩
  | .hbm, ⟨17, _⟩ => ⟨S8320x4096, .f32⟩
  | .hbm, ⟨18, _⟩ => ⟨S1x4096, .f32⟩
  | .hbm, ⟨19, _⟩ => ⟨S8320x4096, .f32⟩
  | .hbm, ⟨20, _⟩ => ⟨S8320x4096, .f32⟩
  | .hbm, ⟨21, _⟩ => ⟨S8320x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Latents.lean ====
abbrev S8320x3584 : Shape := ⟨2, ![8320, 3584]⟩
abbrev S8320x128 : Shape := ⟨2, ![8320, 128]⟩
abbrev S2x1024 : Shape := ⟨2, ![2, 1024]⟩
abbrev S2x512 : Shape := ⟨2, ![2, 512]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S_ : Shape := ⟨0, ![]⟩
abbrev S128 : Shape := ⟨1, ![128]⟩
abbrev S8320 : Shape := ⟨1, ![8320]⟩
abbrev S32 : Shape := ⟨1, ![32]⟩
abbrev S8320x1 : Shape := ⟨2, ![8320, 1]⟩
abbrev S1x32 : Shape := ⟨2, ![1, 32]⟩
abbrev S8320x32 : Shape := ⟨2, ![8320, 32]⟩
abbrev S8320x64 : Shape := ⟨2, ![8320, 64]⟩
abbrev S1x8320x1x64 : Shape := ⟨4, ![1, 8320, 1, 64]⟩
abbrev S1x8320x2x64 : Shape := ⟨4, ![1, 8320, 2, 64]⟩
abbrev S2x1x1024 : Shape := ⟨3, ![2, 1, 1024]⟩
abbrev S2x1x512 : Shape := ⟨3, ![2, 1, 512]⟩
abbrev S8320x1024 : Shape := ⟨2, ![8320, 1024]⟩
abbrev S8320x512 : Shape := ⟨2, ![8320, 512]⟩
abbrev S416x1024 : Shape := ⟨2, ![416, 1024]⟩
abbrev S416x512 : Shape := ⟨2, ![416, 512]⟩
abbrev S416x128 : Shape := ⟨2, ![416, 128]⟩
abbrev S1x1x1024 : Shape := ⟨3, ![1, 1, 1024]⟩
abbrev S1x1x512 : Shape := ⟨3, ![1, 1, 512]⟩
abbrev S416x64 : Shape := ⟨2, ![416, 64]⟩
abbrev S1x1024 : Shape := ⟨2, ![1, 1024]⟩
abbrev S416 : Shape := ⟨1, ![416]⟩
abbrev S416x1 : Shape := ⟨2, ![416, 1]⟩
abbrev S1x512 : Shape := ⟨2, ![1, 512]⟩

abbrev nBuf : Space → Nat
  | .hbm => 44
  | .vmem => 22
  | .smem => 0
  | _ => 0

abbrev bufTy : (tb : Table) → Fin (tcTables nBuf tb) → BufTy
  | .hbm, ⟨0, _⟩ => ⟨S8320x3584, .f32⟩
  | .hbm, ⟨1, _⟩ => ⟨S8320x128, .f32⟩
  | .hbm, ⟨2, _⟩ => ⟨S2x1024, .f32⟩
  | .hbm, ⟨3, _⟩ => ⟨S2x512, .f32⟩
  | .hbm, ⟨4, _⟩ => ⟨S2048, .i32⟩
  | .hbm, ⟨5, _⟩ => ⟨S1x2048, .i32⟩
  | .hbm, ⟨6, _⟩ => ⟨S4x2048, .i32⟩
  | .hbm, ⟨7, _⟩ => ⟨S8192, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S8320, .i32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S8320, .f32⟩
  | .hbm, ⟨21, _⟩ => ⟨S8320x1, .f32⟩
  | .hbm, ⟨22, _⟩ => ⟨S1x32, .f32⟩
  | .hbm, ⟨23, _⟩ => ⟨S8320x32, .f32⟩
  | .hbm, ⟨24, _⟩ => ⟨S8320x32, .f32⟩
  | .hbm, ⟨25, _⟩ => ⟨S8320x32, .f32⟩
  | .hbm, ⟨26, _⟩ => ⟨S8320x32, .f32⟩
  | .hbm, ⟨27, _⟩ => ⟨S8320x32, .f32⟩
  | .hbm, ⟨28, _⟩ => ⟨S8320x64, .f32⟩
  | .hbm, ⟨29, _⟩ => ⟨S1x8320x1x64, .f32⟩
  | .hbm, ⟨30, _⟩ => ⟨S1x8320x2x64, .f32⟩
  | .hbm, ⟨31, _⟩ => ⟨S8320x128, .f32⟩
  | .hbm, ⟨32, _⟩ => ⟨S8320x32, .f32⟩
  | .hbm, ⟨33, _⟩ => ⟨S8320x64, .f32⟩
  | .hbm, ⟨34, _⟩ => ⟨S1x8320x1x64, .f32⟩
  | .hbm, ⟨35, _⟩ => ⟨S1x8320x2x64, .f32⟩
  | .hbm, ⟨36, _⟩ => ⟨S8320x128, .f32⟩
  | .hbm, ⟨37, _⟩ => ⟨S2x1x1024, .f32⟩
  | .hbm, ⟨38, _⟩ => ⟨S2x1x512, .f32⟩
  | .hbm, ⟨39, _⟩ => ⟨S8320x1024, .bf16⟩
  | .hbm, ⟨40, _⟩ => ⟨S8320x512, .f32⟩
  | .hbm, ⟨41, _⟩ => ⟨S8320x512, .bf16⟩
  | .hbm, ⟨42, _⟩ => ⟨S8320x64, .f32⟩
  | .hbm, ⟨43, _⟩ => ⟨S8320x128, .bf16⟩
  | .local _ .vmem, ⟨0, _⟩ => ⟨S416x1024, .f32⟩
  | .local _ .vmem, ⟨1, _⟩ => ⟨S416x1024, .f32⟩
  | .local _ .vmem, ⟨2, _⟩ => ⟨S416x512, .f32⟩
  | .local _ .vmem, ⟨3, _⟩ => ⟨S416x512, .f32⟩
  | .local _ .vmem, ⟨4, _⟩ => ⟨S416x128, .f32⟩
  | .local _ .vmem, ⟨5, _⟩ => ⟨S416x128, .f32⟩
  | .local _ .vmem, ⟨6, _⟩ => ⟨S416x128, .f32⟩
  | .local _ .vmem, ⟨7, _⟩ => ⟨S416x128, .f32⟩
  | .local _ .vmem, ⟨8, _⟩ => ⟨S416x128, .f32⟩
  | .local _ .vmem, ⟨9, _⟩ => ⟨S416x128, .f32⟩
  | .local _ .vmem, ⟨10, _⟩ => ⟨S1x1x1024, .f32⟩
  | .local _ .vmem, ⟨11, _⟩ => ⟨S1x1x512, .f32⟩
  | .local _ .vmem, ⟨12, _⟩ => ⟨S416x1024, .bf16⟩
  | .local _ .vmem, ⟨13, _⟩ => ⟨S416x1024, .bf16⟩
  | .local _ .vmem, ⟨14, _⟩ => ⟨S416x512, .f32⟩
  | .local _ .vmem, ⟨15, _⟩ => ⟨S416x512, .f32⟩
  | .local _ .vmem, ⟨16, _⟩ => ⟨S416x512, .bf16⟩
  | .local _ .vmem, ⟨17, _⟩ => ⟨S416x512, .bf16⟩
  | .local _ .vmem, ⟨18, _⟩ => ⟨S416x64, .f32⟩
  | .local _ .vmem, ⟨19, _⟩ => ⟨S416x64, .f32⟩
  | .local _ .vmem, ⟨20, _⟩ => ⟨S416x128, .bf16⟩
  | .local _ .vmem, ⟨21, _⟩ => ⟨S416x128, .bf16⟩
  | _, _ => ⟨S8320x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev main_v32_2 : Ref sig .tc := ⟨.hbm, 41, rfl⟩
abbrev main_v32_3 : Ref sig .tc := ⟨.hbm, 42, rfl⟩
abbrev main_v32_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S416x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S416x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S416x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S416x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S416x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LatentsRefIdeal.lean ====
abbrev S8320x3584 : Shape := ⟨2, ![8320, 3584]⟩
abbrev S8320x128 : Shape := ⟨2, ![8320, 128]⟩
abbrev S2x1024 : Shape := ⟨2, ![2, 1024]⟩
abbrev S2x512 : Shape := ⟨2, ![2, 512]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S_ : Shape := ⟨0, ![]⟩
abbrev S128 : Shape := ⟨1, ![128]⟩
abbrev S8320 : Shape := ⟨1, ![8320]⟩
abbrev S8320x1024 : Shape := ⟨2, ![8320, 1024]⟩
abbrev S1x1024 : Shape := ⟨2, ![1, 1024]⟩
abbrev S1024 : Shape := ⟨1, ![1024]⟩
abbrev S8320x1 : Shape := ⟨2, ![8320, 1]⟩
abbrev S8320x512 : Shape := ⟨2, ![8320, 512]⟩
abbrev S1x512 : Shape := ⟨2, ![1, 512]⟩
abbrev S512 : Shape := ⟨1, ![512]⟩
abbrev S8320x64 : Shape := ⟨2, ![8320, 64]⟩
abbrev S32 : Shape := ⟨1, ![32]⟩
abbrev S1x32 : Shape := ⟨2, ![1, 32]⟩
abbrev S8320x32 : Shape := ⟨2, ![8320, 32]⟩

abbrev nBuf : Space → Nat
  | .hbm => 80
  | .vmem => 0
  | .smem => 0
  | _ => 0

abbrev bufTy : (tb : Table) → Fin (tcTables nBuf tb) → BufTy
  | .hbm, ⟨0, _⟩ => ⟨S8320x3584, .f32⟩
  | .hbm, ⟨1, _⟩ => ⟨S8320x128, .f32⟩
  | .hbm, ⟨2, _⟩ => ⟨S2x1024, .f32⟩
  | .hbm, ⟨3, _⟩ => ⟨S2x512, .f32⟩
  | .hbm, ⟨4, _⟩ => ⟨S2048, .i32⟩
  | .hbm, ⟨5, _⟩ => ⟨S1x2048, .i32⟩
  | .hbm, ⟨6, _⟩ => ⟨S4x2048, .i32⟩
  | .hbm, ⟨7, _⟩ => ⟨S8192, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S8320, .i32⟩
  | .hbm, ⟨12, _⟩ => ⟨S8320x1024, .f32⟩
  | .hbm, ⟨13, _⟩ => ⟨S1x1024, .f32⟩
  | .hbm, ⟨14, _⟩ => ⟨S1024, .f32⟩
  | .hbm, ⟨15, _⟩ => ⟨S8320x1024, .f32⟩
  | .hbm, ⟨16, _⟩ => ⟨S_, .f32⟩
  | .hbm, ⟨17, _⟩ => ⟨S8320, .f32⟩
  | .hbm, ⟨18, _⟩ => ⟨S8320x1, .f32⟩
  | .hbm, ⟨19, _⟩ => ⟨S_, .f32⟩
  | .hbm, ⟨20, _⟩ => ⟨S8320x1, .f32⟩
  | .hbm, ⟨21, _⟩ => ⟨S8320x1, .f32⟩
  | .hbm, ⟨22, _⟩ => ⟨S_, .f32⟩
  | .hbm, ⟨23, _⟩ => ⟨S8320x1, .f32⟩
  | .hbm, ⟨24, _⟩ => ⟨S8320x1, .f32⟩
  | .hbm, ⟨25, _⟩ => ⟨S8320x1, .f32⟩
  | .hbm, ⟨26, _⟩ => ⟨S8320x1024, .f32⟩
  | .hbm, ⟨27, _⟩ => ⟨S8320x1024, .f32⟩
  | .hbm, ⟨28, _⟩ => ⟨S1x1024, .f32⟩
  | .hbm, ⟨29, _⟩ => ⟨S8320x1024, .f32⟩
  | .hbm, ⟨30, _⟩ => ⟨S8320x1024, .f32⟩
  | .hbm, ⟨31, _⟩ => ⟨S8320x512, .f32⟩
  | .hbm, ⟨32, _⟩ => ⟨S1x512, .f32⟩
  | .hbm, ⟨33, _⟩ => ⟨S512, .f32⟩
  | .hbm, ⟨34, _⟩ => ⟨S8320x512, .f32⟩
  | .hbm, ⟨35, _⟩ => ⟨S_, .f32⟩
  | .hbm, ⟨36, _⟩ => ⟨S8320, .f32⟩
  | .hbm, ⟨37, _⟩ => ⟨S8320x1, .f32⟩
  | .hbm, ⟨38, _⟩ => ⟨S_, .f32⟩
  | .hbm, ⟨39, _⟩ => ⟨S8320x1, .f32⟩
  | .hbm, ⟨40, _⟩ => ⟨S8320x1, .f32⟩
  | .hbm, ⟨41, _⟩ => ⟨S_, .f32⟩
  | .hbm, ⟨42, _⟩ => ⟨S8320x1, .f32⟩
  | .hbm, ⟨43, _⟩ => ⟨S8320x1, .f32⟩
  | .hbm, ⟨44, _⟩ => ⟨S8320x1, .f32⟩
  | .hbm, ⟨45, _⟩ => ⟨S8320x512, .f32⟩
  | .hbm, ⟨46, _⟩ => ⟨S8320x512, .f32⟩
  | .hbm, ⟨47, _⟩ => ⟨S1x512, .f32⟩
  | .hbm, ⟨48, _⟩ => ⟨S8320x512, .f32⟩
  | .hbm, ⟨49, _⟩ => ⟨S8320x512, .f32⟩
  | .hbm, ⟨50, _⟩ => ⟨S8320x64, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S8320, .f32⟩
  | .hbm, ⟨60, _⟩ => ⟨S8320x1, .f32⟩
  | .hbm, ⟨61, _⟩ => ⟨S1x32, .f32⟩
  | .hbm, ⟨62, _⟩ => ⟨S8320x32, .f32⟩
  | .hbm, ⟨63, _⟩ => ⟨S8320x32, .f32⟩
  | .hbm, ⟨64, _⟩ => ⟨S8320x32, .f32⟩
  | .hbm, ⟨65, _⟩ => ⟨S8320x32, .f32⟩
  | .hbm, ⟨66, _⟩ => ⟨S8320x32, .f32⟩
  | .hbm, ⟨67, _⟩ => ⟨S8320x32, .f32⟩
  | .hbm, ⟨68, _⟩ => ⟨S8320x32, .f32⟩
  | .hbm, ⟨69, _⟩ => ⟨S8320x32, .f32⟩
  | .hbm, ⟨70, _⟩ => ⟨S8320x32, .f32⟩
  | .hbm, ⟨71, _⟩ => ⟨S8320x32, .f32⟩
  | .hbm, ⟨72, _⟩ => ⟨S8320x32, .f32⟩
  | .hbm, ⟨73, _⟩ => ⟨S8320x32, .f32⟩
  | .hbm, ⟨74, _⟩ => ⟨S8320x32, .f32⟩
  | .hbm, ⟨75, _⟩ => ⟨S8320x64, .f32⟩
  | .hbm, ⟨76, _⟩ => ⟨S8320x1024, .bf16⟩
  | .hbm, ⟨77, _⟩ => ⟨S8320x512, .bf16⟩
  | .hbm, ⟨78, _⟩ => ⟨S8320x128, .f32⟩
  | .hbm, ⟨79, _⟩ => ⟨S8320x128, .bf16⟩
  | _, _ => ⟨S8320x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩

abbrev nD : Nat := 1
abbrev τ : Topo := Topo.v7x

variable {F : FTy → Type} [FloatOps F]
-- ==== KeyCols.lean ====
abbrev S8320x4096 : Shape := ⟨2, ![8320, 4096]⟩
abbrev S2x4096x15936 : Shape := ⟨3, ![2, 4096, 15936]⟩
abbrev S2x15936x4096 : Shape := ⟨3, ![2, 15936, 4096]⟩
abbrev S8320x128 : Shape := ⟨2, ![8320, 128]⟩
abbrev S1040x4096 : Shape := ⟨2, ![1040, 4096]⟩
abbrev S1x128x4096 : Shape := ⟨3, ![1, 128, 4096]⟩
abbrev S1040x128 : Shape := ⟨2, ![1040, 128]⟩
abbrev S128x4096 : Shape := ⟨2, ![128, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S2x4096x15936, .f32⟩
  | .hbm, ⟨2, _⟩ => ⟨S2x15936x4096, .f32⟩
  | .hbm, ⟨3, _⟩ => ⟨S8320x128, .f32⟩
  | .local _ .vmem, ⟨0, _⟩ => ⟨S1040x4096, .bf16⟩
  | .local _ .vmem, ⟨1, _⟩ => ⟨S1040x4096, .bf16⟩
  | .local _ .vmem, ⟨2, _⟩ => ⟨S1x128x4096, .f32⟩
  | .local _ .vmem, ⟨3, _⟩ => ⟨S1040x128, .f32⟩
  | .local _ .vmem, ⟨4, _⟩ => ⟨S1040x128, .f32⟩
  | .local _ .vmem, ⟨5, _⟩ => ⟨S128x4096, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let c3584_i32 : BitVec 32 := 3584#32
  let arg0 : BitVec 32 := BitVec.ofNat 32 (i 0).val
  let c128_i32 : BitVec 32 := 128#32
  let v0 : BitVec 32 := Scalar.muli arg0 c128_i32
  let v1 : BitVec 32 := Scalar.addi c3584_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c3584_i32 : BitVec 32 := 3584#32
  let v1 : BitVec 32 := Scalar.addi c3584_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1040x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KeyColsRefIdeal.lean ====
abbrev S8320x4096 : Shape := ⟨2, ![8320, 4096]⟩
abbrev S2x4096x15936 : Shape := ⟨3, ![2, 4096, 15936]⟩
abbrev S1x4096x15936 : Shape := ⟨3, ![1, 4096, 15936]⟩
abbrev S4096x15936 : Shape := ⟨2, ![4096, 15936]⟩
abbrev S8320x15936 : Shape := ⟨2, ![8320, 15936]⟩
abbrev S8320x128 : Shape := ⟨2, ![8320, 128]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x15936, .f32⟩
  | .hbm, ⟨2, _⟩ => ⟨S8320x4096, .f32⟩
  | .hbm, ⟨3, _⟩ => ⟨S1x4096x15936, .f32⟩
  | .hbm, ⟨4, _⟩ => ⟨S4096x15936, .f32⟩
  | .hbm, ⟨5, _⟩ => ⟨S8320x15936, .f32⟩
  | .hbm, ⟨6, _⟩ => ⟨S8320x128, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QNope.lean ====
abbrev S8320x1024 : Shape := ⟨2, ![8320, 1024]⟩
abbrev S2x1024x3072 : Shape := ⟨3, ![2, 1024, 3072]⟩
abbrev S1x1024x3072 : Shape := ⟨3, ![1, 1024, 3072]⟩
abbrev S1024x3072 : Shape := ⟨2, ![1024, 3072]⟩
abbrev S1024x16x192 : Shape := ⟨3, ![1024, 16, 192]⟩
abbrev S1024x16x128 : Shape := ⟨3, ![1024, 16, 128]⟩
abbrev S1024x2048 : Shape := ⟨2, ![1024, 2048]⟩
abbrev S8320x2048 : Shape := ⟨2, ![8320, 2048]⟩
abbrev S1040x1024 : Shape := ⟨2, ![1040, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S2x1024x3072, .f32⟩
  | .hbm, ⟨2, _⟩ => ⟨S1x1024x3072, .f32⟩
  | .hbm, ⟨3, _⟩ => ⟨S1024x3072, .f32⟩
  | .hbm, ⟨4, _⟩ => ⟨S1024x16x192, .f32⟩
  | .hbm, ⟨5, _⟩ => ⟨S1024x16x128, .f32⟩
  | .hbm, ⟨6, _⟩ => ⟨S1024x2048, .f32⟩
  | .hbm, ⟨7, _⟩ => ⟨S8320x2048, .bf16⟩
  | .local _ .vmem, ⟨0, _⟩ => ⟨S1040x1024, .bf16⟩
  | .local _ .vmem, ⟨1, _⟩ => ⟨S1040x1024, .bf16⟩
  | .local _ .vmem, ⟨2, _⟩ => ⟨S1024x1024, .f32⟩
  | .local _ .vmem, ⟨3, _⟩ => ⟨S1024x1024, .f32⟩
  | .local _ .vmem, ⟨4, _⟩ => ⟨S1040x1024, .bf16⟩
  | .local _ .vmem, ⟨5, _⟩ => ⟨S1040x1024, .bf16⟩
  | .local _ .vmem, ⟨6, _⟩ => ⟨S1024x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QNopeRefIdeal.lean ====
abbrev S8320x1024 : Shape := ⟨2, ![8320, 1024]⟩
abbrev S2x1024x3072 : Shape := ⟨3, ![2, 1024, 3072]⟩
abbrev S1x1024x3072 : Shape := ⟨3, ![1, 1024, 3072]⟩
abbrev S1024x3072 : Shape := ⟨2, ![1024, 3072]⟩
abbrev S8320x3072 : Shape := ⟨2, ![8320, 3072]⟩
abbrev S8320x16x192 : Shape := ⟨3, ![8320, 16, 192]⟩
abbrev S8320x16x128 : Shape := ⟨3, ![8320, 16, 128]⟩
abbrev S8320x2048 : Shape := ⟨2, ![8320, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2x1024x3072, .f32⟩
  | .hbm, ⟨2, _⟩ => ⟨S8320x1024, .f32⟩
  | .hbm, ⟨3, _⟩ => ⟨S1x1024x3072, .f32⟩
  | .hbm, ⟨4, _⟩ => ⟨S1024x3072, .f32⟩
  | .hbm, ⟨5, _⟩ => ⟨S8320x3072, .f32⟩
  | .hbm, ⟨6, _⟩ => ⟨S8320x16x192, .f32⟩
  | .hbm, ⟨7, _⟩ => ⟨S8320x16x128, .f32⟩
  | .hbm, ⟨8, _⟩ => ⟨S8320x2048, .f32⟩
  | .hbm, ⟨9, _⟩ => ⟨S8320x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KNope.lean ====
abbrev S8320x512 : Shape := ⟨2, ![8320, 512]⟩
abbrev S2x512x4096 : Shape := ⟨3, ![2, 512, 4096]⟩
abbrev S1x512x4096 : Shape := ⟨3, ![1, 512, 4096]⟩
abbrev S512x4096 : Shape := ⟨2, ![512, 4096]⟩
abbrev S512x16x256 : Shape := ⟨3, ![512, 16, 256]⟩
abbrev S512x16x128 : Shape := ⟨3, ![512, 16, 128]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8320x512, .bf16⟩
  | .hbm, ⟨1, _⟩ => ⟨S2x512x4096, .f32⟩
  | .hbm, ⟨2, _⟩ => ⟨S1x512x4096, .f32⟩
  | .hbm, ⟨3, _⟩ => ⟨S512x4096, .f32⟩
  | .hbm, ⟨4, _⟩ => ⟨S512x16x256, .f32⟩
  | .hbm, ⟨5, _⟩ => ⟨S512x16x128, .f32⟩
  | .hbm, ⟨6, _⟩ => ⟨S512x2048, .f32⟩
  | .hbm, ⟨7, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KNopeRefIdeal.lean ====
abbrev S8320x512 : Shape := ⟨2, ![8320, 512]⟩
abbrev S2x512x4096 : Shape := ⟨3, ![2, 512, 4096]⟩
abbrev S8192x512 : Shape := ⟨2, ![8192, 512]⟩
abbrev S1x512x4096 : Shape := ⟨3, ![1, 512, 4096]⟩
abbrev S512x4096 : Shape := ⟨2, ![512, 4096]⟩
abbrev S8192x4096 : Shape := ⟨2, ![8192, 4096]⟩
abbrev S8192x16x256 : Shape := ⟨3, ![8192, 16, 256]⟩
abbrev S8192x16x128 : Shape := ⟨3, ![8192, 16, 128]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S2x512x4096, .f32⟩
  | .hbm, ⟨2, _⟩ => ⟨S8192x512, .bf16⟩
  | .hbm, ⟨3, _⟩ => ⟨S8192x512, .f32⟩
  | .hbm, ⟨4, _⟩ => ⟨S1x512x4096, .f32⟩
  | .hbm, ⟨5, _⟩ => ⟨S512x4096, .f32⟩
  | .hbm, ⟨6, _⟩ => ⟨S8192x4096, .f32⟩
  | .hbm, ⟨7, _⟩ => ⟨S8192x16x256, .f32⟩
  | .hbm, ⟨8, _⟩ => ⟨S8192x16x128, .f32⟩
  | .hbm, ⟨9, _⟩ => ⟨S8192x2048, .f32⟩
  | .hbm, ⟨10, _⟩ => ⟨S8192x2048, .bf16⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== LruSample.lean ====
abbrev S8320x3584 : Shape := ⟨2, ![8320, 3584]⟩
abbrev S2x128x3x1024 : Shape := ⟨4, ![2, 128, 3, 1024]⟩
abbrev S2x128x1024 : Shape := ⟨3, ![2, 128, 1024]⟩
abbrev S2x4x1024 : Shape := ⟨3, ![2, 4, 1024]⟩
abbrev S2x1024 : Shape := ⟨2, ![2, 1024]⟩
abbrev S2x16x64x64 : Shape := ⟨4, ![2, 16, 64, 64]⟩
abbrev S1x16x64x64 : Shape := ⟨4, ![1, 16, 64, 64]⟩
abbrev S16x64x64 : Shape := ⟨3, ![16, 64, 64]⟩
abbrev S4x4 : Shape := ⟨2, ![4, 4]⟩
abbrev S_ : Shape := ⟨0, ![]⟩
abbrev S4x4x64x64 : Shape := ⟨4, ![4, 4, 64, 64]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S1x128x3x1024 : Shape := ⟨4, ![1, 128, 3, 1024]⟩
abbrev S128x3x1024 : Shape := ⟨3, ![128, 3, 1024]⟩
abbrev S3x128x1024 : Shape := ⟨3, ![3, 128, 1024]⟩
abbrev S2x1x1024 : Shape := ⟨3, ![2, 1, 1024]⟩
abbrev S128x1024 : Shape := ⟨2, ![128, 1024]⟩
abbrev S1x128x1024 : Shape := ⟨3, ![1, 128, 1024]⟩
abbrev S1x4x1024 : Shape := ⟨3, ![1, 4, 1024]⟩
abbrev S1x1x1024 : Shape := ⟨3, ![1, 1, 1024]⟩
abbrev S1x1024 : Shape := ⟨2, ![1, 1024]⟩
abbrev S128x256 : Shape := ⟨2, ![128, 256]⟩
abbrev S1x256x256 : Shape := ⟨3, ![1, 256, 256]⟩
abbrev S256x256 : Shape := ⟨2, ![256, 256]⟩

abbrev nBuf : Space → Nat
  | .hbm => 51
  | .vmem => 12
  | .smem => 0
  | _ => 0

abbrev bufTy : (tb : Table) → Fin (tcTables nBuf tb) → BufTy
  | .hbm, ⟨0, _⟩ => ⟨S8320x3584, .f32⟩
  | .hbm, ⟨1, _⟩ => ⟨S2x128x3x1024, .f32⟩
  | .hbm, ⟨2, _⟩ => ⟨S2x128x1024, .f32⟩
  | .hbm, ⟨3, _⟩ => ⟨S2x4x1024, .f32⟩
  | .hbm, ⟨4, _⟩ => ⟨S2x1024, .f32⟩
  | .hbm, ⟨5, _⟩ => ⟨S2x16x64x64, .f32⟩
  | .hbm, ⟨6, _⟩ => ⟨S2x16x64x64, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1x16x64x64, .f32⟩
  | .hbm, ⟨11, _⟩ => ⟨S16x64x64, .f32⟩
  | .hbm, ⟨12, _⟩ => ⟨S4x4, .i32⟩
  | .hbm, ⟨13, _⟩ => ⟨S4x4, .i32⟩
  | .hbm, ⟨14, _⟩ => ⟨S_, .i32⟩
  | .hbm, ⟨15, _⟩ => ⟨S4x4, .i32⟩
  | .hbm, ⟨16, _⟩ => ⟨S4x4, .i32⟩
  | .hbm, ⟨17, _⟩ => ⟨S4x4, .i1⟩
  | .hbm, ⟨18, _⟩ => ⟨S4x4, .f32⟩
  | .hbm, ⟨19, _⟩ => ⟨S4x4x64x64, .f32⟩
  | .hbm, ⟨20, _⟩ => ⟨S4x4x64x1x64, .f32⟩
  | .hbm, ⟨21, _⟩ => ⟨S1x4x1x4x1, .f32⟩
  | .hbm, ⟨22, _⟩ => ⟨S4x4x64x4x64, .f32⟩
  | .hbm, ⟨23, _⟩ => ⟨S4x4x64x4x64, .f32⟩
  | .hbm, ⟨24, _⟩ => ⟨S4x4x64x4x64, .f32⟩
  | .hbm, ⟨25, _⟩ => ⟨S4x256x256, .f32⟩
  | .hbm, ⟨26, _⟩ => ⟨S1x16x64x64, .f32⟩
  | .hbm, ⟨27, _⟩ => ⟨S16x64x64, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S4x4x64x64, .f32⟩
  | .hbm, ⟨36, _⟩ => ⟨S4x4x64x1x64, .f32⟩
  | .hbm, ⟨37, _⟩ => ⟨S1x4x1x4x1, .f32⟩
  | .hbm, ⟨38, _⟩ => ⟨S4x4x64x4x64, .f32⟩
  | .hbm, ⟨39, _⟩ => ⟨S4x4x64x4x64, .f32⟩
  | .hbm, ⟨40, _⟩ => ⟨S4x4x64x4x64, .f32⟩
  | .hbm, ⟨41, _⟩ => ⟨S4x256x256, .f32⟩
  | .hbm, ⟨42, _⟩ => ⟨S1x128x3x1024, .f32⟩
  | .hbm, ⟨43, _⟩ => ⟨S128x3x1024, .f32⟩
  | .hbm, ⟨44, _⟩ => ⟨S3x128x1024, .f32⟩
  | .hbm, ⟨45, _⟩ => ⟨S2x1x1024, .f32⟩
  | .hbm, ⟨46, _⟩ => ⟨S2x1x1024, .f32⟩
  | .hbm, ⟨47, _⟩ => ⟨S2x1x1024, .f32⟩
  | .hbm, ⟨48, _⟩ => ⟨S2x1x1024, .f32⟩
  | .hbm, ⟨49, _⟩ => ⟨S128x1024, .bf16⟩
  | .hbm, ⟨50, _⟩ => ⟨S128x1024, .f32⟩
  | .local _ .vmem, ⟨0, _⟩ => ⟨S128x1024, .f32⟩
  | .local _ .vmem, ⟨1, _⟩ => ⟨S3x128x1024, .f32⟩
  | .local _ .vmem, ⟨2, _⟩ => ⟨S1x128x1024, .f32⟩
  | .local _ .vmem, ⟨3, _⟩ => ⟨S1x4x1024, .f32⟩
  | .local _ .vmem, ⟨4, _⟩ => ⟨S1x1x1024, .f32⟩
  | .local _ .vmem, ⟨5, _⟩ => ⟨S4x256x256, .f32⟩
  | .local _ .vmem, ⟨6, _⟩ => ⟨S4x256x256, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S128x1024, .bf16⟩
  | .local _ .vmem, ⟨11, _⟩ => ⟨S128x1024, .f32⟩
  | _, _ => ⟨S8320x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let c1_i32 : BitVec 32 := 1#32
  let c0_i32 : BitVec 32 := 0#32
  ![c64_i32.toNat, c1_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LruSampleRefIdeal.lean ====
abbrev S8320x3584 : Shape := ⟨2, ![8320, 3584]⟩
abbrev S2x128x3x1024 : Shape := ⟨4, ![2, 128, 3, 1024]⟩
abbrev S2x128x1024 : Shape := ⟨3, ![2, 128, 1024]⟩
abbrev S2x4x1024 : Shape := ⟨3, ![2, 4, 1024]⟩
abbrev S2x1024 : Shape := ⟨2, ![2, 1024]⟩
abbrev S2x16x64x64 : Shape := ⟨4, ![2, 16, 64, 64]⟩
abbrev S128x1024 : Shape := ⟨2, ![128, 1024]⟩
abbrev S1x1024 : Shape := ⟨2, ![1, 1024]⟩
abbrev S1024 : Shape := ⟨1, ![1024]⟩
abbrev S1x1x1024 : Shape := ⟨3, ![1, 1, 1024]⟩
abbrev S1x128x1x1024 : Shape := ⟨4, ![1, 128, 1, 1024]⟩
abbrev S128x16x64 : Shape := ⟨3, ![128, 16, 64]⟩
abbrev S1x16x64x64 : Shape := ⟨4, ![1, 16, 64, 64]⟩
abbrev S16x64x64 : Shape := ⟨3, ![16, 64, 64]⟩
abbrev S16x64x128 : Shape := ⟨3, ![16, 64, 128]⟩
abbrev S_ : Shape := ⟨0, ![]⟩
abbrev S1x128x1024 : Shape := ⟨3, ![1, 128, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8320x3584, .f32⟩
  | .hbm, ⟨1, _⟩ => ⟨S2x128x3x1024, .f32⟩
  | .hbm, ⟨2, _⟩ => ⟨S2x128x1024, .f32⟩
  | .hbm, ⟨3, _⟩ => ⟨S2x4x1024, .f32⟩
  | .hbm, ⟨4, _⟩ => ⟨S2x1024, .f32⟩
  | .hbm, ⟨5, _⟩ => ⟨S2x16x64x64, .f32⟩
  | .hbm, ⟨6, _⟩ => ⟨S2x16x64x64, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S128x1024, .f32⟩
  | .hbm, ⟨11, _⟩ => ⟨S1x1024, .f32⟩
  | .hbm, ⟨12, _⟩ => ⟨S1024, .f32⟩
  | .hbm, ⟨13, _⟩ => ⟨S1x1x1024, .f32⟩
  | .hbm, ⟨14, _⟩ => ⟨S1024, .f32⟩
  | .hbm, ⟨15, _⟩ => ⟨S1x128x1x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S1x1024, .f32⟩
  | .hbm, ⟨21, _⟩ => ⟨S128x1024, .f32⟩
  | .hbm, ⟨22, _⟩ => ⟨S128x1024, .f32⟩
  | .hbm, ⟨23, _⟩ => ⟨S1x1x1024, .f32⟩
  | .hbm, ⟨24, _⟩ => ⟨S1024, .f32⟩
  | .hbm, ⟨25, _⟩ => ⟨S1x128x1x1024, .f32⟩
  | .hbm, ⟨26, _⟩ => ⟨S128x1024, .f32⟩
  | .hbm, ⟨27, _⟩ => ⟨S1x1024, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S1x1x1024, .f32⟩
  | .hbm, ⟨32, _⟩ => ⟨S1024, .f32⟩
  | .hbm, ⟨33, _⟩ => ⟨S1x128x1x1024, .f32⟩
  | .hbm, ⟨34, _⟩ => ⟨S128x1024, .f32⟩
  | .hbm, ⟨35, _⟩ => ⟨S1x1024, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S1x1x1024, .f32⟩
  | .hbm, ⟨40, _⟩ => ⟨S1024, .f32⟩
  | .hbm, ⟨41, _⟩ => ⟨S1x1024, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S128x16x64, .f32⟩
  | .hbm, ⟨46, _⟩ => ⟨S1x16x64x64, .f32⟩
  | .hbm, ⟨47, _⟩ => ⟨S16x64x64, .f32⟩
  | .hbm, ⟨48, _⟩ => ⟨S16x64x128, .f32⟩
  | .hbm, ⟨49, _⟩ => ⟨S128x16x64, .f32⟩
  | .hbm, ⟨50, _⟩ => ⟨S128x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S_, .f32⟩
  | .hbm, ⟨59, _⟩ => ⟨S128x1024, .f32⟩
  | .hbm, ⟨60, _⟩ => ⟨S128x1024, .f32⟩
  | .hbm, ⟨61, _⟩ => ⟨S_, .f32⟩
  | .hbm, ⟨62, _⟩ => ⟨S128x1024, .f32⟩
  | .hbm, ⟨63, _⟩ => ⟨S128x1024, .f32⟩
  | .hbm, ⟨64, _⟩ => ⟨S1x16x64x64, .f32⟩
  | .hbm, ⟨65, _⟩ => ⟨S16x64x64, .f32⟩
  | .hbm, ⟨66, _⟩ => ⟨S16x64x128, .f32⟩
  | .hbm, ⟨67, _⟩ => ⟨S128x16x64, .f32⟩
  | .hbm, ⟨68, _⟩ => ⟨S128x1024, .f32⟩
  | .hbm, ⟨69, _⟩ => ⟨S1x1024, .f32⟩
  | .hbm, ⟨70, _⟩ => ⟨S1024, .f32⟩
  | .hbm, ⟨71, _⟩ => ⟨S1x1024, .f32⟩
  | .hbm, ⟨72, _⟩ => ⟨S128x1024, .f32⟩
  | .hbm, ⟨73, _⟩ => ⟨S128x1024, .f32⟩
  | .hbm, ⟨74, _⟩ => ⟨S128x1024, .f32⟩
  | .hbm, ⟨75, _⟩ => ⟨S128x1024, .f32⟩
  | .hbm, ⟨76, _⟩ => ⟨S_, .f32⟩
  | .hbm, ⟨77, _⟩ => ⟨S128x1024, .f32⟩
  | .hbm, ⟨78, _⟩ => ⟨S128x1024, .f32⟩
  | .hbm, ⟨79, _⟩ => ⟨S_, .f32⟩
  | .hbm, ⟨80, _⟩ => ⟨S128x1024, .f32⟩
  | .hbm, ⟨81, _⟩ => ⟨S128x1024, .f32⟩
  | .hbm, ⟨82, _⟩ => ⟨S_, .f32⟩
  | .hbm, ⟨83, _⟩ => ⟨S128x1024, .f32⟩
  | .hbm, ⟨84, _⟩ => ⟨S128x1024, .f32⟩
  | .hbm, ⟨85, _⟩ => ⟨S1x1024, .f32⟩
  | .hbm, ⟨86, _⟩ => ⟨S1024, .f32⟩
  | .hbm, ⟨87, _⟩ => ⟨S1024, .f32⟩
  | .hbm, ⟨88, _⟩ => ⟨S_, .f32⟩
  | .hbm, ⟨89, _⟩ => ⟨S1024, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S1024, .i1⟩
  | .hbm, ⟨94, _⟩ => ⟨S1024, .f32⟩
  | .hbm, ⟨95, _⟩ => ⟨S1024, .f32⟩
  | .hbm, ⟨96, _⟩ => ⟨S1024, .f32⟩
  | .hbm, ⟨97, _⟩ => ⟨S1024, .f32⟩
  | .hbm, ⟨98, _⟩ => ⟨S1024, .f32⟩
  | .hbm, ⟨99, _⟩ => ⟨S1024, .f32⟩
  | .hbm, ⟨100, _⟩ => ⟨S1024, .f32⟩
  | .hbm, ⟨101, _⟩ => ⟨S1024, .f32⟩
  | .hbm, ⟨102, _⟩ => ⟨S1x1024, .f32⟩
  | .hbm, ⟨103, _⟩ => ⟨S128x1024, .f32⟩
  | .hbm, ⟨104, _⟩ => ⟨S128x1024, .f32⟩
  | .hbm, ⟨105, _⟩ => ⟨S128x1024, .f32⟩
  | .hbm, ⟨106, _⟩ => ⟨S1x128x1024, .f32⟩
  | .hbm, ⟨107, _⟩ => ⟨S128x1024, .f32⟩
  | .hbm, ⟨108, _⟩ => ⟨S128x1024, .f32⟩
  | .hbm, ⟨109, _⟩ => ⟨S_, .f32⟩
  | .hbm, ⟨110, _⟩ => ⟨S128x1024, .f32⟩
  | .hbm, ⟨111, _⟩ => ⟨S128x1024, .f32⟩
  | .hbm, ⟨112, _⟩ => ⟨S128x1024, .f32⟩
  | .hbm, ⟨113, _⟩ => ⟨S128x1024, .f32⟩
  | .hbm, ⟨114, _⟩ => ⟨S128x1024, .f32⟩
  | .hbm, ⟨115, _⟩ => ⟨S128x1024, .f32⟩
  | .hbm, ⟨116, _⟩ => ⟨S128x1024, .f32⟩
  | .hbm, ⟨117, _⟩ => ⟨S128x1024, .f32⟩
  | .hbm, ⟨118, _⟩ => ⟨S128x1024, .bf16⟩
  | _, _ => ⟨S8320x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst : Ref sig .tc := ⟨.hbm, 58, rfl⟩
abbrev main_v48 : Ref sig .tc := ⟨.hbm, 59, rfl⟩
abbrev main_v49 : Ref sig .tc := ⟨.hbm, 60, rfl⟩
abbrev main_cst_0 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_1 : Ref sig .tc := ⟨.hbm, 76, rfl⟩
abbrev main_v64 : Ref sig .tc := ⟨.hbm, 77, rfl⟩
abbrev main_v65 : Ref sig .tc := ⟨.hbm, 78, rfl⟩
abbrev main_cst_2 : Ref sig .tc := ⟨.hbm, 79, rfl⟩
abbrev main_v66 : Ref sig .tc := ⟨.hbm, 80, rfl⟩
abbrev main_v67 : Ref sig .tc := ⟨.hbm, 81, rfl⟩
abbrev main_cst_3 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_call0_cst : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_v5 : Ref sig .tc := ⟨.hbm, 94, rfl⟩
abbrev main_call0_v6 : Ref sig .tc := ⟨.hbm, 95, rfl⟩
abbrev main_call0_v7 : Ref sig .tc := ⟨.hbm, 96, rfl⟩
abbrev main_call0_v8 : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_4 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]
-- ==== VUp.lean ====
abbrev S8320x512 : Shape := ⟨2, ![8320, 512]⟩
abbrev S2x512x4096 : Shape := ⟨3, ![2, 512, 4096]⟩
abbrev S1x512x4096 : Shape := ⟨3, ![1, 512, 4096]⟩
abbrev S512x4096 : Shape := ⟨2, ![512, 4096]⟩
abbrev S512x16x256 : Shape := ⟨3, ![512, 16, 256]⟩
abbrev S512x16x128 : Shape := ⟨3, ![512, 16, 128]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8320x512, .bf16⟩
  | .hbm, ⟨1, _⟩ => ⟨S2x512x4096, .f32⟩
  | .hbm, ⟨2, _⟩ => ⟨S1x512x4096, .f32⟩
  | .hbm, ⟨3, _⟩ => ⟨S512x4096, .f32⟩
  | .hbm, ⟨4, _⟩ => ⟨S512x16x256, .f32⟩
  | .hbm, ⟨5, _⟩ => ⟨S512x16x128, .f32⟩
  | .hbm, ⟨6, _⟩ => ⟨S512x2048, .f32⟩
  | .hbm, ⟨7, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VUpRefIdeal.lean ====
abbrev S8320x512 : Shape := ⟨2, ![8320, 512]⟩
abbrev S2x512x4096 : Shape := ⟨3, ![2, 512, 4096]⟩
abbrev S8192x512 : Shape := ⟨2, ![8192, 512]⟩
abbrev S1x512x4096 : Shape := ⟨3, ![1, 512, 4096]⟩
abbrev S512x4096 : Shape := ⟨2, ![512, 4096]⟩
abbrev S8192x4096 : Shape := ⟨2, ![8192, 4096]⟩
abbrev S8192x16x256 : Shape := ⟨3, ![8192, 16, 256]⟩
abbrev S8192x16x128 : Shape := ⟨3, ![8192, 16, 128]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S2x512x4096, .f32⟩
  | .hbm, ⟨2, _⟩ => ⟨S8192x512, .bf16⟩
  | .hbm, ⟨3, _⟩ => ⟨S8192x512, .f32⟩
  | .hbm, ⟨4, _⟩ => ⟨S1x512x4096, .f32⟩
  | .hbm, ⟨5, _⟩ => ⟨S512x4096, .f32⟩
  | .hbm, ⟨6, _⟩ => ⟨S8192x4096, .f32⟩
  | .hbm, ⟨7, _⟩ => ⟨S8192x16x256, .f32⟩
  | .hbm, ⟨8, _⟩ => ⟨S8192x16x128, .f32⟩
  | .hbm, ⟨9, _⟩ => ⟨S8192x2048, .f32⟩
  | .hbm, ⟨10, _⟩ => ⟨S8192x2048, .bf16⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Proof.ExpUpRun.lean ====
/-
The experts' first products: running the call. What one step of the kernel does to its buffers, in each of the three ways
its branches can go; what the buffers then hold step after step; and the run of the whole call that follows.
-/
module

public import proofs.«01_k».proof.Defs
public import proofs.«01_k».proof.Proof.Gen.ExpUpIdeal.Launch
public import proofs.«01_k».proof.Proof.Gen.ExpUpIdeal.Skeleton
public import Idealize.ShloMosaic.Lib.Pipeline.FrameBody
public import Idealize.ShloMosaic.Lib.Pipeline.Value
public import Idealize.ShloMosaic.Lib.Pipeline.Kit
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Claim

@[expose] public section

set_option maxRecDepth 16384

noncomputable section

namespace Cert.ExpUpProof

open Cert.ExpUpIdeal Cert.ExpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tables as the kernel reads them: the tiles' experts, the number of tiles in use, the tiles' weight blocks. -/
abbrev teRef : Memref sig .tc .smem S41 .i32 := Memref.whole main_arg0
abbrev nuRef : Memref sig .tc .smem S1 .i32 := Memref.whole main_arg1
abbrev tlRef : Memref sig .tc .smem S41 .i32 := Memref.whole main_arg2

/-- The two carried copies of the weights. -/
abbrev gRef : Memref sig .tc .vmem S4096x512 .bf16 := Memref.whole cc0_scratch0
abbrev uRef : Memref sig .tc .vmem S4096x512 .bf16 := Memref.whole cc0_scratch1

/-- A table's contents, and the half of it that the step may read. -/
abbrev TB (c : Dev nD) {S : Shape} {e : EltTy} (M : Memref sig .tc .smem S e) : Type := Buf (Elt F) (M.view.loc (c : Thread nD τ))
abbrev half (c : Dev nD) {S : Shape} {e : EltTy} (M : Memref sig .tc .smem S e) (f : TB (F := F) c M) : sProp 𝕄 :=
  M.view.loc (c : Thread nD τ) ↦{fullShare.right} f

/-- The words a step reads: the number of tiles in use, its tile's expert, the expert of the tile before. -/
abbrev nuW (c : Dev nD) (f : TB (F := F) c nuRef) : BitVec 32 :=
  nuRef.view.readAt (Elt F) (Rect.unit (s := S1) ![0] S1.size inb_S1_S1_0).toLoadRect f (Shape.Idx.first (numel1_S1.symm ▸ Nat.one_pos))
abbrev teW (c : Dev nD) (f : TB (F := F) c teRef) (i : grid0.Coords) : BitVec 32 :=
  teRef.view.readAt (Elt F) (Rect.unit (s := S41) (k0_off1 i) S1.size (k0_off1_inb i)).toLoadRect f (Shape.Idx.first (numel1_S1.symm ▸ Nat.one_pos))
abbrev prevW (c : Dev nD) (f : TB (F := F) c teRef) (i : grid0.Coords) : BitVec 32 :=
  teRef.view.readAt (Elt F) (Rect.unit (s := S41) (k0_off2 i) S1.size (k0_off2_inb i)).toLoadRect f (Shape.Idx.first (numel1_S1.symm ▸ Nat.one_pos))

/-- The tile is in use and the first of its expert: the copies are made anew. -/
abbrev copyC (i : grid0.Coords) (n t p : BitVec 32) : Prop :=
  (Scalar.cmpi .ne (Scalar.extui (Scalar.andi (Scalar.cmpi .slt (BitVec.ofNat 32 (i 1).val) n) (Scalar.ori (Scalar.cmpi .eq (BitVec.ofNat 32 (i 1).val) 0#32) (Scalar.cmpi .ne t p)))) 0#32) = 1#1

/-- Loading the whole of a buffer that holds x gives x. -/
theorem load_whole {S : Shape} {e : EltTy} {sp : Space} {M : Memref sig .tc sp S e} (h : M.IsWhole) (x : S.Idx → Elt F e) {off : Fin S.rank → ℕ}
    (inb : ∀ a, off a + S.size a ≤ S.size a) : M.view.readAt (Elt F) (Rect.unit (s := S) off S.size inb).toLoadRect (h.unread x) = x := by
  rw [View.readAt_full, h.read_unread]

set_option maxHeartbeats 1000000 in
/-- A step at a used tile that is the first of its expert: the copies are made from the weights' blocks, and the output's
block is the gated product over them. -/
theorem run_first (c : Dev nD) (i : grid0.Coords) (ax : Memref sig .tc .vmem S512x4096 .bf16) (hax : ax.IsWhole)
    (ag : Memref sig .tc .vmem S1x1x4096x512 .f32) (hag : ag.IsWhole) (au : Memref sig .tc .vmem S1x1x4096x512 .f32) (hau : au.IsWhole)
    (ao : Memref sig .tc .vmem S512x512 .bf16) (hao : ao.IsWhole)
    (x0 : Vec F S512x4096 .bf16) (x1 x2 : Vec F S1x1x4096x512 .f32) (f0 : TB (F := F) c teRef) (f1 : TB (F := F) c nuRef) (f2 : TB (F := F) c tlRef)
    (hc : copyC i (nuW c f1) (teW c f0 i) (prevW c f0 i)) (h2 : k0_cond2 i (nuW c f1) = 1#1) (h3 : ¬ k0_cond3 i (nuW c f1) = 1#1)
    (E : Set ℕ) (K : PUnit → sProp 𝕄) :
    iprop(owns (c : Thread nD τ) ax fullShare x0 ∗ owns (c : Thread nD τ) ag fullShare x1 ∗ owns (c : Thread nD τ) au fullShare x2
        ∗ (∃ d, owns (c : Thread nD τ) ao fullShare d) ∗ (∃ d, owns (c : Thread nD τ) gRef fullShare d) ∗ (∃ d, owns (c : Thread nD τ) uRef fullShare d)
        ∗ half c teRef f0 ∗ half c nuRef f1 ∗ half c tlRef f2
        ∗ (iprop(owns (c : Thread nD τ) ax fullShare x0 ∗ owns (c : Thread nD τ) ag fullShare x1 ∗ owns (c : Thread nD τ) au fullShare x2
            ∗ owns (c : Thread nD τ) ao fullShare (k0_pay3 x0 (k0_pay1 x1) (k0_pay2 x2))
            ∗ owns (c : Thread nD τ) gRef fullShare (k0_pay1 x1) ∗ owns (c : Thread nD τ) uRef fullShare (k0_pay2 x2)
            ∗ half c teRef f0 ∗ half c nuRef f1 ∗ half c tlRef f2) -∗ K ⟨⟩))
      ⊢ wp frame (wpE (defs₀ (F := F)) Variants.none c none) E
          (cc0_expert_up i teRef (Memref.isWhole_whole _) nuRef (Memref.isWhole_whole _) tlRef (Memref.isWhole_whole _) ax hax ag hag au hau ao hao
            gRef (Memref.isWhole_whole _) uRef (Memref.isWhole_whole _)) K := by
  simp only [cc0_expert_up_eq_skeleton]; unfold cc0_expert_up_skel
  unfold owns
  iintro ⟨⟨%e0, %he0, H0⟩, ⟨%e1, %he1, H1⟩, ⟨%e2, %he2, H2⟩, ⟨%d3, %e3, -, H3⟩, ⟨%d4, %e4, -, H4⟩, ⟨%d5, %e5, -, H5⟩, T0, T1, T2, Hk⟩
  obtain rfl := hax.eq_unread he0; obtain rfl := hag.eq_unread he1; obtain rfl := hau.eq_unread he2
  sl_exec (disch := first | sl_exact hc | sl_exact h2 | sl_exact h3)
  sl_step
  iapply Hk
  isplitl [H0]
  · iexists _; isplitr; · ipureintro; exact hax.read_unread _
    iexact H0
  isplitl [H1]
  · iexists _; isplitr; · ipureintro; exact hag.read_unread _
    iexact H1
  isplitl [H2]
  · iexists _; isplitr; · ipureintro; exact hau.read_unread _
    iexact H2
  isplitl [H3]
  · iexists _; isplitr; swap; · iexact H3
    ipureintro
    refine (View.read_writes_full _ _ _ _ _).trans ?_
    unfold run_first.sl.v20 run_first.sl.v22 run_first.sl.H4_1 run_first.sl.H5_1
    exact congr (congr (congrArg k0_pay3 (load_whole hax _ _)) ((View.readCov_full _ _ _ _ _).trans (congrArg k0_pay1 (load_whole hag _ _))))
      ((View.readCov_full _ _ _ _ _).trans (congrArg k0_pay2 (load_whole hau _ _)))
  isplitl [H4]
  · iexists _; isplitr; swap; · iexact H4
    ipureintro
    unfold run_first.sl.H4_1
    exact (View.read_writes_full _ _ _ _ _).trans (congrArg k0_pay1 (load_whole hag _ _))
  isplitl [H5]
  · iexists _; isplitr; swap; · iexact H5
    ipureintro
    unfold run_first.sl.H5_1
    exact (View.read_writes_full _ _ _ _ _).trans (congrArg k0_pay2 (load_whole hau _ _))
  isplitl [T0]; · iexact T0
  isplitl [T1]; · iexact T1
  iexact T2

set_option maxHeartbeats 1000000 in
/-- A step at a used tile of the same expert as the tile before: the copies stay, and the output's block is the gated product
over them. -/
theorem run_next (c : Dev nD) (i : grid0.Coords) (ax : Memref sig .tc .vmem S512x4096 .bf16) (hax : ax.IsWhole)
    (ag : Memref sig .tc .vmem S1x1x4096x512 .f32) (hag : ag.IsWhole) (au : Memref sig .tc .vmem S1x1x4096x512 .f32) (hau : au.IsWhole)
    (ao : Memref sig .tc .vmem S512x512 .bf16) (hao : ao.IsWhole)
    (x0 : Vec F S512x4096 .bf16) (x1 x2 : Vec F S1x1x4096x512 .f32) (s0 s1 : Vec F S4096x512 .bf16) (f0 : TB (F := F) c teRef) (f1 : TB (F := F) c nuRef) (f2 : TB (F := F) c tlRef)
    (hc : ¬ copyC i (nuW c f1) (teW c f0 i) (prevW c f0 i)) (h2 : k0_cond2 i (nuW c f1) = 1#1) (h3 : ¬ k0_cond3 i (nuW c f1) = 1#1)
    (E : Set ℕ) (K : PUnit → sProp 𝕄) :
    iprop(owns (c : Thread nD τ) ax fullShare x0 ∗ owns (c : Thread nD τ) ag fullShare x1 ∗ owns (c : Thread nD τ) au fullShare x2
        ∗ (∃ d, owns (c : Thread nD τ) ao fullShare d) ∗ owns (c : Thread nD τ) gRef fullShare s0 ∗ owns (c : Thread nD τ) uRef fullShare s1
        ∗ half c teRef f0 ∗ half c nuRef f1 ∗ half c tlRef f2
        ∗ (iprop(owns (c : Thread nD τ) ax fullShare x0 ∗ owns (c : Thread nD τ) ag fullShare x1 ∗ owns (c : Thread nD τ) au fullShare x2
            ∗ owns (c : Thread nD τ) ao fullShare (k0_pay3 x0 s0 s1)
            ∗ owns (c : Thread nD τ) gRef fullShare s0 ∗ owns (c : Thread nD τ) uRef fullShare s1
            ∗ half c teRef f0 ∗ half c nuRef f1 ∗ half c tlRef f2) -∗ K ⟨⟩))
      ⊢ wp frame (wpE (defs₀ (F := F)) Variants.none c none) E
          (cc0_expert_up i teRef (Memref.isWhole_whole _) nuRef (Memref.isWhole_whole _) tlRef (Memref.isWhole_whole _) ax hax ag hag au hau ao hao
            gRef (Memref.isWhole_whole _) uRef (Memref.isWhole_whole _)) K := by
  simp only [cc0_expert_up_eq_skeleton]; unfold cc0_expert_up_skel
  unfold owns
  iintro ⟨⟨%e0, %he0, H0⟩, ⟨%e1, %he1, H1⟩, ⟨%e2, %he2, H2⟩, ⟨%d3, %e3, -, H3⟩, ⟨%e4, %he4, H4⟩, ⟨%e5, %he5, H5⟩, T0, T1, T2, Hk⟩
  obtain rfl := hax.eq_unread he0; obtain rfl := hag.eq_unread he1; obtain rfl := hau.eq_unread he2
  obtain rfl := (Memref.isWhole_whole cc0_scratch0).eq_unread he4; obtain rfl := (Memref.isWhole_whole cc0_scratch1).eq_unread he5
  sl_exec (disch := first | sl_exact hc | sl_exact h2 | sl_exact h3)
  sl_step
  iapply Hk
  isplitl [H0]
  · iexists _; isplitr; · ipureintro; exact hax.read_unread _
    iexact H0
  isplitl [H1]
  · iexists _; isplitr; · ipureintro; exact hag.read_unread _
    iexact H1
  isplitl [H2]
  · iexists _; isplitr; · ipureintro; exact hau.read_unread _
    iexact H2
  isplitl [H3]
  · iexists _; isplitr; swap; · iexact H3
    ipureintro
    refine (View.read_writes_full _ _ _ _ _).trans ?_
    exact congr (congr (congrArg k0_pay3 (load_whole hax _ _)) (load_whole (Memref.isWhole_whole cc0_scratch0) _ _))
      (load_whole (Memref.isWhole_whole cc0_scratch1) _ _)
  isplitl [H4]
  · iexists _; isplitr; · ipureintro; exact (Memref.isWhole_whole cc0_scratch0).read_unread _
    iexact H4
  isplitl [H5]
  · iexists _; isplitr; · ipureintro; exact (Memref.isWhole_whole cc0_scratch1).read_unread _
    iexact H5
  isplitl [T0]; · iexact T0
  isplitl [T1]; · iexact T1
  iexact T2

set_option maxHeartbeats 1000000 in
/-- A step at a tile that is not in use: the copies stay, and the output's block is zeros. -/
theorem run_unused (c : Dev nD) (i : grid0.Coords) (ax : Memref sig .tc .vmem S512x4096 .bf16) (hax : ax.IsWhole)
    (ag : Memref sig .tc .vmem S1x1x4096x512 .f32) (hag : ag.IsWhole) (au : Memref sig .tc .vmem S1x1x4096x512 .f32) (hau : au.IsWhole)
    (ao : Memref sig .tc .vmem S512x512 .bf16) (hao : ao.IsWhole)
    (x0 : Vec F S512x4096 .bf16) (x1 x2 : Vec F S1x1x4096x512 .f32) (s0 s1 : Vec F S4096x512 .bf16) (f0 : TB (F := F) c teRef) (f1 : TB (F := F) c nuRef) (f2 : TB (F := F) c tlRef)
    (hc : ¬ copyC i (nuW c f1) (teW c f0 i) (prevW c f0 i)) (h2 : ¬ k0_cond2 i (nuW c f1) = 1#1) (h3 : k0_cond3 i (nuW c f1) = 1#1)
    (E : Set ℕ) (K : PUnit → sProp 𝕄) :
    iprop(owns (c : Thread nD τ) ax fullShare x0 ∗ owns (c : Thread nD τ) ag fullShare x1 ∗ owns (c : Thread nD τ) au fullShare x2
        ∗ (∃ d, owns (c : Thread nD τ) ao fullShare d) ∗ owns (c : Thread nD τ) gRef fullShare s0 ∗ owns (c : Thread nD τ) uRef fullShare s1
        ∗ half c teRef f0 ∗ half c nuRef f1 ∗ half c tlRef f2
        ∗ (iprop(owns (c : Thread nD τ) ax fullShare x0 ∗ owns (c : Thread nD τ) ag fullShare x1 ∗ owns (c : Thread nD τ) au fullShare x2
            ∗ owns (c : Thread nD τ) ao fullShare (k0_pay4 (F := F))
            ∗ owns (c : Thread nD τ) gRef fullShare s0 ∗ owns (c : Thread nD τ) uRef fullShare s1
            ∗ half c teRef f0 ∗ half c nuRef f1 ∗ half c tlRef f2) -∗ K ⟨⟩))
      ⊢ wp frame (wpE (defs₀ (F := F)) Variants.none c none) E
          (cc0_expert_up i teRef (Memref.isWhole_whole _) nuRef (Memref.isWhole_whole _) tlRef (Memref.isWhole_whole _) ax hax ag hag au hau ao hao
            gRef (Memref.isWhole_whole _) uRef (Memref.isWhole_whole _)) K := by
  simp only [cc0_expert_up_eq_skeleton]; unfold cc0_expert_up_skel
  unfold owns
  iintro ⟨⟨%e0, %he0, H0⟩, ⟨%e1, %he1, H1⟩, ⟨%e2, %he2, H2⟩, ⟨%d3, %e3, -, H3⟩, ⟨%e4, %he4, H4⟩, ⟨%e5, %he5, H5⟩, T0, T1, T2, Hk⟩
  obtain rfl := hax.eq_unread he0; obtain rfl := hag.eq_unread he1; obtain rfl := hau.eq_unread he2
  obtain rfl := (Memref.isWhole_whole cc0_scratch0).eq_unread he4; obtain rfl := (Memref.isWhole_whole cc0_scratch1).eq_unread he5
  sl_exec (disch := first | sl_exact hc | sl_exact h2 | sl_exact h3)
  sl_step
  iapply Hk
  isplitl [H0]
  · iexists _; isplitr; · ipureintro; exact hax.read_unread _
    iexact H0
  isplitl [H1]
  · iexists _; isplitr; · ipureintro; exact hag.read_unread _
    iexact H1
  isplitl [H2]
  · iexists _; isplitr; · ipureintro; exact hau.read_unread _
    iexact H2
  isplitl [H3]
  · iexists _; isplitr; swap; · iexact H3
    ipureintro
    exact View.read_writes_full _ _ _ _ _
  isplitl [H4]
  · iexists _; isplitr; · ipureintro; exact (Memref.isWhole_whole cc0_scratch0).read_unread _
    iexact H4
  isplitl [H5]
  · iexists _; isplitr; · ipureintro; exact (Memref.isWhole_whole cc0_scratch1).read_unread _
    iexact H5
  isplitl [T0]; · iexact T0
  isplitl [T1]; · iexact T1
  iexact T2

end Cert.ExpUpProof

end
-- ==== Proof.ExpUpCall.lean ====
/-
The experts' first products: the whole call. The tables are read off the launch memory; at a used tile each carried copy holds
the block of weights that the tile's expert has in the step's columns; so the call leaves in every block of the result the
gated product over those weights at a used tile, and zeros at the others.
-/
module

public import proofs.«01_k».proof.Proof.ExpUpRun

@[expose] public section

set_option maxRecDepth 16384

noncomputable section

namespace Cert.ExpUpProof

open Cert.ExpUpIdeal Cert.ExpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables, read off the launch memory of the one device. -/
def tbl : pre0.Contents (Elt F) := fun j => V m (0 : Dev nD) (pre0.ref j)

theorem V_tbl (c : Dev nD) (j : Fin 3) : V m c (pre0.ref j) = tbl m j := by
  obtain rfl : c = 0 := Subsingleton.elim _ _; rfl

/-- Every block the index maps name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves, one by one. -/
theorem tables_eq (c : Dev nD) :
    (Pipeline.ΦT pre0 (tbl m) c : sProp 𝕄) = iprop(half c teRef (tbl m 0) ∗ half c nuRef (tbl m 1) ∗ half c tlRef (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The scratch and the random state, one by one. -/
theorem scratch_eq (c : Dev nD) :
    (Pipeline.ΦA spec0 c : sProp 𝕄)
      = iprop(iprop((∃ d, owns (c : Thread nD τ) gRef fullShare d) ∗ (∃ d, owns (c : Thread nD τ) uRef fullShare d)) ∗ (∃ r, prngReg c r)) := by
  unfold Pipeline.ΦA; rw [scopedRest0_eq]; simp only [gRef, uRef, owns_whole]; try rfl

/-- The block of a window at a step, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The step's rows of the input, and its blocks of the two weights. -/
abbrev xB (hO : Ok m) (c : Dev nD) (t : Fin (cfgM m hO).N) : Vec F S512x4096 .bf16 := iblk m hO c 0 t
abbrev gB (hO : Ok m) (c : Dev nD) (t : Fin (cfgM m hO).N) : Vec F S1x1x4096x512 .f32 := iblk m hO c 1 t
abbrev uB (hO : Ok m) (c : Dev nD) (t : Fin (cfgM m hO).N) : Vec F S1x1x4096x512 .f32 := iblk m hO c 2 t

/-- The step's tile is in use; the step makes the copies anew. -/
def Used (c : Dev nD) (i : grid0.Coords) : Prop := k0_cond2 i (nuW (F := F) c (tbl m 1)) = 1#1
def Copies (c : Dev nD) (i : grid0.Coords) : Prop := copyC i (nuW (F := F) c (tbl m 1)) (teW (F := F) c (tbl m 0) i) (prevW (F := F) c (tbl m 0) i)

instance (c : Dev nD) (i : grid0.Coords) : Decidable (Used m c i) := by unfold Used; infer_instance

/-- A bit and its complement: one is set exactly when the other is not. -/
theorem not_bit : ∀ b : BitVec 1, Scalar.cmpi .ne (Scalar.extui (Scalar.xori b 1#1)) 0#32 = 1#1 ↔
    ¬ Scalar.cmpi .ne (Scalar.extui b) 0#32 = 1#1 := by decide

/-- The third branch is taken exactly when the second is not. -/
theorem cond3_iff (i : grid0.Coords) (n : BitVec 32) : k0_cond3 i n = 1#1 ↔ ¬ k0_cond2 i n = 1#1 := by
  unfold k0_cond3 k0_cond2
  exact not_bit _

/-- A conjunction of bits has its first bit set. -/
theorem and_bit : ∀ b b' : BitVec 1, Scalar.cmpi .ne (Scalar.extui (Scalar.andi b b')) 0#32 = 1#1 →
    Scalar.cmpi .ne (Scalar.extui b) 0#32 = 1#1 := by decide

/-- A step that makes the copies is at a used tile. -/
theorem used_of_copies (c : Dev nD) (i : grid0.Coords) (h : Copies m c i) : Used m c i := by
  unfold Copies copyC at h; unfold Used k0_cond2
  exact and_bit _ _ h

/-- What the step leaves in the result's block. -/
def outB (hO : Ok m) (c : Dev nD) (t : Fin (cfgM m hO).N) : Vec F S512x512 .bf16 :=
  if Used m c (grid0.coords t) then k0_pay3 (xB m hO c t) (k0_pay1 (gB m hO c t)) (k0_pay2 (uB m hO c t)) else k0_pay4 (F := F)

/-- What the copies hold after n steps: if the last of them was at a used tile, its blocks of the weights. -/
def Carried (hO : Ok m) (c : Dev nD) (n : ℕ) (d0 d1 : Vec F S4096x512 .bf16) : Prop :=
  ∀ t : Fin (cfgM m hO).N, t.val + 1 = n → Used m c (grid0.coords t) → d0 = k0_pay1 (gB m hO c t) ∧ d1 = k0_pay2 (uB m hO c t)

/-- A step at a used tile that keeps the copies has the same blocks of the weights as the step before, which was at a used
tile too. -/
def Steady (hO : Ok m) (c : Dev nD) : Prop :=
  ∀ t' : Fin (cfgM m hO).N, Used m c (grid0.coords t') → ¬ Copies m c (grid0.coords t') →
    ∃ t : Fin (cfgM m hO).N, t.val + 1 = t'.val ∧ Used m c (grid0.coords t)
      ∧ ((cfgM m hO).win 1).index t' = ((cfgM m hO).win 1).index t ∧ ((cfgM m hO).win 2).index t' = ((cfgM m hO).win 2).index t

/-- Between the steps: the copies, the random state, and the tables. -/
def inv (hO : Ok m) (c : Dev nD) (n : ℕ) : sProp 𝕄 :=
  iprop(∃ d0 d1, ⌜Carried m hO c n d0 d1⌝ ∗ owns (c : Thread nD τ) gRef fullShare d0 ∗ owns (c : Thread nD τ) uRef fullShare d1
    ∗ (∃ r, prngReg c r) ∗ half c teRef (tbl m 0) ∗ half c nuRef (tbl m 1) ∗ half c tlRef (tbl m 2))

/-- The call's data: the arrays as launched, what every step leaves, and what holds between the steps. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outB m hO c t
  Φ n := inv m hO c n.val
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = xB m hO c t := by dsimp only [dats]; try rfl
theorem after1 (hO : Ok m) (c : Dev nD) (t : Fin (cfgM m hO).N) : (dats m hO 0 c).after 1 t = gB m hO c t := by dsimp only [dats]; try rfl
theorem after2 (hO : Ok m) (c : Dev nD) (t : Fin (cfgM m hO).N) : (dats m hO 0 c).after 2 t = uB m hO c t := by dsimp only [dats]; try rfl
theorem after3 (hO : Ok m) (c : Dev nD) (t : Fin (cfgM m hO).N) : (dats m hO 0 c).after 3 t = outB m hO c t := by dsimp only [dats]; try rfl

theorem inv_at (hO : Ok m) (c : Dev nD) (n : Fin ((cfgM m hO).N + 1)) : (dats m hO 0 c).Φ n = inv m hO c n.val := by dsimp only [dats]

/-- A step finds in each input's buffer the input's block there. -/
theorem before0 (hO : Ok m) (c : Dev nD) (t : Fin (cfgM m hO).N) (d) : (dats m hO 0 c).before 0 t d = xB m hO c t :=
  ((dats m hO 0 c).before_in_eq_fetched 0 rfl (fun _ => rfl) (fun _ _ _ => rfl) (fun _ => rfl) t d).trans rfl
theorem before1 (hO : Ok m) (c : Dev nD) (t : Fin (cfgM m hO).N) (d) : (dats m hO 0 c).before 1 t d = gB m hO c t :=
  ((dats m hO 0 c).before_in_eq_fetched 1 rfl (fun _ => rfl) (fun _ _ _ => rfl) (fun _ => rfl) t d).trans rfl
theorem before2 (hO : Ok m) (c : Dev nD) (t : Fin (cfgM m hO).N) (d) : (dats m hO 0 c).before 2 t d = uB m hO c t :=
  ((dats m hO 0 c).before_in_eq_fetched 2 rfl (fun _ => rfl) (fun _ _ _ => rfl) (fun _ => rfl) t d).trans rfl

/-- Steps with the same block index have the same block of the weights. -/
theorem gB_congr (hO : Ok m) (c : Dev nD) {t t' : Fin (cfgM m hO).N} (h : ((cfgM m hO).win 1).index t' = ((cfgM m hO).win 1).index t) :
    gB m hO c t' = gB m hO c t :=
  (dats m hO 0 c).fetched_congr 1 h rfl (gB m hO c t)
theorem uB_congr (hO : Ok m) (c : Dev nD) {t t' : Fin (cfgM m hO).N} (h : ((cfgM m hO).win 2).index t' = ((cfgM m hO).win 2).index t) :
    uB m hO c t' = uB m hO c t :=
  (dats m hO 0 c).fetched_congr 2 h rfl (uB m hO c t)

/-- The result's block is written back after every step. -/
theorem flush3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- The windows' buffers at a step. -/
abbrev xS (hO : Ok m) (t : Fin (cfgM m hO).N) : Memref sig .tc .vmem S512x4096 .bf16 := spec0_0.stage ((cfgM m hO).slots t 0)
abbrev gS (hO : Ok m) (t : Fin (cfgM m hO).N) : Memref sig .tc .vmem S1x1x4096x512 .f32 := spec0_1.stage ((cfgM m hO).slots t 1)
abbrev uS (hO : Ok m) (t : Fin (cfgM m hO).N) : Memref sig .tc .vmem S1x1x4096x512 .f32 := spec0_2.stage ((cfgM m hO).slots t 2)
abbrev oS (hO : Ok m) (t : Fin (cfgM m hO).N) : Memref sig .tc .vmem S512x512 .bf16 := spec0_3.stage ((cfgM m hO).slots t 3)

/-- The kernel's body at a step. -/
abbrev bodyAt (hO : Ok m) (t : Fin (cfgM m hO).N) : Prog (TpuEff nD τ sig (Elt F) Λ₀ .tc) PUnit :=
  cc0_expert_up (grid0.coords t) teRef (Memref.isWhole_whole _) nuRef (Memref.isWhole_whole _) tlRef (Memref.isWhole_whole _)
    (xS m hO t) (hstage0_0 (((cfgM m hO).slots t 0).cast nbuf0_0)) (gS m hO t) (hstage0_1 (((cfgM m hO).slots t 1).cast nbuf0_1))
    (uS m hO t) (hstage0_2 (((cfgM m hO).slots t 2).cast nbuf0_2)) (oS m hO t) (hstage0_3 (((cfgM m hO).slots t 3).cast nbuf0_3))
    gRef (Memref.isWhole_whole _) uRef (Memref.isWhole_whole _)

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

set_option maxHeartbeats 1600000 in
/-- One step: from what holds before it to what holds after it. -/
theorem step (hO : Ok m) (c : Dev nD) (hS : Steady m hO c) (t : Fin (cfgM m hO).N) :
    iprop((dats m hO 0 c).Φ t.castSucc ∗ (dats m hO 0 c).owesAt () t.castSucc
      ∗ (∃ d, owns (c : Thread nD τ) (xS m hO t) fullShare ((dats m hO 0 c).before 0 t d))
      ∗ (∃ d, owns (c : Thread nD τ) (gS m hO t) fullShare ((dats m hO 0 c).before 1 t d))
      ∗ (∃ d, owns (c : Thread nD τ) (uS m hO t) fullShare ((dats m hO 0 c).before 2 t d))
      ∗ (∃ d, owns (c : Thread nD τ) (oS m hO t) fullShare ((dats m hO 0 c).before 3 t d)))
    ⊢ wp frame (wpE (defs₀ (F := F)) Variants.none c none) Set.univ (bodyAt m hO t) (fun _ =>
      iprop((dats m hO 0 c).Φ t.succ ∗ (dats m hO 0 c).owesAt () t.castSucc
        ∗ owns (c : Thread nD τ) (xS m hO t) fullShare (xB m hO c t)
        ∗ owns (c : Thread nD τ) (gS m hO t) fullShare (gB m hO c t)
        ∗ owns (c : Thread nD τ) (uS m hO t) fullShare (uB m hO c t)
        ∗ owns (c : Thread nD τ) (oS m hO t) fullShare (outB m hO c t))) := by
  rw [inv_at m hO c t.castSucc, inv_at m hO c t.succ, Fin.val_castSucc, Fin.val_succ]
  simp only [before0, before1, before2]
  unfold inv bodyAt
  iintro ⟨⟨%d0, %d1, %hC, S0, S1, Hg, T0, T1, T2⟩, Ho, ⟨%a0, H0⟩, ⟨%a1, H1⟩, ⟨%a2, H2⟩, ⟨%d3, H3⟩⟩
  by_cases hu : Used m c (grid0.coords t)
  · have hx : outB m hO c t = k0_pay3 (xB m hO c t) (k0_pay1 (gB m hO c t)) (k0_pay2 (uB m hO c t)) := if_pos hu
    have h3 : ¬ k0_cond3 (grid0.coords t) (nuW (F := F) c (tbl m 1)) = 1#1 := fun h => (cond3_iff _ _).mp h hu
    have hC' : Carried m hO c (t.val + 1) (k0_pay1 (gB m hO c t)) (k0_pay2 (uB m hO c t)) := by
      intro t' ht' _
      obtain rfl : t' = t := Fin.ext (by omega)
      exact ⟨rfl, rfl⟩
    rw [hx]
    by_cases hc : Copies m c (grid0.coords t)
    · iapply (run_first c (grid0.coords t) _ _ _ _ _ _ _ _ (xB m hO c t) (gB m hO c t) (uB m hO c t) (tbl m 0) (tbl m 1) (tbl m 2) hc hu h3 Set.univ _)
      isplitl [H0]; · iexact H0
      isplitl [H1]; · iexact H1
      isplitl [H2]; · iexact H2
      isplitl [H3]; · iexists _; iexact H3
      isplitl [S0]; · iexists _; iexact S0
      isplitl [S1]; · iexists _; iexact S1
      isplitl [T0]; · iexact T0
      isplitl [T1]; · iexact T1
      isplitl [T2]; · iexact T2
      iintro ⟨H0, H1, H2, H3, S0, S1, T0, T1, T2⟩
      isplitl [S0 S1 Hg T0 T1 T2]
      · iexists _, _
        isplitr; · ipureintro; exact hC'
        isplitl [S0]; · iexact S0
        isplitl [S1]; · iexact S1
        isplitl [Hg]; · iexact Hg
        isplitl [T0]; · iexact T0
        isplitl [T1]; · iexact T1
        iexact T2
      isplitl [Ho]; · iexact Ho
      isplitl [H0]; · iexact H0
      isplitl [H1]; · iexact H1
      isplitl [H2]; · iexact H2
      iexact H3
    · obtain ⟨tp, htp, hup, hg, hw⟩ := hS t hu hc
      obtain ⟨rfl, rfl⟩ := hC tp htp hup
      rw [← gB_congr m hO c hg, ← uB_congr m hO c hw]
      iapply (run_next c (grid0.coords t) _ _ _ _ _ _ _ _ (xB m hO c t) (gB m hO c t) (uB m hO c t) (k0_pay1 (gB m hO c t)) (k0_pay2 (uB m hO c t))
        (tbl m 0) (tbl m 1) (tbl m 2) hc hu h3 Set.univ _)
      isplitl [H0]; · iexact H0
      isplitl [H1]; · iexact H1
      isplitl [H2]; · iexact H2
      isplitl [H3]; · iexists _; iexact H3
      isplitl [S0]; · iexact S0
      isplitl [S1]; · iexact S1
      isplitl [T0]; · iexact T0
      isplitl [T1]; · iexact T1
      isplitl [T2]; · iexact T2
      iintro ⟨H0, H1, H2, H3, S0, S1, T0, T1, T2⟩
      isplitl [S0 S1 Hg T0 T1 T2]
      · iexists _, _
        isplitr; · ipureintro; exact hC'
        isplitl [S0]; · iexact S0
        isplitl [S1]; · iexact S1
        isplitl [Hg]; · iexact Hg
        isplitl [T0]; · iexact T0
        isplitl [T1]; · iexact T1
        iexact T2
      isplitl [Ho]; · iexact Ho
      isplitl [H0]; · iexact H0
      isplitl [H1]; · iexact H1
      isplitl [H2]; · iexact H2
      iexact H3
  · have hx : outB m hO c t = k0_pay4 (F := F) := if_neg hu
    have h3 : k0_cond3 (grid0.coords t) (nuW (F := F) c (tbl m 1)) = 1#1 := (cond3_iff _ _).mpr hu
    have hC' : Carried m hO c (t.val + 1) d0 d1 := by
      intro t' ht' hu'
      obtain rfl : t' = t := Fin.ext (by omega)
      exact absurd hu' hu
    rw [hx]
    iapply (run_unused c (grid0.coords t) _ _ _ _ _ _ _ _ (xB m hO c t) (gB m hO c t) (uB m hO c t) d0 d1
      (tbl m 0) (tbl m 1) (tbl m 2) (fun h => hu (used_of_copies m c _ h)) hu h3 Set.univ _)
    isplitl [H0]; · iexact H0
    isplitl [H1]; · iexact H1
    isplitl [H2]; · iexact H2
    isplitl [H3]; · iexists _; iexact H3
    isplitl [S0]; · iexact S0
    isplitl [S1]; · iexact S1
    isplitl [T0]; · iexact T0
    isplitl [T1]; · iexact T1
    isplitl [T2]; · iexact T2
    iintro ⟨H0, H1, H2, H3, S0, S1, T0, T1, T2⟩
    isplitl [S0 S1 Hg T0 T1 T2]
    · iexists _, _
      isplitr; · ipureintro; exact hC'
      isplitl [S0]; · iexact S0
      isplitl [S1]; · iexact S1
      isplitl [Hg]; · iexact Hg
      isplitl [T0]; · iexact T0
      isplitl [T1]; · iexact T1
      iexact T2
    isplitl [Ho]; · iexact Ho
    isplitl [H0]; · iexact H0
    isplitl [H1]; · iexact H1
    isplitl [H2]; · iexact H2
    iexact H3

/-- Every step does what the data say. -/
theorem body_obligation (hO : Ok m) (c : Dev nD) (hS : Steady m hO c) :
    BodyObligation (dats (F := F) m hO 0 c) (defs₀ (F := F)) Variants.none () Set.univ := fun t => by
  rw [bigSep_W0, bigSep_W0, body_row m hO]
  have hf : ((cfgM m hO).win 3).flush t = true := flush3 (adm m hO) t
  refine triple_restated (step m hO c hS t) rfl .rfl fun _ => ?_
  iintro ⟨HI, Ho, H0, H1, H2, H3⟩
  isplitl [HI]; · iexact HI
  isplitl [Ho]; · iexact Ho
  isplitl [H0]; · iexact H0
  isplitl [H1]; · iexact H1
  isplitl [H2]; · iexact H2
  split
  · rename_i h; cases h
  split
  · split
    · rename_i h; cases hf.symm.trans h
    · iexact H3
  · iexact H3

set_option backward.isDefEq.respectTransparency.types false in
/-- The run of the call: it ends, with every array as the data say and the machine at rest. -/
theorem run_call (hO : Ok m) (hS : ∀ c, Steady m hO c) : θ_run defs (onTc (τ := τ) (main (F := F))) (s₀ m ρ) (fun r =>
    Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c (hS c)).loose) (hshare := fun c => (dats m hO 0 c).share_full fun _ => rfl)
    (howed := fun _ _ => rfl) (V := V m) (hmain := hmain m Variants.none) (hA := A_eq m hO) (hpf := V_tbl m)
    (hin := fun c => by
      show iprop(Pipeline.ΦA spec0 c ∗ Pipeline.ΦT pre0 (tbl m) c) ⊢ inv m hO c 0
      rw [scratch_eq, tables_eq]; unfold inv
      iintro ⟨⟨⟨⟨%d0, S0⟩, ⟨%d1, S1⟩⟩, Hg⟩, ⟨T0, T1, T2⟩⟩
      iexists d0, d1
      isplitr; · ipureintro; exact fun t ht => absurd ht (Nat.succ_ne_zero _)
      isplitl [S0]; · iexact S0
      isplitl [S1]; · iexact S1
      isplitl [Hg]; · iexact Hg
      isplitl [T0]; · iexact T0
      isplitl [T1]; · iexact T1
      iexact T2)
    (hout := fun c => by
      show inv m hO c _ ⊢ Pipeline.ΦA spec0 c
      rw [scratch_eq]; unfold inv
      iintro ⟨%d0, %d1, -, S0, S1, Hg, -, -, -⟩
      isplitl [S0 S1]
      · isplitl [S0]
        · iexists _; iexact S0
        iexists _; iexact S1
      iexact Hg)

end Cert.ExpUpProof

end
-- ==== Proof.ExpUpTables.lean ====
/-
The experts' first products: what the tables must satisfy, and what follows. If at least one tile is in use, every tile's
weight block is one of the eight, and at a tile in use it is that of the tile's expert, then every block the index maps
name lies inside its array, and a step at a used tile that keeps the carried copies has the weight blocks of the step
before.
-/
module

public import proofs.«01_k».proof.Proof.ExpUpCall
public import proofs.«01_k».proof.Proof.Gen.Pre_tables_up
public import Idealize.ShloMosaic.Lib.Pointwise
public import Idealize.ShloMosaic.Lib.Pipeline.ValueKit

@[expose] public section

set_option maxRecDepth 16384

noncomputable section

namespace Cert.ExpUpProof

open Cert.ExpUpIdeal Cert.ExpUpIdeal.Gen
open Idealize.ShloMosaic Idealize.ShloMosaic.TcCoe Idealize.SL.Sem

variable {F : FTy → Type} [FloatOps F]

/-- What the tables satisfy: a tile is in use, every weight block is one of the eight, and a used tile's is its expert's. -/
structure Good (te : IVec S41 32) (nu : IVec S1 32) (tl : IVec S41 32) : Prop where
  pos : 1 ≤ (nu (ix1 0)).toInt
  range : ∀ j : Fin 41, (tl (ix1 j)).toNat < 8
  agree : ∀ j : Fin 41, (j.val : ℤ) < (nu (ix1 0)).toInt → tl (ix1 j) = te (ix1 j)

/-- A comparison bit widened to a word is not zero exactly when it is set. -/
theorem bit_set : ∀ b : BitVec 1, Scalar.cmpi .ne (Scalar.extui b) 0#32 = 1#1 ↔ b = 1#1 := by decide

/-- A tile number as a word. -/
theorem tile_toInt {j : ℕ} (h : j < 41) : (BitVec.ofNat 32 j).toInt = (j : ℤ) := by
  have e : (BitVec.ofNat 32 j).toNat = j := by rw [BitVec.toNat_ofNat]; omega
  rw [BitVec.toInt_eq_toNat_cond, e]
  split <;> omega

theorem slt_set (x y : BitVec 32) : Scalar.cmpi .slt x y = 1#1 ↔ x.toInt < y.toInt := by
  show BitVec.ofBool (decide (x.toInt < y.toInt)) = 1#1 ↔ _
  by_cases h : x.toInt < y.toInt <;> simp [h]

/-- The row block of an input: the tile's own while it is in use, and never past it. -/
theorem row_block {j : ℕ} (hj : j < 41) (n : BitVec 32) (hn : 1 ≤ n.toInt) :
    (Scalar.minsi (BitVec.ofNat 32 j) (Scalar.subi n 1#32)).toNat ≤ j
      ∧ ((j : ℤ) < n.toInt → (Scalar.minsi (BitVec.ofNat 32 j) (Scalar.subi n 1#32)).toNat = j) := by
  have e1 : (Scalar.subi n 1#32).toInt = n.toInt - 1 := by
    show (n - 1#32).toInt = _
    rw [BitVec.toInt_sub, show (1#32).toInt = 1 from rfl]
    have := n.toInt_lt
    exact Int.bmod_eq_of_le (by omega) (by omega)
  have e2 := tile_toInt hj
  have e3 : (BitVec.ofNat 32 j).toNat = j := by rw [BitVec.toNat_ofNat]; omega
  show (if (BitVec.ofNat 32 j).slt (Scalar.subi n 1#32) then BitVec.ofNat 32 j else Scalar.subi n 1#32).toNat ≤ j
    ∧ (_ → (if (BitVec.ofNat 32 j).slt (Scalar.subi n 1#32) then BitVec.ofNat 32 j else Scalar.subi n 1#32).toNat = j)
  rw [BitVec.slt_eq_decide, e1, e2]
  by_cases h : (j : ℤ) < n.toInt - 1
  · simp only [h, decide_true, if_true, e3]; exact ⟨le_refl _, fun _ => trivial⟩
  · simp only [h, decide_false, Bool.false_eq_true, if_false]
    have e4 : ((Scalar.subi n 1#32).toNat : ℤ) = n.toInt - 1 := by
      rw [← e1]
      have := BitVec.toInt_eq_toNat_cond (Scalar.subi n 1#32)
      have := (Scalar.subi n 1#32).isLt
      split at * <;> omega
    exact ⟨by omega, fun _ => by omega⟩

variable (m : (ℓ : Loc nD τ sig) → Buf (Elt F) ℓ)

/-- The tables in the launch memory. -/
abbrev teA : IVec S41 32 := m (((0 : Dev nD) : Thread nD τ).loc main_arg0)
abbrev nuA : IVec S1 32 := m (((0 : Dev nD) : Thread nD τ).loc main_arg1)
abbrev tlA : IVec S41 32 := m (((0 : Dev nD) : Thread nD τ).loc main_arg2)

/-- The offsets of the words a step reads. -/
theorem off1 (i : grid0.Coords) : k0_off1 i 0 = (i 1).val := by
  have h : (i 1).val < 41 := (i 1).isLt
  show (BitVec.ofNat 32 (i 1).val).toNat = _
  rw [BitVec.toNat_ofNat]; omega

theorem off2 : ∀ j : Fin 41, (Scalar.maxsi (Scalar.subi (BitVec.ofNat 32 j.val) 1#32) 0#32).toNat = j.val - 1 := by decide

theorem idx1_ext {n : ℕ} (a b : (⟨1, ![n]⟩ : Shape).Idx) (h : (a 0).val = (b 0).val) : a = b :=
  funext fun d => match d with | ⟨0, _⟩ => Fin.ext h

/-- The words a step reads. -/
theorem nu_word (c : Dev nD) : nuW (F := F) c (tbl m 1) = nuA m (ix1 0) :=
  congrArg (nuA m) (idx1_ext _ _ rfl)
theorem te_word (c : Dev nD) (i : grid0.Coords) : teW (F := F) c (tbl m 0) i = teA m (ix1 (i 1)) :=
  congrArg (teA m) (idx1_ext _ _ (by
    show k0_off1 i 0 + 1 * 0 = (i 1).val
    rw [off1]; omega))
theorem prev_word (c : Dev nD) (i : grid0.Coords) (k : Fin 41) (hk : k.val = (i 1).val - 1) :
    prevW (F := F) c (tbl m 0) i = teA m (ix1 k) :=
  congrArg (teA m) (idx1_ext _ _ (by
    show (Scalar.maxsi (Scalar.subi (BitVec.ofNat 32 (i 1).val) 1#32) 0#32).toNat + 1 * 0 = k.val
    rw [off2 (i 1), hk]; omega))
theorem tl_word (i : grid0.Coords) : (tbl (F := F) m).at 2 (Rect.unit (s := S41) (k0_off1 i) S1.size (k0_off1_inb i)) numel1_S1 = tlA m (ix1 (i 1)) :=
  congrArg (tlA m) (idx1_ext _ _ (by
    show k0_off1 i 0 + 1 * 0 = (i 1).val
    rw [off1]; omega))
theorem nu_table : (tbl (F := F) m).at 1 (Rect.unit (s := S1) ![0] S1.size inb_S1_S1_0) numel1_S1 = nuA m (ix1 0) :=
  congrArg (nuA m) (idx1_ext _ _ rfl)

/-- A step is at a used tile exactly when the tile's number is below the count. -/
theorem used_iff (c : Dev nD) (i : grid0.Coords) : Used m c i ↔ ((i 1).val : ℤ) < (nuA m (ix1 0)).toInt := by
  unfold Used k0_cond2
  refine (bit_set _).trans ((slt_set _ _).trans ?_)
  rw [nu_word, tile_toInt (i 1).isLt]

/-- The columns of a step, as a word. -/
theorem col_word (i : grid0.Coords) : (BitVec.ofNat 32 (i 0).val).toNat = (i 0).val := by
  have h : (i 0).val < 8 := (i 0).isLt
  rw [BitVec.toNat_ofNat]; omega

/-- The blocks the index maps name. -/
theorem map0 (i : grid0.Coords) : cc0_transform_0 inb_S1_S1_0 numel1_S1 (tbl (F := F) m) i = ![(Scalar.minsi (BitVec.ofNat 32 (i 1).val) (Scalar.subi (nuA m (ix1 0)) 1#32)).toNat, 0] := by
  rw [← nu_table]; rfl
theorem map1 (i : grid0.Coords) : cc0_transform_1 k0_off1_inb numel1_S1 (tbl (F := F) m) i = ![0, (tlA m (ix1 (i 1))).toNat, 0, (i 0).val] := by
  rw [← tl_word, ← col_word i]; rfl
theorem map2 (i : grid0.Coords) : cc0_transform_2 k0_off1_inb numel1_S1 (tbl (F := F) m) i = ![0, (tlA m (ix1 (i 1))).toNat, 0, (i 0).val] := by
  rw [← tl_word, ← col_word i]; rfl

variable (hG : Good (teA m) (nuA m) (tlA m))
include hG

/-- Every block lies inside its array. -/
theorem ok : Ok m := by
  have hw : ∀ i : grid0.Coords, ∀ a : Fin 4, ((![0, (tlA m (ix1 (i 1))).toNat, 0, (i 0).val] : Fin 4 → ℕ) a + 1) * S1x1x4096x512.size a ≤ S1x8x4096x4096.size a := by
    intro i a
    have h0 : (i 0).val < 8 := (i 0).isLt
    have h1 := hG.range (i 1)
    match a with
    | ⟨0, _⟩ => show (0 + 1) * 1 ≤ 1; omega
    | ⟨1, _⟩ => show ((tlA m (ix1 (i 1))).toNat + 1) * 1 ≤ 8; omega
    | ⟨2, _⟩ => show (0 + 1) * 4096 ≤ 4096; omega
    | ⟨3, _⟩ => show ((i 0).val + 1) * 512 ≤ 4096; omega
  refine ⟨fun i => ⟨?_, .inr (Affine.block_words_dvd (of_decide_eq_true rfl) (by decide))⟩, fun i => ⟨?_, .inl rfl⟩, fun i => ⟨?_, .inl rfl⟩⟩
  · intro a
    have h1 : (i 1).val < 41 := (i 1).isLt
    have h := (row_block h1 (nuA m (ix1 0)) hG.pos).1
    rw [map0]
    match a with
    | ⟨0, _⟩ => show ((Scalar.minsi (BitVec.ofNat 32 (i 1).val) (Scalar.subi (nuA m (ix1 0)) 1#32)).toNat + 1) * 512 ≤ 20992; omega
    | ⟨1, _⟩ => show (0 + 1) * 4096 ≤ 4096; omega
  · rw [map1]; exact hw i
  · rw [map2]; exact hw i

/-- A step at a used tile that keeps the copies: its tile is not the first, and the tile before has the same expert. -/
theorem kept (c : Dev nD) (i : grid0.Coords) (hu : Used m c i) (hc : ¬ Copies m c i) (k : Fin 41) (hk : k.val = (i 1).val - 1) :
    (i 1).val ≠ 0 ∧ teA m (ix1 (i 1)) = teA m (ix1 k) := by
  have h1 : (i 1).val < 41 := (i 1).isLt
  have hs : Scalar.cmpi .slt (BitVec.ofNat 32 (i 1).val) (nuA m (ix1 0)) = 1#1 := by
    rw [slt_set, tile_toInt h1]; exact (used_iff m c i).mp hu
  by_contra hn
  refine hc ?_
  unfold Copies copyC
  rw [nu_word, te_word, prev_word m c i k hk, hs]
  have bits : ∀ b b' : BitVec 1, (b = 1#1 ∨ b' = 1#1) → Scalar.cmpi .ne (Scalar.extui (Scalar.andi 1#1 (Scalar.ori b b'))) 0#32 = 1#1 := by decide
  refine bits _ _ ?_
  by_cases h0 : (i 1).val = 0
  · left; rw [h0]; rfl
  · right
    have hne : teA m (ix1 (i 1)) ≠ teA m (ix1 k) := fun e => hn ⟨h0, e⟩
    show BitVec.ofBool (teA m (ix1 (i 1)) != teA m (ix1 k)) = 1#1
    rw [bne_iff_ne.mpr hne]; rfl

omit hG in
/-- The steps go down the tiles, column block by column block. -/
theorem coords_eq : ∀ t : Fin grid0.N, ((grid0.coords t) 0).val = t.val / 41 ∧ ((grid0.coords t) 1).val = t.val % 41 := by decide +kernel

/-- The carried copies stay right. -/
theorem steady (c : Dev nD) : Steady m (ok m hG) c := by
  intro t' hu hc
  have hN : t'.val < 328 := lt_of_lt_of_eq t'.isLt N_0
  obtain ⟨q0, q1⟩ := coords_eq t'
  have hlt : (grid0.coords t' 1).val < 41 := (grid0.coords t' 1).isLt
  obtain ⟨hz, he⟩ := kept m hG c _ hu hc ⟨(grid0.coords t' 1).val - 1, by omega⟩ rfl
  have hb : t'.val - 1 < grid0.N := lt_of_lt_of_eq (by omega) N_0.symm
  obtain ⟨p0, p1⟩ := coords_eq ⟨t'.val - 1, hb⟩
  dsimp only at p0 p1
  have r0 : grid0.coords ⟨t'.val - 1, hb⟩ 0 = grid0.coords t' 0 := Fin.ext (by omega)
  have r1 : (grid0.coords ⟨t'.val - 1, hb⟩ 1).val = (grid0.coords t' 1).val - 1 := by omega
  have r1' : grid0.coords ⟨t'.val - 1, hb⟩ 1 = (⟨(grid0.coords t' 1).val - 1, by omega⟩ : Fin 41) := Fin.ext r1
  have hu1 := (used_iff m c _).mp hu
  have hup : ((grid0.coords ⟨t'.val - 1, hb⟩ 1).val : ℤ) < (nuA m (ix1 0)).toInt := by omega
  have same : tlA m (ix1 (grid0.coords t' 1)) = tlA m (ix1 (grid0.coords ⟨t'.val - 1, hb⟩ 1)) := by
    rw [hG.agree _ hu1, hG.agree _ hup, he]
    exact congrArg (fun j => teA m (ix1 j)) r1'.symm
  refine ⟨⟨t'.val - 1, hb⟩, by show t'.val - 1 + 1 = t'.val; omega, (used_iff m c _).mpr hup, ?_, ?_⟩
  · show cc0_transform_1 k0_off1_inb numel1_S1 (tbl (F := F) m) (grid0.coords t') = cc0_transform_1 k0_off1_inb numel1_S1 (tbl (F := F) m) (grid0.coords ⟨t'.val - 1, hb⟩)
    rw [map1, map1, same, r0]
  · show cc0_transform_2 k0_off1_inb numel1_S1 (tbl (F := F) m) (grid0.coords t') = cc0_transform_2 k0_off1_inb numel1_S1 (tbl (F := F) m) (grid0.coords ⟨t'.val - 1, hb⟩)
    rw [map2, map2, same, r0]

omit hG

/-- The precondition says so much of the tables. -/
theorem good_of_pre (te : IVec S41 32) (nu : IVec S1 32) (tl : IVec S41 32) (x : FVec F S20992x4096 .bf16) (wg wu : FVec F S1x8x4096x4096 .f32)
    (h1 : (Cert.Pre_tables_up.fn (F := F) te nu tl x wg wu).1 = fun _ => 1#1)
    (h2 : (Cert.Pre_tables_up.fn (F := F) te nu tl x wg wu).2.1 = fun _ => 1#1)
    (h3 : (Cert.Pre_tables_up.fn (F := F) te nu tl x wg wu).2.2.1 = fun _ => 1#1)
    (h4 : (Cert.Pre_tables_up.fn (F := F) te nu tl x wg wu).2.2.2 = fun _ => 1#1) : Good te nu tl := by
  have ofb : ∀ (p : Prop) [Decidable p], BitVec.ofBool (decide p) = 1#1 → p := by
    intro p _ h; by_contra hn; rw [decide_eq_false hn] at h; exact absurd h (by decide)
  refine ⟨?_, fun j => ?_, fun j hj => ?_⟩
  · exact ofb _ (congrFun h1 (ix1 0))
  · have a : (0#32).toInt ≤ (tl (ix1 j)).toInt := ofb _ (congrFun h2 (ix1 j))
    have b : (tl (ix1 j)).toInt < (8#32).toInt := ofb _ (congrFun h3 (ix1 j))
    rw [show (0#32).toInt = 0 from rfl] at a
    rw [show (8#32).toInt = 8 from rfl] at b
    have := BitVec.toInt_eq_toNat_cond (tl (ix1 j))
    have := (tl (ix1 j)).isLt
    split at * <;> omega
  · have h := congrFun h4 (ix1 j)
    have hc : Scalar.ori (Scalar.cmpi .sge (BitVec.ofNat 32 j.val) (nu (ix1 0))) (Scalar.cmpi .eq (tl (ix1 j)) (te (ix1 j))) = 1#1 := by
      rw [← h]; show _ = Scalar.ori (Scalar.cmpi .sge (BitVec.ofNat 32 j.val) (nu _)) _
      congr 2
      exact congrArg nu (idx1_ext _ _ rfl)
    have hs : Scalar.cmpi .sge (BitVec.ofNat 32 j.val) (nu (ix1 0)) = 0#1 := by
      show BitVec.ofBool (decide ((nu (ix1 0)).toInt ≤ (BitVec.ofNat 32 j.val).toInt)) = 0#1
      rw [tile_toInt j.isLt, decide_eq_false (by omega)]; rfl
    rw [hs] at hc
    by_contra hn
    have : Scalar.cmpi .eq (tl (ix1 j)) (te (ix1 j)) = 0#1 := by
      show BitVec.ofBool (tl (ix1 j) == te (ix1 j)) = 0#1
      rw [beq_eq_false_iff_ne.mpr hn]; rfl
    rw [this] at hc
    exact absurd hc (by decide)

end Cert.ExpUpProof

end
-- ==== Proof.ExpUpFrame.lean ====
/-
The experts' first products: the frames. The kernel runs and keeps its arguments under the precondition on the tables, and
the array it leaves is, block by block, what its steps left.
-/
module

public import proofs.«01_k».proof.Proof.ExpUpTables
public import proofs.«01_k».proof.Proof.Gen.ExpUp.Launch
public import proofs.«01_k».proof.Proof.Gen.ExpUpRefIdeal.Run
public import proofs.«01_k».proof.Proof.Gen.ExpUpRefIdeal.Read
public import proofs.«01_k».proof.Proof.Gen.ExpUp.Skeleton

@[expose] public section

set_option maxRecDepth 16384

noncomputable section

namespace Cert.ExpUpProof

open Cert.ExpUpIdeal Cert.ExpUpIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (hG : Good (teA m) (nuA m) (tlA m))

/-- Which block of the result a step writes. -/
theorem block3 : ∀ t : Fin grid0.N, cc0_transform_3 (grid0.coords t) = ![t.val % 41, t.val / 41] := by decide +kernel

/-- The array the call leaves: at every index, what the step of its block left there. -/
def arr (c : Dev nD) : Vec F S20992x4096 .bf16 := fun i =>
  outB m (ok m hG) c ⟨(i 0).val / 512 + 41 * ((i 1).val / 512), lt_of_lt_of_eq (by
    have h0 : (i 0).val < 20992 := (i 0).isLt
    have h1 : (i 1).val < 4096 := (i 1).isLt
    show _ < 328; omega) N_0.symm⟩ (ix2 ⟨(i 0).val % 512, Nat.mod_lt _ (by decide)⟩ ⟨(i 1).val % 512, Nat.mod_lt _ (by decide)⟩)

/-- The array at an index of a step's block is what the step left there. -/
theorem arr_at (c : Dev nD) (t : Fin grid0.N) (i : S20992x4096.Idx) (y : S512x512.Idx)
    (h0 : (i 0).val = cc0_transform_3 (grid0.coords t) 0 * 512 + 1 * (y 0).val)
    (h1 : (i 1).val = cc0_transform_3 (grid0.coords t) 1 * 512 + 1 * (y 1).val) : outB m (ok m hG) c t y = arr m hG c i := by
  have hN : t.val < 328 := lt_of_lt_of_eq t.isLt N_0
  have e := block3 t
  have e0 : cc0_transform_3 (grid0.coords t) 0 = t.val % 41 := congrFun e 0
  have e1 : cc0_transform_3 (grid0.coords t) 1 = t.val / 41 := congrFun e 1
  have hy0 : (y 0).val < 512 := (y 0).isLt
  have hy1 : (y 1).val < 512 := (y 1).isLt
  rw [e0] at h0
  rw [e1] at h1
  unfold arr
  congr 1
  · exact Fin.ext (show t.val = (i 0).val / 512 + 41 * ((i 1).val / 512) by omega)
  · funext a; apply Fin.ext
    match a with
    | ⟨0, _⟩ => show (y 0).val = (i 0).val % 512; omega
    | ⟨1, _⟩ => show (y 1).val = (i 1).val % 512; omega

/-- What a step writes back is its block of that array. -/
theorem written (c : Dev nD) (t : Fin (cfgM m (ok m hG)).N) :
    (dats m (ok m hG) 0 c).flushed 3 t = (((cfgM m (ok m hG)).win 3).blk t).view.read (Elt F) (arr m hG c) := by
  show ((cfgM m (ok m hG)).win 3).cut (grid0.coords t) ((dats m (ok m hG) 0 c).after 3 t) = _
  rw [after3]
  funext y
  exact arr_at m hG c t _ _ rfl rfl

/-- The steps' blocks cover the array. -/
theorem covered (i : S20992x4096.Idx) : ∃ t : Fin (cfgM m (ok m hG)).N, ((cfgM m (ok m hG)).win 3).flush t = true ∧ i ∈ (((cfgM m (ok m hG)).win 3).blk t).view.set := by
  have h0 : (i 0).val < 20992 := (i 0).isLt
  have h1 : (i 1).val < 4096 := (i 1).isLt
  have hb : (i 0).val / 512 + 41 * ((i 1).val / 512) < grid0.N := lt_of_lt_of_eq (by omega) N_0.symm
  refine ⟨⟨_, hb⟩, flush3 _ _, ?_⟩
  have e := block3 ⟨_, hb⟩
  have e0 : cc0_transform_3 (grid0.coords ⟨_, hb⟩) 0 = ((i 0).val / 512 + 41 * ((i 1).val / 512)) % 41 := congrFun e 0
  have e1 : cc0_transform_3 (grid0.coords ⟨_, hb⟩) 1 = ((i 0).val / 512 + 41 * ((i 1).val / 512)) / 41 := congrFun e 1
  refine (congrArg (i ∈ ·) (View.set_slice_whole main_v0 (((cfgM m (ok m hG)).win 3).rect ⟨_, hb⟩))).mpr (Rect.mem_set_unit.mpr fun a => ?_)
  match a with
  | ⟨0, _⟩ =>
    show cc0_transform_3 (grid0.coords ⟨_, hb⟩) 0 * 512 ≤ (i 0).val ∧ (i 0).val < cc0_transform_3 (grid0.coords ⟨_, hb⟩) 0 * 512 + 512
    omega
  | ⟨1, _⟩ =>
    show cc0_transform_3 (grid0.coords ⟨_, hb⟩) 1 * 512 ≤ (i 1).val ∧ (i 1).val < cc0_transform_3 (grid0.coords ⟨_, hb⟩) 1 * 512 + 512
    omega

/-- The kernel's run: it leaves that array, and its arguments as they were. -/
theorem run : θ_run defs (onTc (τ := τ) (main (F := F))) ⟨m, fun _ => 0, ρ⟩ (fun r => (∀ c : Dev nD,
      r.2.mem ((c : Thread nD τ).loc main_v0) = arr m hG c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) := by
  refine (θ_run defs _ _).mono (fun r h => ⟨fun c => ⟨?_, ?_, ?_, ?_, ?_, ?_, ?_⟩, h.2⟩) (run_call m ρ (ok m hG) (steady m hG))
  · exact ((h.1 c).1 3).trans ((dats m (ok m hG) 0 c).arrAt_eq_of_cover 3 _ (fun t _ => written m hG c t) (covered m hG))
  · exact (h.1 c).2 main_arg0 (by decide : main_arg0 ∈ Pipeline.restRefs sig spec0)
  · exact (h.1 c).2 main_arg1 (by decide : main_arg1 ∈ Pipeline.restRefs sig spec0)
  · exact (h.1 c).2 main_arg2 (by decide : main_arg2 ∈ Pipeline.restRefs sig spec0)
  · exact ((h.1 c).1 0).trans (((dats m (ok m hG) 0 c).arrAt_in 0 rfl _).trans (A_eq m (ok m hG) c 0))
  · exact ((h.1 c).1 1).trans (((dats m (ok m hG) 0 c).arrAt_in 1 rfl _).trans (A_eq m (ok m hG) c 1))
  · exact ((h.1 c).1 2).trans (((dats m (ok m hG) 0 c).arrAt_in 2 rfl _).trans (A_eq m (ok m hG) c 2))

/-- The kernel, read over the extended reals, runs, keeps its arguments, and leaves every counter at zero. -/
theorem frameIdeal : Cert.quiescent_ExpUpIdeal := by
  intro m ρ h
  obtain ⟨h1, h2, h3, h4⟩ := h 0
  exact (θ_run Cert.ExpUpIdeal.defs _ _).mono (fun r h => ⟨fun c => (h.1 c).2, h.2⟩) (run m ρ (good_of_pre _ _ _ _ _ _ h1 h2 h3 h4))

/-- The program and its reading over the extended reals are one text: their bodies are the same function, -/
theorem same_body : @Cert.ExpUp.cc0_expert_up F _ _ = @Cert.ExpUpIdeal.cc0_expert_up F _ _ := rfl

/-- … so their body tables are the same, -/
theorem same_table : (Cert.ExpUp.defs₀ (F := F) : Defs Cert.ExpUp.nD Cert.ExpUp.τ Cert.ExpUp.sig (Elt F) Cert.ExpUp.Λ₀) = Cert.ExpUpIdeal.defs₀ (F := F) := by
  unfold Cert.ExpUp.defs₀ Cert.ExpUpIdeal.defs₀
  refine congrArg _ ?_
  funext l a
  match l, a with
  | 0, (t, s) => rfl

/-- … and so are the calls'. -/
theorem same_defs : HEq (Cert.ExpUp.defs (F := F)) (Cert.ExpUpIdeal.defs (F := F)) := by
  unfold Cert.ExpUp.defs Cert.ExpUpIdeal.defs
  rw [same_table]
  rfl

/-- The kernel runs, keeps its arguments, and leaves every counter at zero. -/
theorem frame : Cert.quiescent_ExpUp := by
  intro m ρ h
  obtain ⟨h1, h2, h3, h4⟩ := h 0
  have e := (θ_run (Cert.ExpUpIdeal.defs (F := Bits)) _ _).mono (fun r (h : _ ∧ _) => (⟨fun c => (h.1 c).2, h.2⟩ : _ ∧ _)) (run (F := Bits) m ρ (good_of_pre _ _ _ _ _ _ h1 h2 h3 h4))
  rw [eq_of_heq same_defs]
  exact e

/-- The reference runs and keeps its arguments. -/
theorem frameRef : Cert.quiescent_ExpUpRefIdeal := fun m ρ _ =>
  (θ_run Cert.ExpUpRefIdeal.defs _ _).mono (fun r h => ⟨fun c => (h c).2, sem_eq_zero_of_no_sems (by decide) r.2⟩)
    (Cert.ExpUpRefIdeal.Value.run (F := Ideal) m ρ)

end Cert.ExpUpProof

end
-- ==== Proof.Swiglu.lean ====
/-
The gate and up products of the feed-forward layer: the kernel keeps the two weight blocks of a column in a carried copy
while it goes down the rows, and leaves the array the plain formula gives.
-/
module

public import proofs.«01_k».proof.Defs
public import proofs.«01_k».proof.Proof.Gen.Swiglu.Frame
public import proofs.«01_k».proof.Proof.Gen.SwigluIdeal.Value
public import proofs.«01_k».proof.Proof.Gen.SwigluRefIdeal.Run
public import proofs.«01_k».proof.Proof.Gen.SwigluRefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.SwigluProof

open Idealize.ShloMosaic Idealize.ShloMosaic.TcCoe Idealize.SL.Sem
open Cert.SwigluIdeal Cert.SwigluIdeal.Gen

variable (m : (ℓ : Loc nD τ sig) → Buf (Elt Ideal) ℓ)

/-- The arguments of the call. -/
abbrev a0 (c : Dev nD) : Vec Ideal S8320x4096 .bf16 := m ((c : Thread nD τ).loc main_arg0)
abbrev a1 (c : Dev nD) : Vec Ideal S1x4096x11008 .f32 := m ((c : Thread nD τ).loc main_arg1)
abbrev a2 (c : Dev nD) : Vec Ideal S1x4096x11008 .f32 := m ((c : Thread nD τ).loc main_arg2)

/-- Which blocks point `t` works on. -/
theorem idx : ∀ t : Fin grid0.N, win0_0.index t 0 = t.val % 8 ∧ win0_0.index t 1 = 0
    ∧ win0_1.index t 0 = 0 ∧ win0_1.index t 1 = 0 ∧ win0_1.index t 2 = t.val / 8
    ∧ win0_2.index t 0 = 0 ∧ win0_2.index t 1 = 0 ∧ win0_2.index t 2 = t.val / 8 := by decide +kernel

theorem N_eq : cfg0.N = 344 := N_0

/-- The columns of a weight array that point `n` multiplies by. -/
def cols (A : Vec Ideal S1x4096x11008 .f32) (n : ℕ) : FVec Ideal S4096x256 .bf16 :=
  fun y => A (ix3 0 (y 0) (Fin.ofNat 11008 (256 * (n / 8) + (y 1).val)))

theorem pay1_eq (c : Dev nD) (t : Fin cfg0.N) : k0_pay1 (iblk m c 1 t) = cols (a1 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a1 m c (ix3 0 k (Fin.ofNat 11008 (256 * (t.val / 8) + j.val)))
  have hj := j.isLt
  pointwise [k0_pay1]
  obtain ⟨-, -, e0, e1, e2, -⟩ := idx t
  blk_point [iblk, V, e0, e1, e2]
  show _ = (256 * (t.val / 8) + j.val) % 11008
  omega

theorem pay2_eq (c : Dev nD) (t : Fin cfg0.N) : k0_pay2 (iblk m c 2 t) = cols (a2 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a2 m c (ix3 0 k (Fin.ofNat 11008 (256 * (t.val / 8) + j.val)))
  have hj := j.isLt
  pointwise [k0_pay2]
  obtain ⟨-, -, -, -, -, e0, e1, e2⟩ := idx t
  blk_point [iblk, V, e0, e1, e2]
  show _ = (256 * (t.val / 8) + j.val) % 11008
  omega

/-- Below the first row block the body multiplies by the copies it finds. -/
theorem outB (c : Dev nD) (i : grid0.Coords) (arg2 : Memref sig .tc .vmem S1040x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1040x256 .bf16) (harg5 : arg5.IsWhole) (arg6 : Memref sig .tc .vmem S4096x256 .bf16) (harg6 : arg6.IsWhole) (arg7 : Memref sig .tc .vmem S4096x256 .bf16) (harg7 : arg7.IsWhole)
    (hc0 : ¬cond0_0 i) (x0 : Vec Ideal S1040x4096 .bf16) (x1 x2 : Vec Ideal S1x4096x256 .f32) (xs0 xs1 : Vec Ideal S4096x256 .bf16) :
    out0_B_3 c i arg2 harg2 arg3 harg3 arg4 harg4 arg5 harg5 arg6 harg6 arg7 harg7 hc0 x0 x1 x2 xs0 xs1 = k0_pay3 x0 xs0 xs1 := by
  frame_out

/-- WHAT A POINT LEAVES: its output block, and the two carried copies at the columns of the point. -/
theorem holds (c : Dev nD) : ∀ (n : ℕ) (hn : n < cfg0.N), outsAt0 m c n hn
    = (k0_pay3 (iblk m c 0 ⟨n, hn⟩) (cols (a1 m c) n) (cols (a2 m c) n), cols (a1 m c) n, cols (a2 m c) n) := by
  have hA : ∀ t : Fin cfg0.N, t.val % 8 = 0 → outsAt0 m c t.val t.isLt
      = (k0_pay3 (iblk m c 0 t) (cols (a1 m c) t.val) (cols (a2 m c) t.val), cols (a1 m c) t.val, cols (a2 m c) t.val) := by
    intro t h
    rw [outsAt0_A m c t h, ← pay1_eq, ← pay2_eq]
    frame_out
  intro n
  induction n with
  | zero => exact fun hn => hA ⟨0, hn⟩ rfl
  | succ n ih =>
    intro hn
    by_cases h : (n + 1) % 8 = 0
    · exact hA ⟨n + 1, hn⟩ h
    · have e := outsAt0_B m c ⟨n + 1, hn⟩ h
      dsimp only at e
      rw [e]
      have p := ih (Nat.lt_of_succ_lt hn)
      have same : ∀ A, cols A n = cols A (n + 1) := fun A => by unfold cols; rw [show (n + 1) / 8 = n / 8 by omega]
      rw [← same, ← same]
      simp only [Nat.add_sub_cancel]
      rw [p, outB]
      rfl

/-- The gated product of one row of activations with one column of each weight array. -/
def entry (x u v : Fin 4096 → EReal) : EReal :=
  (∑ k, x k * u k) * Ideal.div 1 (1 + Ideal.exp (-(∑ k, x k * u k))) * ∑ k, x k * v k

theorem pay3_at (x0 : Vec Ideal S1040x4096 .bf16) (u v : FVec Ideal S4096x256 .bf16) (r : Fin 1040) (j : Fin 256) :
    k0_pay3 x0 u v (ix2 r j) = entry (fun k => x0 (ix2 r k)) (fun k => u (ix2 k j)) (fun k => v (ix2 k j)) := by
  unfold entry
  pointwise [k0_pay3]
  rfl

theorem ref_at (A0 : Vec Ideal S8320x4096 .bf16) (A1 A2 : Vec Ideal S1x4096x11008 .f32) (p : Fin 8320) (q : Fin 11008) :
    SwigluRefIdeal.Read.val_main_v8 (F := Ideal) A0 A1 A2 (ix2 p q)
      = entry (fun k => A0 (ix2 p k)) (fun k => A1 (ix3 0 k q)) (fun k => A2 (ix3 0 k q)) := by
  unfold entry
  pointwise [SwigluRefIdeal.Read.val_main_v8, SwigluRefIdeal.Read.val_main_v7, SwigluRefIdeal.Read.val_main_v6, SwigluRefIdeal.Read.val_main_v5,
    SwigluRefIdeal.Read.val_main_v4, SwigluRefIdeal.Read.val_main_v3, SwigluRefIdeal.Read.val_main_v2, SwigluRefIdeal.Read.val_main_v1, SwigluRefIdeal.Read.val_main_v0,
    SwigluRefIdeal.Read.val_main_call0_v0, SwigluRefIdeal.Read.val_main_call0_v1, SwigluRefIdeal.Read.val_main_call0_v2, SwigluRefIdeal.Read.val_main_call0_v3,
    SwigluRefIdeal.Read.val_main_call0_v4, SwigluRefIdeal.Read.val_main_call0_v5, SwigluRefIdeal.Read.val_main_call0_cst, SwigluRefIdeal.Read.val_main_call0_cst_0]

/-- The array at an index is what the point of its block left there. -/
theorem array_at (c : Dev nD) (p : Fin 8320) (q : Fin 11008) (n : ℕ) (hn : n < cfg0.N) (e : n = p.val / 1040 + 8 * (q.val / 256)) (r : Fin 1040) (j : Fin 256)
    (hr : r.val = p.val % 1040) (hj : j.val = q.val % 256) :
    Value.G3 m c (ix2 p q) = k0_pay3 (iblk m c 0 ⟨n, hn⟩) (cols (a1 m c) n) (cols (a2 m c) n) (ix2 r j) := by
  have hv : Value.pt3Of (ix2 p q) = n := by
    show 1 * (p.val / 1040 - 0) + 8 * (q.val / 256 - 0) = _
    omega
  have hl : Value.loc3Of (ix2 p q) = ix2 r j := funext fun a => match a with
    | ⟨0, _⟩ => Fin.ext hr.symm
    | ⟨1, _⟩ => Fin.ext hj.symm
  have h := holds m c n hn
  have hb : Value.pt3Of (ix2 p q) < cfg0.N := hv ▸ hn
  unfold Value.G3
  rw [dif_pos hb, hl, Value.fold0_congr m c _ _ n (by omega) hv, ← Value.outsAt0_sweep m c _ hn, h]

/-- The array the call leaves is the reference's. -/
theorem final (c : Dev nD) : Value.G3 m c = SwigluRefIdeal.Read.val_main_v8 (F := Ideal) (a0 m c) (a1 m c) (a2 m c) := by
  funext i
  obtain ⟨p, q, rfl⟩ : ∃ (p : Fin 8320) (q : Fin 11008), i = ix2 p q := ⟨i 0, i 1, funext fun a => match a with | ⟨0, _⟩ => rfl | ⟨1, _⟩ => rfl⟩
  have hp : p.val < 8320 := p.isLt
  have hq : q.val < 11008 := q.isLt
  have hn : p.val / 1040 + 8 * (q.val / 256) < cfg0.N := lt_of_lt_of_eq (by omega) N_eq.symm
  rw [ref_at, array_at m c p q _ hn rfl ⟨p.val % 1040, by omega⟩ ⟨q.val % 256, by omega⟩ rfl rfl, pay3_at]
  obtain ⟨e0, e1, -⟩ := idx ⟨p.val / 1040 + 8 * (q.val / 256), hn⟩
  dsimp only at e0 e1
  unfold cols
  congr 1
  · funext k
    blk_ext [iblk, V, e0, e1]
  · funext k
    exact congrArg (fun y => a1 m c (ix3 0 k y)) (Fin.ext (show (256 * ((p.val / 1040 + 8 * (q.val / 256)) / 8) + q.val % 256) % 11008 = q.val by omega))
  · funext k
    exact congrArg (fun y => a2 m c (ix3 0 k y)) (Fin.ext (show (256 * ((p.val / 1040 + 8 * (q.val / 256)) / 8) + q.val % 256) % 11008 = q.val by omega))

/-! ## The claims -/

/-- The kernel runs, keeps its arguments, and leaves every counter at zero. -/
theorem frame : Cert.quiescent_Swiglu := fun m ρ _ => Cert.Swiglu.Gen.frame m ρ

/-- So does its reading over the extended reals. -/
theorem frameIdeal : Cert.quiescent_SwigluIdeal := fun m ρ _ => Cert.SwigluIdeal.Gen.frame m ρ

/-- The reference runs and keeps its arguments. -/
theorem frameRef : Cert.quiescent_SwigluRefIdeal := fun m ρ _ =>
  (θ_run Cert.SwigluRefIdeal.defs _ _).mono (fun r h => ⟨fun c => (h c).2, sem_eq_zero_of_no_sems (by decide) r.2⟩)
    (Cert.SwigluRefIdeal.Value.run (F := Ideal) m ρ)

/-- The kernel's result is the reference's. -/
theorem algebraic : Cert.algebraic_SwigluIdeal_SwigluRefIdeal := by
  intro m ρ m' ρ' hpre hag
  refine ⟨fun c => SwigluRefIdeal.Read.val_main_v8 (F := Ideal) (a0 m c) (a1 m c) (a2 m c), ?_, ?_⟩
  · exact (θ_run Cert.SwigluIdeal.defs _ _).mono (fun r h c => ⟨(h c).1.trans (final m c), (h c).2⟩)
      (Cert.SwigluIdeal.Value.run (F := Ideal) m ρ)
  · refine (θ_run Cert.SwigluRefIdeal.defs _ _).mono (fun r h c => ⟨(h c).1.trans ?_, (h c).2⟩)
      (Cert.SwigluRefIdeal.Value.run (F := Ideal) m' ρ')
    rw [Cert.SwigluRefIdeal.Read.val_main_v8_eq, (hag c).1, (hag c).2.1, (hag c).2.2]

end Cert.SwigluProof

end
-- ==== Proof.ExpUpClaim.lean ====
/-
The experts' first products: the kernel's result is the reference's. The reference multiplies every tile's rows by every
expert's weights and keeps, by a masked sum over the eight experts, the tile's own; the kernel multiplies by that expert's
block alone.
-/
module

public import proofs.«01_k».proof.Proof.ExpUpFrame
public import proofs.«01_k».proof.Proof.Swiglu

@[expose] public section

set_option maxRecDepth 16384

noncomputable section

namespace Cert.ExpUpProof

open Cert.ExpUpIdeal Cert.ExpUpIdeal.Gen
open Idealize.ShloMosaic Idealize.ShloMosaic.TcCoe Idealize.SL.Sem
open Cert.SwigluProof (entry)

/-- A sum over the experts in which all but one are masked out. -/
theorem sum_pick (e : BitVec 32) (he : e.toNat < 8) (f : Fin 8 → EReal) :
    ∑ k : Fin 8, Scalar.select (IntOp.cmpi .eq e (BitVec.ofNat 32 k.val)) (f k) 0 = f ⟨e.toNat, he⟩ := by
  rw [Finset.sum_eq_single (⟨e.toNat, he⟩ : Fin 8)]
  · have h : IntOp.cmpi .eq e (BitVec.ofNat 32 e.toNat) = 1#1 := by
      show BitVec.ofBool (e == BitVec.ofNat 32 e.toNat) = 1#1
      rw [BitVec.ofNat_toNat, BitVec.setWidth_eq, beq_self_eq_true]; rfl
    show Scalar.select (IntOp.cmpi .eq e (BitVec.ofNat 32 e.toNat)) _ _ = _
    rw [h]; rfl
  · intro k _ hk
    have h : IntOp.cmpi .eq e (BitVec.ofNat 32 k.val) = 0#1 := by
      show BitVec.ofBool (e == BitVec.ofNat 32 k.val) = 0#1
      rw [beq_eq_false_iff_ne.mpr]; · rfl
      intro h
      refine hk (Fin.ext ?_)
      have := k.isLt
      have := congrArg BitVec.toNat h
      rw [BitVec.toNat_ofNat] at this
      show k.val = e.toNat
      omega
    rw [h]; rfl
  · exact fun h => absurd (Finset.mem_univ _) h

/-- The reference's mask at a tile and an expert. -/
theorem mask (te : IVec S41 32) (i : Cert.ExpUpRefIdeal.S41x512x8x4096.Idx) :
    ExpUpRefIdeal.Read.val_main_call0_v1 (F := Ideal) te i = IntOp.cmpi .eq (te (ix1 (i 0))) (BitVec.ofNat 32 (i 2).val) := by
  rw [ExpUpRefIdeal.Read.val_main_call0_v1_apply, ExpUpRefIdeal.Read.val_main_v10_apply, ExpUpRefIdeal.Read.val_main_v9_apply,
    ExpUpRefIdeal.Read.val_main_v7_apply, ExpUpRefIdeal.Read.val_main_v4_apply, ExpUpRefIdeal.Read.val_main_v8_apply,
    ExpUpRefIdeal.Read.val_main_v6_apply, ExpUpRefIdeal.Read.val_main_v5_apply]
  exact congrArg (fun j => IntOp.cmpi .eq (te j) _) (idx1_ext _ _ rfl)

/-- The reference's product at a row of a tile: the row times the column of the tile's expert. -/
theorem by_expert (te : IVec S41 32) (x : FVec Ideal S20992x4096 .bf16) (w : FVec Ideal S1x8x4096x4096 .f32)
    (i : Cert.ExpUpRefIdeal.S41x512x4096.Idx) (he : (te (ix1 (i 0))).toNat < 8) (p : Fin 20992) (hp : p.val = (i 0).val * 512 + (i 1).val) :
    ExpUpRefIdeal.Read.val_main_v12 (F := Ideal) te x w i = ∑ k : Fin 4096, x (ix2 p k) * w (ix4 0 ⟨(te (ix1 (i 0))).toNat, he⟩ k (i 2)) := by
  have h0 : (i 0).val < 41 := (i 0).isLt
  have h1 : (i 1).val < 512 := (i 1).isLt
  have h2 : (i 2).val < 4096 := (i 2).isLt
  rw [ExpUpRefIdeal.Read.val_main_v12_apply, ExpUpRefIdeal.Read.val_main_cst_0_apply]
  show (Ideal.ofBits .f32 0x00000000#32 : EReal) + ∑ k : Fin 8, Scalar.select (ExpUpRefIdeal.Read.val_main_call0_v1 (F := Ideal) te (ExpUpRefIdeal.Read.idx_main_v12 i k)) (ExpUpRefIdeal.Read.val_main_v3 (F := Ideal) x w (ExpUpRefIdeal.Read.idx_main_v12 i k)) (ExpUpRefIdeal.Read.val_main_call0_v2 (F := Ideal) (ExpUpRefIdeal.Read.idx_main_v12 i k)) = _
  have z : ∀ j, (ExpUpRefIdeal.Read.val_main_call0_v2 (F := Ideal) j : EReal) = 0 := by
    intro j
    rw [ExpUpRefIdeal.Read.val_main_call0_v2_apply]
    exact Ideal.ofBits_zero .f32
  simp only [z, mask]
  rw [Ideal.ofBits_zero, zero_add]
  refine (sum_pick (te (ix1 (i 0))) he _).trans ?_
  rw [ExpUpRefIdeal.Read.val_main_v3_apply]
  show (_ : EReal) = _
  refine Finset.sum_congr rfl fun k _ => ?_
  have hk := k.isLt
  rw [ExpUpRefIdeal.Read.val_main_v1_apply, ExpUpRefIdeal.Read.val_main_v2_apply]
  have ex : ExpUpRefIdeal.Read.idx_main_v1 (ExpUpRefIdeal.Read.lidx_main_v3 (ExpUpRefIdeal.Read.idx_main_v12 i ⟨(te (ix1 (i 0))).toNat, he⟩) k) = ix2 p k := by
    funext a; apply Fin.ext
    match a with
    | ⟨0, _⟩ => show (((i 0).val * 512 + (i 1).val) * 4096 + k.val) / 4096 = p.val; omega
    | ⟨1, _⟩ => show (((i 0).val * 512 + (i 1).val) * 4096 + k.val) % 4096 = k.val; omega
  have ew : ExpUpRefIdeal.Read.idx_main_v2 (ExpUpRefIdeal.Read.ridx_main_v3 (ExpUpRefIdeal.Read.idx_main_v12 i ⟨(te (ix1 (i 0))).toNat, he⟩) k) = ix4 0 ⟨(te (ix1 (i 0))).toNat, he⟩ k (i 2) := by
    funext a; apply Fin.ext
    match a with
    | ⟨0, _⟩ => rfl
    | ⟨1, _⟩ => show (((te (ix1 (i 0))).toNat * 4096 + k.val) * 4096 + (i 2).val) / 16777216 % 8 = (te (ix1 (i 0))).toNat; omega
    | ⟨2, _⟩ => show (((te (ix1 (i 0))).toNat * 4096 + k.val) * 4096 + (i 2).val) / 4096 % 4096 = k.val; omega
    | ⟨3, _⟩ => show (((te (ix1 (i 0))).toNat * 4096 + k.val) * 4096 + (i 2).val) % 4096 = (i 2).val; omega
  rw [ex, ew]
  rfl

/-- The second product is the first of other weights. -/
theorem by_expert' (te : IVec S41 32) (x : FVec Ideal S20992x4096 .bf16) (w : FVec Ideal S1x8x4096x4096 .f32) :
    ExpUpRefIdeal.Read.val_main_v25 (F := Ideal) te x w = ExpUpRefIdeal.Read.val_main_v12 (F := Ideal) te x w := rfl

/-- Which of the reference's tiles are in use. -/
theorem used_bit (nu : IVec S1 32) (i : Cert.ExpUpRefIdeal.S41x512x4096.Idx) :
    ExpUpRefIdeal.Read.val_main_call3_v1 (F := Ideal) nu i = 1#1 ↔ ((i 0).val : ℤ) < (nu (ix1 0)).toInt := by
  rw [ExpUpRefIdeal.Read.val_main_call3_v1_apply, ExpUpRefIdeal.Read.val_main_v29_apply, ExpUpRefIdeal.Read.val_main_v28_apply,
    ExpUpRefIdeal.Read.val_main_v27_apply, ExpUpRefIdeal.Read.val_main_v26_apply]
  have e : nu (ExpUpRefIdeal.Read.idx_main_v27 (ExpUpRefIdeal.Read.idx_main_v29 (ExpUpRefIdeal.Read.idx_main_call3_v1 i))) = nu (ix1 0) := congrArg nu (idx1_ext _ _ rfl)
  rw [e]
  refine (slt_set _ _).trans ?_
  show (BitVec.ofNat 32 (i 0).val).toInt < _ ↔ _
  rw [tile_toInt (i 0).isLt]

/-- The reference at a row and a column. -/
theorem ref_at (te : IVec S41 32) (nu : IVec S1 32) (x : FVec Ideal S20992x4096 .bf16) (wg wu : FVec Ideal S1x8x4096x4096 .f32)
    (p : Fin 20992) (q : Fin 4096) (j : Fin 41) (hj : j.val = p.val / 512) (hr : (j.val : ℤ) < (nu (ix1 0)).toInt → (te (ix1 j)).toNat < 8) :
    ExpUpRefIdeal.Read.val_main_v34 (F := Ideal) te nu x wg wu (ix2 p q)
      = if h : (j.val : ℤ) < (nu (ix1 0)).toInt then
          entry (fun k => x (ix2 p k)) (fun k => wg (ix4 0 ⟨(te (ix1 j)).toNat, hr h⟩ k q)) (fun k => wu (ix4 0 ⟨(te (ix1 j)).toNat, hr h⟩ k q))
        else 0 := by
  have hp := p.isLt
  have hq := q.isLt
  rw [ExpUpRefIdeal.Read.val_main_v34_apply, ExpUpRefIdeal.Read.val_main_v33_apply]
  obtain ⟨i, hi⟩ : ∃ i, i = ExpUpRefIdeal.Read.idx_main_v33 (ix2 p q) := ⟨_, rfl⟩
  have i0 : i 0 = j := by rw [hi]; exact Fin.ext (show (p.val * 4096 + q.val) / 2097152 = j.val by omega)
  have i1 : (i 1).val = p.val % 512 := by rw [hi]; show (p.val * 4096 + q.val) / 4096 % 512 = _; omega
  have i2 : i 2 = q := by rw [hi]; exact Fin.ext (show (p.val * 4096 + q.val) % 4096 = q.val by omega)
  rw [← hi]
  show Scalar.select (ExpUpRefIdeal.Read.val_main_call3_v1 (F := Ideal) nu i) (ExpUpRefIdeal.Read.val_main_v31 (F := Ideal) te x wg wu i) (ExpUpRefIdeal.Read.val_main_call3_v2 (F := Ideal) i) = _
  have hb := used_bit nu i
  rw [i0] at hb
  by_cases h : (j.val : ℤ) < (nu (ix1 0)).toInt
  · have he : (te (ix1 (i 0))).toNat < 8 := by rw [i0]; exact hr h
    have hrow : p.val = (i 0).val * 512 + (i 1).val := by rw [i0, i1]; omega
    have eg := by_expert te x wg i he p hrow
    have eu := (congrFun (by_expert' te x wu) i).trans (by_expert te x wu i he p hrow)
    rw [hb.mpr h, dif_pos h]
    have ej : (⟨(te (ix1 (i 0))).toNat, he⟩ : Fin 8) = ⟨(te (ix1 j)).toNat, hr h⟩ := Fin.ext (congrArg (fun a : Fin 41 => (te (ix1 a)).toNat) i0)
    rw [ej, i2] at eg eu
    unfold entry
    rw [← eg, ← eu]
    pointwise [ExpUpRefIdeal.Read.val_main_v31, ExpUpRefIdeal.Read.val_main_v30,
      ExpUpRefIdeal.Read.val_main_call2_v0, ExpUpRefIdeal.Read.val_main_call2_v1, ExpUpRefIdeal.Read.val_main_call2_v2, ExpUpRefIdeal.Read.val_main_call2_v3,
      ExpUpRefIdeal.Read.val_main_call2_v4, ExpUpRefIdeal.Read.val_main_call2_v5, ExpUpRefIdeal.Read.val_main_call2_cst, ExpUpRefIdeal.Read.val_main_call2_cst_0]
  · have h0 : ExpUpRefIdeal.Read.val_main_call3_v1 (F := Ideal) nu i = 0#1 := by
      have bits : ∀ b : BitVec 1, b ≠ 1#1 → b = 0#1 := by decide
      exact bits _ fun e => h (hb.mp e)
    rw [h0, dif_neg h]
    show ExpUpRefIdeal.Read.val_main_call3_v2 (F := Ideal) i = (0 : EReal)
    rw [ExpUpRefIdeal.Read.val_main_call3_v2_apply]
    exact Ideal.ofBits_zero .f32

/-- A step's product at a row and a column of its blocks. -/
theorem pay3_at (x : Vec Ideal S512x4096 .bf16) (g u : Vec Ideal S1x1x4096x512 .f32) (r q : Fin 512) :
    k0_pay3 x (k0_pay1 g) (k0_pay2 u) (ix2 r q) = entry (fun k => x (ix2 r k)) (fun k => g (ix4 0 0 k q)) (fun k => u (ix4 0 0 k q)) := by
  have eg : ∀ k, k0_pay1 g (ix2 k q) = g (ix4 0 0 k q) := fun k => by pointwise [k0_pay1]
  have eu : ∀ k, k0_pay2 u (ix2 k q) = u (ix4 0 0 k q) := fun k => by pointwise [k0_pay2]
  unfold entry
  simp only [← eg, ← eu]
  pointwise [k0_pay3]
  rfl

variable (m : (ℓ : Loc nD τ sig) → Buf (Elt Ideal) ℓ) (hG : Good (teA m) (nuA m) (tlA m))

/-- The float arguments. -/
abbrev xA (c : Dev nD) : FVec Ideal S20992x4096 .bf16 := m ((c : Thread nD τ).loc main_arg3)
abbrev gA (c : Dev nD) : FVec Ideal S1x8x4096x4096 .f32 := m ((c : Thread nD τ).loc main_arg4)
abbrev uA (c : Dev nD) : FVec Ideal S1x8x4096x4096 .f32 := m ((c : Thread nD τ).loc main_arg5)

/-- A used step's blocks, at an index. -/
theorem x_at (c : Dev nD) (t : Fin grid0.N) (hu : ((grid0.coords t 1).val : ℤ) < (nuA m (ix1 0)).toInt) (r : Fin 512) (k : Fin 4096) (p : Fin 20992)
    (hp : p.val = (grid0.coords t 1).val * 512 + r.val) : xB m (ok m hG) c t (ix2 r k) = xA m c (ix2 p k) := by
  have e := (row_block (grid0.coords t 1).isLt (nuA m (ix1 0)) hG.pos).2 hu
  have e0 := congrFun (map0 m (grid0.coords t)) 0
  have e1 := congrFun (map0 m (grid0.coords t)) 1
  refine congrArg (xA m c) (funext fun a => Fin.ext ?_)
  match a with
  | ⟨0, _⟩ =>
    show cc0_transform_0 inb_S1_S1_0 numel1_S1 (tbl (F := Ideal) m) (grid0.coords t) 0 * 512 + 1 * r.val = p.val
    rw [e0]
    show (Scalar.minsi (BitVec.ofNat 32 (grid0.coords t 1).val) (Scalar.subi (nuA m (ix1 0)) 1#32)).toNat * 512 + 1 * r.val = p.val
    rw [e, hp]; omega
  | ⟨1, _⟩ =>
    show cc0_transform_0 inb_S1_S1_0 numel1_S1 (tbl (F := Ideal) m) (grid0.coords t) 1 * 4096 + 1 * k.val = k.val
    rw [e1]
    show 0 * 4096 + 1 * k.val = k.val
    omega

theorem g_at (c : Dev nD) (t : Fin grid0.N) (k : Fin 4096) (r : Fin 512) (e : Fin 8) (q : Fin 4096) (he : e.val = (tlA m (ix1 (grid0.coords t 1))).toNat)
    (hq : q.val = (grid0.coords t 0).val * 512 + r.val) : gB m (ok m hG) c t (ix4 0 0 k r) = gA m c (ix4 0 e k q) := by
  have w := map1 m (grid0.coords t)
  refine congrArg (gA m c) (funext fun a => Fin.ext ?_)
  match a with
  | ⟨0, _⟩ => show cc0_transform_1 k0_off1_inb numel1_S1 (tbl (F := Ideal) m) (grid0.coords t) 0 * 1 + 1 * 0 = 0; rw [w]; rfl
  | ⟨1, _⟩ => show cc0_transform_1 k0_off1_inb numel1_S1 (tbl (F := Ideal) m) (grid0.coords t) 1 * 1 + 1 * 0 = e.val; rw [w, he]; show (tlA m (ix1 (grid0.coords t 1))).toNat * 1 + 1 * 0 = _; omega
  | ⟨2, _⟩ => show cc0_transform_1 k0_off1_inb numel1_S1 (tbl (F := Ideal) m) (grid0.coords t) 2 * 4096 + 1 * k.val = k.val; rw [w]; show 0 * 4096 + 1 * k.val = k.val; omega
  | ⟨3, _⟩ => show cc0_transform_1 k0_off1_inb numel1_S1 (tbl (F := Ideal) m) (grid0.coords t) 3 * 512 + 1 * r.val = q.val; rw [w]; show (grid0.coords t 0).val * 512 + 1 * r.val = q.val; omega

theorem u_at (c : Dev nD) (t : Fin grid0.N) (k : Fin 4096) (r : Fin 512) (e : Fin 8) (q : Fin 4096) (he : e.val = (tlA m (ix1 (grid0.coords t 1))).toNat)
    (hq : q.val = (grid0.coords t 0).val * 512 + r.val) : uB m (ok m hG) c t (ix4 0 0 k r) = uA m c (ix4 0 e k q) := by
  have w := map2 m (grid0.coords t)
  refine congrArg (uA m c) (funext fun a => Fin.ext ?_)
  match a with
  | ⟨0, _⟩ => show cc0_transform_2 k0_off1_inb numel1_S1 (tbl (F := Ideal) m) (grid0.coords t) 0 * 1 + 1 * 0 = 0; rw [w]; rfl
  | ⟨1, _⟩ => show cc0_transform_2 k0_off1_inb numel1_S1 (tbl (F := Ideal) m) (grid0.coords t) 1 * 1 + 1 * 0 = e.val; rw [w, he]; show (tlA m (ix1 (grid0.coords t 1))).toNat * 1 + 1 * 0 = _; omega
  | ⟨2, _⟩ => show cc0_transform_2 k0_off1_inb numel1_S1 (tbl (F := Ideal) m) (grid0.coords t) 2 * 4096 + 1 * k.val = k.val; rw [w]; show 0 * 4096 + 1 * k.val = k.val; omega
  | ⟨3, _⟩ => show cc0_transform_2 k0_off1_inb numel1_S1 (tbl (F := Ideal) m) (grid0.coords t) 3 * 512 + 1 * r.val = q.val; rw [w]; show (grid0.coords t 0).val * 512 + 1 * r.val = q.val; omega

/-- The array the call leaves is the reference's. -/
theorem final (c : Dev nD) : arr m hG c = ExpUpRefIdeal.Read.val_main_v34 (F := Ideal) (teA m) (nuA m) (xA m c) (gA m c) (uA m c) := by
  funext i
  obtain ⟨p, q, rfl⟩ : ∃ (p : Fin 20992) (q : Fin 4096), i = ix2 p q := ⟨i 0, i 1, funext fun a => match a with | ⟨0, _⟩ => rfl | ⟨1, _⟩ => rfl⟩
  have hp : p.val < 20992 := p.isLt
  have hq : q.val < 4096 := q.isLt
  have hn : p.val / 512 + 41 * (q.val / 512) < grid0.N := lt_of_lt_of_eq (by omega) N_0.symm
  have hr : ∀ j : Fin 41, (j.val : ℤ) < (nuA m (ix1 0)).toInt → (teA m (ix1 j)).toNat < 8 := fun j h => by
    rw [← hG.agree j h]; exact hG.range j
  rw [ref_at (teA m) (nuA m) (xA m c) (gA m c) (uA m c) p q ⟨p.val / 512, by omega⟩ rfl (hr _)]
  obtain ⟨c0, c1⟩ := coords_eq ⟨_, hn⟩
  dsimp only at c0 c1
  have cj : grid0.coords ⟨_, hn⟩ 1 = (⟨p.val / 512, by omega⟩ : Fin 41) := Fin.ext (show _ = p.val / 512 by omega)
  have cv : (grid0.coords ⟨_, hn⟩ 1).val = p.val / 512 := by omega
  show outB m (ok m hG) c ⟨p.val / 512 + 41 * (q.val / 512), hn⟩ (ix2 ⟨p.val % 512, _⟩ ⟨q.val % 512, _⟩) = _
  unfold outB
  have hu := used_iff m c (grid0.coords ⟨_, hn⟩)
  rw [cv] at hu
  by_cases h : ((p.val / 512 : ℕ) : ℤ) < (nuA m (ix1 0)).toInt
  · rw [if_pos (hu.mpr h), dif_pos h, pay3_at]
    have he : (teA m (ix1 (⟨p.val / 512, by omega⟩ : Fin 41))).toNat = (tlA m (ix1 (grid0.coords ⟨_, hn⟩ 1))).toNat := by
      rw [← hG.agree _ h]
      exact congrArg (fun j => (tlA m (ix1 j)).toNat) cj.symm
    congr 1
    · funext k; exact x_at m hG c ⟨_, hn⟩ (by rw [cv]; exact h) _ k p (by rw [cv]; show p.val = p.val / 512 * 512 + p.val % 512; omega)
    · funext k; exact g_at m hG c ⟨_, hn⟩ k _ _ q he (by show q.val = _ * 512 + q.val % 512; omega)
    · funext k; exact u_at m hG c ⟨_, hn⟩ k _ _ q he (by show q.val = _ * 512 + q.val % 512; omega)
  · rw [if_neg (fun h' => h (hu.mp h')), dif_neg h]
    exact Ideal.ofBits_zero .bf16

/-- The kernel's result is the reference's. -/
theorem algebraic : Cert.algebraic_ExpUpIdeal_ExpUpRefIdeal := by
  intro m ρ m' ρ' hpre hag
  obtain ⟨h1, h2, h3, h4⟩ := hpre 0
  have hG : Good (teA m) (nuA m) (tlA m) := good_of_pre _ _ _ _ _ _ h1 h2 h3 h4
  refine ⟨fun c => ExpUpRefIdeal.Read.val_main_v34 (F := Ideal) (teA m) (nuA m) (xA m c) (gA m c) (uA m c), ?_, ?_⟩
  · exact (θ_run Cert.ExpUpIdeal.defs _ _).mono (fun r h c => ⟨(h.1 c).1.trans (final m hG c), (h.1 c).2⟩) (run m ρ hG)
  · refine (θ_run Cert.ExpUpRefIdeal.defs _ _).mono (fun r h c => ⟨(h c).1.trans ?_, (h c).2⟩)
      (Cert.ExpUpRefIdeal.Value.run (F := Ideal) m' ρ')
    obtain rfl : c = 0 := Subsingleton.elim _ _
    rw [Cert.ExpUpRefIdeal.Read.val_main_v34_eq, (hag 0).1, (hag 0).2.1, (hag 0).2.2.2.1, (hag 0).2.2.2.2.1, (hag 0).2.2.2.2.2]

end Cert.ExpUpProof

end
-- ==== Proof.ExpDownRun.lean ====
/-
The experts' second product: running the call. What one step of the kernel does to its buffers, in each of the three ways
its branches can go; what the buffers then hold step after step; and the run of the whole call that follows.
-/
module

public import proofs.«01_k».proof.Defs
public import proofs.«01_k».proof.Proof.Gen.ExpDownIdeal.Launch
public import proofs.«01_k».proof.Proof.Gen.ExpDownIdeal.Skeleton
public import Idealize.ShloMosaic.Lib.Pipeline.FrameBody
public import Idealize.ShloMosaic.Lib.Pipeline.Value
public import Idealize.ShloMosaic.Lib.Pipeline.Kit
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Claim

@[expose] public section

set_option maxRecDepth 16384

noncomputable section

namespace Cert.ExpDownProof

open Cert.ExpDownIdeal Cert.ExpDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tables as the kernel reads them: the tiles' experts, the number of tiles in use, the tiles' weight blocks. -/
abbrev teRef : Memref sig .tc .smem S41 .i32 := Memref.whole main_arg0
abbrev nuRef : Memref sig .tc .smem S1 .i32 := Memref.whole main_arg1
abbrev tlRef : Memref sig .tc .smem S41 .i32 := Memref.whole main_arg2

/-- The carried copy of the weights. -/
abbrev gRef : Memref sig .tc .vmem S4096x512 .bf16 := Memref.whole cc0_scratch0

/-- A table's contents, and the half of it that the step may read. -/
abbrev TB (c : Dev nD) {S : Shape} {e : EltTy} (M : Memref sig .tc .smem S e) : Type := Buf (Elt F) (M.view.loc (c : Thread nD τ))
abbrev half (c : Dev nD) {S : Shape} {e : EltTy} (M : Memref sig .tc .smem S e) (f : TB (F := F) c M) : sProp 𝕄 :=
  M.view.loc (c : Thread nD τ) ↦{fullShare.right} f

/-- The words a step reads: the number of tiles in use, its tile's expert, the expert of the tile before. -/
abbrev nuW (c : Dev nD) (f : TB (F := F) c nuRef) : BitVec 32 :=
  nuRef.view.readAt (Elt F) (Rect.unit (s := S1) ![0] S1.size inb_S1_S1_0).toLoadRect f (Shape.Idx.first (numel1_S1.symm ▸ Nat.one_pos))
abbrev teW (c : Dev nD) (f : TB (F := F) c teRef) (i : grid0.Coords) : BitVec 32 :=
  teRef.view.readAt (Elt F) (Rect.unit (s := S41) (k0_off1 i) S1.size (k0_off1_inb i)).toLoadRect f (Shape.Idx.first (numel1_S1.symm ▸ Nat.one_pos))
abbrev prevW (c : Dev nD) (f : TB (F := F) c teRef) (i : grid0.Coords) : BitVec 32 :=
  teRef.view.readAt (Elt F) (Rect.unit (s := S41) (k0_off2 i) S1.size (k0_off2_inb i)).toLoadRect f (Shape.Idx.first (numel1_S1.symm ▸ Nat.one_pos))

/-- The tile is in use and the first of its expert: the copy is made anew. -/
abbrev copyC (i : grid0.Coords) (n t p : BitVec 32) : Prop :=
  (Scalar.cmpi .ne (Scalar.extui (Scalar.andi (Scalar.cmpi .slt (BitVec.ofNat 32 (i 1).val) n) (Scalar.ori (Scalar.cmpi .eq (BitVec.ofNat 32 (i 1).val) 0#32) (Scalar.cmpi .ne t p)))) 0#32) = 1#1

/-- Loading the whole of a buffer that holds x gives x. -/
theorem load_whole {S : Shape} {e : EltTy} {sp : Space} {M : Memref sig .tc sp S e} (h : M.IsWhole) (x : S.Idx → Elt F e) {off : Fin S.rank → ℕ}
    (inb : ∀ a, off a + S.size a ≤ S.size a) : M.view.readAt (Elt F) (Rect.unit (s := S) off S.size inb).toLoadRect (h.unread x) = x := by
  rw [View.readAt_full, h.read_unread]

set_option maxHeartbeats 1000000 in
/-- A step at a used tile that is the first of its expert: the copy is made from the weights' block, and the output's
block is the product over it. -/
theorem run_first (c : Dev nD) (i : grid0.Coords) (ax : Memref sig .tc .vmem S512x4096 .bf16) (hax : ax.IsWhole)
    (ag : Memref sig .tc .vmem S1x1x4096x512 .f32) (hag : ag.IsWhole)
    (ao : Memref sig .tc .vmem S512x512 .f32) (hao : ao.IsWhole)
    (x0 : Vec F S512x4096 .bf16) (x1 : Vec F S1x1x4096x512 .f32) (f0 : TB (F := F) c teRef) (f1 : TB (F := F) c nuRef) (f2 : TB (F := F) c tlRef)
    (hc : copyC i (nuW c f1) (teW c f0 i) (prevW c f0 i)) (h2 : k0_cond2 i (nuW c f1) = 1#1) (h3 : ¬ k0_cond3 i (nuW c f1) = 1#1)
    (E : Set ℕ) (K : PUnit → sProp 𝕄) :
    iprop(owns (c : Thread nD τ) ax fullShare x0 ∗ owns (c : Thread nD τ) ag fullShare x1
        ∗ (∃ d, owns (c : Thread nD τ) ao fullShare d) ∗ (∃ d, owns (c : Thread nD τ) gRef fullShare d)
        ∗ half c teRef f0 ∗ half c nuRef f1 ∗ half c tlRef f2
        ∗ (iprop(owns (c : Thread nD τ) ax fullShare x0 ∗ owns (c : Thread nD τ) ag fullShare x1
            ∗ owns (c : Thread nD τ) ao fullShare (k0_pay2 x0 (k0_pay1 x1))
            ∗ owns (c : Thread nD τ) gRef fullShare (k0_pay1 x1)
            ∗ half c teRef f0 ∗ half c nuRef f1 ∗ half c tlRef f2) -∗ K ⟨⟩))
      ⊢ wp frame (wpE (defs₀ (F := F)) Variants.none c none) E
          (cc0_expert_down i teRef (Memref.isWhole_whole _) nuRef (Memref.isWhole_whole _) tlRef (Memref.isWhole_whole _) ax hax ag hag ao hao
            gRef (Memref.isWhole_whole _)) K := by
  simp only [cc0_expert_down_eq_skeleton]; unfold cc0_expert_down_skel
  unfold owns
  iintro ⟨⟨%e0, %he0, H0⟩, ⟨%e1, %he1, H1⟩, ⟨%d3, %e3, -, H3⟩, ⟨%d4, %e4, -, H4⟩, T0, T1, T2, Hk⟩
  obtain rfl := hax.eq_unread he0; obtain rfl := hag.eq_unread he1
  sl_exec (disch := first | sl_exact hc | sl_exact h2 | sl_exact h3)
  sl_step
  iapply Hk
  isplitl [H0]
  · iexists _; isplitr; · ipureintro; exact hax.read_unread _
    iexact H0
  isplitl [H1]
  · iexists _; isplitr; · ipureintro; exact hag.read_unread _
    iexact H1
  isplitl [H3]
  · iexists _; isplitr; swap; · iexact H3
    ipureintro
    refine (View.read_writes_full _ _ _ _ _).trans ?_
    unfold run_first.sl.v20 run_first.sl.H4_1
    exact congr (congrArg k0_pay2 (load_whole hax _ _)) ((View.readCov_full _ _ _ _ _).trans (congrArg k0_pay1 (load_whole hag _ _)))
  isplitl [H4]
  · iexists _; isplitr; swap; · iexact H4
    ipureintro
    unfold run_first.sl.H4_1
    exact (View.read_writes_full _ _ _ _ _).trans (congrArg k0_pay1 (load_whole hag _ _))
  isplitl [T0]; · iexact T0
  isplitl [T1]; · iexact T1
  iexact T2

set_option maxHeartbeats 1000000 in
/-- A step at a used tile of the same expert as the tile before: the copy stays, and the output's block is the product
over it. -/
theorem run_next (c : Dev nD) (i : grid0.Coords) (ax : Memref sig .tc .vmem S512x4096 .bf16) (hax : ax.IsWhole)
    (ag : Memref sig .tc .vmem S1x1x4096x512 .f32) (hag : ag.IsWhole)
    (ao : Memref sig .tc .vmem S512x512 .f32) (hao : ao.IsWhole)
    (x0 : Vec F S512x4096 .bf16) (x1 : Vec F S1x1x4096x512 .f32) (s0 : Vec F S4096x512 .bf16) (f0 : TB (F := F) c teRef) (f1 : TB (F := F) c nuRef) (f2 : TB (F := F) c tlRef)
    (hc : ¬ copyC i (nuW c f1) (teW c f0 i) (prevW c f0 i)) (h2 : k0_cond2 i (nuW c f1) = 1#1) (h3 : ¬ k0_cond3 i (nuW c f1) = 1#1)
    (E : Set ℕ) (K : PUnit → sProp 𝕄) :
    iprop(owns (c : Thread nD τ) ax fullShare x0 ∗ owns (c : Thread nD τ) ag fullShare x1
        ∗ (∃ d, owns (c : Thread nD τ) ao fullShare d) ∗ owns (c : Thread nD τ) gRef fullShare s0
        ∗ half c teRef f0 ∗ half c nuRef f1 ∗ half c tlRef f2
        ∗ (iprop(owns (c : Thread nD τ) ax fullShare x0 ∗ owns (c : Thread nD τ) ag fullShare x1
            ∗ owns (c : Thread nD τ) ao fullShare (k0_pay2 x0 s0)
            ∗ owns (c : Thread nD τ) gRef fullShare s0
            ∗ half c teRef f0 ∗ half c nuRef f1 ∗ half c tlRef f2) -∗ K ⟨⟩))
      ⊢ wp frame (wpE (defs₀ (F := F)) Variants.none c none) E
          (cc0_expert_down i teRef (Memref.isWhole_whole _) nuRef (Memref.isWhole_whole _) tlRef (Memref.isWhole_whole _) ax hax ag hag ao hao
            gRef (Memref.isWhole_whole _)) K := by
  simp only [cc0_expert_down_eq_skeleton]; unfold cc0_expert_down_skel
  unfold owns
  iintro ⟨⟨%e0, %he0, H0⟩, ⟨%e1, %he1, H1⟩, ⟨%d3, %e3, -, H3⟩, ⟨%e4, %he4, H4⟩, T0, T1, T2, Hk⟩
  obtain rfl := hax.eq_unread he0; obtain rfl := hag.eq_unread he1
  obtain rfl := (Memref.isWhole_whole cc0_scratch0).eq_unread he4
  sl_exec (disch := first | sl_exact hc | sl_exact h2 | sl_exact h3)
  sl_step
  iapply Hk
  isplitl [H0]
  · iexists _; isplitr; · ipureintro; exact hax.read_unread _
    iexact H0
  isplitl [H1]
  · iexists _; isplitr; · ipureintro; exact hag.read_unread _
    iexact H1
  isplitl [H3]
  · iexists _; isplitr; swap; · iexact H3
    ipureintro
    refine (View.read_writes_full _ _ _ _ _).trans ?_
    exact congr (congrArg k0_pay2 (load_whole hax _ _)) (load_whole (Memref.isWhole_whole cc0_scratch0) _ _)
  isplitl [H4]
  · iexists _; isplitr; · ipureintro; exact (Memref.isWhole_whole cc0_scratch0).read_unread _
    iexact H4
  isplitl [T0]; · iexact T0
  isplitl [T1]; · iexact T1
  iexact T2

set_option maxHeartbeats 1000000 in
/-- A step at a tile that is not in use: the copy stays, and the output's block is zeros. -/
theorem run_unused (c : Dev nD) (i : grid0.Coords) (ax : Memref sig .tc .vmem S512x4096 .bf16) (hax : ax.IsWhole)
    (ag : Memref sig .tc .vmem S1x1x4096x512 .f32) (hag : ag.IsWhole)
    (ao : Memref sig .tc .vmem S512x512 .f32) (hao : ao.IsWhole)
    (x0 : Vec F S512x4096 .bf16) (x1 : Vec F S1x1x4096x512 .f32) (s0 : Vec F S4096x512 .bf16) (f0 : TB (F := F) c teRef) (f1 : TB (F := F) c nuRef) (f2 : TB (F := F) c tlRef)
    (hc : ¬ copyC i (nuW c f1) (teW c f0 i) (prevW c f0 i)) (h2 : ¬ k0_cond2 i (nuW c f1) = 1#1) (h3 : k0_cond3 i (nuW c f1) = 1#1)
    (E : Set ℕ) (K : PUnit → sProp 𝕄) :
    iprop(owns (c : Thread nD τ) ax fullShare x0 ∗ owns (c : Thread nD τ) ag fullShare x1
        ∗ (∃ d, owns (c : Thread nD τ) ao fullShare d) ∗ owns (c : Thread nD τ) gRef fullShare s0
        ∗ half c teRef f0 ∗ half c nuRef f1 ∗ half c tlRef f2
        ∗ (iprop(owns (c : Thread nD τ) ax fullShare x0 ∗ owns (c : Thread nD τ) ag fullShare x1
            ∗ owns (c : Thread nD τ) ao fullShare (k0_pay3 (F := F))
            ∗ owns (c : Thread nD τ) gRef fullShare s0
            ∗ half c teRef f0 ∗ half c nuRef f1 ∗ half c tlRef f2) -∗ K ⟨⟩))
      ⊢ wp frame (wpE (defs₀ (F := F)) Variants.none c none) E
          (cc0_expert_down i teRef (Memref.isWhole_whole _) nuRef (Memref.isWhole_whole _) tlRef (Memref.isWhole_whole _) ax hax ag hag ao hao
            gRef (Memref.isWhole_whole _)) K := by
  simp only [cc0_expert_down_eq_skeleton]; unfold cc0_expert_down_skel
  unfold owns
  iintro ⟨⟨%e0, %he0, H0⟩, ⟨%e1, %he1, H1⟩, ⟨%d3, %e3, -, H3⟩, ⟨%e4, %he4, H4⟩, T0, T1, T2, Hk⟩
  obtain rfl := hax.eq_unread he0; obtain rfl := hag.eq_unread he1
  obtain rfl := (Memref.isWhole_whole cc0_scratch0).eq_unread he4
  sl_exec (disch := first | sl_exact hc | sl_exact h2 | sl_exact h3)
  sl_step
  iapply Hk
  isplitl [H0]
  · iexists _; isplitr; · ipureintro; exact hax.read_unread _
    iexact H0
  isplitl [H1]
  · iexists _; isplitr; · ipureintro; exact hag.read_unread _
    iexact H1
  isplitl [H3]
  · iexists _; isplitr; swap; · iexact H3
    ipureintro
    exact View.read_writes_full _ _ _ _ _
  isplitl [H4]
  · iexists _; isplitr; · ipureintro; exact (Memref.isWhole_whole cc0_scratch0).read_unread _
    iexact H4
  isplitl [T0]; · iexact T0
  isplitl [T1]; · iexact T1
  iexact T2

end Cert.ExpDownProof

end
-- ==== Proof.ExpDownCall.lean ====
/-
The experts' second product: the whole call. The tables are read off the launch memory; at a used tile the carried copy holds
the block of weights that the tile's expert has in the step's columns; so the call leaves in every block of the result the
product over those weights at a used tile, and zeros at the others.
-/
module

public import proofs.«01_k».proof.Proof.ExpDownRun
public import proofs.«01_k».proof.Proof.ExpUpCall

@[expose] public section

set_option maxRecDepth 16384

noncomputable section

namespace Cert.ExpDownProof

open Cert.ExpDownIdeal Cert.ExpDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables, read off the launch memory of the one device. -/
def tbl : pre0.Contents (Elt F) := fun j => V m (0 : Dev nD) (pre0.ref j)

theorem V_tbl (c : Dev nD) (j : Fin 3) : V m c (pre0.ref j) = tbl m j := by
  obtain rfl : c = 0 := Subsingleton.elim _ _; rfl

/-- Every block the index maps name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves, one by one. -/
theorem tables_eq (c : Dev nD) :
    (Pipeline.ΦT pre0 (tbl m) c : sProp 𝕄) = iprop(half c teRef (tbl m 0) ∗ half c nuRef (tbl m 1) ∗ half c tlRef (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The scratch and the random state, one by one. -/
theorem scratch_eq (c : Dev nD) :
    (Pipeline.ΦA spec0 c : sProp 𝕄)
      = iprop((∃ d, owns (c : Thread nD τ) gRef fullShare d) ∗ (∃ r, prngReg c r)) := by
  unfold Pipeline.ΦA; rw [scopedRest0_eq]; simp only [gRef, owns_whole]; try rfl

/-- The block of a window at a step, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The step's rows of the input, and its block of the weights. -/
abbrev xB (hO : Ok m) (c : Dev nD) (t : Fin (cfgM m hO).N) : Vec F S512x4096 .bf16 := iblk m hO c 0 t
abbrev gB (hO : Ok m) (c : Dev nD) (t : Fin (cfgM m hO).N) : Vec F S1x1x4096x512 .f32 := iblk m hO c 1 t

/-- The step's tile is in use; the step makes the copy anew. -/
def Used (c : Dev nD) (i : grid0.Coords) : Prop := k0_cond2 i (nuW (F := F) c (tbl m 1)) = 1#1
def Copies (c : Dev nD) (i : grid0.Coords) : Prop := copyC i (nuW (F := F) c (tbl m 1)) (teW (F := F) c (tbl m 0) i) (prevW (F := F) c (tbl m 0) i)

instance (c : Dev nD) (i : grid0.Coords) : Decidable (Used m c i) := by unfold Used; infer_instance

/-- The third branch is taken exactly when the second is not. -/
theorem cond3_iff (i : grid0.Coords) (n : BitVec 32) : k0_cond3 i n = 1#1 ↔ ¬ k0_cond2 i n = 1#1 := by
  unfold k0_cond3 k0_cond2
  exact ExpUpProof.not_bit _

/-- A step that makes the copy is at a used tile. -/
theorem used_of_copies (c : Dev nD) (i : grid0.Coords) (h : Copies m c i) : Used m c i := by
  unfold Copies copyC at h; unfold Used k0_cond2
  exact ExpUpProof.and_bit _ _ h

/-- What the step leaves in the result's block. -/
def outB (hO : Ok m) (c : Dev nD) (t : Fin (cfgM m hO).N) : Vec F S512x512 .f32 :=
  if Used m c (grid0.coords t) then k0_pay2 (xB m hO c t) (k0_pay1 (gB m hO c t)) else k0_pay3 (F := F)

/-- What the copy holds after n steps: if the last of them was at a used tile, its block of the weights. -/
def Carried (hO : Ok m) (c : Dev nD) (n : ℕ) (d0 : Vec F S4096x512 .bf16) : Prop :=
  ∀ t : Fin (cfgM m hO).N, t.val + 1 = n → Used m c (grid0.coords t) → d0 = k0_pay1 (gB m hO c t)

/-- A step at a used tile that keeps the copy has the same block of the weights as the step before, which was at a used
tile too. -/
def Steady (hO : Ok m) (c : Dev nD) : Prop :=
  ∀ t' : Fin (cfgM m hO).N, Used m c (grid0.coords t') → ¬ Copies m c (grid0.coords t') →
    ∃ t : Fin (cfgM m hO).N, t.val + 1 = t'.val ∧ Used m c (grid0.coords t)
      ∧ ((cfgM m hO).win 1).index t' = ((cfgM m hO).win 1).index t

/-- Between the steps: the copy, the random state, and the tables. -/
def inv (hO : Ok m) (c : Dev nD) (n : ℕ) : sProp 𝕄 :=
  iprop(∃ d0, ⌜Carried m hO c n d0⌝ ∗ owns (c : Thread nD τ) gRef fullShare d0
    ∗ (∃ r, prngReg c r) ∗ half c teRef (tbl m 0) ∗ half c nuRef (tbl m 1) ∗ half c tlRef (tbl m 2))

/-- The call's data: the arrays as launched, what every step leaves, and what holds between the steps. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outB m hO c t
  Φ n := inv m hO c n.val
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = xB m hO c t := by dsimp only [dats]; try rfl
theorem after1 (hO : Ok m) (c : Dev nD) (t : Fin (cfgM m hO).N) : (dats m hO 0 c).after 1 t = gB m hO c t := by dsimp only [dats]; try rfl
theorem after2 (hO : Ok m) (c : Dev nD) (t : Fin (cfgM m hO).N) : (dats m hO 0 c).after 2 t = outB m hO c t := by dsimp only [dats]; try rfl

theorem inv_at (hO : Ok m) (c : Dev nD) (n : Fin ((cfgM m hO).N + 1)) : (dats m hO 0 c).Φ n = inv m hO c n.val := by dsimp only [dats]

/-- A step finds in each input's buffer the input's block there. -/
theorem before0 (hO : Ok m) (c : Dev nD) (t : Fin (cfgM m hO).N) (d) : (dats m hO 0 c).before 0 t d = xB m hO c t :=
  ((dats m hO 0 c).before_in_eq_fetched 0 rfl (fun _ => rfl) (fun _ _ _ => rfl) (fun _ => rfl) t d).trans rfl
theorem before1 (hO : Ok m) (c : Dev nD) (t : Fin (cfgM m hO).N) (d) : (dats m hO 0 c).before 1 t d = gB m hO c t :=
  ((dats m hO 0 c).before_in_eq_fetched 1 rfl (fun _ => rfl) (fun _ _ _ => rfl) (fun _ => rfl) t d).trans rfl

/-- Steps with the same block index have the same block of the weights. -/
theorem gB_congr (hO : Ok m) (c : Dev nD) {t t' : Fin (cfgM m hO).N} (h : ((cfgM m hO).win 1).index t' = ((cfgM m hO).win 1).index t) :
    gB m hO c t' = gB m hO c t :=
  (dats m hO 0 c).fetched_congr 1 h rfl (gB m hO c t)

/-- The result's block is written back after every step. -/
theorem flush2 (a : (pcfg0 (F := F)).Adm) : ∀ t : Fin (cfg0 a).N, ((cfg0 a).win 2).flush t = true :=
  (fun t => (Pipeline.Window.flushOf_reads cc0_transform_2 reads0_2 hreads0_2 1 (by decide) (by decide) (Pipeline.Window.sep_of_coord cc0_transform_2 1 0 (fun _ => rfl) (by decide)) (P := 1) (m := 0) (by decide) rfl t).mpr (Nat.mod_one _) : ∀ t : Fin grid0.N, Pipeline.Window.flushOf grid0 true cc0_transform_2 t = true)

/-- The windows' buffers at a step. -/
abbrev xS (hO : Ok m) (t : Fin (cfgM m hO).N) : Memref sig .tc .vmem S512x4096 .bf16 := spec0_0.stage ((cfgM m hO).slots t 0)
abbrev gS (hO : Ok m) (t : Fin (cfgM m hO).N) : Memref sig .tc .vmem S1x1x4096x512 .f32 := spec0_1.stage ((cfgM m hO).slots t 1)
abbrev oS (hO : Ok m) (t : Fin (cfgM m hO).N) : Memref sig .tc .vmem S512x512 .f32 := spec0_2.stage ((cfgM m hO).slots t 2)

/-- The kernel's body at a step. -/
abbrev bodyAt (hO : Ok m) (t : Fin (cfgM m hO).N) : Prog (TpuEff nD τ sig (Elt F) Λ₀ .tc) PUnit :=
  cc0_expert_down (grid0.coords t) teRef (Memref.isWhole_whole _) nuRef (Memref.isWhole_whole _) tlRef (Memref.isWhole_whole _)
    (xS m hO t) (hstage0_0 (((cfgM m hO).slots t 0).cast nbuf0_0)) (gS m hO t) (hstage0_1 (((cfgM m hO).slots t 1).cast nbuf0_1)) (oS m hO t) (hstage0_2 (((cfgM m hO).slots t 2).cast nbuf0_2))
    gRef (Memref.isWhole_whole _)

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

set_option maxHeartbeats 1600000 in
/-- One step: from what holds before it to what holds after it. -/
theorem step (hO : Ok m) (c : Dev nD) (hS : Steady m hO c) (t : Fin (cfgM m hO).N) :
    iprop((dats m hO 0 c).Φ t.castSucc ∗ (dats m hO 0 c).owesAt () t.castSucc
      ∗ (∃ d, owns (c : Thread nD τ) (xS m hO t) fullShare ((dats m hO 0 c).before 0 t d))
      ∗ (∃ d, owns (c : Thread nD τ) (gS m hO t) fullShare ((dats m hO 0 c).before 1 t d))
      ∗ (∃ d, owns (c : Thread nD τ) (oS m hO t) fullShare ((dats m hO 0 c).before 2 t d)))
    ⊢ wp frame (wpE (defs₀ (F := F)) Variants.none c none) Set.univ (bodyAt m hO t) (fun _ =>
      iprop((dats m hO 0 c).Φ t.succ ∗ (dats m hO 0 c).owesAt () t.castSucc
        ∗ owns (c : Thread nD τ) (xS m hO t) fullShare (xB m hO c t)
        ∗ owns (c : Thread nD τ) (gS m hO t) fullShare (gB m hO c t)
        ∗ owns (c : Thread nD τ) (oS m hO t) fullShare (outB m hO c t))) := by
  rw [inv_at m hO c t.castSucc, inv_at m hO c t.succ, Fin.val_castSucc, Fin.val_succ]
  simp only [before0, before1]
  unfold inv bodyAt
  iintro ⟨⟨%d0, %hC, S0, Hg, T0, T1, T2⟩, Ho, ⟨%a0, H0⟩, ⟨%a1, H1⟩, ⟨%d3, H3⟩⟩
  by_cases hu : Used m c (grid0.coords t)
  · have hx : outB m hO c t = k0_pay2 (xB m hO c t) (k0_pay1 (gB m hO c t)) := if_pos hu
    have h3 : ¬ k0_cond3 (grid0.coords t) (nuW (F := F) c (tbl m 1)) = 1#1 := fun h => (cond3_iff _ _).mp h hu
    have hC' : Carried m hO c (t.val + 1) (k0_pay1 (gB m hO c t)) := by
      intro t' ht' _
      obtain rfl : t' = t := Fin.ext (by omega)
      rfl
    rw [hx]
    by_cases hc : Copies m c (grid0.coords t)
    · iapply (run_first c (grid0.coords t) _ _ _ _ _ _ (xB m hO c t) (gB m hO c t) (tbl m 0) (tbl m 1) (tbl m 2) hc hu h3 Set.univ _)
      isplitl [H0]; · iexact H0
      isplitl [H1]; · iexact H1
      isplitl [H3]; · iexists _; iexact H3
      isplitl [S0]; · iexists _; iexact S0
      isplitl [T0]; · iexact T0
      isplitl [T1]; · iexact T1
      isplitl [T2]; · iexact T2
      iintro ⟨H0, H1, H3, S0, T0, T1, T2⟩
      isplitl [S0 Hg T0 T1 T2]
      · iexists _
        isplitr; · ipureintro; exact hC'
        isplitl [S0]; · iexact S0
        isplitl [Hg]; · iexact Hg
        isplitl [T0]; · iexact T0
        isplitl [T1]; · iexact T1
        iexact T2
      isplitl [Ho]; · iexact Ho
      isplitl [H0]; · iexact H0
      isplitl [H1]; · iexact H1
      iexact H3
    · obtain ⟨tp, htp, hup, hg⟩ := hS t hu hc
      obtain rfl := hC tp htp hup
      rw [← gB_congr m hO c hg]
      iapply (run_next c (grid0.coords t) _ _ _ _ _ _ (xB m hO c t) (gB m hO c t) (k0_pay1 (gB m hO c t))
        (tbl m 0) (tbl m 1) (tbl m 2) hc hu h3 Set.univ _)
      isplitl [H0]; · iexact H0
      isplitl [H1]; · iexact H1
      isplitl [H3]; · iexists _; iexact H3
      isplitl [S0]; · iexact S0
      isplitl [T0]; · iexact T0
      isplitl [T1]; · iexact T1
      isplitl [T2]; · iexact T2
      iintro ⟨H0, H1, H3, S0, T0, T1, T2⟩
      isplitl [S0 Hg T0 T1 T2]
      · iexists _
        isplitr; · ipureintro; exact hC'
        isplitl [S0]; · iexact S0
        isplitl [Hg]; · iexact Hg
        isplitl [T0]; · iexact T0
        isplitl [T1]; · iexact T1
        iexact T2
      isplitl [Ho]; · iexact Ho
      isplitl [H0]; · iexact H0
      isplitl [H1]; · iexact H1
      iexact H3
  · have hx : outB m hO c t = k0_pay3 (F := F) := if_neg hu
    have h3 : k0_cond3 (grid0.coords t) (nuW (F := F) c (tbl m 1)) = 1#1 := (cond3_iff _ _).mpr hu
    have hC' : Carried m hO c (t.val + 1) d0 := by
      intro t' ht' hu'
      obtain rfl : t' = t := Fin.ext (by omega)
      exact absurd hu' hu
    rw [hx]
    iapply (run_unused c (grid0.coords t) _ _ _ _ _ _ (xB m hO c t) (gB m hO c t) d0
      (tbl m 0) (tbl m 1) (tbl m 2) (fun h => hu (used_of_copies m c _ h)) hu h3 Set.univ _)
    isplitl [H0]; · iexact H0
    isplitl [H1]; · iexact H1
    isplitl [H3]; · iexists _; iexact H3
    isplitl [S0]; · iexact S0
    isplitl [T0]; · iexact T0
    isplitl [T1]; · iexact T1
    isplitl [T2]; · iexact T2
    iintro ⟨H0, H1, H3, S0, T0, T1, T2⟩
    isplitl [S0 Hg T0 T1 T2]
    · iexists _
      isplitr; · ipureintro; exact hC'
      isplitl [S0]; · iexact S0
      isplitl [Hg]; · iexact Hg
      isplitl [T0]; · iexact T0
      isplitl [T1]; · iexact T1
      iexact T2
    isplitl [Ho]; · iexact Ho
    isplitl [H0]; · iexact H0
    isplitl [H1]; · iexact H1
    iexact H3

/-- Every step does what the data say. -/
theorem body_obligation (hO : Ok m) (c : Dev nD) (hS : Steady m hO c) :
    BodyObligation (dats (F := F) m hO 0 c) (defs₀ (F := F)) Variants.none () Set.univ := fun t => by
  rw [bigSep_W0, bigSep_W0, body_row m hO]
  have hf : ((cfgM m hO).win 2).flush t = true := flush2 (adm m hO) t
  refine triple_restated (step m hO c hS t) rfl .rfl fun _ => ?_
  iintro ⟨HI, Ho, H0, H1, H3⟩
  isplitl [HI]; · iexact HI
  isplitl [Ho]; · iexact Ho
  isplitl [H0]; · iexact H0
  isplitl [H1]; · iexact H1
  split
  · rename_i h; cases h
  split
  · split
    · rename_i h; cases hf.symm.trans h
    · iexact H3
  · iexact H3

set_option backward.isDefEq.respectTransparency.types false in
/-- The run of the call: it ends, with every array as the data say and the machine at rest. -/
theorem run_call (hO : Ok m) (hS : ∀ c, Steady m hO c) : θ_run defs (onTc (τ := τ) (main (F := F))) (s₀ m ρ) (fun r =>
    Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c (hS c)).loose) (hshare := fun c => (dats m hO 0 c).share_full fun _ => rfl)
    (howed := fun _ _ => rfl) (V := V m) (hmain := hmain m Variants.none) (hA := A_eq m hO) (hpf := V_tbl m)
    (hin := fun c => by
      show iprop(Pipeline.ΦA spec0 c ∗ Pipeline.ΦT pre0 (tbl m) c) ⊢ inv m hO c 0
      rw [scratch_eq, tables_eq]; unfold inv
      iintro ⟨⟨⟨%d0, S0⟩, Hg⟩, ⟨T0, T1, T2⟩⟩
      iexists d0
      isplitr; · ipureintro; exact fun t ht => absurd ht (Nat.succ_ne_zero _)
      isplitl [S0]; · iexact S0
      isplitl [Hg]; · iexact Hg
      isplitl [T0]; · iexact T0
      isplitl [T1]; · iexact T1
      iexact T2)
    (hout := fun c => by
      show inv m hO c _ ⊢ Pipeline.ΦA spec0 c
      rw [scratch_eq]; unfold inv
      iintro ⟨%d0, -, S0, Hg, -, -, -⟩
      isplitl [S0]
      · iexists _; iexact S0
      iexact Hg)

end Cert.ExpDownProof

end
-- ==== Proof.ExpDownTables.lean ====
/-
The experts' second product: what the tables give. Under the same condition on the tables as for the first products, every
block the index maps name lies inside its array, and a step at a used tile that keeps the carried copy has the weight block
of the step before.
-/
module

public import proofs.«01_k».proof.Proof.ExpDownCall
public import proofs.«01_k».proof.Proof.ExpUpTables
public import proofs.«01_k».proof.Proof.Gen.Pre_tables_down
public import Idealize.ShloMosaic.Lib.Pointwise
public import Idealize.ShloMosaic.Lib.Pipeline.ValueKit

@[expose] public section

set_option maxRecDepth 16384

noncomputable section

namespace Cert.ExpDownProof

open Cert.ExpDownIdeal Cert.ExpDownIdeal.Gen
open Idealize.ShloMosaic Idealize.ShloMosaic.TcCoe Idealize.SL.Sem
open Cert.ExpUpProof (Good bit_set tile_toInt slt_set row_block off2 idx1_ext)

variable {F : FTy → Type} [FloatOps F]

variable (m : (ℓ : Loc nD τ sig) → Buf (Elt F) ℓ)

/-- The tables in the launch memory. -/
abbrev teA : IVec S41 32 := m (((0 : Dev nD) : Thread nD τ).loc main_arg0)
abbrev nuA : IVec S1 32 := m (((0 : Dev nD) : Thread nD τ).loc main_arg1)
abbrev tlA : IVec S41 32 := m (((0 : Dev nD) : Thread nD τ).loc main_arg2)

/-- The offsets of the words a step reads. -/
theorem off1 (i : grid0.Coords) : k0_off1 i 0 = (i 1).val := by
  have h : (i 1).val < 41 := (i 1).isLt
  show (BitVec.ofNat 32 (i 1).val).toNat = _
  rw [BitVec.toNat_ofNat]; omega

/-- The words a step reads. -/
theorem nu_word (c : Dev nD) : nuW (F := F) c (tbl m 1) = nuA m (ix1 0) :=
  congrArg (nuA m) (idx1_ext _ _ rfl)
theorem te_word (c : Dev nD) (i : grid0.Coords) : teW (F := F) c (tbl m 0) i = teA m (ix1 (i 1)) :=
  congrArg (teA m) (idx1_ext _ _ (by
    show k0_off1 i 0 + 1 * 0 = (i 1).val
    rw [off1]; omega))
theorem prev_word (c : Dev nD) (i : grid0.Coords) (k : Fin 41) (hk : k.val = (i 1).val - 1) :
    prevW (F := F) c (tbl m 0) i = teA m (ix1 k) :=
  congrArg (teA m) (idx1_ext _ _ (by
    show (Scalar.maxsi (Scalar.subi (BitVec.ofNat 32 (i 1).val) 1#32) 0#32).toNat + 1 * 0 = k.val
    rw [off2 (i 1), hk]; omega))
theorem tl_word (i : grid0.Coords) : (tbl (F := F) m).at 2 (Rect.unit (s := S41) (k0_off1 i) S1.size (k0_off1_inb i)) numel1_S1 = tlA m (ix1 (i 1)) :=
  congrArg (tlA m) (idx1_ext _ _ (by
    show k0_off1 i 0 + 1 * 0 = (i 1).val
    rw [off1]; omega))
theorem nu_table : (tbl (F := F) m).at 1 (Rect.unit (s := S1) ![0] S1.size inb_S1_S1_0) numel1_S1 = nuA m (ix1 0) :=
  congrArg (nuA m) (idx1_ext _ _ rfl)

/-- A step is at a used tile exactly when the tile's number is below the count. -/
theorem used_iff (c : Dev nD) (i : grid0.Coords) : Used m c i ↔ ((i 1).val : ℤ) < (nuA m (ix1 0)).toInt := by
  unfold Used k0_cond2
  refine (bit_set _).trans ((slt_set _ _).trans ?_)
  rw [nu_word, tile_toInt (i 1).isLt]

/-- The columns of a step, as a word. -/
theorem col_word (i : grid0.Coords) : (BitVec.ofNat 32 (i 0).val).toNat = (i 0).val := by
  have h : (i 0).val < 8 := (i 0).isLt
  rw [BitVec.toNat_ofNat]; omega

/-- The blocks the index maps name. -/
theorem map0 (i : grid0.Coords) : cc0_transform_0 inb_S1_S1_0 numel1_S1 (tbl (F := F) m) i = ![(Scalar.minsi (BitVec.ofNat 32 (i 1).val) (Scalar.subi (nuA m (ix1 0)) 1#32)).toNat, 0] := by
  rw [← nu_table]; rfl
theorem map1 (i : grid0.Coords) : cc0_transform_1 k0_off1_inb numel1_S1 (tbl (F := F) m) i = ![0, (tlA m (ix1 (i 1))).toNat, 0, (i 0).val] := by
  rw [← tl_word, ← col_word i]; rfl

variable (hG : Good (teA m) (nuA m) (tlA m))
include hG

/-- Every block lies inside its array. -/
theorem ok : Ok m := by
  have hw : ∀ i : grid0.Coords, ∀ a : Fin 4, ((![0, (tlA m (ix1 (i 1))).toNat, 0, (i 0).val] : Fin 4 → ℕ) a + 1) * S1x1x4096x512.size a ≤ S1x8x4096x4096.size a := by
    intro i a
    have h0 : (i 0).val < 8 := (i 0).isLt
    have h1 := hG.range (i 1)
    match a with
    | ⟨0, _⟩ => show (0 + 1) * 1 ≤ 1; omega
    | ⟨1, _⟩ => show ((tlA m (ix1 (i 1))).toNat + 1) * 1 ≤ 8; omega
    | ⟨2, _⟩ => show (0 + 1) * 4096 ≤ 4096; omega
    | ⟨3, _⟩ => show ((i 0).val + 1) * 512 ≤ 4096; omega
  refine ⟨fun i => ⟨?_, .inr (Affine.block_words_dvd (of_decide_eq_true rfl) (by decide))⟩, fun i => ⟨?_, .inl rfl⟩⟩
  · intro a
    have h1 : (i 1).val < 41 := (i 1).isLt
    have h := (row_block h1 (nuA m (ix1 0)) hG.pos).1
    rw [map0]
    match a with
    | ⟨0, _⟩ => show ((Scalar.minsi (BitVec.ofNat 32 (i 1).val) (Scalar.subi (nuA m (ix1 0)) 1#32)).toNat + 1) * 512 ≤ 20992; omega
    | ⟨1, _⟩ => show (0 + 1) * 4096 ≤ 4096; omega
  · rw [map1]; exact hw i

/-- A step at a used tile that keeps the copies: its tile is not the first, and the tile before has the same expert. -/
theorem kept (c : Dev nD) (i : grid0.Coords) (hu : Used m c i) (hc : ¬ Copies m c i) (k : Fin 41) (hk : k.val = (i 1).val - 1) :
    (i 1).val ≠ 0 ∧ teA m (ix1 (i 1)) = teA m (ix1 k) := by
  have h1 : (i 1).val < 41 := (i 1).isLt
  have hs : Scalar.cmpi .slt (BitVec.ofNat 32 (i 1).val) (nuA m (ix1 0)) = 1#1 := by
    rw [slt_set, tile_toInt h1]; exact (used_iff m c i).mp hu
  by_contra hn
  refine hc ?_
  unfold Copies copyC
  rw [nu_word, te_word, prev_word m c i k hk, hs]
  have bits : ∀ b b' : BitVec 1, (b = 1#1 ∨ b' = 1#1) → Scalar.cmpi .ne (Scalar.extui (Scalar.andi 1#1 (Scalar.ori b b'))) 0#32 = 1#1 := by decide
  refine bits _ _ ?_
  by_cases h0 : (i 1).val = 0
  · left; rw [h0]; rfl
  · right
    have hne : teA m (ix1 (i 1)) ≠ teA m (ix1 k) := fun e => hn ⟨h0, e⟩
    show BitVec.ofBool (teA m (ix1 (i 1)) != teA m (ix1 k)) = 1#1
    rw [bne_iff_ne.mpr hne]; rfl

omit hG in
/-- The steps go down the tiles, column block by column block. -/
theorem coords_eq : ∀ t : Fin grid0.N, ((grid0.coords t) 0).val = t.val / 41 ∧ ((grid0.coords t) 1).val = t.val % 41 := by decide +kernel

/-- The carried copies stay right. -/
theorem steady (c : Dev nD) : Steady m (ok m hG) c := by
  intro t' hu hc
  have hN : t'.val < 328 := lt_of_lt_of_eq t'.isLt N_0
  obtain ⟨q0, q1⟩ := coords_eq t'
  have hlt : (grid0.coords t' 1).val < 41 := (grid0.coords t' 1).isLt
  obtain ⟨hz, he⟩ := kept m hG c _ hu hc ⟨(grid0.coords t' 1).val - 1, by omega⟩ rfl
  have hb : t'.val - 1 < grid0.N := lt_of_lt_of_eq (by omega) N_0.symm
  obtain ⟨p0, p1⟩ := coords_eq ⟨t'.val - 1, hb⟩
  dsimp only at p0 p1
  have r0 : grid0.coords ⟨t'.val - 1, hb⟩ 0 = grid0.coords t' 0 := Fin.ext (by omega)
  have r1 : (grid0.coords ⟨t'.val - 1, hb⟩ 1).val = (grid0.coords t' 1).val - 1 := by omega
  have r1' : grid0.coords ⟨t'.val - 1, hb⟩ 1 = (⟨(grid0.coords t' 1).val - 1, by omega⟩ : Fin 41) := Fin.ext r1
  have hu1 := (used_iff m c _).mp hu
  have hup : ((grid0.coords ⟨t'.val - 1, hb⟩ 1).val : ℤ) < (nuA m (ix1 0)).toInt := by omega
  have same : tlA m (ix1 (grid0.coords t' 1)) = tlA m (ix1 (grid0.coords ⟨t'.val - 1, hb⟩ 1)) := by
    rw [hG.agree _ hu1, hG.agree _ hup, he]
    exact congrArg (fun j => teA m (ix1 j)) r1'.symm
  refine ⟨⟨t'.val - 1, hb⟩, by show t'.val - 1 + 1 = t'.val; omega, (used_iff m c _).mpr hup, ?_⟩
  · show cc0_transform_1 k0_off1_inb numel1_S1 (tbl (F := F) m) (grid0.coords t') = cc0_transform_1 k0_off1_inb numel1_S1 (tbl (F := F) m) (grid0.coords ⟨t'.val - 1, hb⟩)
    rw [map1, map1, same, r0]

omit hG

/-- The precondition says so much of the tables. -/
theorem good_of_pre (te : IVec S41 32) (nu : IVec S1 32) (tl : IVec S41 32) (x : FVec F S20992x4096 .bf16) (w : FVec F S1x8x4096x4096 .f32)
    (h1 : (Cert.Pre_tables_down.fn (F := F) te nu tl x w).1 = fun _ => 1#1)
    (h2 : (Cert.Pre_tables_down.fn (F := F) te nu tl x w).2.1 = fun _ => 1#1)
    (h3 : (Cert.Pre_tables_down.fn (F := F) te nu tl x w).2.2.1 = fun _ => 1#1)
    (h4 : (Cert.Pre_tables_down.fn (F := F) te nu tl x w).2.2.2 = fun _ => 1#1) : Good te nu tl :=
  ExpUpProof.good_of_pre te nu tl x w w h1 h2 h3 h4

end Cert.ExpDownProof

end
-- ==== Proof.ExpDownFrame.lean ====
/-
The experts' second product: the frames. The kernel runs and keeps its arguments under the precondition on the tables, and
the array it leaves is, block by block, what its steps left.
-/
module

public import proofs.«01_k».proof.Proof.ExpDownTables
public import proofs.«01_k».proof.Proof.Gen.ExpDown.Launch
public import proofs.«01_k».proof.Proof.Gen.ExpDownRefIdeal.Run
public import proofs.«01_k».proof.Proof.Gen.ExpDownRefIdeal.Read
public import proofs.«01_k».proof.Proof.Gen.ExpDown.Skeleton

@[expose] public section

set_option maxRecDepth 16384

noncomputable section

namespace Cert.ExpDownProof

open Cert.ExpDownIdeal Cert.ExpDownIdeal.Gen
open Idealize.ShloMosaic Idealize.ShloMosaic.TcCoe Idealize.SL.Sem
open Cert.ExpUpProof (Good)

variable {F : FTy → Type} [FloatOps F]
variable (m : (ℓ : Loc nD τ sig) → Buf (Elt F) ℓ) (ρ : Dev nD → PrngReg) (hG : Good (teA m) (nuA m) (tlA m))

/-- Which block of the result a step writes. -/
theorem block2 : ∀ t : Fin grid0.N, cc0_transform_2 (grid0.coords t) = ![t.val % 41, t.val / 41] := by decide +kernel

/-- The array the call leaves: at every index, what the step of its block left there. -/
def arr (c : Dev nD) : Vec F S20992x4096 .f32 := fun i =>
  outB m (ok m hG) c ⟨(i 0).val / 512 + 41 * ((i 1).val / 512), lt_of_lt_of_eq (by
    have h0 : (i 0).val < 20992 := (i 0).isLt
    have h1 : (i 1).val < 4096 := (i 1).isLt
    show _ < 328; omega) N_0.symm⟩ (ix2 ⟨(i 0).val % 512, Nat.mod_lt _ (by decide)⟩ ⟨(i 1).val % 512, Nat.mod_lt _ (by decide)⟩)

/-- The array at an index of a step's block is what the step left there. -/
theorem arr_at (c : Dev nD) (t : Fin grid0.N) (i : S20992x4096.Idx) (y : S512x512.Idx)
    (h0 : (i 0).val = cc0_transform_2 (grid0.coords t) 0 * 512 + 1 * (y 0).val)
    (h1 : (i 1).val = cc0_transform_2 (grid0.coords t) 1 * 512 + 1 * (y 1).val) : outB m (ok m hG) c t y = arr m hG c i := by
  have hN : t.val < 328 := lt_of_lt_of_eq t.isLt N_0
  have e := block2 t
  have e0 : cc0_transform_2 (grid0.coords t) 0 = t.val % 41 := congrFun e 0
  have e1 : cc0_transform_2 (grid0.coords t) 1 = t.val / 41 := congrFun e 1
  have hy0 : (y 0).val < 512 := (y 0).isLt
  have hy1 : (y 1).val < 512 := (y 1).isLt
  rw [e0] at h0
  rw [e1] at h1
  unfold arr
  congr 1
  · exact Fin.ext (show t.val = (i 0).val / 512 + 41 * ((i 1).val / 512) by omega)
  · funext a; apply Fin.ext
    match a with
    | ⟨0, _⟩ => show (y 0).val = (i 0).val % 512; omega
    | ⟨1, _⟩ => show (y 1).val = (i 1).val % 512; omega

/-- What a step writes back is its block of that array. -/
theorem written (c : Dev nD) (t : Fin (cfgM m (ok m hG)).N) :
    (dats m (ok m hG) 0 c).flushed 2 t = (((cfgM m (ok m hG)).win 2).blk t).view.read (Elt F) (arr m hG c) := by
  show ((cfgM m (ok m hG)).win 2).cut (grid0.coords t) ((dats m (ok m hG) 0 c).after 2 t) = _
  rw [after2]
  funext y
  exact arr_at m hG c t _ _ rfl rfl

/-- The steps' blocks cover the array. -/
theorem covered (i : S20992x4096.Idx) : ∃ t : Fin (cfgM m (ok m hG)).N, ((cfgM m (ok m hG)).win 2).flush t = true ∧ i ∈ (((cfgM m (ok m hG)).win 2).blk t).view.set := by
  have h0 : (i 0).val < 20992 := (i 0).isLt
  have h1 : (i 1).val < 4096 := (i 1).isLt
  have hb : (i 0).val / 512 + 41 * ((i 1).val / 512) < grid0.N := lt_of_lt_of_eq (by omega) N_0.symm
  refine ⟨⟨_, hb⟩, flush2 _ _, ?_⟩
  have e := block2 ⟨_, hb⟩
  have e0 : cc0_transform_2 (grid0.coords ⟨_, hb⟩) 0 = ((i 0).val / 512 + 41 * ((i 1).val / 512)) % 41 := congrFun e 0
  have e1 : cc0_transform_2 (grid0.coords ⟨_, hb⟩) 1 = ((i 0).val / 512 + 41 * ((i 1).val / 512)) / 41 := congrFun e 1
  refine (congrArg (i ∈ ·) (View.set_slice_whole main_v0 (((cfgM m (ok m hG)).win 2).rect ⟨_, hb⟩))).mpr (Rect.mem_set_unit.mpr fun a => ?_)
  match a with
  | ⟨0, _⟩ =>
    show cc0_transform_2 (grid0.coords ⟨_, hb⟩) 0 * 512 ≤ (i 0).val ∧ (i 0).val < cc0_transform_2 (grid0.coords ⟨_, hb⟩) 0 * 512 + 512
    omega
  | ⟨1, _⟩ =>
    show cc0_transform_2 (grid0.coords ⟨_, hb⟩) 1 * 512 ≤ (i 1).val ∧ (i 1).val < cc0_transform_2 (grid0.coords ⟨_, hb⟩) 1 * 512 + 512
    omega

/-- The kernel's run: it leaves that array, and its arguments as they were. -/
theorem run : θ_run defs (onTc (τ := τ) (main (F := F))) ⟨m, fun _ => 0, ρ⟩ (fun r => (∀ c : Dev nD,
      r.2.mem ((c : Thread nD τ).loc main_v0) = arr m hG c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run defs _ _).mono (fun r h => ⟨fun c => ⟨?_, ?_, ?_, ?_, ?_, ?_⟩, h.2⟩) (run_call m ρ (ok m hG) (steady m hG))
  · exact ((h.1 c).1 2).trans ((dats m (ok m hG) 0 c).arrAt_eq_of_cover 2 _ (fun t _ => written m hG c t) (covered m hG))
  · exact (h.1 c).2 main_arg0 (by decide : main_arg0 ∈ Pipeline.restRefs sig spec0)
  · exact (h.1 c).2 main_arg1 (by decide : main_arg1 ∈ Pipeline.restRefs sig spec0)
  · exact (h.1 c).2 main_arg2 (by decide : main_arg2 ∈ Pipeline.restRefs sig spec0)
  · exact ((h.1 c).1 0).trans (((dats m (ok m hG) 0 c).arrAt_in 0 rfl _).trans (A_eq m (ok m hG) c 0))
  · exact ((h.1 c).1 1).trans (((dats m (ok m hG) 0 c).arrAt_in 1 rfl _).trans (A_eq m (ok m hG) c 1))

/-- The kernel, read over the extended reals, runs, keeps its arguments, and leaves every counter at zero. -/
theorem frameIdeal : Cert.quiescent_ExpDownIdeal := by
  intro m ρ h
  obtain ⟨h1, h2, h3, h4⟩ := h 0
  exact (θ_run Cert.ExpDownIdeal.defs _ _).mono (fun r h => ⟨fun c => (h.1 c).2, h.2⟩) (run m ρ (good_of_pre _ _ _ _ _ h1 h2 h3 h4))

/-- The program and its reading over the extended reals are one text: their bodies are the same function, -/
theorem same_body : @Cert.ExpDown.cc0_expert_down F _ _ = @Cert.ExpDownIdeal.cc0_expert_down F _ _ := rfl

/-- … so their body tables are the same, -/
theorem same_table : (Cert.ExpDown.defs₀ (F := F) : Defs Cert.ExpDown.nD Cert.ExpDown.τ Cert.ExpDown.sig (Elt F) Cert.ExpDown.Λ₀) = Cert.ExpDownIdeal.defs₀ (F := F) := by
  unfold Cert.ExpDown.defs₀ Cert.ExpDownIdeal.defs₀
  refine congrArg _ ?_
  funext l a
  match l, a with
  | 0, (t, s) => rfl

/-- … and so are the calls'. -/
theorem same_defs : HEq (Cert.ExpDown.defs (F := F)) (Cert.ExpDownIdeal.defs (F := F)) := by
  unfold Cert.ExpDown.defs Cert.ExpDownIdeal.defs
  rw [same_table]
  rfl

/-- The kernel runs, keeps its arguments, and leaves every counter at zero. -/
theorem frame : Cert.quiescent_ExpDown := by
  intro m ρ h
  obtain ⟨h1, h2, h3, h4⟩ := h 0
  have e := (θ_run (Cert.ExpDownIdeal.defs (F := Bits)) _ _).mono (fun r (h : _ ∧ _) => (⟨fun c => (h.1 c).2, h.2⟩ : _ ∧ _)) (run (F := Bits) m ρ (good_of_pre _ _ _ _ _ h1 h2 h3 h4))
  rw [eq_of_heq same_defs]
  exact e

/-- The reference runs and keeps its arguments. -/
theorem frameRef : Cert.quiescent_ExpDownRefIdeal := fun m ρ _ =>
  (θ_run Cert.ExpDownRefIdeal.defs _ _).mono (fun r h => ⟨fun c => (h c).2, sem_eq_zero_of_no_sems (by decide) r.2⟩)
    (Cert.ExpDownRefIdeal.Value.run (F := Ideal) m ρ)

end Cert.ExpDownProof

end
-- ==== Proof.ExpDownClaim.lean ====
/-
The experts' second product: the kernel's result is the reference's. The reference multiplies every tile's rows by every
expert's weights and keeps, by a masked sum over the eight experts, the tile's own; the kernel multiplies by that expert's
block alone.
-/
module

public import proofs.«01_k».proof.Proof.ExpDownFrame
public import proofs.«01_k».proof.Proof.ExpUpClaim

@[expose] public section

set_option maxRecDepth 16384

noncomputable section

namespace Cert.ExpDownProof

open Cert.ExpDownIdeal Cert.ExpDownIdeal.Gen
open Idealize.ShloMosaic Idealize.ShloMosaic.TcCoe Idealize.SL.Sem
open Cert.ExpUpProof (Good row_block by_expert slt_set tile_toInt idx1_ext)

/-- The product by the tile's expert is the one of the first products' reference. -/
theorem same_product (te : IVec S41 32) (x : FVec Ideal S20992x4096 .bf16) (w : FVec Ideal S1x8x4096x4096 .f32) :
    ExpDownRefIdeal.Read.val_main_v16 (F := Ideal) te x w = ExpUpRefIdeal.Read.val_main_v12 (F := Ideal) te x w := rfl

/-- Which of the reference's tiles are in use. -/
theorem used_bit (nu : IVec S1 32) (i : Cert.ExpDownRefIdeal.S41x512x4096.Idx) :
    ExpDownRefIdeal.Read.val_main_call1_v1 (F := Ideal) nu i = 1#1 ↔ ((i 0).val : ℤ) < (nu (ix1 0)).toInt := by
  rw [ExpDownRefIdeal.Read.val_main_call1_v1_apply, ExpDownRefIdeal.Read.val_main_v3_apply, ExpDownRefIdeal.Read.val_main_v2_apply,
    ExpDownRefIdeal.Read.val_main_v1_apply, ExpDownRefIdeal.Read.val_main_v0_apply]
  have e : nu (ExpDownRefIdeal.Read.idx_main_v1 (ExpDownRefIdeal.Read.idx_main_v3 (ExpDownRefIdeal.Read.idx_main_call1_v1 i))) = nu (ix1 0) := congrArg nu (idx1_ext _ _ rfl)
  rw [e]
  refine (slt_set _ _).trans ?_
  show (BitVec.ofNat 32 (i 0).val).toInt < _ ↔ _
  rw [tile_toInt (i 0).isLt]

/-- The reference at a row and a column. -/
theorem ref_at (te : IVec S41 32) (nu : IVec S1 32) (x : FVec Ideal S20992x4096 .bf16) (w : FVec Ideal S1x8x4096x4096 .f32)
    (p : Fin 20992) (q : Fin 4096) (j : Fin 41) (hj : j.val = p.val / 512) (hr : (j.val : ℤ) < (nu (ix1 0)).toInt → (te (ix1 j)).toNat < 8) :
    ExpDownRefIdeal.Read.val_main_v18 (F := Ideal) te nu x w (ix2 p q)
      = if h : (j.val : ℤ) < (nu (ix1 0)).toInt then
          ∑ k : Fin 4096, x (ix2 p k) * w (ix4 0 ⟨(te (ix1 j)).toNat, hr h⟩ k q)
        else 0 := by
  have hp := p.isLt
  have hq := q.isLt
  rw [ExpDownRefIdeal.Read.val_main_v18_apply]
  obtain ⟨i, hi⟩ : ∃ i, i = ExpDownRefIdeal.Read.idx_main_v18 (ix2 p q) := ⟨_, rfl⟩
  have i0 : i 0 = j := by rw [hi]; exact Fin.ext (show (p.val * 4096 + q.val) / 2097152 = j.val by omega)
  have i1 : (i 1).val = p.val % 512 := by rw [hi]; show (p.val * 4096 + q.val) / 4096 % 512 = _; omega
  have i2 : i 2 = q := by rw [hi]; exact Fin.ext (show (p.val * 4096 + q.val) % 4096 = q.val by omega)
  rw [← hi]
  show Scalar.select (ExpDownRefIdeal.Read.val_main_call1_v1 (F := Ideal) nu i) (ExpDownRefIdeal.Read.val_main_v16 (F := Ideal) te x w i) (ExpDownRefIdeal.Read.val_main_call1_v2 (F := Ideal) i) = _
  have hb := used_bit nu i
  rw [i0] at hb
  by_cases h : (j.val : ℤ) < (nu (ix1 0)).toInt
  · have he : (te (ix1 (i 0))).toNat < 8 := by rw [i0]; exact hr h
    have hrow : p.val = (i 0).val * 512 + (i 1).val := by rw [i0, i1]; omega
    have ew := (congrFun (same_product te x w) i).trans (by_expert te x w i he p hrow)
    rw [hb.mpr h, dif_pos h]
    have ej : (⟨(te (ix1 (i 0))).toNat, he⟩ : Fin 8) = ⟨(te (ix1 j)).toNat, hr h⟩ := Fin.ext (congrArg (fun a : Fin 41 => (te (ix1 a)).toNat) i0)
    rw [ej, i2] at ew
    exact ew
  · have h0 : ExpDownRefIdeal.Read.val_main_call1_v1 (F := Ideal) nu i = 0#1 := by
      have bits : ∀ b : BitVec 1, b ≠ 1#1 → b = 0#1 := by decide
      exact bits _ fun e => h (hb.mp e)
    rw [h0, dif_neg h]
    show ExpDownRefIdeal.Read.val_main_call1_v2 (F := Ideal) i = (0 : EReal)
    rw [ExpDownRefIdeal.Read.val_main_call1_v2_apply]
    exact Ideal.ofBits_zero .f32

/-- A step's product at a row and a column of its blocks. -/
theorem pay2_at (x : Vec Ideal S512x4096 .bf16) (g : Vec Ideal S1x1x4096x512 .f32) (r q : Fin 512) :
    k0_pay2 x (k0_pay1 g) (ix2 r q) = ∑ k : Fin 4096, x (ix2 r k) * g (ix4 0 0 k q) := by
  have eg : ∀ k, k0_pay1 g (ix2 k q) = g (ix4 0 0 k q) := fun k => by pointwise [k0_pay1]
  simp only [← eg]
  pointwise [k0_pay2]

variable (m : (ℓ : Loc nD τ sig) → Buf (Elt Ideal) ℓ) (hG : Good (teA m) (nuA m) (tlA m))

/-- The float arguments. -/
abbrev xA (c : Dev nD) : FVec Ideal S20992x4096 .bf16 := m ((c : Thread nD τ).loc main_arg3)
abbrev gA (c : Dev nD) : FVec Ideal S1x8x4096x4096 .f32 := m ((c : Thread nD τ).loc main_arg4)

/-- A used step's rows, at an index. -/
theorem x_at (c : Dev nD) (t : Fin grid0.N) (hu : ((grid0.coords t 1).val : ℤ) < (nuA m (ix1 0)).toInt) (r : Fin 512) (k : Fin 4096) (p : Fin 20992)
    (hp : p.val = (grid0.coords t 1).val * 512 + r.val) : xB m (ok m hG) c t (ix2 r k) = xA m c (ix2 p k) := by
  have e := (row_block (grid0.coords t 1).isLt (nuA m (ix1 0)) hG.pos).2 hu
  have e0 := congrFun (map0 m (grid0.coords t)) 0
  have e1 := congrFun (map0 m (grid0.coords t)) 1
  refine congrArg (xA m c) (funext fun a => Fin.ext ?_)
  match a with
  | ⟨0, _⟩ =>
    show cc0_transform_0 inb_S1_S1_0 numel1_S1 (tbl (F := Ideal) m) (grid0.coords t) 0 * 512 + 1 * r.val = p.val
    rw [e0]
    show (Scalar.minsi (BitVec.ofNat 32 (grid0.coords t 1).val) (Scalar.subi (nuA m (ix1 0)) 1#32)).toNat * 512 + 1 * r.val = p.val
    rw [e, hp]; omega
  | ⟨1, _⟩ =>
    show cc0_transform_0 inb_S1_S1_0 numel1_S1 (tbl (F := Ideal) m) (grid0.coords t) 1 * 4096 + 1 * k.val = k.val
    rw [e1]
    show 0 * 4096 + 1 * k.val = k.val
    omega

/-- A step's block of the weights, at an index. -/
theorem g_at (c : Dev nD) (t : Fin grid0.N) (k : Fin 4096) (r : Fin 512) (e : Fin 8) (q : Fin 4096) (he : e.val = (tlA m (ix1 (grid0.coords t 1))).toNat)
    (hq : q.val = (grid0.coords t 0).val * 512 + r.val) : gB m (ok m hG) c t (ix4 0 0 k r) = gA m c (ix4 0 e k q) := by
  have w := map1 m (grid0.coords t)
  refine congrArg (gA m c) (funext fun a => Fin.ext ?_)
  match a with
  | ⟨0, _⟩ => show cc0_transform_1 k0_off1_inb numel1_S1 (tbl (F := Ideal) m) (grid0.coords t) 0 * 1 + 1 * 0 = 0; rw [w]; rfl
  | ⟨1, _⟩ => show cc0_transform_1 k0_off1_inb numel1_S1 (tbl (F := Ideal) m) (grid0.coords t) 1 * 1 + 1 * 0 = e.val; rw [w, he]; show (tlA m (ix1 (grid0.coords t 1))).toNat * 1 + 1 * 0 = _; omega
  | ⟨2, _⟩ => show cc0_transform_1 k0_off1_inb numel1_S1 (tbl (F := Ideal) m) (grid0.coords t) 2 * 4096 + 1 * k.val = k.val; rw [w]; show 0 * 4096 + 1 * k.val = k.val; omega
  | ⟨3, _⟩ => show cc0_transform_1 k0_off1_inb numel1_S1 (tbl (F := Ideal) m) (grid0.coords t) 3 * 512 + 1 * r.val = q.val; rw [w]; show (grid0.coords t 0).val * 512 + 1 * r.val = q.val; omega

/-- The array the call leaves is the reference's. -/
theorem final (c : Dev nD) : arr m hG c = ExpDownRefIdeal.Read.val_main_v18 (F := Ideal) (teA m) (nuA m) (xA m c) (gA m c) := by
  funext i
  obtain ⟨p, q, rfl⟩ : ∃ (p : Fin 20992) (q : Fin 4096), i = ix2 p q := ⟨i 0, i 1, funext fun a => match a with | ⟨0, _⟩ => rfl | ⟨1, _⟩ => rfl⟩
  have hp : p.val < 20992 := p.isLt
  have hq : q.val < 4096 := q.isLt
  have hn : p.val / 512 + 41 * (q.val / 512) < grid0.N := lt_of_lt_of_eq (by omega) N_0.symm
  have hr : ∀ j : Fin 41, (j.val : ℤ) < (nuA m (ix1 0)).toInt → (teA m (ix1 j)).toNat < 8 := fun j h => by
    rw [← hG.agree j h]; exact hG.range j
  rw [ref_at (teA m) (nuA m) (xA m c) (gA m c) p q ⟨p.val / 512, by omega⟩ rfl (hr _)]
  obtain ⟨c0, c1⟩ := coords_eq ⟨_, hn⟩
  dsimp only at c0 c1
  have cj : grid0.coords ⟨_, hn⟩ 1 = (⟨p.val / 512, by omega⟩ : Fin 41) := Fin.ext (show _ = p.val / 512 by omega)
  have cv : (grid0.coords ⟨_, hn⟩ 1).val = p.val / 512 := by omega
  show outB m (ok m hG) c ⟨p.val / 512 + 41 * (q.val / 512), hn⟩ (ix2 ⟨p.val % 512, _⟩ ⟨q.val % 512, _⟩) = _
  unfold outB
  have hu := used_iff m c (grid0.coords ⟨_, hn⟩)
  rw [cv] at hu
  by_cases h : ((p.val / 512 : ℕ) : ℤ) < (nuA m (ix1 0)).toInt
  · rw [if_pos (hu.mpr h), dif_pos h, pay2_at]
    have he : (teA m (ix1 (⟨p.val / 512, by omega⟩ : Fin 41))).toNat = (tlA m (ix1 (grid0.coords ⟨_, hn⟩ 1))).toNat := by
      rw [← hG.agree _ h]
      exact congrArg (fun j => (tlA m (ix1 j)).toNat) cj.symm
    show (_ : EReal) = _
    refine Finset.sum_congr rfl fun k _ => ?_
    rw [x_at m hG c ⟨_, hn⟩ (by rw [cv]; exact h) _ k p (by rw [cv]; show p.val = p.val / 512 * 512 + p.val % 512; omega),
      g_at m hG c ⟨_, hn⟩ k _ ⟨(teA m (ix1 (⟨p.val / 512, by omega⟩ : Fin 41))).toNat, hr _ h⟩ q he (by show q.val = _ * 512 + q.val % 512; omega)]
  · rw [if_neg (fun h' => h (hu.mp h')), dif_neg h]
    exact Ideal.ofBits_zero .f32

/-- The kernel's result is the reference's. -/
theorem algebraic : Cert.algebraic_ExpDownIdeal_ExpDownRefIdeal := by
  intro m ρ m' ρ' hpre hag
  obtain ⟨h1, h2, h3, h4⟩ := hpre 0
  have hG : Good (teA m) (nuA m) (tlA m) := good_of_pre _ _ _ _ _ h1 h2 h3 h4
  refine ⟨fun c => ExpDownRefIdeal.Read.val_main_v18 (F := Ideal) (teA m) (nuA m) (xA m c) (gA m c), ?_, ?_⟩
  · exact (θ_run Cert.ExpDownIdeal.defs _ _).mono (fun r h c => ⟨(h.1 c).1.trans (final m hG c), (h.1 c).2⟩) (run m ρ hG)
  · refine (θ_run Cert.ExpDownRefIdeal.defs _ _).mono (fun r h c => ⟨(h c).1.trans ?_, (h c).2⟩)
      (Cert.ExpDownRefIdeal.Value.run (F := Ideal) m' ρ')
    obtain rfl : c = 0 := Subsingleton.elim _ _
    rw [Cert.ExpDownRefIdeal.Read.val_main_v18_eq, (hag 0).1, (hag 0).2.1, (hag 0).2.2.2.1, (hag 0).2.2.2.2]

end Cert.ExpDownProof

end
-- ==== Proof.InProj.lean ====
/-
The columns of the mixing layer's input projection before the rotary key. The kernel reads the weights transposed, keeps
one block of their columns in a carried copy while it goes down the rows, and leaves the plain product.
-/
module

public import proofs.«01_k».proof.Defs
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.InProjProof

open Idealize.ShloMosaic Idealize.ShloMosaic.TcCoe Idealize.SL.Sem
open Cert.InProjIdeal Cert.InProjIdeal.Gen

variable (m : (ℓ : Loc nD τ sig) → Buf (Elt Ideal) ℓ)

/-- The arguments of the call. -/
abbrev a0 (c : Dev nD) : Vec Ideal S8320x4096 .bf16 := m ((c : Thread nD τ).loc main_arg0)
abbrev a1 (c : Dev nD) : Vec Ideal S2x4096x15936 .f32 := m ((c : Thread nD τ).loc main_arg1)

/-- Which blocks point `t` works on. -/
theorem idx : ∀ t : Fin grid0.N, win0_0.index t 0 = t.val % 8 ∧ win0_0.index t 1 = 0
    ∧ win0_1.index t 0 = 0 ∧ win0_1.index t 1 = 512 * (t.val / 8) ∧ win0_1.index t 2 = 0 := by decide +kernel

theorem N_eq : cfg0.N = 56 := N_0

/-- The column of the projection that holds column `q` of the part. -/
abbrev part (q : Fin 3584) : Fin 15936 := ⟨q.val, by omega⟩

/-- The weight columns that point `n` multiplies by. -/
def cols (A : Vec Ideal S2x4096x15936 .f32) (n : ℕ) : FVec Ideal S512x4096 .bf16 :=
  fun y => A (ix3 0 (y 1) (Fin.ofNat 15936 (512 * (n / 8) + (y 0).val)))

/-- The weights as the call finds them: transposed. -/
theorem turned (c : Dev nD) (q : Fin 15936) (k : Fin 4096) :
    (V m c main_v0 : Vec Ideal S2x15936x4096 .f32) (ix3 0 q k) = a1 m c (ix3 0 k q) := by
  have e : (V m c main_v0 : Vec Ideal S2x15936x4096 .f32) = transpose S2x15936x4096 [0, 2, 1] (a1 m c) transposes_S2x4096x15936_S2x15936x4096_0_2_1 := rfl
  rw [e]
  pointwise []

theorem pay1_eq (c : Dev nD) (t : Fin cfg0.N) : k0_pay1 (iblk m c 1 t) = cols (a1 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a1 m c (ix3 0 j (Fin.ofNat 15936 (512 * (t.val / 8) + k.val)))
  have hk := k.isLt
  pointwise [k0_pay1]
  obtain ⟨-, -, e0, e1, e2⟩ := idx t
  rw [← turned]
  blk_point [iblk, V, e0, e1, e2]
  · show win0_1.index t 0 + 1 * 0 = 0
    omega
  · show win0_1.index t 1 + 1 * k.val = (512 * (t.val / 8) + k.val) % 15936
    omega
  · show win0_1.index t 2 + 1 * j.val = j.val
    omega

/-- Below the first row block the body multiplies by the copy it finds. -/
theorem outB (c : Dev nD) (i : grid0.Coords) (arg2 : Memref sig .tc .vmem S1040x4096 .bf16) (harg2 : arg2.IsWhole) (arg3 : Memref sig .tc .vmem S1x512x4096 .f32) (harg3 : arg3.IsWhole) (arg4 : Memref sig .tc .vmem S1040x512 .f32) (harg4 : arg4.IsWhole) (arg5 : Memref sig .tc .vmem S512x4096 .bf16) (harg5 : arg5.IsWhole) (hc0 : ¬cond0_0 i)
    (x0 : Vec Ideal S1040x4096 .bf16) (x1 : Vec Ideal S1x512x4096 .f32) (xs : Vec Ideal S512x4096 .bf16) :
    out0_B_2 c i arg2 harg2 arg3 harg3 arg4 harg4 arg5 harg5 hc0 x0 x1 xs = k0_pay2 x0 xs := by
  frame_out

/-- WHAT A POINT LEAVES: its output block, and the carried copy at the columns of the point. -/
theorem holds (c : Dev nD) : ∀ (n : ℕ) (hn : n < cfg0.N), outsAt0 m c n hn
    = (k0_pay2 (iblk m c 0 ⟨n, hn⟩) (cols (a1 m c) n), cols (a1 m c) n) := by
  have hA : ∀ t : Fin cfg0.N, t.val % 8 = 0 → outsAt0 m c t.val t.isLt
      = (k0_pay2 (iblk m c 0 t) (cols (a1 m c) t.val), cols (a1 m c) t.val) := by
    intro t h
    rw [outsAt0_A m c t h, ← pay1_eq]
    frame_out
  intro n
  induction n with
  | zero => exact fun hn => hA ⟨0, hn⟩ rfl
  | succ n ih =>
    intro hn
    by_cases h : (n + 1) % 8 = 0
    · exact hA ⟨n + 1, hn⟩ h
    · have e := outsAt0_B m c ⟨n + 1, hn⟩ h
      dsimp only at e
      rw [e]
      have p := ih (Nat.lt_of_succ_lt hn)
      have same : ∀ A, cols A n = cols A (n + 1) := fun A => by unfold cols; rw [show (n + 1) / 8 = n / 8 by omega]
      rw [← same]
      simp only [Nat.add_sub_cancel]
      rw [p, outB]
      rfl

theorem pay2_at (x0 : Vec Ideal S1040x4096 .bf16) (u : FVec Ideal S512x4096 .bf16) (r : Fin 1040) (j : Fin 512) :
    k0_pay2 x0 u (ix2 r j) = ∑ k : Fin 4096, x0 (ix2 r k) * u (ix2 j k) := by
  pointwise [k0_pay2]

theorem ref_at (A0 : Vec Ideal S8320x4096 .bf16) (A1 : Vec Ideal S2x4096x15936 .f32) (p : Fin 8320) (q : Fin 3584) :
    InProjRefIdeal.Read.val_main_v4 (F := Ideal) A0 A1 (ix2 p q) = ∑ k : Fin 4096, A0 (ix2 p k) * A1 (ix3 0 k (part q)) := by
  pointwise [InProjRefIdeal.Read.val_main_v4, InProjRefIdeal.Read.val_main_v3, InProjRefIdeal.Read.val_main_v2, InProjRefIdeal.Read.val_main_v1, InProjRefIdeal.Read.val_main_v0]

/-- The array at an index is what the point of its block left there. -/
theorem array_at (c : Dev nD) (p : Fin 8320) (q : Fin 3584) (n : ℕ) (hn : n < cfg0.N) (e : n = p.val / 1040 + 8 * (q.val / 512)) (r : Fin 1040) (j : Fin 512)
    (hr : r.val = p.val % 1040) (hj : j.val = q.val % 512) :
    Value.G2 m c (ix2 p q) = k0_pay2 (iblk m c 0 ⟨n, hn⟩) (cols (a1 m c) n) (ix2 r j) := by
  have hv : Value.pt2Of (ix2 p q) = n := by
    show 1 * (p.val / 1040 - 0) + 8 * (q.val / 512 - 0) = _
    omega
  have hl : Value.loc2Of (ix2 p q) = ix2 r j := funext fun a => match a with
    | ⟨0, _⟩ => Fin.ext hr.symm
    | ⟨1, _⟩ => Fin.ext hj.symm
  have h := holds m c n hn
  have hb : Value.pt2Of (ix2 p q) < cfg0.N := hv ▸ hn
  unfold Value.G2
  rw [dif_pos hb, hl, Value.fold0_congr m c _ _ n (by omega) hv, ← Value.outsAt0_sweep m c _ hn, h]

/-- The array the call leaves is the reference's. -/
theorem final (c : Dev nD) : Value.G2 m c = InProjRefIdeal.Read.val_main_v4 (F := Ideal) (a0 m c) (a1 m c) := by
  funext i
  obtain ⟨p, q, rfl⟩ : ∃ (p : Fin 8320) (q : Fin 3584), i = ix2 p q := ⟨i 0, i 1, funext fun a => match a with | ⟨0, _⟩ => rfl | ⟨1, _⟩ => rfl⟩
  have hp : p.val < 8320 := p.isLt
  have hq : q.val < 3584 := q.isLt
  have hn : p.val / 1040 + 8 * (q.val / 512) < cfg0.N := lt_of_lt_of_eq (by omega) N_eq.symm
  rw [ref_at, array_at m c p q _ hn rfl ⟨p.val % 1040, by omega⟩ ⟨q.val % 512, by omega⟩ rfl rfl, pay2_at]
  obtain ⟨e0, e1, -⟩ := idx ⟨p.val / 1040 + 8 * (q.val / 512), hn⟩
  dsimp only at e0 e1
  unfold cols
  show (_ : EReal) = _
  refine Finset.sum_congr rfl fun k _ => ?_
  congr 1
  · blk_ext [iblk, V, e0, e1]
  · exact congrArg (fun y => a1 m c (ix3 0 k y)) (Fin.ext (show (512 * ((p.val / 1040 + 8 * (q.val / 512)) / 8) + q.val % 512) % 15936 = q.val by omega))

/-! ## The claims -/

/-- The kernel runs, keeps its arguments, and leaves every counter at zero. -/
theorem frame : Cert.quiescent_InProj := fun m ρ _ => Cert.InProj.Gen.frame m ρ

/-- So does its reading over the extended reals. -/
theorem frameIdeal : Cert.quiescent_InProjIdeal := fun m ρ _ => Cert.InProjIdeal.Gen.frame m ρ

/-- The reference runs and keeps its arguments. -/
theorem frameRef : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The kernel's result is the reference's. -/
theorem algebraic : Cert.algebraic_InProjIdeal_InProjRefIdeal := by
  intro m ρ m' ρ' hpre hag
  refine ⟨fun c => InProjRefIdeal.Read.val_main_v4 (F := Ideal) (a0 m c) (a1 m c), ?_, ?_⟩
  · exact (θ_run Cert.InProjIdeal.defs _ _).mono (fun r h c => ⟨(h c).1.trans (final m c), (h c).2⟩)
      (Cert.InProjIdeal.Value.run (F := Ideal) m ρ)
  · refine (θ_run Cert.InProjRefIdeal.defs _ _).mono (fun r h c => ⟨(h c).1.trans ?_, (h c).2⟩)
      (Cert.InProjRefIdeal.Value.run (F := Ideal) m' ρ')
    rw [Cert.InProjRefIdeal.Read.val_main_v4_eq, (hag c).1, (hag c).2]

end Cert.InProjProof

end
-- ==== Proof.Resid.lean ====
/-
The last residual of a layer: the kernel adds to each row of the residual stream the row of the feed-forward part, divided by
its root mean square and scaled. Over the extended reals it leaves the array of the plain formula.
-/
module

public import proofs.«01_k».proof.Defs
public import proofs.«01_k».proof.Proof.Gen.Resid.Frame
public import proofs.«01_k».proof.Proof.Gen.ResidIdeal.Value
public import proofs.«01_k».proof.Proof.Gen.ResidRefIdeal.Run
public import proofs.«01_k».proof.Proof.Gen.ResidRefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.ResidProof

open Idealize.ShloMosaic Idealize.ShloMosaic.TcCoe Idealize.SL.Sem
open Cert.ResidIdeal Cert.ResidIdeal.Gen

/-- A row of `n` numbers divided by its root mean square, at place `q`, and scaled by `g`; `size` is the row's length as a
float. -/
def normed {n : ℕ} (size : EReal) (f : Fin n → EReal) (q : Fin n) (g : EReal) : EReal :=
  f q * Ideal.rsqrt (Ideal.div (∑ k, f k * f k) size + Ideal.ofBits FTy.f32 897988541#32) * g

/-- The kernel's block is the value the body computes. -/
theorem out_eq (x f : Vec Ideal S208x4096 .f32) (g : Vec Ideal S1x4096 .f32) : out0_3 x f g = k0_pay1 x f g := by
  frame_out

/-- A step's block at a row and a column. -/
theorem pay1_at (x f : Vec Ideal S208x4096 .f32) (g : Vec Ideal S1x4096 .f32) (r : Fin 208) (q : Fin 4096) :
    k0_pay1 x f g (ix2 r q) = x (ix2 r q) + normed (Ideal.ofBits FTy.f32 1166016512#32) (fun k => f (ix2 r k)) q (g (ix2 0 q)) := by
  unfold normed
  pointwise [k0_pay1]

/-- The reference at a row and a column. -/
theorem ref_at (A0 A1 : Vec Ideal S8320x4096 .f32) (A2 : Vec Ideal S2x4096 .f32) (p : Fin 8320) (q : Fin 4096) :
    ResidRefIdeal.Read.val_main_v15 (F := Ideal) A0 A1 A2 (ix2 p q)
      = A0 (ix2 p q) + normed (Ideal.ofBits FTy.f32 1166016512#32) (fun k => A1 (ix2 p k)) q (A2 (ix2 1 q)) := by
  unfold normed
  pointwise [ResidRefIdeal.Read.val_main_v15, ResidRefIdeal.Read.val_main_v14, ResidRefIdeal.Read.val_main_v13,
    ResidRefIdeal.Read.val_main_v12, ResidRefIdeal.Read.val_main_v11, ResidRefIdeal.Read.val_main_v10, ResidRefIdeal.Read.val_main_v9,
    ResidRefIdeal.Read.val_main_v8, ResidRefIdeal.Read.val_main_v7, ResidRefIdeal.Read.val_main_v6, ResidRefIdeal.Read.val_main_v5,
    ResidRefIdeal.Read.val_main_v4, ResidRefIdeal.Read.val_main_v3, ResidRefIdeal.Read.val_main_v2, ResidRefIdeal.Read.val_main_v1,
    ResidRefIdeal.Read.val_main_v0, ResidRefIdeal.Read.val_main_cst, ResidRefIdeal.Read.val_main_cst_0, ResidRefIdeal.Read.val_main_cst_1]

variable (m : (ℓ : Loc nD τ sig) → Buf (Elt Ideal) ℓ)

/-- The arguments of the call. -/
abbrev a0 (c : Dev nD) : Vec Ideal S8320x4096 .f32 := m ((c : Thread nD τ).loc main_arg0)
abbrev a1 (c : Dev nD) : Vec Ideal S8320x4096 .f32 := m ((c : Thread nD τ).loc main_arg1)
abbrev a2 (c : Dev nD) : Vec Ideal S2x4096 .f32 := m ((c : Thread nD τ).loc main_arg2)

/-- Which blocks point `t` works on. -/
theorem idx : ∀ t : Fin grid0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0 := by decide +kernel

theorem N_eq : cfg0.N = 40 := N_0

/-- The scale as the call finds it: the second layer's. -/
theorem scale_at (c : Dev nD) (q : Fin 4096) : (V m c main_v2 : Vec Ideal S1x4096 .f32) (ix2 0 q) = a2 m c (ix2 1 q) := by
  have e : (V m c main_v2 : Vec Ideal S1x4096 .f32)
      = shapeCast S1x4096 (shapeCast S4096 (extractStridedSlice S1x4096 ![1, 0] (a2 m c) slices_S2x4096_S1x4096_1_0) shapeCasts_S1x4096_S4096) shapeCasts_S4096_S1x4096 := rfl
  rw [e]
  pointwise []

/-- The kernel's block at a row and a column, of the arguments. -/
theorem block_at (c : Dev nD) (t : Fin cfg0.N) (r : Fin 208) (q : Fin 4096) (p : Fin 8320) (hp : p.val = 208 * t.val + r.val) :
    out0_3 (iblk m c 0 t) (iblk m c 1 t) (iblk m c 2 t) (ix2 r q)
      = a0 m c (ix2 p q) + normed (Ideal.ofBits FTy.f32 1166016512#32) (fun k => a1 m c (ix2 p k)) q (a2 m c (ix2 1 q)) := by
  obtain ⟨e0, e1, e2, e3, e4, e5, -⟩ := idx t
  have h0 : ∀ k, iblk m c 0 t (ix2 r k) = a0 m c (ix2 p k) := fun k => by
    refine congrArg (a0 m c) (funext fun a => Fin.ext ?_)
    match a with
    | ⟨0, _⟩ => show win0_0.index t 0 * 208 + 1 * r.val = p.val; omega
    | ⟨1, _⟩ => show win0_0.index t 1 * 4096 + 1 * k.val = k.val; omega
  have h1 : ∀ k, iblk m c 1 t (ix2 r k) = a1 m c (ix2 p k) := fun k => by
    refine congrArg (a1 m c) (funext fun a => Fin.ext ?_)
    match a with
    | ⟨0, _⟩ => show win0_1.index t 0 * 208 + 1 * r.val = p.val; omega
    | ⟨1, _⟩ => show win0_1.index t 1 * 4096 + 1 * k.val = k.val; omega
  have h2 : iblk m c 2 t (ix2 0 q) = a2 m c (ix2 1 q) := by
    rw [← scale_at]
    refine congrArg (V m c main_v2 : Vec Ideal S1x4096 .f32) (funext fun a => Fin.ext ?_)
    match a with
    | ⟨0, _⟩ => show win0_2.index t 0 * 1 + 1 * 0 = 0; omega
    | ⟨1, _⟩ => show win0_2.index t 1 * 4096 + 1 * q.val = q.val; omega
  rw [out_eq, pay1_at, h0, h2, funext h1]

/-- The reference's array, of the kernel's arguments. -/
abbrev G (c : Dev nD) : Vec Ideal S8320x4096 .f32 := ResidRefIdeal.Read.val_main_v15 (F := Ideal) (a0 m c) (a1 m c) (a2 m c)

/-- What a point writes back is its block of the reference's array. -/
theorem flushed_eq (c : Dev nD) (t : Fin cfg0.N) (hf : (cfg0.win 3).flush t = true) :
    (dats m 0 c).flushed 3 t = ((cfg0.win 3).blk t).view.read (Elt Ideal) (G m c : Buf (Elt Ideal) ((c : Thread nD τ).loc main_v3)) := by
  have ht := lt_of_lt_of_eq t.isLt N_eq
  rw [Value.flushed3]
  funext y
  obtain ⟨r, q, rfl⟩ : ∃ (r : Fin 208) (q : Fin 4096), y = ix2 r q := ⟨y 0, y 1, funext fun a => match a with | ⟨0, _⟩ => rfl | ⟨1, _⟩ => rfl⟩
  have hr := r.isLt
  obtain ⟨-, -, -, -, -, -, e6, e7⟩ := idx t
  refine (block_at m c t r q ⟨208 * t.val + r.val, by omega⟩ rfl).trans ((ref_at _ _ _ _ _).symm.trans ?_)
  refine congrArg (G m c) (funext fun a => Fin.ext ?_)
  match a with
  | ⟨0, _⟩ => show 208 * t.val + r.val = win0_3.index t 0 * 208 + 1 * r.val; omega
  | ⟨1, _⟩ => show q.val = win0_3.index t 1 * 4096 + 1 * q.val; omega

/-- Every point writes its block back. -/
theorem flush_all : ∀ t : Fin grid0.N, win0_3.flush t = true := by decide +kernel

/-- The array the call leaves is the reference's. -/
theorem final (c : Dev nD) : (dats m 0 c).arrAt 3 cfg0.N = G m c :=
  (dats m 0 c).arrAt_eq_of_cover 3 (G m c) (flushed_eq m c) fun i => by
    have h0 : (i 0 : Nat) < 8320 := (i 0).isLt
    have h1 : (i 1 : Nat) < 4096 := (i 1).isLt
    let t : Fin cfg0.N := ⟨(i 0 : Nat) / 208, lt_of_lt_of_eq (by omega) N_eq.symm⟩
    obtain ⟨-, -, -, -, -, -, e6, e7⟩ := idx t
    have ht : t.val = (i 0 : Nat) / 208 := rfl
    refine ⟨t, flush_all t, ?_⟩
    show i ∈ ((View.whole main_v3).slice (win0_3.rect t)).set
    rw [View.set_slice_whole, Rect.mem_set_unit]
    intro a
    match a with
    | ⟨0, _⟩ =>
      show win0_3.index t 0 * 208 ≤ (i 0 : Nat) ∧ (i 0 : Nat) < win0_3.index t 0 * 208 + 208
      omega
    | ⟨1, _⟩ =>
      show win0_3.index t 1 * 4096 ≤ (i 1 : Nat) ∧ (i 1 : Nat) < win0_3.index t 1 * 4096 + 4096
      omega

/-! ## The claims -/

/-- The kernel runs, keeps its arguments, and leaves every counter at zero. -/
theorem frame : Cert.quiescent_Resid := fun m ρ _ => Cert.Resid.Gen.frame m ρ

/-- So does its reading over the extended reals. -/
theorem frameIdeal : Cert.quiescent_ResidIdeal := fun m ρ _ => Cert.ResidIdeal.Gen.frame m ρ

/-- The reference runs and keeps its arguments. -/
theorem frameRef : Cert.quiescent_ResidRefIdeal := fun m ρ _ =>
  (θ_run Cert.ResidRefIdeal.defs _ _).mono (fun r h => ⟨fun c => (h c).2, sem_eq_zero_of_no_sems (by decide) r.2⟩)
    (Cert.ResidRefIdeal.Value.run (F := Ideal) m ρ)

/-- The kernel's result is the reference's. -/
theorem algebraic : Cert.algebraic_ResidIdeal_ResidRefIdeal := by
  intro m ρ m' ρ' hpre hag
  refine ⟨fun c => G m c, ?_, ?_⟩
  · exact (θ_run Cert.ResidIdeal.defs _ _).mono (fun r h c => ⟨(h c).1.trans (final m c), (h c).2⟩)
      (Cert.ResidIdeal.Value.run_blocks (F := Ideal) m ρ)
  · refine (θ_run Cert.ResidRefIdeal.defs _ _).mono (fun r h c => ⟨(h c).1.trans ?_, (h c).2⟩)
      (Cert.ResidRefIdeal.Value.run (F := Ideal) m' ρ')
    rw [Cert.ResidRefIdeal.Read.val_main_v15_eq, (hag c).1, (hag c).2.1, (hag c).2.2]

end Cert.ResidProof

end
-- ==== Proof.Latents.lean ====
/-
The latents of the attention: of each row of the input projection the kernel norms the query and the key-value latent, and
turns the rotary key by its position's angles. Over the extended reals it leaves the five arrays of the plain formulas.
-/
module

public import proofs.«01_k».proof.Defs
public import proofs.«01_k».proof.Proof.Gen.Latents.Frame
public import proofs.«01_k».proof.Proof.Gen.LatentsIdeal.Value
public import proofs.«01_k».proof.Proof.Gen.LatentsRefIdeal.Run
public import proofs.«01_k».proof.Proof.Gen.LatentsRefIdeal.Read
public import proofs.«01_k».proof.Proof.Resid
public import Idealize.ShloMosaic.Lib.Tactic
public import Idealize.ShloMosaic.Lib.Pointwise
public import Idealize.ShloMosaic.Lib.Pipeline.ValueKit

@[expose] public section

set_option maxRecDepth 16384

noncomputable section

namespace Cert.LatentsProof

open Idealize.ShloMosaic Idealize.ShloMosaic.TcCoe Idealize.SL.Sem
open Cert.LatentsIdeal Cert.LatentsIdeal.Gen
open Cert.LatentsRefIdeal.Read
open Cert.ResidProof (normed)

/-! ## The rotary key -/

/-- A key of 64 numbers turned by 32 angles, given by their cosines and sines: place `q` of the first half is paired with place
`q + 32`. -/
def turnedKey (x : Fin 128 → EReal) (co si : Fin 32 → EReal) (q : Fin 64) : EReal :=
  if h : q.val < 32 then x ⟨q.val, by omega⟩ * co ⟨q.val, h⟩ - x ⟨32 + q.val, by omega⟩ * si ⟨q.val, h⟩
  else x ⟨q.val, by omega⟩ * co ⟨q.val - 32, by omega⟩ + x ⟨q.val - 32, by omega⟩ * si ⟨q.val - 32, by omega⟩

/-- The word the kernel picks a lane's partner by says whether the lane is in the first half of its group of 64. -/
theorem first_half : ∀ q : Fin 128, (IntOp.cmpi CmpIPredicate.slt
    (Scalar.select
      (IntOp.andi
        (IntOp.xori
          (IntOp.cmpi CmpIPredicate.slt
            (IntOp.remsi ArithUnit.vector (BitVec.ofNat 32 q.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 q.val) (Scalar.select (Scalar.cmpi CmpIPredicate.eq 64#32 0#32) 1#32 64#32)) 0#32))
      (IntOp.addi
        (IntOp.remsi ArithUnit.vector (BitVec.ofNat 32 q.val) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 q.val) (Scalar.select (Scalar.cmpi CmpIPredicate.eq 64#32 0#32) 1#32 64#32)))
    32#32) = (if q.val % 64 < 32 then 1#1 else 0#1) := by decide +kernel

/-- The word the kernel keeps a lane by says whether it is one of the key's 64. -/
theorem in_key : ∀ q : Fin 128, (IntOp.cmpi CmpIPredicate.slt (BitVec.ofNat 32 q.val) 64#32) = (if q.val < 64 then 1#1 else 0#1) := by
  decide +kernel

/-- The turned key at a lane below 32, -/
theorem pay5_first (x c s : Vec Ideal S416x128 .f32) (r : Fin 416) (q : Fin 128) (h : q.val < 32) :
    k0_pay5 x c s (ix2 r q) = x (ix2 r q) * c (ix2 r q) + x (ix2 r ⟨32 + q.val, by omega⟩) * s (ix2 r q) := by
  have e : (⟨(q.val + 128 - 96) % 128, by omega⟩ : Fin 128) = ⟨32 + q.val, by omega⟩ := Fin.ext (by show (q.val + 128 - 96) % 128 = 32 + q.val; omega)
  pointwise [k0_pay5]
  rw [first_half, in_key, if_pos (by omega), if_pos (by omega)]
  show x _ * c _ + x _ * s _ = _
  rw [e]

/-- at one of the next 32 lanes, -/
theorem pay5_second (x c s : Vec Ideal S416x128 .f32) (r : Fin 416) (q : Fin 128) (h : 32 ≤ q.val) (h' : q.val < 64) :
    k0_pay5 x c s (ix2 r q) = x (ix2 r q) * c (ix2 r q) + x (ix2 r ⟨q.val - 32, by omega⟩) * s (ix2 r q) := by
  have e : (⟨(q.val + 128 - 32) % 128, by omega⟩ : Fin 128) = ⟨q.val - 32, by omega⟩ := Fin.ext (by show (q.val + 128 - 32) % 128 = q.val - 32; omega)
  pointwise [k0_pay5]
  rw [first_half, in_key, if_neg (show ¬ q.val % 64 < 32 by omega), if_pos h']
  show x _ * c _ + x _ * s _ = _
  rw [e]

/-- and at the others, where it is zero. -/
theorem pay5_rest (x c s : Vec Ideal S416x128 .f32) (r : Fin 416) (q : Fin 128) (h : 64 ≤ q.val) :
    k0_pay5 x c s (ix2 r q) = 0 := by
  pointwise [k0_pay5]
  rw [in_key, if_neg (by omega)]
  rfl

/-- With the cosines repeated, and the sines repeated with the first half negated, the kernel's key is the turned one. -/
theorem pay5_turned (x c s : Vec Ideal S416x128 .f32) (r : Fin 416) (co si : Fin 32 → EReal)
    (hc : ∀ q : Fin 128, c (ix2 r q) = if h : q.val % 64 < 32 then co ⟨q.val % 64, h⟩ else co ⟨q.val % 64 - 32, by omega⟩)
    (hs : ∀ q : Fin 128, s (ix2 r q) = if h : q.val % 64 < 32 then -si ⟨q.val % 64, h⟩ else si ⟨q.val % 64 - 32, by omega⟩)
    (q : Fin 64) : k0_pay5 x c s (ix2 r ⟨q.val, by omega⟩) = turnedKey (fun k => x (ix2 r k)) co si q := by
  have e : q.val % 64 = q.val := by omega
  unfold turnedKey
  by_cases h : q.val < 32
  · rw [pay5_first _ _ _ _ _ h, hc, hs, dif_pos h, dif_pos (by show q.val % 64 < 32; omega), dif_pos (by show q.val % 64 < 32; omega), mul_neg, ← sub_eq_add_neg]
    simp only [e]
  · rw [pay5_second _ _ _ _ _ (by show 32 ≤ q.val; omega) q.isLt, hc, hs, dif_neg h, dif_neg (by show ¬ q.val % 64 < 32; omega), dif_neg (by show ¬ q.val % 64 < 32; omega)]
    simp only [e]

/-- The doubled key at a lane. -/
theorem doubled_at (x c s : Vec Ideal S416x128 .f32) (r : Fin 416) (q : Fin 128) :
    k0_pay1 (k0_pay7 x c s) (ix2 r q)
      = if h : q.val < 64 then k0_pay5 x c s (ix2 r ⟨q.val, by omega⟩) else k0_pay5 x c s (ix2 r ⟨q.val - 64, by omega⟩) := by
  pointwise [k0_pay1, k0_pay7]
  by_cases h : q.val < 64
  · rw [dif_pos h, pay5_rest _ _ _ _ ⟨(q.val + 128 - 64) % 128, _⟩ (by show 64 ≤ (q.val + 128 - 64) % 128; omega)]
    exact add_zero _
  · rw [dif_neg h, pay5_rest _ _ _ _ q (by omega)]
    refine (zero_add _).trans (congrArg (fun k => k0_pay5 x c s (ix2 r k)) (Fin.ext ?_))
    show (q.val + 128 - 64) % 128 = q.val - 64
    omega

/-- The key's 64 lanes are cut out. -/
theorem key_at (x c s : Vec Ideal S416x128 .f32) (r : Fin 416) (q : Fin 64) :
    k0_pay6 x c s (ix2 r q) = k0_pay5 x c s (ix2 r ⟨q.val, by omega⟩) := by
  pointwise [k0_pay6]

/-- The reference's key, -/
theorem ref_key_at (A1 : Vec Ideal S8320x128 .f32) (p : Fin 8320) (q : Fin 64) :
    val_main_v62 (F := Ideal) A1 (ix2 p q)
      = turnedKey (fun k => A1 (ix2 p k)) (fun k => val_main_v52 (F := Ideal) (ix2 p k)) (fun k => val_main_v53 (F := Ideal) (ix2 p k)) q := by
  unfold turnedKey
  pointwise [val_main_v62, val_main_v61, val_main_v60, val_main_v59, val_main_v58, val_main_v57, val_main_v56, val_main_v55, val_main_v54, val_main_v39]
  by_cases h : q.val < 32
  · rw [dif_pos h, dif_pos h]
  · have e : (⟨32 + (q.val - 32), by omega⟩ : Fin 128) = ⟨q.val, by omega⟩ := Fin.ext (by show 32 + (q.val - 32) = q.val; omega)
    rw [dif_neg h, dif_neg h, e]

/-- and its doubled key. -/
theorem ref_doubled_at (A1 : Vec Ideal S8320x128 .f32) (p : Fin 8320) (q : Fin 128) :
    val_main_v66 (F := Ideal) A1 (ix2 p q)
      = if h : q.val < 64 then val_main_v62 (F := Ideal) A1 (ix2 p ⟨q.val, h⟩) else val_main_v62 (F := Ideal) A1 (ix2 p ⟨q.val - 64, by omega⟩) := by
  pointwise [val_main_v66, val_main_v65]

/-! ## The normed latents -/

/-- The query latent of a block, -/
theorem pay2_at (x : Vec Ideal S416x1024 .f32) (g : Vec Ideal S1x1x1024 .f32) (r : Fin 416) (q : Fin 1024) :
    k0_pay2 x g (ix2 r q) = normed (Ideal.ofBits FTy.f32 1149239296#32) (fun k => x (ix2 r k)) q (g (ix3 0 0 q)) := by
  unfold normed
  pointwise [k0_pay2]

/-- its key-value latent, -/
theorem pay3_at (x : Vec Ideal S416x512 .f32) (g : Vec Ideal S1x1x512 .f32) (r : Fin 416) (q : Fin 512) :
    k0_pay3 x g (ix2 r q) = normed (Ideal.ofBits FTy.f32 1140850688#32) (fun k => x (ix2 r k)) q (g (ix3 0 0 q)) := by
  unfold normed
  pointwise [k0_pay3]

/-- and the key-value latent in the narrow format. -/
theorem pay4_at (x : Vec Ideal S416x512 .f32) (g : Vec Ideal S1x1x512 .f32) (r : Fin 416) (q : Fin 512) :
    k0_pay4 x g (ix2 r q) = k0_pay3 x g (ix2 r q) := by
  pointwise [k0_pay4]

/-- The reference's query latent, -/
theorem ref_q_at (A0 : Vec Ideal S8320x3584 .f32) (A2 : Vec Ideal S2x1024 .f32) (p : Fin 8320) (q : Fin 1024) :
    val_main_v63 (F := Ideal) A0 A2 (ix2 p q)
      = normed (Ideal.ofBits FTy.f32 1149239296#32) (fun k => A0 (ix2 p ⟨2048 + k.val, by omega⟩)) q (A2 (ix2 0 q)) := by
  unfold normed
  pointwise [val_main_v63, val_main_v22, val_main_v21, val_main_v20, val_main_v19, val_main_v18, val_main_v17, val_main_v16, val_main_v15,
    val_main_v14, val_main_v13, val_main_v12, val_main_v11, val_main_v10, val_main_v9, val_main_v8, val_main_v7, val_main_cst,
    val_main_cst_0, val_main_cst_1]

/-- its key-value latent, -/
theorem ref_kv_at (A0 : Vec Ideal S8320x3584 .f32) (A3 : Vec Ideal S2x512 .f32) (p : Fin 8320) (q : Fin 512) :
    val_main_v38 (F := Ideal) A0 A3 (ix2 p q)
      = normed (Ideal.ofBits FTy.f32 1140850688#32) (fun k => A0 (ix2 p ⟨3072 + k.val, by omega⟩)) q (A3 (ix2 0 q)) := by
  unfold normed
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_cst_2, val_main_cst_3,
    val_main_cst_4]

/-- and the key-value latent in the narrow format. -/
theorem ref_kvb_at (A0 : Vec Ideal S8320x3584 .f32) (A3 : Vec Ideal S2x512 .f32) (p : Fin 8320) (q : Fin 512) :
    val_main_v64 (F := Ideal) A0 A3 (ix2 p q) = val_main_v38 (F := Ideal) A0 A3 (ix2 p q) := by
  pointwise [val_main_v64]

/-! ## What the call finds -/

variable (m : (ℓ : Loc nD τ sig) → Buf (Elt Ideal) ℓ)

/-- The arguments of the call. -/
abbrev a0 (c : Dev nD) : Vec Ideal S8320x3584 .f32 := m ((c : Thread nD τ).loc main_arg0)
abbrev a1 (c : Dev nD) : Vec Ideal S8320x128 .f32 := m ((c : Thread nD τ).loc main_arg1)
abbrev a2 (c : Dev nD) : Vec Ideal S2x1024 .f32 := m ((c : Thread nD τ).loc main_arg2)
abbrev a3 (c : Dev nD) : Vec Ideal S2x512 .f32 := m ((c : Thread nD τ).loc main_arg3)

/-- Two arrays of 32 columns side by side, and those 64 columns twice: as the tables of cosines and sines are laid out. -/
abbrev laidOut (C D : Vec Ideal S8320x32 .f32) : Vec Ideal S8320x128 .f32 :=
  shapeCast S8320x128 (broadcastInDim S1x8320x2x64 ![0, 1, 2, 3] bcast_S1x8320x1x64_S1x8320x2x64_0_1_2_3
    (shapeCast S1x8320x1x64 (concatenate S8320x64 1 [⟨S8320x32, C⟩, ⟨S8320x32, D⟩] concatenates_S8320x32_S8320x32_S8320x64_d1)
      shapeCasts_S8320x64_S1x8320x1x64)) shapeCasts_S1x8320x2x64_S8320x128

/-- Such a layout at a row and a lane. -/
theorem laidOut_at (C D : Vec Ideal S8320x32 .f32) (p : Fin 8320) (q : Fin 128) :
    laidOut C D (ix2 p q) = if h : q.val % 64 < 32 then C (ix2 p ⟨q.val % 64, h⟩) else D (ix2 p ⟨q.val % 64 - 32, by omega⟩) := by
  pointwise []

/-- The cosines as the call finds them. -/
theorem cos_at (c : Dev nD) (p : Fin 8320) (q : Fin 128) : (V m c main_v24 : Vec Ideal S8320x128 .f32) (ix2 p q)
    = if h : q.val % 64 < 32 then val_main_v52 (F := Ideal) (ix2 p ⟨q.val % 64, h⟩) else val_main_v52 (F := Ideal) (ix2 p ⟨q.val % 64 - 32, by omega⟩) := by
  have e : (V m c main_v24 : Vec Ideal S8320x128 .f32) = laidOut (val_main_v52 (F := Ideal)) (val_main_v52 (F := Ideal)) := rfl
  rw [e, laidOut_at]

/-- The sines as the call finds them. -/
theorem sin_at (c : Dev nD) (p : Fin 8320) (q : Fin 128) : (V m c main_v29 : Vec Ideal S8320x128 .f32) (ix2 p q)
    = if h : q.val % 64 < 32 then -(val_main_v53 (F := Ideal) (ix2 p ⟨q.val % 64, h⟩) : EReal) else val_main_v53 (F := Ideal) (ix2 p ⟨q.val % 64 - 32, by omega⟩) := by
  have e : (V m c main_v29 : Vec Ideal S8320x128 .f32) = laidOut (Host.negf (F := Ideal) (s := S8320x32) (φ := .f32) (val_main_v53 (F := Ideal))) (val_main_v53 (F := Ideal)) := rfl
  rw [e, laidOut_at]
  rfl

/-- The scales as the call finds them. -/
theorem qscale_at (c : Dev nD) (q : Fin 1024) : (V m c main_v30 : Vec Ideal S2x1x1024 .f32) (ix3 0 0 q) = a2 m c (ix2 0 q) := by
  have e : (V m c main_v30 : Vec Ideal S2x1x1024 .f32) = shapeCast S2x1x1024 (a2 m c) shapeCasts_S2x1024_S2x1x1024 := rfl
  rw [e]
  pointwise []

theorem kvscale_at (c : Dev nD) (q : Fin 512) : (V m c main_v31 : Vec Ideal S2x1x512 .f32) (ix3 0 0 q) = a3 m c (ix2 0 q) := by
  have e : (V m c main_v31 : Vec Ideal S2x1x512 .f32) = shapeCast S2x1x512 (a3 m c) shapeCasts_S2x512_S2x1x512 := rfl
  rw [e]
  pointwise []

/-! ## The blocks -/

/-- Which blocks point `t` reads, -/
theorem idx : ∀ t : Fin grid0.N, win0_0.index t 0 = t.val ∧ win0_0.index t 1 = 2 ∧ win0_1.index t 0 = t.val ∧ win0_1.index t 1 = 6
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0 ∧ win0_5.index t 2 = 0
    ∧ win0_6.index t 0 = 0 ∧ win0_6.index t 1 = 0 ∧ win0_6.index t 2 = 0 := by decide +kernel

/-- and which it writes. -/
theorem idxO : ∀ t : Fin grid0.N, win0_7.index t 0 = t.val ∧ win0_7.index t 1 = 0 ∧ win0_8.index t 0 = t.val ∧ win0_8.index t 1 = 0
    ∧ win0_9.index t 0 = t.val ∧ win0_9.index t 1 = 0 ∧ win0_10.index t 0 = t.val ∧ win0_10.index t 1 = 0
    ∧ win0_11.index t 0 = t.val ∧ win0_11.index t 1 = 0 := by decide +kernel

/-- Every point writes its blocks back. -/
theorem flush_all : ∀ t : Fin grid0.N, win0_7.flush t = true ∧ win0_8.flush t = true ∧ win0_9.flush t = true
    ∧ win0_10.flush t = true ∧ win0_11.flush t = true := by decide +kernel

theorem N_eq : cfg0.N = 20 := N_0

section inputs

variable (c : Dev nD) (t : Fin cfg0.N) (r : Fin 416) (p : Fin 8320) (hp : p.val = 416 * t.val + r.val)
include hp

/-- The query columns of the block, -/
theorem q_block (k : Fin 1024) : X0_0 m c t (ix2 r k) = a0 m c (ix2 p ⟨2048 + k.val, by omega⟩) := by
  obtain ⟨e0, e1, -⟩ := idx t
  unfold X0_0 Pipeline.Window.fill
  rw [dif_pos (moved0_0 t _)]
  refine congrArg (a0 m c) (funext fun a => Fin.ext ?_)
  match a with
  | ⟨0, _⟩ => show win0_0.index t 0 * 416 + 1 * r.val = p.val; omega
  | ⟨1, _⟩ => show win0_0.index t 1 * 1024 + 1 * k.val = 2048 + k.val; omega

/-- its key-value columns, -/
theorem kv_block (k : Fin 512) : iblk m c 1 t (ix2 r k) = a0 m c (ix2 p ⟨3072 + k.val, by omega⟩) := by
  obtain ⟨-, -, e0, e1, -⟩ := idx t
  refine congrArg (a0 m c) (funext fun a => Fin.ext ?_)
  match a with
  | ⟨0, _⟩ => show win0_1.index t 0 * 416 + 1 * r.val = p.val; omega
  | ⟨1, _⟩ => show win0_1.index t 1 * 512 + 1 * k.val = 3072 + k.val; omega

/-- its keys, -/
theorem key_block (k : Fin 128) : iblk m c 2 t (ix2 r k) = a1 m c (ix2 p k) := by
  obtain ⟨-, -, -, -, e0, e1, -⟩ := idx t
  refine congrArg (a1 m c) (funext fun a => Fin.ext ?_)
  match a with
  | ⟨0, _⟩ => show win0_2.index t 0 * 416 + 1 * r.val = p.val; omega
  | ⟨1, _⟩ => show win0_2.index t 1 * 128 + 1 * k.val = k.val; omega

/-- its cosines, -/
theorem cos_block (k : Fin 128) : iblk m c 3 t (ix2 r k) = (V m c main_v24 : Vec Ideal S8320x128 .f32) (ix2 p k) := by
  obtain ⟨-, -, -, -, -, -, e0, e1, -⟩ := idx t
  refine congrArg (V m c main_v24 : Vec Ideal S8320x128 .f32) (funext fun a => Fin.ext ?_)
  match a with
  | ⟨0, _⟩ => show win0_3.index t 0 * 416 + 1 * r.val = p.val; omega
  | ⟨1, _⟩ => show win0_3.index t 1 * 128 + 1 * k.val = k.val; omega

/-- and its sines. -/
theorem sin_block (k : Fin 128) : iblk m c 4 t (ix2 r k) = (V m c main_v29 : Vec Ideal S8320x128 .f32) (ix2 p k) := by
  obtain ⟨-, -, -, -, -, -, -, -, e0, e1, -⟩ := idx t
  refine congrArg (V m c main_v29 : Vec Ideal S8320x128 .f32) (funext fun a => Fin.ext ?_)
  match a with
  | ⟨0, _⟩ => show win0_4.index t 0 * 416 + 1 * r.val = p.val; omega
  | ⟨1, _⟩ => show win0_4.index t 1 * 128 + 1 * k.val = k.val; omega

end inputs

/-- The block of the query's scale, -/
theorem qscale_block (c : Dev nD) (t : Fin cfg0.N) (q : Fin 1024) : iblk m c 5 t (ix3 0 0 q) = a2 m c (ix2 0 q) := by
  obtain ⟨-, -, -, -, -, -, -, -, -, -, e0, e1, e2, -⟩ := idx t
  rw [← qscale_at]
  refine congrArg (V m c main_v30 : Vec Ideal S2x1x1024 .f32) (funext fun a => Fin.ext ?_)
  match a with
  | ⟨0, _⟩ => show win0_5.index t 0 * 1 + 1 * 0 = 0; omega
  | ⟨1, _⟩ => show win0_5.index t 1 * 1 + 1 * 0 = 0; omega
  | ⟨2, _⟩ => show win0_5.index t 2 * 1024 + 1 * q.val = q.val; omega

/-- and of the key-value scale. -/
theorem kvscale_block (c : Dev nD) (t : Fin cfg0.N) (q : Fin 512) : iblk m c 6 t (ix3 0 0 q) = a3 m c (ix2 0 q) := by
  obtain ⟨-, -, -, -, -, -, -, -, -, -, -, -, -, e0, e1, e2⟩ := idx t
  rw [← kvscale_at]
  refine congrArg (V m c main_v31 : Vec Ideal S2x1x512 .f32) (funext fun a => Fin.ext ?_)
  match a with
  | ⟨0, _⟩ => show win0_6.index t 0 * 1 + 1 * 0 = 0; omega
  | ⟨1, _⟩ => show win0_6.index t 1 * 1 + 1 * 0 = 0; omega
  | ⟨2, _⟩ => show win0_6.index t 2 * 512 + 1 * q.val = q.val; omega

/-- The key of a block's row is the reference's. -/
theorem key_eq (c : Dev nD) (t : Fin cfg0.N) (r : Fin 416) (p : Fin 8320) (hp : p.val = 416 * t.val + r.val) (q : Fin 64) :
    k0_pay5 (iblk m c 2 t) (iblk m c 3 t) (iblk m c 4 t) (ix2 r ⟨q.val, by omega⟩) = val_main_v62 (F := Ideal) (a1 m c) (ix2 p q) := by
  rw [pay5_turned _ _ _ _ (fun k => val_main_v52 (F := Ideal) (ix2 p k)) (fun k => val_main_v53 (F := Ideal) (ix2 p k))
    (fun k => (cos_block m c t r p hp k).trans (cos_at m c p k)) (fun k => (sin_block m c t r p hp k).trans (sin_at m c p k)),
    ref_key_at, funext (key_block m c t r p hp)]

/-! ## The arrays -/

/-- What a point writes back to each of the five arrays, as the body's value. -/
theorem written (c : Dev nD) (t : Fin cfg0.N) :
    (dats m 0 c).flushed 7 t = (cfg0.win 7).cut (grid0.coords t) (k0_pay2 (X0_0 m c t) (iblk m c 5 t))
    ∧ (dats m 0 c).flushed 8 t = (cfg0.win 8).cut (grid0.coords t) (k0_pay3 (iblk m c 1 t) (iblk m c 6 t))
    ∧ (dats m 0 c).flushed 9 t = (cfg0.win 9).cut (grid0.coords t) (k0_pay4 (iblk m c 1 t) (iblk m c 6 t))
    ∧ (dats m 0 c).flushed 10 t = (cfg0.win 10).cut (grid0.coords t) (k0_pay6 (iblk m c 2 t) (iblk m c 3 t) (iblk m c 4 t))
    ∧ (dats m 0 c).flushed 11 t
        = (cfg0.win 11).cut (grid0.coords t) (k0_pay1 (k0_pay7 (iblk m c 2 t) (iblk m c 3 t) (iblk m c 4 t))) := by
  rw [Value.flushed7_A, Value.flushed8_A, Value.flushed9_A, Value.flushed10_A, Value.flushed11_A]
  generalize X0_0 m c t = x0; generalize iblk m c 1 t = x1; generalize iblk m c 2 t = x2; generalize iblk m c 3 t = x3
  generalize iblk m c 4 t = x4; generalize iblk m c 5 t = x5; generalize iblk m c 6 t = x6
  refine ⟨congrArg _ ?_, congrArg _ ?_, congrArg _ ?_, congrArg _ ?_, congrArg _ ?_⟩ <;> frame_out

/-- The arrays the reference computes of the kernel's arguments: the query latent, the key-value latent in both formats, the
turned key, and that key doubled. -/
abbrev G7 (c : Dev nD) : Vec Ideal S8320x1024 .bf16 := val_main_v63 (F := Ideal) (a0 m c) (a2 m c)
abbrev G8 (c : Dev nD) : Vec Ideal S8320x512 .f32 := val_main_v38 (F := Ideal) (a0 m c) (a3 m c)
abbrev G9 (c : Dev nD) : Vec Ideal S8320x512 .bf16 := val_main_v64 (F := Ideal) (a0 m c) (a3 m c)
abbrev G10 (c : Dev nD) : Vec Ideal S8320x64 .f32 := val_main_v62 (F := Ideal) (a1 m c)
abbrev G11 (c : Dev nD) : Vec Ideal S8320x128 .bf16 := val_main_v66 (F := Ideal) (a1 m c)

section blocks

variable (c : Dev nD) (t : Fin cfg0.N) (r : Fin 416) (p : Fin 8320) (hp : p.val = 416 * t.val + r.val)
include hp

/-- Each value of the body at a row is the reference's at that row of the whole array. -/
theorem at7 (q : Fin 1024) : k0_pay2 (X0_0 m c t) (iblk m c 5 t) (ix2 r q) = G7 m c (ix2 p q) := by
  rw [pay2_at, funext (q_block m c t r p hp), qscale_block]
  exact (ref_q_at _ _ p q).symm

theorem at8 (q : Fin 512) : k0_pay3 (iblk m c 1 t) (iblk m c 6 t) (ix2 r q) = G8 m c (ix2 p q) := by
  rw [pay3_at, funext (kv_block m c t r p hp), kvscale_block]
  exact (ref_kv_at _ _ p q).symm

theorem at9 (q : Fin 512) : k0_pay4 (iblk m c 1 t) (iblk m c 6 t) (ix2 r q) = G9 m c (ix2 p q) := by
  rw [pay4_at, at8 m c t r p hp]
  exact (ref_kvb_at _ _ p q).symm

theorem at10 (q : Fin 64) : k0_pay6 (iblk m c 2 t) (iblk m c 3 t) (iblk m c 4 t) (ix2 r q) = G10 m c (ix2 p q) := by
  rw [key_at, key_eq m c t r p hp]

theorem at11 (q : Fin 128) : k0_pay1 (k0_pay7 (iblk m c 2 t) (iblk m c 3 t) (iblk m c 4 t)) (ix2 r q) = G11 m c (ix2 p q) := by
  refine (doubled_at _ _ _ r q).trans (Eq.trans ?_ (ref_doubled_at _ p q).symm)
  by_cases h : q.val < 64
  · rw [dif_pos h, dif_pos h]
    exact key_eq m c t r p hp ⟨q.val, h⟩
  · rw [dif_neg h, dif_neg h]
    exact key_eq m c t r p hp ⟨q.val - 64, by omega⟩

end blocks

/-- Every row is in some point's blocks, -/
theorem row_point (i : ℕ) (h : i < 8320) : ∃ t : Fin cfg0.N, t.val * 416 ≤ i ∧ i < t.val * 416 + 416 :=
  ⟨⟨i / 416, lt_of_lt_of_eq (by omega) N_eq.symm⟩, by show i / 416 * 416 ≤ i ∧ i < i / 416 * 416 + 416; omega⟩

/-- and every row of a point's block is a row of the array. -/
def row (t : Fin cfg0.N) (r : Fin 416) : Fin 8320 := ⟨416 * t.val + r.val, by have := lt_of_lt_of_eq t.isLt N_eq; omega⟩

/-- An index of a block, as a row and a column. -/
theorem split {a b : ℕ} (y : (⟨2, ![a, b]⟩ : Shape).Idx) : y = ix2 (y 0) (y 1) := funext fun d => match d with | ⟨0, _⟩ => rfl | ⟨1, _⟩ => rfl

/-- The query latent's array is the reference's. -/
theorem final7 (c : Dev nD) : (dats m 0 c).arrAt 7 cfg0.N = G7 m c := by
  refine (dats m 0 c).arrAt_eq_of_cover 7 (G7 m c) (fun t _ => ?_) fun i => ?_
  · obtain ⟨e, e', -⟩ := idxO t
    rw [(written m c t).1]
    funext y
    obtain ⟨r, q, rfl⟩ : ∃ (r : Fin 416) (q : Fin 1024), y = ix2 r q := ⟨_, _, split y⟩
    refine (at7 m c t r (row t r) rfl q).trans (congrArg (G7 m c) (funext fun a => Fin.ext ?_))
    match a with
    | ⟨0, _⟩ => show 416 * t.val + r.val = win0_7.index t 0 * 416 + 1 * r.val; omega
    | ⟨1, _⟩ => show q.val = win0_7.index t 1 * 1024 + 1 * q.val; omega
  · obtain ⟨t, ht⟩ := row_point _ (i 0).isLt
    obtain ⟨e, e', -⟩ := idxO t
    have h1 : (i 1 : ℕ) < 1024 := (i 1).isLt
    refine ⟨t, (flush_all t).1, ?_⟩
    show i ∈ ((View.whole main_v32_0).slice (win0_7.rect t)).set
    rw [View.set_slice_whole, Rect.mem_set_unit]
    intro a
    match a with
    | ⟨0, _⟩ => show win0_7.index t 0 * 416 ≤ (i 0 : ℕ) ∧ (i 0 : ℕ) < win0_7.index t 0 * 416 + 416; rw [e]; exact ht
    | ⟨1, _⟩ => show win0_7.index t 1 * 1024 ≤ (i 1 : ℕ) ∧ (i 1 : ℕ) < win0_7.index t 1 * 1024 + 1024; omega

/-- The key-value latent's array is the reference's. -/
theorem final8 (c : Dev nD) : (dats m 0 c).arrAt 8 cfg0.N = G8 m c := by
  refine (dats m 0 c).arrAt_eq_of_cover 8 (G8 m c) (fun t _ => ?_) fun i => ?_
  · obtain ⟨-, -, e, e', -⟩ := idxO t
    rw [(written m c t).2.1]
    funext y
    obtain ⟨r, q, rfl⟩ : ∃ (r : Fin 416) (q : Fin 512), y = ix2 r q := ⟨_, _, split y⟩
    refine (at8 m c t r (row t r) rfl q).trans (congrArg (G8 m c) (funext fun a => Fin.ext ?_))
    match a with
    | ⟨0, _⟩ => show 416 * t.val + r.val = win0_8.index t 0 * 416 + 1 * r.val; omega
    | ⟨1, _⟩ => show q.val = win0_8.index t 1 * 512 + 1 * q.val; omega
  · obtain ⟨t, ht⟩ := row_point _ (i 0).isLt
    obtain ⟨-, -, e, e', -⟩ := idxO t
    have h1 : (i 1 : ℕ) < 512 := (i 1).isLt
    refine ⟨t, (flush_all t).2.1, ?_⟩
    show i ∈ ((View.whole main_v32_1).slice (win0_8.rect t)).set
    rw [View.set_slice_whole, Rect.mem_set_unit]
    intro a
    match a with
    | ⟨0, _⟩ => show win0_8.index t 0 * 416 ≤ (i 0 : ℕ) ∧ (i 0 : ℕ) < win0_8.index t 0 * 416 + 416; rw [e]; exact ht
    | ⟨1, _⟩ => show win0_8.index t 1 * 512 ≤ (i 1 : ℕ) ∧ (i 1 : ℕ) < win0_8.index t 1 * 512 + 512; omega

/-- The narrow key-value latent's array is the reference's. -/
theorem final9 (c : Dev nD) : (dats m 0 c).arrAt 9 cfg0.N = G9 m c := by
  refine (dats m 0 c).arrAt_eq_of_cover 9 (G9 m c) (fun t _ => ?_) fun i => ?_
  · obtain ⟨-, -, -, -, e, e', -⟩ := idxO t
    rw [(written m c t).2.2.1]
    funext y
    obtain ⟨r, q, rfl⟩ : ∃ (r : Fin 416) (q : Fin 512), y = ix2 r q := ⟨_, _, split y⟩
    refine (at9 m c t r (row t r) rfl q).trans (congrArg (G9 m c) (funext fun a => Fin.ext ?_))
    match a with
    | ⟨0, _⟩ => show 416 * t.val + r.val = win0_9.index t 0 * 416 + 1 * r.val; omega
    | ⟨1, _⟩ => show q.val = win0_9.index t 1 * 512 + 1 * q.val; omega
  · obtain ⟨t, ht⟩ := row_point _ (i 0).isLt
    obtain ⟨-, -, -, -, e, e', -⟩ := idxO t
    have h1 : (i 1 : ℕ) < 512 := (i 1).isLt
    refine ⟨t, (flush_all t).2.2.1, ?_⟩
    show i ∈ ((View.whole main_v32_2).slice (win0_9.rect t)).set
    rw [View.set_slice_whole, Rect.mem_set_unit]
    intro a
    match a with
    | ⟨0, _⟩ => show win0_9.index t 0 * 416 ≤ (i 0 : ℕ) ∧ (i 0 : ℕ) < win0_9.index t 0 * 416 + 416; rw [e]; exact ht
    | ⟨1, _⟩ => show win0_9.index t 1 * 512 ≤ (i 1 : ℕ) ∧ (i 1 : ℕ) < win0_9.index t 1 * 512 + 512; omega

/-- The turned key's array is the reference's. -/
theorem final10 (c : Dev nD) : (dats m 0 c).arrAt 10 cfg0.N = G10 m c := by
  refine (dats m 0 c).arrAt_eq_of_cover 10 (G10 m c) (fun t _ => ?_) fun i => ?_
  · obtain ⟨-, -, -, -, -, -, e, e', -⟩ := idxO t
    rw [(written m c t).2.2.2.1]
    funext y
    obtain ⟨r, q, rfl⟩ : ∃ (r : Fin 416) (q : Fin 64), y = ix2 r q := ⟨_, _, split y⟩
    refine (at10 m c t r (row t r) rfl q).trans (congrArg (G10 m c) (funext fun a => Fin.ext ?_))
    match a with
    | ⟨0, _⟩ => show 416 * t.val + r.val = win0_10.index t 0 * 416 + 1 * r.val; omega
    | ⟨1, _⟩ => show q.val = win0_10.index t 1 * 64 + 1 * q.val; omega
  · obtain ⟨t, ht⟩ := row_point _ (i 0).isLt
    obtain ⟨-, -, -, -, -, -, e, e', -⟩ := idxO t
    have h1 : (i 1 : ℕ) < 64 := (i 1).isLt
    refine ⟨t, (flush_all t).2.2.2.1, ?_⟩
    show i ∈ ((View.whole main_v32_3).slice (win0_10.rect t)).set
    rw [View.set_slice_whole, Rect.mem_set_unit]
    intro a
    match a with
    | ⟨0, _⟩ => show win0_10.index t 0 * 416 ≤ (i 0 : ℕ) ∧ (i 0 : ℕ) < win0_10.index t 0 * 416 + 416; rw [e]; exact ht
    | ⟨1, _⟩ => show win0_10.index t 1 * 64 ≤ (i 1 : ℕ) ∧ (i 1 : ℕ) < win0_10.index t 1 * 64 + 64; omega

/-- The doubled key's array is the reference's. -/
theorem final11 (c : Dev nD) : (dats m 0 c).arrAt 11 cfg0.N = G11 m c := by
  refine (dats m 0 c).arrAt_eq_of_cover 11 (G11 m c) (fun t _ => ?_) fun i => ?_
  · obtain ⟨-, -, -, -, -, -, -, -, e, e'⟩ := idxO t
    rw [(written m c t).2.2.2.2]
    funext y
    obtain ⟨r, q, rfl⟩ : ∃ (r : Fin 416) (q : Fin 128), y = ix2 r q := ⟨_, _, split y⟩
    refine (at11 m c t r (row t r) rfl q).trans (congrArg (G11 m c) (funext fun a => Fin.ext ?_))
    match a with
    | ⟨0, _⟩ => show 416 * t.val + r.val = win0_11.index t 0 * 416 + 1 * r.val; omega
    | ⟨1, _⟩ => show q.val = win0_11.index t 1 * 128 + 1 * q.val; omega
  · obtain ⟨t, ht⟩ := row_point _ (i 0).isLt
    obtain ⟨-, -, -, -, -, -, -, -, e, e'⟩ := idxO t
    have h1 : (i 1 : ℕ) < 128 := (i 1).isLt
    refine ⟨t, (flush_all t).2.2.2.2, ?_⟩
    show i ∈ ((View.whole main_v32_4).slice (win0_11.rect t)).set
    rw [View.set_slice_whole, Rect.mem_set_unit]
    intro a
    match a with
    | ⟨0, _⟩ => show win0_11.index t 0 * 416 ≤ (i 0 : ℕ) ∧ (i 0 : ℕ) < win0_11.index t 0 * 416 + 416; rw [e]; exact ht
    | ⟨1, _⟩ => show win0_11.index t 1 * 128 ≤ (i 1 : ℕ) ∧ (i 1 : ℕ) < win0_11.index t 1 * 128 + 128; omega

/-! ## The claims -/

/-- The kernel runs, keeps its arguments, and leaves every counter at zero. -/
theorem frame : Cert.quiescent_Latents := fun m ρ _ => Cert.Latents.Gen.frame m ρ

/-- So does its reading over the extended reals. -/
theorem frameIdeal : Cert.quiescent_LatentsIdeal := fun m ρ _ => Cert.LatentsIdeal.Gen.frame m ρ

/-- The reference runs and keeps its arguments. -/
theorem frameRef : Cert.quiescent_LatentsRefIdeal := fun m ρ _ =>
  (θ_run Cert.LatentsRefIdeal.defs _ _).mono (fun r h => ⟨fun c => (h c).2.2.2.2.2, sem_eq_zero_of_no_sems (by decide) r.2⟩)
    (Cert.LatentsRefIdeal.Value.run (F := Ideal) m ρ)

/-- The kernel's five results are the reference's. -/
theorem algebraic : Cert.algebraic_LatentsIdeal_LatentsRefIdeal := by
  intro m ρ m' ρ' hpre hag
  refine ⟨fun c => G7 m c, fun c => G8 m c, fun c => G9 m c, fun c => G10 m c, fun c => G11 m c, ?_, ?_⟩
  · exact (θ_run Cert.LatentsIdeal.defs _ _).mono (fun r h c =>
      ⟨(h c).1.trans (final7 m c), (h c).2.1.trans (final8 m c), (h c).2.2.1.trans (final9 m c),
        (h c).2.2.2.1.trans (final10 m c), (h c).2.2.2.2.1.trans (final11 m c), (h c).2.2.2.2.2⟩)
      (Cert.LatentsIdeal.Value.run_blocks (F := Ideal) m ρ)
  · refine (θ_run Cert.LatentsRefIdeal.defs _ _).mono (fun r h c => ?_) (Cert.LatentsRefIdeal.Value.run (F := Ideal) m' ρ')
    obtain ⟨g0, g1, g2, g3⟩ := hag c
    obtain ⟨h0, h1, h2, h3, h4, h5⟩ := h c
    refine ⟨h0.trans ?_, h1.trans ?_, h2.trans ?_, h3.trans ?_, h4.trans ?_, h5⟩
    · rw [val_main_v63_eq, g0, g2]
    · rw [val_main_v38_eq, g0, g3]
    · rw [val_main_v64_eq, g0, g3]
    · rw [val_main_v62_eq, g1]
    · rw [val_main_v66_eq, g1]

end Cert.LatentsProof

end
-- ==== Proof.KeyCols.lean ====
/-
The 128 columns of the mixing layer's input projection that begin at the rotary key. The kernel reads the weights
transposed, keeps the columns in a carried copy while it goes down the rows, and leaves the plain product.
-/
module

public import proofs.«01_k».proof.Defs
public import proofs.«01_k».proof.Proof.Gen.KeyCols.Frame
public import proofs.«01_k».proof.Proof.Gen.KeyColsIdeal.Value
public import proofs.«01_k».proof.Proof.Gen.KeyColsRefIdeal.Run
public import proofs.«01_k».proof.Proof.Gen.KeyColsRefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.KeyColsProof

open Idealize.ShloMosaic Idealize.ShloMosaic.TcCoe Idealize.SL.Sem
open Cert.KeyColsIdeal Cert.KeyColsIdeal.Gen

variable (m : (ℓ : Loc nD τ sig) → Buf (Elt Ideal) ℓ)

/-- The arguments of the call. -/
abbrev a0 (c : Dev nD) : Vec Ideal S8320x4096 .bf16 := m ((c : Thread nD τ).loc main_arg0)
abbrev a1 (c : Dev nD) : Vec Ideal S2x4096x15936 .f32 := m ((c : Thread nD τ).loc main_arg1)

/-- Which blocks point `t` works on. -/
theorem idx : ∀ t : Fin grid0.N, win0_0.index t 0 = t.val % 8 ∧ win0_0.index t 1 = 0
    ∧ win0_1.index t 0 = 0 ∧ win0_1.index t 1 = 3584 ∧ win0_1.index t 2 = 0 := by decide +kernel

theorem N_eq : cfg0.N = 8 := N_0

/-- The column of the projection that holds column `q` of the part. -/
abbrev part (q : Fin 128) : Fin 15936 := ⟨3584 + q.val, by omega⟩

/-- The weight columns that point `n` multiplies by. -/
def cols (A : Vec Ideal S2x4096x15936 .f32) (n : ℕ) : FVec Ideal S128x4096 .bf16 :=
  fun y => A (ix3 0 (y 1) (Fin.ofNat 15936 (3584 + 128 * (n / 8) + (y 0).val)))

/-- The weights as the call finds them: transposed. -/
theorem turned (c : Dev nD) (q : Fin 15936) (k : Fin 4096) :
    (V m c main_v0 : Vec Ideal S2x15936x4096 .f32) (ix3 0 q k) = a1 m c (ix3 0 k q) := by
  have e : (V m c main_v0 : Vec Ideal S2x15936x4096 .f32) = transpose S2x15936x4096 [0, 2, 1] (a1 m c) transposes_S2x4096x15936_S2x15936x4096_0_2_1 := rfl
  rw [e]
  pointwise []

theorem pay1_eq (c : Dev nD) (t : Fin cfg0.N) : k0_pay1 (iblk m c 1 t) = cols (a1 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a1 m c (ix3 0 j (Fin.ofNat 15936 (3584 + 128 * (t.val / 8) + k.val)))
  have hk := k.isLt
  pointwise [k0_pay1]
  obtain ⟨-, -, e0, e1, e2⟩ := idx t
  rw [← turned]
  blk_point [iblk, V, e0, e1, e2]
  · show win0_1.index t 0 + 1 * 0 = 0
    omega
  · show win0_1.index t 1 + 1 * k.val = (3584 + 128 * (t.val / 8) + k.val) % 15936
    omega
  · show win0_1.index t 2 + 1 * j.val = j.val
    omega

/-- Below the first row block the body multiplies by the copy it finds. -/
theorem outB (c : Dev nD) (i : grid0.Coords) (arg2 : Memref sig .tc .vmem S1040x4096 .bf16) (harg2 : arg2.IsWhole) (arg3 : Memref sig .tc .vmem S1x128x4096 .f32) (harg3 : arg3.IsWhole) (arg4 : Memref sig .tc .vmem S1040x128 .f32) (harg4 : arg4.IsWhole) (arg5 : Memref sig .tc .vmem S128x4096 .bf16) (harg5 : arg5.IsWhole) (hc0 : ¬cond0_0 i)
    (x0 : Vec Ideal S1040x4096 .bf16) (x1 : Vec Ideal S1x128x4096 .f32) (xs : Vec Ideal S128x4096 .bf16) :
    out0_B_2 c i arg2 harg2 arg3 harg3 arg4 harg4 arg5 harg5 hc0 x0 x1 xs = k0_pay2 x0 xs := by
  frame_out

/-- WHAT A POINT LEAVES: its output block, and the carried copy at the columns of the point. -/
theorem holds (c : Dev nD) : ∀ (n : ℕ) (hn : n < cfg0.N), outsAt0 m c n hn
    = (k0_pay2 (iblk m c 0 ⟨n, hn⟩) (cols (a1 m c) n), cols (a1 m c) n) := by
  have hA : ∀ t : Fin cfg0.N, t.val % 8 = 0 → outsAt0 m c t.val t.isLt
      = (k0_pay2 (iblk m c 0 t) (cols (a1 m c) t.val), cols (a1 m c) t.val) := by
    intro t h
    rw [outsAt0_A m c t h, ← pay1_eq]
    frame_out
  intro n
  induction n with
  | zero => exact fun hn => hA ⟨0, hn⟩ rfl
  | succ n ih =>
    intro hn
    by_cases h : (n + 1) % 8 = 0
    · exact hA ⟨n + 1, hn⟩ h
    · have e := outsAt0_B m c ⟨n + 1, hn⟩ h
      dsimp only at e
      rw [e]
      have p := ih (Nat.lt_of_succ_lt hn)
      have same : ∀ A, cols A n = cols A (n + 1) := fun A => by unfold cols; rw [show (n + 1) / 8 = n / 8 by omega]
      rw [← same]
      simp only [Nat.add_sub_cancel]
      rw [p, outB]
      rfl

theorem pay2_at (x0 : Vec Ideal S1040x4096 .bf16) (u : FVec Ideal S128x4096 .bf16) (r : Fin 1040) (j : Fin 128) :
    k0_pay2 x0 u (ix2 r j) = ∑ k : Fin 4096, x0 (ix2 r k) * u (ix2 j k) := by
  pointwise [k0_pay2]

theorem ref_at (A0 : Vec Ideal S8320x4096 .bf16) (A1 : Vec Ideal S2x4096x15936 .f32) (p : Fin 8320) (q : Fin 128) :
    KeyColsRefIdeal.Read.val_main_v4 (F := Ideal) A0 A1 (ix2 p q) = ∑ k : Fin 4096, A0 (ix2 p k) * A1 (ix3 0 k (part q)) := by
  pointwise [KeyColsRefIdeal.Read.val_main_v4, KeyColsRefIdeal.Read.val_main_v3, KeyColsRefIdeal.Read.val_main_v2, KeyColsRefIdeal.Read.val_main_v1, KeyColsRefIdeal.Read.val_main_v0]

/-- The array at an index is what the point of its block left there. -/
theorem array_at (c : Dev nD) (p : Fin 8320) (q : Fin 128) (n : ℕ) (hn : n < cfg0.N) (e : n = p.val / 1040 + q.val / 128) (r : Fin 1040) (j : Fin 128)
    (hr : r.val = p.val % 1040) (hj : j.val = q.val % 128) :
    Value.G2 m c (ix2 p q) = k0_pay2 (iblk m c 0 ⟨n, hn⟩) (cols (a1 m c) n) (ix2 r j) := by
  have hv : Value.pt2Of (ix2 p q) = n := by
    show 1 * (p.val / 1040 - 0) + 1 * (q.val / 128 - 0) = _
    omega
  have hl : Value.loc2Of (ix2 p q) = ix2 r j := funext fun a => match a with
    | ⟨0, _⟩ => Fin.ext hr.symm
    | ⟨1, _⟩ => Fin.ext hj.symm
  have h := holds m c n hn
  have hb : Value.pt2Of (ix2 p q) < cfg0.N := hv ▸ hn
  unfold Value.G2
  rw [dif_pos hb, hl, Value.fold0_congr m c _ _ n (by omega) hv, ← Value.outsAt0_sweep m c _ hn, h]

/-- The array the call leaves is the reference's. -/
theorem final (c : Dev nD) : Value.G2 m c = KeyColsRefIdeal.Read.val_main_v4 (F := Ideal) (a0 m c) (a1 m c) := by
  funext i
  obtain ⟨p, q, rfl⟩ : ∃ (p : Fin 8320) (q : Fin 128), i = ix2 p q := ⟨i 0, i 1, funext fun a => match a with | ⟨0, _⟩ => rfl | ⟨1, _⟩ => rfl⟩
  have hp : p.val < 8320 := p.isLt
  have hq : q.val < 128 := q.isLt
  have hn : p.val / 1040 + q.val / 128 < cfg0.N := lt_of_lt_of_eq (by omega) N_eq.symm
  rw [ref_at, array_at m c p q _ hn rfl ⟨p.val % 1040, by omega⟩ ⟨q.val % 128, by omega⟩ rfl rfl, pay2_at]
  obtain ⟨e0, e1, -⟩ := idx ⟨p.val / 1040 + q.val / 128, hn⟩
  dsimp only at e0 e1
  unfold cols
  show (_ : EReal) = _
  refine Finset.sum_congr rfl fun k _ => ?_
  congr 1
  · blk_ext [iblk, V, e0, e1]
  · exact congrArg (fun y => a1 m c (ix3 0 k y)) (Fin.ext (show (3584 + 128 * ((p.val / 1040 + q.val / 128) / 8) + q.val % 128) % 15936 = 3584 + q.val by omega))

/-! ## The claims -/

/-- The kernel runs, keeps its arguments, and leaves every counter at zero. -/
theorem frame : Cert.quiescent_KeyCols := fun m ρ _ => Cert.KeyCols.Gen.frame m ρ

/-- So does its reading over the extended reals. -/
theorem frameIdeal : Cert.quiescent_KeyColsIdeal := fun m ρ _ => Cert.KeyColsIdeal.Gen.frame m ρ

/-- The reference runs and keeps its arguments. -/
theorem frameRef : Cert.quiescent_KeyColsRefIdeal := fun m ρ _ =>
  (θ_run Cert.KeyColsRefIdeal.defs _ _).mono (fun r h => ⟨fun c => (h c).2, sem_eq_zero_of_no_sems (by decide) r.2⟩)
    (Cert.KeyColsRefIdeal.Value.run (F := Ideal) m ρ)

/-- The kernel's result is the reference's. -/
theorem algebraic : Cert.algebraic_KeyColsIdeal_KeyColsRefIdeal := by
  intro m ρ m' ρ' hpre hag
  refine ⟨fun c => KeyColsRefIdeal.Read.val_main_v4 (F := Ideal) (a0 m c) (a1 m c), ?_, ?_⟩
  · exact (θ_run Cert.KeyColsIdeal.defs _ _).mono (fun r h c => ⟨(h c).1.trans (final m c), (h c).2⟩)
      (Cert.KeyColsIdeal.Value.run (F := Ideal) m ρ)
  · refine (θ_run Cert.KeyColsRefIdeal.defs _ _).mono (fun r h c => ⟨(h c).1.trans ?_, (h c).2⟩)
      (Cert.KeyColsRefIdeal.Value.run (F := Ideal) m' ρ')
    rw [Cert.KeyColsRefIdeal.Read.val_main_v4_eq, (hag c).1, (hag c).2]

end Cert.KeyColsProof

end
-- ==== Proof.QNope.lean ====
/-
The part of the query up-projection that is not turned, for all heads. The call gets the weight columns of that part; it
keeps one block of them in a carried copy while it goes down the rows, and leaves the plain product in bf16.
-/
module

public import proofs.«01_k».proof.Defs
public import proofs.«01_k».proof.Proof.Gen.QNope.Frame
public import proofs.«01_k».proof.Proof.Gen.QNopeIdeal.Value
public import proofs.«01_k».proof.Proof.Gen.QNopeRefIdeal.Run
public import proofs.«01_k».proof.Proof.Gen.QNopeRefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.QNopeProof

open Idealize.ShloMosaic Idealize.ShloMosaic.TcCoe Idealize.SL.Sem
open Cert.QNopeIdeal Cert.QNopeIdeal.Gen

variable (m : (ℓ : Loc nD τ sig) → Buf (Elt Ideal) ℓ)

/-- The arguments of the call. -/
abbrev a0 (c : Dev nD) : Vec Ideal S8320x1024 .bf16 := m ((c : Thread nD τ).loc main_arg0)
abbrev a1 (c : Dev nD) : Vec Ideal S2x1024x3072 .f32 := m ((c : Thread nD τ).loc main_arg1)

/-- Which blocks point `t` works on. -/
theorem idx : ∀ t : Fin grid0.N, win0_0.index t 0 = t.val % 8 ∧ win0_0.index t 1 = 0
    ∧ win0_1.index t 0 = 0 ∧ win0_1.index t 1 = t.val / 8 := by decide +kernel

theorem N_eq : cfg0.N = 16 := N_0

/-- The column of the whole up-projection that holds column `q` of the part: each of the 16 heads has 192 columns, and the
    part keeps the first 128 of them. -/
abbrev part (q : Fin 2048) : Fin 3072 := ⟨q.val / 128 * 192 + q.val % 128, by omega⟩

/-- The weight columns that point `n` multiplies by. -/
def cols (A : Vec Ideal S2x1024x3072 .f32) (n : ℕ) : FVec Ideal S1024x1024 .bf16 :=
  fun y => A (ix3 0 (y 0) (part (Fin.ofNat 2048 (1024 * (n / 8) + (y 1).val))))

/-- The weights as the call finds them: the part's columns alone. -/
theorem picked (c : Dev nD) (k : Fin 1024) (q : Fin 2048) :
    (V m c main_v4 : Vec Ideal S1024x2048 .f32) (ix2 k q) = a1 m c (ix3 0 k (part q)) := by
  have e : (V m c main_v4 : Vec Ideal S1024x2048 .f32) = shapeCast S1024x2048 (extractStridedSlice S1024x16x128 ![0, 0, 0] (shapeCast S1024x16x192 (shapeCast S1024x3072 (extractStridedSlice S1x1024x3072 ![0, 0, 0] (a1 m c) slices_S2x1024x3072_S1x1024x3072_0_0_0) shapeCasts_S1x1024x3072_S1024x3072) shapeCasts_S1024x3072_S1024x16x192) slices_S1024x16x192_S1024x16x128_0_0_0) shapeCasts_S1024x16x128_S1024x2048 := rfl
  rw [e]
  pointwise []

theorem pay1_eq (c : Dev nD) (t : Fin cfg0.N) : k0_pay1 (iblk m c 1 t) = cols (a1 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a1 m c (ix3 0 k (part (Fin.ofNat 2048 (1024 * (t.val / 8) + j.val))))
  have hj := j.isLt
  pointwise [k0_pay1]
  obtain ⟨-, -, e0, e1⟩ := idx t
  rw [← picked]
  blk_point [iblk, V, e0, e1]
  show _ = (1024 * (t.val / 8) + j.val) % 2048
  omega

/-- Below the first row block the body multiplies by the copy it finds. -/
theorem outB (c : Dev nD) (i : grid0.Coords) (arg2 : Memref sig .tc .vmem S1040x1024 .bf16) (harg2 : arg2.IsWhole) (arg3 : Memref sig .tc .vmem S1024x1024 .f32) (harg3 : arg3.IsWhole) (arg4 : Memref sig .tc .vmem S1040x1024 .bf16) (harg4 : arg4.IsWhole) (arg5 : Memref sig .tc .vmem S1024x1024 .bf16) (harg5 : arg5.IsWhole) (hc0 : ¬cond0_0 i)
    (x0 : Vec Ideal S1040x1024 .bf16) (x1 : Vec Ideal S1024x1024 .f32) (xs : Vec Ideal S1024x1024 .bf16) :
    out0_B_2 c i arg2 harg2 arg3 harg3 arg4 harg4 arg5 harg5 hc0 x0 x1 xs = k0_pay2 x0 xs := by
  frame_out

/-- WHAT A POINT LEAVES: its output block, and the carried copy at the columns of the point. -/
theorem holds (c : Dev nD) : ∀ (n : ℕ) (hn : n < cfg0.N), outsAt0 m c n hn
    = (k0_pay2 (iblk m c 0 ⟨n, hn⟩) (cols (a1 m c) n), cols (a1 m c) n) := by
  have hA : ∀ t : Fin cfg0.N, t.val % 8 = 0 → outsAt0 m c t.val t.isLt
      = (k0_pay2 (iblk m c 0 t) (cols (a1 m c) t.val), cols (a1 m c) t.val) := by
    intro t h
    rw [outsAt0_A m c t h, ← pay1_eq]
    frame_out
  intro n
  induction n with
  | zero => exact fun hn => hA ⟨0, hn⟩ rfl
  | succ n ih =>
    intro hn
    by_cases h : (n + 1) % 8 = 0
    · exact hA ⟨n + 1, hn⟩ h
    · have e := outsAt0_B m c ⟨n + 1, hn⟩ h
      dsimp only at e
      rw [e]
      have p := ih (Nat.lt_of_succ_lt hn)
      have same : ∀ A, cols A n = cols A (n + 1) := fun A => by unfold cols; rw [show (n + 1) / 8 = n / 8 by omega]
      rw [← same]
      simp only [Nat.add_sub_cancel]
      rw [p, outB]
      rfl

theorem pay2_at (x0 : Vec Ideal S1040x1024 .bf16) (u : FVec Ideal S1024x1024 .bf16) (r : Fin 1040) (j : Fin 1024) :
    k0_pay2 x0 u (ix2 r j) = ∑ k : Fin 1024, x0 (ix2 r k) * u (ix2 k j) := by
  pointwise [k0_pay2]

theorem ref_at (A0 : Vec Ideal S8320x1024 .bf16) (A1 : Vec Ideal S2x1024x3072 .f32) (p : Fin 8320) (q : Fin 2048) :
    QNopeRefIdeal.Read.val_main_v7 (F := Ideal) A0 A1 (ix2 p q) = ∑ k : Fin 1024, A0 (ix2 p k) * A1 (ix3 0 k (part q)) := by
  pointwise [QNopeRefIdeal.Read.val_main_v7, QNopeRefIdeal.Read.val_main_v6, QNopeRefIdeal.Read.val_main_v5, QNopeRefIdeal.Read.val_main_v4, QNopeRefIdeal.Read.val_main_v3, QNopeRefIdeal.Read.val_main_v2, QNopeRefIdeal.Read.val_main_v1, QNopeRefIdeal.Read.val_main_v0]

/-- The array at an index is what the point of its block left there. -/
theorem array_at (c : Dev nD) (p : Fin 8320) (q : Fin 2048) (n : ℕ) (hn : n < cfg0.N) (e : n = p.val / 1040 + 8 * (q.val / 1024)) (r : Fin 1040) (j : Fin 1024)
    (hr : r.val = p.val % 1040) (hj : j.val = q.val % 1024) :
    Value.G2 m c (ix2 p q) = k0_pay2 (iblk m c 0 ⟨n, hn⟩) (cols (a1 m c) n) (ix2 r j) := by
  have hv : Value.pt2Of (ix2 p q) = n := by
    show 1 * (p.val / 1040 - 0) + 8 * (q.val / 1024 - 0) = _
    omega
  have hl : Value.loc2Of (ix2 p q) = ix2 r j := funext fun a => match a with
    | ⟨0, _⟩ => Fin.ext hr.symm
    | ⟨1, _⟩ => Fin.ext hj.symm
  have h := holds m c n hn
  have hb : Value.pt2Of (ix2 p q) < cfg0.N := hv ▸ hn
  unfold Value.G2
  rw [dif_pos hb, hl, Value.fold0_congr m c _ _ n (by omega) hv, ← Value.outsAt0_sweep m c _ hn, h]

/-- The array the call leaves is the reference's. -/
theorem final (c : Dev nD) : Value.G2 m c = QNopeRefIdeal.Read.val_main_v7 (F := Ideal) (a0 m c) (a1 m c) := by
  funext i
  obtain ⟨p, q, rfl⟩ : ∃ (p : Fin 8320) (q : Fin 2048), i = ix2 p q := ⟨i 0, i 1, funext fun a => match a with | ⟨0, _⟩ => rfl | ⟨1, _⟩ => rfl⟩
  have hp : p.val < 8320 := p.isLt
  have hq : q.val < 2048 := q.isLt
  have hn : p.val / 1040 + 8 * (q.val / 1024) < cfg0.N := lt_of_lt_of_eq (by omega) N_eq.symm
  rw [ref_at, array_at m c p q _ hn rfl ⟨p.val % 1040, by omega⟩ ⟨q.val % 1024, by omega⟩ rfl rfl, pay2_at]
  obtain ⟨e0, e1, -⟩ := idx ⟨p.val / 1040 + 8 * (q.val / 1024), hn⟩
  dsimp only at e0 e1
  unfold cols
  show (_ : EReal) = _
  refine Finset.sum_congr rfl fun k _ => ?_
  congr 1
  · blk_ext [iblk, V, e0, e1]
  · exact congrArg (fun y => a1 m c (ix3 0 k (part y))) (Fin.ext (show (1024 * ((p.val / 1040 + 8 * (q.val / 1024)) / 8) + q.val % 1024) % 2048 = q.val by omega))

/-! ## The claims -/

/-- The kernel runs, keeps its arguments, and leaves every counter at zero. -/
theorem frame : Cert.quiescent_QNope := fun m ρ _ => Cert.QNope.Gen.frame m ρ

/-- So does its reading over the extended reals. -/
theorem frameIdeal : Cert.quiescent_QNopeIdeal := fun m ρ _ => Cert.QNopeIdeal.Gen.frame m ρ

/-- The reference runs and keeps its arguments. -/
theorem frameRef : Cert.quiescent_QNopeRefIdeal := fun m ρ _ =>
  (θ_run Cert.QNopeRefIdeal.defs _ _).mono (fun r h => ⟨fun c => (h c).2, sem_eq_zero_of_no_sems (by decide) r.2⟩)
    (Cert.QNopeRefIdeal.Value.run (F := Ideal) m ρ)

/-- The kernel's result is the reference's. -/
theorem algebraic : Cert.algebraic_QNopeIdeal_QNopeRefIdeal := by
  intro m ρ m' ρ' hpre hag
  refine ⟨fun c => QNopeRefIdeal.Read.val_main_v7 (F := Ideal) (a0 m c) (a1 m c), ?_, ?_⟩
  · exact (θ_run Cert.QNopeIdeal.defs _ _).mono (fun r h c => ⟨(h c).1.trans (final m c), (h c).2⟩)
      (Cert.QNopeIdeal.Value.run (F := Ideal) m ρ)
  · refine (θ_run Cert.QNopeRefIdeal.defs _ _).mono (fun r h c => ⟨(h c).1.trans ?_, (h c).2⟩)
      (Cert.QNopeRefIdeal.Value.run (F := Ideal) m' ρ')
    rw [Cert.QNopeRefIdeal.Read.val_main_v7_eq, (hag c).1, (hag c).2]

end Cert.QNopeProof

end
-- ==== Proof.KNope.lean ====
/-
The prompt's keys before the rotary part, from the key-value latents. The call gets the weight columns of the keys; it
keeps one block of them in a carried copy while it goes down the prompt's rows, and leaves the plain product in bf16.
-/
module

public import proofs.«01_k».proof.Defs
public import proofs.«01_k».proof.Proof.Gen.KNope.Frame
public import proofs.«01_k».proof.Proof.Gen.KNopeIdeal.Value
public import proofs.«01_k».proof.Proof.Gen.KNopeRefIdeal.Run
public import proofs.«01_k».proof.Proof.Gen.KNopeRefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.KNopeProof

open Idealize.ShloMosaic Idealize.ShloMosaic.TcCoe Idealize.SL.Sem
open Cert.KNopeIdeal Cert.KNopeIdeal.Gen

variable (m : (ℓ : Loc nD τ sig) → Buf (Elt Ideal) ℓ)

/-- The arguments of the call. -/
abbrev a0 (c : Dev nD) : Vec Ideal S8320x512 .bf16 := m ((c : Thread nD τ).loc main_arg0)
abbrev a1 (c : Dev nD) : Vec Ideal S2x512x4096 .f32 := m ((c : Thread nD τ).loc main_arg1)

/-- Which blocks point `t` works on. -/
theorem idx : ∀ t : Fin grid0.N, win0_0.index t 0 = t.val % 8 ∧ win0_0.index t 1 = 0
    ∧ win0_1.index t 0 = 0 ∧ win0_1.index t 1 = t.val / 8 := by decide +kernel

theorem N_eq : cfg0.N = 16 := N_0

/-- The column of the whole up-projection that holds column `q` of the part: each of the 16 heads has 256 columns, and the
    part keeps the first 128 of them. -/
abbrev part (q : Fin 2048) : Fin 4096 := ⟨q.val / 128 * 256 + q.val % 128, by omega⟩

/-- The row of the latents that holds the prompt's row `p`. -/
abbrev row (p : Fin 8192) : Fin 8320 := ⟨p.val, by omega⟩

/-- The weight columns that point `n` multiplies by. -/
def cols (A : Vec Ideal S2x512x4096 .f32) (n : ℕ) : FVec Ideal S512x1024 .bf16 :=
  fun y => A (ix3 0 (y 0) (part (Fin.ofNat 2048 (1024 * (n / 8) + (y 1).val))))

/-- The weights as the call finds them: the part's columns alone. -/
theorem picked (c : Dev nD) (k : Fin 512) (q : Fin 2048) :
    (V m c main_v4 : Vec Ideal S512x2048 .f32) (ix2 k q) = a1 m c (ix3 0 k (part q)) := by
  have e : (V m c main_v4 : Vec Ideal S512x2048 .f32) = shapeCast S512x2048 (extractStridedSlice S512x16x128 ![0, 0, 0] (shapeCast S512x16x256 (shapeCast S512x4096 (extractStridedSlice S1x512x4096 ![0, 0, 0] (a1 m c) slices_S2x512x4096_S1x512x4096_0_0_0) shapeCasts_S1x512x4096_S512x4096) shapeCasts_S512x4096_S512x16x256) slices_S512x16x256_S512x16x128_0_0_0) shapeCasts_S512x16x128_S512x2048 := rfl
  rw [e]
  pointwise []

theorem pay1_eq (c : Dev nD) (t : Fin cfg0.N) : k0_pay1 (iblk m c 1 t) = cols (a1 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a1 m c (ix3 0 k (part (Fin.ofNat 2048 (1024 * (t.val / 8) + j.val))))
  have hj := j.isLt
  pointwise [k0_pay1]
  obtain ⟨-, -, e0, e1⟩ := idx t
  rw [← picked]
  blk_point [iblk, V, e0, e1]
  show _ = (1024 * (t.val / 8) + j.val) % 2048
  omega

/-- Below the first row block the body multiplies by the copy it finds. -/
theorem outB (c : Dev nD) (i : grid0.Coords) (arg2 : Memref sig .tc .vmem S1024x512 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S512x1024 .bf16) (harg5 : arg5.IsWhole) (hc0 : ¬cond0_0 i)
    (x0 : Vec Ideal S1024x512 .bf16) (x1 : Vec Ideal S512x1024 .f32) (xs : Vec Ideal S512x1024 .bf16) :
    out0_B_2 c i arg2 harg2 arg3 harg3 arg4 harg4 arg5 harg5 hc0 x0 x1 xs = k0_pay2 x0 xs := by
  frame_out

/-- WHAT A POINT LEAVES: its output block, and the carried copy at the columns of the point. -/
theorem holds (c : Dev nD) : ∀ (n : ℕ) (hn : n < cfg0.N), outsAt0 m c n hn
    = (k0_pay2 (F := Ideal) (X0_0 m c ⟨n, hn⟩) (cols (a1 m c) n), cols (a1 m c) n) := by
  have hA : ∀ t : Fin cfg0.N, t.val % 8 = 0 → outsAt0 m c t.val t.isLt
      = (k0_pay2 (F := Ideal) (X0_0 m c t) (cols (a1 m c) t.val), cols (a1 m c) t.val) := by
    intro t h
    rw [outsAt0_A m c t h, ← pay1_eq]
    frame_out
  intro n
  induction n with
  | zero => exact fun hn => hA ⟨0, hn⟩ rfl
  | succ n ih =>
    intro hn
    by_cases h : (n + 1) % 8 = 0
    · exact hA ⟨n + 1, hn⟩ h
    · have e := outsAt0_B m c ⟨n + 1, hn⟩ h
      dsimp only at e
      rw [e]
      have p := ih (Nat.lt_of_succ_lt hn)
      have same : ∀ A, cols A n = cols A (n + 1) := fun A => by unfold cols; rw [show (n + 1) / 8 = n / 8 by omega]
      rw [← same]
      simp only [Nat.add_sub_cancel]
      rw [p, outB]
      rfl

theorem pay2_at (x0 : Vec Ideal S1024x512 .bf16) (u : FVec Ideal S512x1024 .bf16) (r : Fin 1024) (j : Fin 1024) :
    k0_pay2 x0 u (ix2 r j) = ∑ k : Fin 512, x0 (ix2 r k) * u (ix2 k j) := by
  pointwise [k0_pay2]

theorem ref_at (A0 : Vec Ideal S8320x512 .bf16) (A1 : Vec Ideal S2x512x4096 .f32) (p : Fin 8192) (q : Fin 2048) :
    KNopeRefIdeal.Read.val_main_v8 (F := Ideal) A0 A1 (ix2 p q) = ∑ k : Fin 512, A0 (ix2 (row p) k) * A1 (ix3 0 k (part q)) := by
  pointwise [KNopeRefIdeal.Read.val_main_v8, KNopeRefIdeal.Read.val_main_v7, KNopeRefIdeal.Read.val_main_v6, KNopeRefIdeal.Read.val_main_v5, KNopeRefIdeal.Read.val_main_v4, KNopeRefIdeal.Read.val_main_v3, KNopeRefIdeal.Read.val_main_v2, KNopeRefIdeal.Read.val_main_v1, KNopeRefIdeal.Read.val_main_v0]

/-- The array at an index is what the point of its block left there. -/
theorem array_at (c : Dev nD) (p : Fin 8192) (q : Fin 2048) (n : ℕ) (hn : n < cfg0.N) (e : n = p.val / 1024 + 8 * (q.val / 1024)) (r : Fin 1024) (j : Fin 1024)
    (hr : r.val = p.val % 1024) (hj : j.val = q.val % 1024) :
    Value.G2 m c (ix2 p q) = k0_pay2 (F := Ideal) (X0_0 m c ⟨n, hn⟩) (cols (a1 m c) n) (ix2 r j) := by
  have hv : Value.pt2Of (ix2 p q) = n := by
    show 1 * (p.val / 1024 - 0) + 8 * (q.val / 1024 - 0) = _
    omega
  have hl : Value.loc2Of (ix2 p q) = ix2 r j := funext fun a => match a with
    | ⟨0, _⟩ => Fin.ext hr.symm
    | ⟨1, _⟩ => Fin.ext hj.symm
  have h := holds m c n hn
  have hb : Value.pt2Of (ix2 p q) < cfg0.N := hv ▸ hn
  unfold Value.G2
  rw [dif_pos hb, hl, Value.fold0_congr m c _ _ n (by omega) hv, ← Value.outsAt0_sweep m c _ hn, h]

/-- The rows of the latents that a point works on. -/
theorem rows_block (c : Dev nD) (p : Fin 8192) (t : Fin cfg0.N) (ht : t.val % 8 = p.val / 1024) (r : Fin 1024) (hr : r.val = p.val % 1024)
    (k : Fin 512) : X0_0 m c t (ix2 r k) = a0 m c (ix2 (row p) k) := by
  obtain ⟨e0, e1, -⟩ := idx t
  unfold X0_0 Pipeline.Window.fill
  rw [dif_pos (moved0_0 t _)]
  refine congrArg (a0 m c) (funext fun a => Fin.ext ?_)
  match a with
  | ⟨0, _⟩ => show win0_0.index t 0 * 1024 + 1 * r.val = p.val; omega
  | ⟨1, _⟩ => show win0_0.index t 1 * 512 + 1 * k.val = k.val; omega

/-- The array the call leaves is the reference's. -/
theorem final (c : Dev nD) : Value.G2 m c = KNopeRefIdeal.Read.val_main_v8 (F := Ideal) (a0 m c) (a1 m c) := by
  funext i
  obtain ⟨p, q, rfl⟩ : ∃ (p : Fin 8192) (q : Fin 2048), i = ix2 p q := ⟨i 0, i 1, funext fun a => match a with | ⟨0, _⟩ => rfl | ⟨1, _⟩ => rfl⟩
  have hp : p.val < 8192 := p.isLt
  have hq : q.val < 2048 := q.isLt
  have hn : p.val / 1024 + 8 * (q.val / 1024) < cfg0.N := lt_of_lt_of_eq (by omega) N_eq.symm
  rw [ref_at, array_at m c p q _ hn rfl ⟨p.val % 1024, by omega⟩ ⟨q.val % 1024, by omega⟩ rfl rfl, pay2_at]
  unfold cols
  show (_ : EReal) = _
  refine Finset.sum_congr rfl fun k _ => ?_
  congr 1
  · exact rows_block m c p _ (show (p.val / 1024 + 8 * (q.val / 1024)) % 8 = _ by omega) _ rfl k
  · exact congrArg (fun y => a1 m c (ix3 0 k (part y))) (Fin.ext (show (1024 * ((p.val / 1024 + 8 * (q.val / 1024)) / 8) + q.val % 1024) % 2048 = q.val by omega))

/-! ## The claims -/

/-- The kernel runs, keeps its arguments, and leaves every counter at zero. -/
theorem frame : Cert.quiescent_KNope := fun m ρ _ => Cert.KNope.Gen.frame m ρ

/-- So does its reading over the extended reals. -/
theorem frameIdeal : Cert.quiescent_KNopeIdeal := fun m ρ _ => Cert.KNopeIdeal.Gen.frame m ρ

/-- The reference runs and keeps its arguments. -/
theorem frameRef : Cert.quiescent_KNopeRefIdeal := fun m ρ _ =>
  (θ_run Cert.KNopeRefIdeal.defs _ _).mono (fun r h => ⟨fun c => (h c).2, sem_eq_zero_of_no_sems (by decide) r.2⟩)
    (Cert.KNopeRefIdeal.Value.run (F := Ideal) m ρ)

/-- The kernel's result is the reference's. -/
theorem algebraic : Cert.algebraic_KNopeIdeal_KNopeRefIdeal := by
  intro m ρ m' ρ' hpre hag
  refine ⟨fun c => KNopeRefIdeal.Read.val_main_v8 (F := Ideal) (a0 m c) (a1 m c), ?_, ?_⟩
  · exact (θ_run Cert.KNopeIdeal.defs _ _).mono (fun r h c => ⟨(h c).1.trans (final m c), (h c).2⟩)
      (Cert.KNopeIdeal.Value.run (F := Ideal) m ρ)
  · refine (θ_run Cert.KNopeRefIdeal.defs _ _).mono (fun r h c => ⟨(h c).1.trans ?_, (h c).2⟩)
      (Cert.KNopeRefIdeal.Value.run (F := Ideal) m' ρ')
    rw [Cert.KNopeRefIdeal.Read.val_main_v8_eq, (hag c).1, (hag c).2]

end Cert.KNopeProof

end
-- ==== Proof.LruSample.lean ====
/-
# The recurrent mixer over the samples

One step of the recurrence for each of the 128 samples: the last inputs are convolved with four taps, two gates are products with
16 heads' matrices of 64 lanes, the decay is an exponential of one gate times a softplus, and the new state is the decayed old one plus
the gated input scaled by the root of one minus the squared decay. The kernel takes the heads four at a time as one block-diagonal
matrix; the blocks off the diagonal are products with zero, and add nothing. It writes the root's argument as a hyperbolic tangent times
a sum, which is the plain form for every exponent, the infinite ones too.
-/
module

public import proofs.«01_k».proof.Defs
public import proofs.«01_k».proof.Proof.Gen.LruSample.Frame
public import proofs.«01_k».proof.Proof.Gen.LruSampleIdeal.Value
public import proofs.«01_k».proof.Proof.Gen.LruSampleRefIdeal.Run
public import proofs.«01_k».proof.Proof.Gen.LruSampleRefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.LruSampleProof

open Idealize.ShloMosaic Idealize.ShloMosaic.TcCoe Idealize.SL.Sem
open Cert.LruSampleIdeal Cert.LruSampleIdeal.Gen
open Cert.LruSampleRefIdeal.Read

variable (m : (ℓ : Loc nD τ sig) → Buf (Elt Ideal) ℓ)

/-- The block-diagonal matrices that the call gets, from the 16 heads' matrices. -/
def spread (A : Vec Ideal S2x16x64x64 .f32) : Vec Ideal S4x256x256 .f32 :=
  shapeCast S4x256x256 (mulf
    (broadcastInDim S4x4x64x4x64 ![0, 1, 2, 3, 4] bcast_S4x4x64x1x64_S4x4x64x4x64_0_1_2_3_4 (broadcastInDim S4x4x64x1x64 ![0, 1, 2, 4] bcast_S4x4x64x64_S4x4x64x1x64_0_1_2_4
      (shapeCast S4x4x64x64 (shapeCast S16x64x64 (extractStridedSlice S1x16x64x64 ![0, 0, 0, 0] A slices_S2x16x64x64_S1x16x64x64_0_0_0_0) shapeCasts_S1x16x64x64_S16x64x64) shapeCasts_S16x64x64_S4x4x64x64)))
    (broadcastInDim S4x4x64x4x64 ![0, 1, 2, 3, 4] bcast_S1x4x1x4x1_S4x4x64x4x64_0_1_2_3_4 (broadcastInDim S1x4x1x4x1 ![1, 3] bcast_S4x4_S1x4x1x4x1_1_3
      (uitofp .f32 (cmpi .eq (addi (iotaInDim S4x4 32 0) (broadcastInDim S4x4 ![] bcast_S_S4x4 (constantI S_ 32 0#32))) (iotaInDim S4x4 32 1)) : FVec Ideal S4x4 .f32))) : FVec Ideal S4x4x64x4x64 .f32)
    shapeCasts_S4x4x64x4x64_S4x256x256

/-- The arguments of the call. -/
abbrev a0 (c : Dev nD) : Vec Ideal S8320x3584 .f32 := m ((c : Thread nD τ).loc main_arg0)
abbrev a1 (c : Dev nD) : Vec Ideal S2x128x3x1024 .f32 := m ((c : Thread nD τ).loc main_arg1)
abbrev a2 (c : Dev nD) : Vec Ideal S2x128x1024 .f32 := m ((c : Thread nD τ).loc main_arg2)
abbrev a3 (c : Dev nD) : Vec Ideal S2x4x1024 .f32 := m ((c : Thread nD τ).loc main_arg3)
abbrev a4 (c : Dev nD) : Vec Ideal S2x1024 .f32 := m ((c : Thread nD τ).loc main_arg4)
abbrev a5 (c : Dev nD) : Vec Ideal S2x16x64x64 .f32 := m ((c : Thread nD τ).loc main_arg5)
abbrev a6 (c : Dev nD) : Vec Ideal S2x16x64x64 .f32 := m ((c : Thread nD τ).loc main_arg6)
abbrev a7 (c : Dev nD) : Vec Ideal S2x1024 .f32 := m ((c : Thread nD τ).loc main_arg7)
abbrev a8 (c : Dev nD) : Vec Ideal S2x1024 .f32 := m ((c : Thread nD τ).loc main_arg8)
abbrev a9 (c : Dev nD) : Vec Ideal S2x1024 .f32 := m ((c : Thread nD τ).loc main_arg9)

theorem wa_eq (c : Dev nD) : (V m c main_v14 : Vec Ideal S4x256x256 .f32) = spread (a5 m c) := rfl
theorem wx_eq (c : Dev nD) : (V m c main_v29 : Vec Ideal S4x256x256 .f32) = spread (a6 m c) := rfl

/-- The rows the body takes from its blocks. -/
abbrev tap (x : Vec Ideal S1x4x1024 .f32) (k : Fin 4) : Vec Ideal S1x1x1024 .f32 := fun y => x (ix3 0 k (y 2))
abbrev old (x : Vec Ideal S3x128x1024 .f32) (k : Fin 3) : Vec Ideal S1x128x1024 .f32 := fun y => x (ix3 k (y 1) (y 2))
abbrev mat (x : Vec Ideal S4x256x256 .f32) (k : Fin 4) : Vec Ideal S1x256x256 .f32 := fun y => x (ix3 k (y 1) (y 2))

theorem spread_at (A : Vec Ideal S2x16x64x64 .f32) (c : Fin 4) (k j : Fin 256) :
    spread A (ix3 c k j) = if k.val / 64 = j.val / 64
      then A (ix4 0 ⟨c.val * 4 + k.val / 64, by omega⟩ ⟨k.val % 64, by omega⟩ ⟨j.val % 64, by omega⟩) else 0 := by
  pointwise [spread]
  have one : ∀ p q : Fin 4, FloatOps.uitofp (F := Ideal) FTy.f32 (IntOp.cmpi CmpIPredicate.eq (IntOp.addi (BitVec.ofNat 32 p.val) 0#32) (BitVec.ofNat 32 q.val))
      = if p.val = q.val then (1 : EReal) else 0 := by
    intro p q
    have e : (IntOp.cmpi CmpIPredicate.eq (IntOp.addi (BitVec.ofNat 32 p.val) 0#32) (BitVec.ofNat 32 q.val)) = if p.val = q.val then 1#1 else 0#1 := by
      revert p q; decide
    rw [e]
    split <;> simp [FloatOps.uitofp]
  refine (congrArg (_ * ·) (one ⟨k.val / 64, by omega⟩ ⟨j.val / 64, by omega⟩)).trans ?_
  split
  · exact mul_one _
  · exact mul_zero _

/-- A row times one block column of the block-diagonal matrix is its product with one head's matrix. -/
theorem head_sum (A : Vec Ideal S2x16x64x64 .f32) (x : Fin 1024 → EReal) (c : Fin 4) (j : Fin 256) :
    (∑ k : Fin 256, x ⟨256 * c.val + k.val, by omega⟩ * spread A (ix3 c k j) : EReal)
      = ∑ i : Fin 64, x ⟨64 * (c.val * 4 + j.val / 64) + i.val, by omega⟩ * A (ix4 0 ⟨c.val * 4 + j.val / 64, by omega⟩ i ⟨j.val % 64, by omega⟩) := by
  refine (Fintype.sum_of_injective (fun i : Fin 64 => (⟨64 * (j.val / 64) + i.val, by omega⟩ : Fin 256))
    (fun a b h => Fin.ext (by have := congrArg Fin.val h; dsimp only at this; omega)) _ _ (fun k hk => ?_) fun i => ?_).symm
  · rw [spread_at, if_neg, mul_zero]
    intro h
    exact hk ⟨⟨k.val % 64, by omega⟩, Fin.ext (by show 64 * (j.val / 64) + k.val % 64 = k.val; omega)⟩
  · rw [spread_at, if_pos (by show (64 * (j.val / 64) + i.val) / 64 = j.val / 64; omega)]
    congr 1
    · exact congrArg x (Fin.ext (by show 64 * (c.val * 4 + j.val / 64) + i.val = 256 * c.val + (64 * (j.val / 64) + i.val); omega))
    · refine congrArg A (funext fun a => Fin.ext ?_)
      match a with
      | ⟨0, _⟩ => rfl
      | ⟨1, _⟩ => show c.val * 4 + j.val / 64 = c.val * 4 + (64 * (j.val / 64) + i.val) / 64; omega
      | ⟨2, _⟩ => show i.val = (64 * (j.val / 64) + i.val) % 64; omega
      | ⟨3, _⟩ => rfl

/-- For any exponent, the kernel's hyperbolic form of one minus the squared decay is the plain one. -/
theorem gain (L : EReal) : Ideal.tanh (-L) * (Ideal.exp L * Ideal.exp L + 1) = -(Ideal.exp (2 * L) - 1) := by
  have h2 : (0 : EReal) < 2 := by norm_num
  induction L using EReal.rec with
  | bot => rw [EReal.mul_bot_of_pos h2, EReal.neg_bot, Ideal.tanh_top, Ideal.exp_bot]; simp
  | top =>
    rw [EReal.mul_top_of_pos h2, EReal.neg_top, Ideal.tanh_bot, Ideal.exp_top, EReal.top_mul_top]
    have e : (⊤ : EReal) + 1 = ⊤ := rfl
    have e' : (⊤ : EReal) - 1 = ⊤ := rfl
    rw [e, e', neg_one_mul]
  | coe r =>
    have e2 : (2 : EReal) * (r : EReal) = ((2 * r : ℝ) : EReal) := by rw [EReal.coe_mul]; rfl
    rw [e2, ← EReal.coe_neg, Ideal.tanh_coe, Ideal.exp_coe, Ideal.exp_coe, ← EReal.coe_one, ← EReal.coe_mul, ← EReal.coe_add, ← EReal.coe_mul,
      ← EReal.coe_sub, ← EReal.coe_neg, EReal.coe_eq_coe_iff, Real.tanh_neg, Real.tanh_eq_sinh_div_cosh, Real.sinh_eq, Real.cosh_eq, Real.exp_neg, two_mul, Real.exp_add]
    have h := Real.exp_pos r
    field_simp

/-- A load of one row, one slice or one block is that row, slice or block. -/
theorem ld_tap (x : Vec Ideal S1x4x1024 .f32) (n : ℕ) (h : n < 4) (inb) :
    (View.ld x (Rect.unit ![0, n, 0] ![1, 1, 1024] inb) : Vec Ideal S1x1x1024 .f32) = tap x ⟨n, h⟩ := by
  funext y
  refine congrArg x (funext fun a => Fin.ext ?_)
  match a with
  | ⟨0, _⟩ => show 0 + 1 * (y 0).val = 0; have := (y 0).isLt; change _ < 1 at this; omega
  | ⟨1, _⟩ => show n + 1 * (y 1).val = n; have := (y 1).isLt; change _ < 1 at this; omega
  | ⟨2, _⟩ => show 0 + 1 * (y 2).val = (y 2).val; omega

theorem ld_old (x : Vec Ideal S3x128x1024 .f32) (n : ℕ) (h : n < 3) (inb) :
    (View.ld x (Rect.unit ![n, 0, 0] ![1, 128, 1024] inb) : Vec Ideal S1x128x1024 .f32) = old x ⟨n, h⟩ := by
  funext y
  refine congrArg x (funext fun a => Fin.ext ?_)
  match a with
  | ⟨0, _⟩ => show n + 1 * (y 0).val = n; have := (y 0).isLt; change _ < 1 at this; omega
  | ⟨1, _⟩ => show 0 + 1 * (y 1).val = (y 1).val; omega
  | ⟨2, _⟩ => show 0 + 1 * (y 2).val = (y 2).val; omega

theorem ld_mat (x : Vec Ideal S4x256x256 .f32) (n : ℕ) (h : n < 4) (inb) :
    (View.ld x (Rect.unit ![n, 0, 0] ![1, 256, 256] inb) : Vec Ideal S1x256x256 .f32) = mat x ⟨n, h⟩ := by
  funext y
  refine congrArg x (funext fun a => Fin.ext ?_)
  match a with
  | ⟨0, _⟩ => show n + 1 * (y 0).val = n; have := (y 0).isLt; change _ < 1 at this; omega
  | ⟨1, _⟩ => show 0 + 1 * (y 1).val = (y 1).val; omega
  | ⟨2, _⟩ => show 0 + 1 * (y 2).val = (y 2).val; omega

section body

variable (x0 : Vec Ideal S128x1024 .f32) (x1 : Vec Ideal S3x128x1024 .f32) (x2 : Vec Ideal S1x128x1024 .f32) (x3 : Vec Ideal S1x4x1024 .f32) (x4 : Vec Ideal S1x1x1024 .f32)
  (x5 x6 : Vec Ideal S4x256x256 .f32) (x7 x8 x9 : Vec Ideal S1x1x1024 .f32)

/-- The convolved inputs, and the same rows as the products read them. -/
def conv : FVec Ideal S128x1024 .f32 := k0_pay3 x4 (tap x3 3) x0 (tap x3 0) (old x1 0) (tap x3 1) (old x1 1) (tap x3 2) (old x1 2)
def convB : FVec Ideal S128x1024 .bf16 := k0_pay4 x4 (tap x3 3) x0 (tap x3 0) (old x1 0) (tap x3 1) (old x1 1) (tap x3 2) (old x1 2)
def conv0 : FVec Ideal S128x256 .bf16 := k0_pay5 x4 (tap x3 3) x0 (tap x3 0) (old x1 0) (tap x3 1) (old x1 1) (tap x3 2) (old x1 2)

/-- The decay of each lane, and what is added to it. -/
def decay : FVec Ideal S128x1024 .f32 :=
  k0_pay17 (k0_pay6 (conv0 x0 x1 x3 x4) (mat x5 0)) (k0_pay9 (convB x0 x1 x3 x4) (mat x5 1)) (k0_pay12 (convB x0 x1 x3 x4) (mat x5 2))
    (k0_pay15 (convB x0 x1 x3 x4) (mat x5 3)) x7 x9
def added : FVec Ideal S128x1024 .f32 :=
  k0_pay18 (conv x0 x1 x3 x4) (k0_pay6 (conv0 x0 x1 x3 x4) (mat x5 0)) (k0_pay7 (conv0 x0 x1 x3 x4) (mat x6 0))
    (k0_pay9 (convB x0 x1 x3 x4) (mat x5 1)) (k0_pay10 (convB x0 x1 x3 x4) (mat x6 1)) (k0_pay12 (convB x0 x1 x3 x4) (mat x5 2))
    (k0_pay13 (convB x0 x1 x3 x4) (mat x6 2)) (k0_pay14 (convB x0 x1 x3 x4)) (k0_pay15 (convB x0 x1 x3 x4) (mat x5 3)) (mat x6 3) x7 x8 x9

end body

/-- What the body leaves in its two outputs. -/
theorem written (c : Dev nD) (t : Fin cfg0.N) :
    (dats m 0 c).flushed 10 t = (cfg0.win 10).cut (grid0.coords t)
      (k0_pay2 (decay (X0_0 m c t) (iblk m c 1 t) (iblk m c 3 t) (iblk m c 4 t) (iblk m c 5 t) (iblk m c 7 t) (iblk m c 9 t))
        (added (X0_0 m c t) (iblk m c 1 t) (iblk m c 3 t) (iblk m c 4 t) (iblk m c 5 t) (iblk m c 6 t) (iblk m c 7 t) (iblk m c 8 t) (iblk m c 9 t)) (iblk m c 2 t))
    ∧ (dats m 0 c).flushed 11 t = (cfg0.win 11).cut (grid0.coords t)
      (k0_pay1 (decay (X0_0 m c t) (iblk m c 1 t) (iblk m c 3 t) (iblk m c 4 t) (iblk m c 5 t) (iblk m c 7 t) (iblk m c 9 t))
        (added (X0_0 m c t) (iblk m c 1 t) (iblk m c 3 t) (iblk m c 4 t) (iblk m c 5 t) (iblk m c 6 t) (iblk m c 7 t) (iblk m c 8 t) (iblk m c 9 t)) (iblk m c 2 t)) := by
  rw [Value.flushed10_A, Value.flushed11_A]
  generalize X0_0 m c t = x0; generalize iblk m c 1 t = x1; generalize iblk m c 2 t = x2; generalize iblk m c 3 t = x3
  generalize iblk m c 4 t = x4; generalize iblk m c 5 t = x5; generalize iblk m c 6 t = x6; generalize iblk m c 7 t = x7
  generalize iblk m c 8 t = x8; generalize iblk m c 9 t = x9
  refine ⟨congrArg _ ?_, congrArg _ ?_⟩ <;>
    (frame_out
     rw [ld_tap x3 0 (by decide), ld_tap x3 1 (by decide), ld_tap x3 2 (by decide), ld_tap x3 3 (by decide), ld_old x1 0 (by decide),
       ld_old x1 1 (by decide), ld_old x1 2 (by decide), ld_mat x5 0 (by decide), ld_mat x5 1 (by decide), ld_mat x5 2 (by decide),
       ld_mat x5 3 (by decide), ld_mat x6 0 (by decide), ld_mat x6 1 (by decide), ld_mat x6 2 (by decide), ld_mat x6 3 (by decide)]
     rfl)

/-! ## The values at a point -/

section values

variable (x0 : Vec Ideal S128x1024 .f32) (x1 : Vec Ideal S3x128x1024 .f32) (x2 : Vec Ideal S1x128x1024 .f32) (x3 : Vec Ideal S1x4x1024 .f32) (x4 : Vec Ideal S1x1x1024 .f32)
  (x5 x6 : Vec Ideal S4x256x256 .f32) (x7 x8 x9 : Vec Ideal S1x1x1024 .f32) (r : Fin 128) (q : Fin 1024)

/-- A convolved input: the bias and the four taps. -/
theorem conv_at : conv x0 x1 x3 x4 (ix2 r q) = (x4 (ix3 0 0 q) + x3 (ix3 0 0 q) * x1 (ix3 0 r q) + x3 (ix3 0 1 q) * x1 (ix3 1 r q)
    + x3 (ix3 0 2 q) * x1 (ix3 2 r q) + x3 (ix3 0 3 q) * x0 (ix2 r q) : EReal) := by
  have e : conv x0 x1 x3 x4 (ix2 r q) = (x4 (ix3 0 0 q) + x3 (ix3 0 3 q) * x0 (ix2 r q) + x3 (ix3 0 0 q) * x1 (ix3 0 r q) + x3 (ix3 0 1 q) * x1 (ix3 1 r q)
    + x3 (ix3 0 2 q) * x1 (ix3 2 r q) : EReal) := by
    pointwise [conv, k0_pay3]
    rfl
  rw [e]
  abel

theorem convB_at : convB x0 x1 x3 x4 (ix2 r q) = conv x0 x1 x3 x4 (ix2 r q) := by
  pointwise [convB, k0_pay4]
  rfl

theorem conv0_at (w : Fin 256) : conv0 x0 x1 x3 x4 (ix2 r w) = conv x0 x1 x3 x4 (ix2 r ⟨w.val, by omega⟩) := by
  pointwise [conv0, k0_pay5]
  exact convB_at x0 x1 x3 x4 r _

/-- One gate's product at a block column: a part of the row times one block of the block-diagonal matrix. -/
def part (W : Vec Ideal S4x256x256 .f32) (k : Fin 4) (w : Fin 256) : EReal :=
  ∑ i : Fin 256, (conv x0 x1 x3 x4 (ix2 r ⟨256 * k.val + i.val, by omega⟩) * W (ix3 k i w) : EReal)

theorem part0 (W : Vec Ideal S4x256x256 .f32) (w : Fin 256) : k0_pay6 (conv0 x0 x1 x3 x4) (mat W 0) (ix2 r w) = part x0 x1 x3 x4 r W 0 w := by
  pointwise [k0_pay6]
  refine Finset.sum_congr rfl fun i _ => congrArg₂ _ ((conv0_at x0 x1 x3 x4 r i).trans (congrArg _ ?_)) rfl
  exact congrArg (ix2 r) (Fin.ext (by show i.val = 256 * 0 + i.val; omega))

theorem part1 (W : Vec Ideal S4x256x256 .f32) (w : Fin 256) : k0_pay9 (convB x0 x1 x3 x4) (mat W 1) (ix2 r w) = part x0 x1 x3 x4 r W 1 w := by
  pointwise [k0_pay9, k0_pay8]
  exact Finset.sum_congr rfl fun i _ => congrArg₂ _ (convB_at x0 x1 x3 x4 r _) rfl

theorem part2 (W : Vec Ideal S4x256x256 .f32) (w : Fin 256) : k0_pay12 (convB x0 x1 x3 x4) (mat W 2) (ix2 r w) = part x0 x1 x3 x4 r W 2 w := by
  pointwise [k0_pay12, k0_pay11]
  exact Finset.sum_congr rfl fun i _ => congrArg₂ _ (convB_at x0 x1 x3 x4 r _) rfl

theorem part3 (W : Vec Ideal S4x256x256 .f32) (w : Fin 256) : k0_pay15 (convB x0 x1 x3 x4) (mat W 3) (ix2 r w) = part x0 x1 x3 x4 r W 3 w := by
  pointwise [k0_pay15, k0_pay14]
  exact Finset.sum_congr rfl fun i _ => congrArg₂ _ (convB_at x0 x1 x3 x4 r _) rfl

/-- Four pieces of 256 columns laid side by side. -/
theorem glue (f : Fin 4 → Fin 256 → EReal) :
    (if h : q.val < 256 then f 0 ⟨q.val, h⟩ else if h1 : q.val - 256 < 256 then f 1 ⟨q.val - 256, h1⟩
      else if h2 : q.val - 256 - 256 < 256 then f 2 ⟨q.val - 256 - 256, h2⟩ else f 3 ⟨q.val - 256 - 256 - 256, by omega⟩)
      = f ⟨q.val / 256, by omega⟩ ⟨q.val % 256, by omega⟩ := by
  split_ifs
  · exact congrArg₂ f (Fin.ext (by show 0 = q.val / 256; omega)) (Fin.ext (by show q.val = q.val % 256; omega))
  · exact congrArg₂ f (Fin.ext (by show 1 = q.val / 256; omega)) (Fin.ext (by show q.val - 256 = q.val % 256; omega))
  · exact congrArg₂ f (Fin.ext (by show 2 = q.val / 256; omega)) (Fin.ext (by show q.val - 256 - 256 = q.val % 256; omega))
  · exact congrArg₂ f (Fin.ext (by show 3 = q.val / 256; omega)) (Fin.ext (by show q.val - 256 - 256 - 256 = q.val % 256; omega))

/-- The logarithm of the decay, from the gate's argument and the lane's parameter. -/
def rate (p l : EReal) : EReal :=
  Ideal.ofBits .f32 3238002688#32 * Ideal.logistic p * (max (-l) 0 + Ideal.log1p (Ideal.exp (-(FloatOps.absf (F := Ideal) (φ := .f32) (-l)))))

theorem rate_at (A B C D : FVec Ideal S128x256 .f32) (f : Fin 4 → Fin 256 → EReal) (hA : ∀ w, A (ix2 r w) = f 0 w) (hB : ∀ w, B (ix2 r w) = f 1 w)
    (hC : ∀ w, C (ix2 r w) = f 2 w) (hD : ∀ w, D (ix2 r w) = f 3 w) :
    k0_pay16 A B C D x7 x9 (ix2 r q) = rate (f ⟨q.val / 256, by omega⟩ ⟨q.val % 256, by omega⟩ + x7 (ix3 0 0 q)) (x9 (ix3 0 0 q)) := by
  pointwise [k0_pay16]
  simp only [hA, hB, hC, hD, zero_sub]
  rw [glue q f]
  rfl

/-- The product of the two gates' values and the input, from the pieces of their arguments. -/
theorem added_of (Z : FVec Ideal S128x1024 .f32) (A B C D E F' G : FVec Ideal S128x256 .f32) (Y : FVec Ideal S128x256 .bf16) (W : Vec Ideal S1x256x256 .f32)
    (f : Fin 4 → Fin 256 → EReal) (hE : ∀ w, E (ix2 r w) = f 0 w) (hF : ∀ w, F' (ix2 r w) = f 1 w)
    (hG : ∀ w, G (ix2 r w) = f 2 w) (hH : ∀ w, (∑ i : Fin 256, (Y (ix2 r i) * W (ix3 0 i w) : EReal)) = f 3 w) :
    k0_pay18 Z A E B F' C G Y D W x7 x8 x9 (ix2 r q)
      = Ideal.sqrt (-(Ideal.exp (2 * k0_pay16 A B C D x7 x9 (ix2 r q)) - 1))
        * (Ideal.logistic (f ⟨q.val / 256, by omega⟩ ⟨q.val % 256, by omega⟩ + x8 (ix3 0 0 q)) * Z (ix2 r q)) := by
  pointwise [k0_pay18, k0_pay17]
  simp only [hE, hF, hG, hH, zero_sub]
  rw [glue q f, gain]

/-- The gate's argument over all the lanes. -/
def whole (W : Vec Ideal S4x256x256 .f32) : EReal := part x0 x1 x3 x4 r W ⟨q.val / 256, by omega⟩ ⟨q.val % 256, by omega⟩

/-- The new state, from the gates' arguments. -/
theorem state_at : k0_pay1 (decay x0 x1 x3 x4 x5 x7 x9) (added x0 x1 x3 x4 x5 x6 x7 x8 x9) x2 (ix2 r q)
    = (Ideal.exp (rate (whole x0 x1 x3 x4 r q x5 + x7 (ix3 0 0 q)) (x9 (ix3 0 0 q))) * x2 (ix3 0 r q)
      + Ideal.sqrt (-(Ideal.exp (2 * rate (whole x0 x1 x3 x4 r q x5 + x7 (ix3 0 0 q)) (x9 (ix3 0 0 q))) - 1))
        * (Ideal.logistic (whole x0 x1 x3 x4 r q x6 + x8 (ix3 0 0 q)) * conv x0 x1 x3 x4 (ix2 r q)) : EReal) := by
  have h := rate_at x7 x9 r q _ _ _ _ (part x0 x1 x3 x4 r x5) (part0 x0 x1 x3 x4 r x5) (part1 x0 x1 x3 x4 r x5) (part2 x0 x1 x3 x4 r x5) (part3 x0 x1 x3 x4 r x5)
  have e1 : decay x0 x1 x3 x4 x5 x7 x9 (ix2 r q) = Ideal.exp (rate (whole x0 x1 x3 x4 r q x5 + x7 (ix3 0 0 q)) (x9 (ix3 0 0 q))) := congrArg Ideal.exp h
  have e2 := added_of x7 x8 x9 r q (conv x0 x1 x3 x4) (k0_pay6 (conv0 x0 x1 x3 x4) (mat x5 0)) (k0_pay9 (convB x0 x1 x3 x4) (mat x5 1))
    (k0_pay12 (convB x0 x1 x3 x4) (mat x5 2)) (k0_pay15 (convB x0 x1 x3 x4) (mat x5 3)) _ _ _ (k0_pay14 (convB x0 x1 x3 x4)) (mat x6 3) (part x0 x1 x3 x4 r x6)
    (part0 x0 x1 x3 x4 r x6) (part1 x0 x1 x3 x4 r x6) (part2 x0 x1 x3 x4 r x6) (fun w => by
      rw [← part3 x0 x1 x3 x4 r x6 w]
      pointwise [k0_pay15])
  rw [h] at e2
  pointwise [k0_pay1]
  rw [e1]
  exact congrArg (_ + ·) e2

theorem stateB_at : k0_pay2 (decay x0 x1 x3 x4 x5 x7 x9) (added x0 x1 x3 x4 x5 x6 x7 x8 x9) x2 (ix2 r q)
    = k0_pay1 (decay x0 x1 x3 x4 x5 x7 x9) (added x0 x1 x3 x4 x5 x6 x7 x8 x9) x2 (ix2 r q) := by
  generalize decay x0 x1 x3 x4 x5 x7 x9 = Z
  generalize added x0 x1 x3 x4 x5 x6 x7 x8 x9 = Z'
  pointwise [k0_pay2]

end values

/-! ## The reference's values -/

section reference

variable (A0 : Vec Ideal S8320x3584 .f32) (A1 : Vec Ideal S2x128x3x1024 .f32) (A2 : Vec Ideal S2x128x1024 .f32) (A3 : Vec Ideal S2x4x1024 .f32)
  (A4 : Vec Ideal S2x1024 .f32) (A5 A6 : Vec Ideal S2x16x64x64 .f32) (A7 A8 A9 : Vec Ideal S2x1024 .f32) (r : Fin 128) (q : Fin 1024)

theorem ref_conv_at : val_main_v34 (F := Ideal) A0 A1 A3 A4 (ix2 r q) = (A4 (ix2 0 q) + A3 (ix3 0 0 q) * A1 (ix4 0 r 0 q) + A3 (ix3 0 1 q) * A1 (ix4 0 r 1 q)
    + A3 (ix3 0 2 q) * A1 (ix4 0 r 2 q) + A3 (ix3 0 3 q) * A0 (ix2 ⟨8192 + r.val, by omega⟩ ⟨1024 + q.val, by omega⟩) : EReal) := by
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0]

/-- One head's product. -/
def head (x : Fin 1024 → EReal) (A : Vec Ideal S2x16x64x64 .f32) : EReal :=
  ∑ i : Fin 64, A (ix4 0 ⟨q.val / 64, by omega⟩ i ⟨q.val % 64, by omega⟩) * x ⟨q.val / 64 * 64 + i.val, by omega⟩

theorem ref_a_at : val_main_v40 (F := Ideal) A0 A1 A3 A4 A5 (ix2 r q) = head q (fun k => val_main_v34 (F := Ideal) A0 A1 A3 A4 (ix2 r k)) A5 := by
  pointwise [val_main_v40, val_main_v39, val_main_v38, val_main_v37, val_main_v36, val_main_v35]
  rfl

theorem ref_x_at : val_main_v56 (F := Ideal) A0 A1 A3 A4 A6 (ix2 r q) = head q (fun k => val_main_v34 (F := Ideal) A0 A1 A3 A4 (ix2 r k)) A6 := by
  pointwise [val_main_v56, val_main_v55, val_main_v54, val_main_v53, val_main_v52, val_main_v35]
  rfl

theorem ref_rate_at : val_main_v76 (F := Ideal) A0 A1 A3 A4 A5 A7 A9 (ix2 r q) = rate (val_main_v40 (F := Ideal) A0 A1 A3 A4 A5 (ix2 r q) + A7 (ix2 0 q)) (A9 (ix2 0 q)) := by
  pointwise [val_main_v76, val_main_v75, val_main_v74, val_main_v73, val_main_v72, val_main_v71, val_main_v70, val_main_v69, val_main_v68,
    val_main_v51, val_main_v50, val_main_v49, val_main_v48, val_main_v47, val_main_v46, val_main_v45, val_main_v44, val_main_v43, val_main_v42,
    val_main_v41, val_main_cst, val_main_cst_0, val_main_cst_3, val_main_call0_cst, val_main_call0_v0, val_main_call0_v1, val_main_call0_v2,
    val_main_call0_v3, val_main_call0_v4, val_main_call0_v5, val_main_call0_v6, val_main_call0_v7, val_main_call0_v8, val_main_call0_v9,
    val_main_call0_v10, val_main_call0_v11]
  rw [if_neg (fun h => h rfl)]
  rfl

theorem ref_state_at : val_main_v88 (F := Ideal) A0 A1 A2 A3 A4 A5 A6 A7 A8 A9 (ix2 r q)
    = (Ideal.exp (val_main_v76 (F := Ideal) A0 A1 A3 A4 A5 A7 A9 (ix2 r q)) * A2 (ix3 0 r q)
      + Ideal.sqrt (-(Ideal.exp (2 * val_main_v76 (F := Ideal) A0 A1 A3 A4 A5 A7 A9 (ix2 r q)) - 1))
        * (Ideal.logistic (val_main_v56 (F := Ideal) A0 A1 A3 A4 A6 (ix2 r q) + A8 (ix2 0 q)) * val_main_v34 (F := Ideal) A0 A1 A3 A4 (ix2 r q)) : EReal) := by
  have two : Ideal.ofBits .f32 1073741824#32 = 2 := by
    rw [show (2 : EReal) = ((2 : ℝ) : EReal) by norm_cast]
    simp [Ideal.ofBits, Ideal.ieee, -EReal.coe_mul]
    norm_num
  pointwise [val_main_v88, val_main_v87, val_main_v86, val_main_v85, val_main_v84, val_main_v83, val_main_v82, val_main_v81, val_main_cst_4,
    val_main_v80, val_main_v79, val_main_v78, val_main_v77, val_main_v67, val_main_v66, val_main_v65, val_main_v64, val_main_cst_1, val_main_cst_2,
    val_main_v63, val_main_v62, val_main_v61, val_main_v60, val_main_v59, val_main_v58, val_main_v57]
  rw [two]
  rfl

theorem ref_stateB_at : val_main_v89 (F := Ideal) A0 A1 A2 A3 A4 A5 A6 A7 A8 A9 (ix2 r q) = val_main_v88 (F := Ideal) A0 A1 A2 A3 A4 A5 A6 A7 A8 A9 (ix2 r q) := by
  pointwise [val_main_v89]

end reference

/-- A row times the block-diagonal matrix is, at each lane, the product with that lane's head. -/
theorem whole_head (A : Vec Ideal S2x16x64x64 .f32) (x0 : Vec Ideal S128x1024 .f32) (x1 : Vec Ideal S3x128x1024 .f32) (x3 : Vec Ideal S1x4x1024 .f32)
    (x4 : Vec Ideal S1x1x1024 .f32) (W : Vec Ideal S4x256x256 .f32) (r : Fin 128) (q : Fin 1024) (hW : ∀ k i w, W (ix3 k i w) = spread A (ix3 k i w)) :
    whole x0 x1 x3 x4 r q W = head q (fun k => conv x0 x1 x3 x4 (ix2 r k)) A := by
  unfold whole part
  simp only [hW]
  rw [head_sum A (fun k => conv x0 x1 x3 x4 (ix2 r k)) ⟨q.val / 256, by omega⟩ ⟨q.val % 256, by omega⟩]
  refine Finset.sum_congr rfl fun i _ => (mul_comm _ _).trans (congrArg₂ _ (congrArg A (funext fun a => Fin.ext ?_)) (congrArg _ ?_))
  · match a with
    | ⟨0, _⟩ => rfl
    | ⟨1, _⟩ => show q.val / 256 * 4 + q.val % 256 / 64 = q.val / 64; omega
    | ⟨2, _⟩ => rfl
    | ⟨3, _⟩ => show q.val % 256 % 64 = q.val % 64; omega
  · exact congrArg (ix2 r) (Fin.ext (by show 64 * (q.val / 256 * 4 + q.val % 256 / 64) + i.val = q.val / 64 * 64 + i.val; omega))

/-! ## What the one point reads -/

theorem idx : ∀ t : Fin grid0.N, (win0_0.index t 0 = 64 ∧ win0_0.index t 1 = 1) ∧ (win0_1.index t 0 = 0 ∧ win0_1.index t 1 = 0 ∧ win0_1.index t 2 = 0)
    ∧ (win0_2.index t 0 = 0 ∧ win0_2.index t 1 = 0 ∧ win0_2.index t 2 = 0) ∧ (win0_3.index t 0 = 0 ∧ win0_3.index t 1 = 0 ∧ win0_3.index t 2 = 0)
    ∧ (win0_4.index t 0 = 0 ∧ win0_4.index t 1 = 0 ∧ win0_4.index t 2 = 0) ∧ (win0_5.index t 0 = 0 ∧ win0_5.index t 1 = 0 ∧ win0_5.index t 2 = 0)
    ∧ (win0_6.index t 0 = 0 ∧ win0_6.index t 1 = 0 ∧ win0_6.index t 2 = 0) ∧ (win0_7.index t 0 = 0 ∧ win0_7.index t 1 = 0 ∧ win0_7.index t 2 = 0)
    ∧ (win0_8.index t 0 = 0 ∧ win0_8.index t 1 = 0 ∧ win0_8.index t 2 = 0) ∧ (win0_9.index t 0 = 0 ∧ win0_9.index t 1 = 0 ∧ win0_9.index t 2 = 0)
    ∧ (win0_10.index t 0 = 0 ∧ win0_10.index t 1 = 0) ∧ (win0_11.index t 0 = 0 ∧ win0_11.index t 1 = 0) := by decide +kernel

theorem flush_all : ∀ t : Fin grid0.N, win0_10.flush t = true ∧ win0_11.flush t = true := by decide +kernel

section blocks

variable (c : Dev nD) (t : Fin cfg0.N) (r : Fin 128) (q : Fin 1024)

theorem u_block : X0_0 m c t (ix2 r q) = a0 m c (ix2 ⟨8192 + r.val, by omega⟩ ⟨1024 + q.val, by omega⟩) := by
  obtain ⟨⟨e0, e1⟩, -⟩ := idx t
  unfold X0_0 Pipeline.Window.fill
  rw [dif_pos (moved0_0 t _)]
  refine congrArg (a0 m c) (funext fun a => Fin.ext ?_)
  match a with
  | ⟨0, _⟩ => show win0_0.index t 0 * 128 + 1 * r.val = 8192 + r.val; omega
  | ⟨1, _⟩ => show win0_0.index t 1 * 1024 + 1 * q.val = 1024 + q.val; omega

theorem old_block (k : Fin 3) : iblk m c 1 t (ix3 k r q) = a1 m c (ix4 0 r k q) := by
  obtain ⟨-, ⟨e0, e1, e2⟩, -⟩ := idx t
  have e : (V m c main_v32 : Vec Ideal S3x128x1024 .f32) = transpose S3x128x1024 [1, 0, 2] (shapeCast S128x3x1024
      (extractStridedSlice S1x128x3x1024 ![0, 0, 0, 0] (a1 m c) slices_S2x128x3x1024_S1x128x3x1024_0_0_0_0) shapeCasts_S1x128x3x1024_S128x3x1024) transposes_S128x3x1024_S3x128x1024_1_0_2 := rfl
  have h : (V m c main_v32 : Vec Ideal S3x128x1024 .f32) (ix3 k r q) = a1 m c (ix4 0 r k q) := by
    rw [e]
    pointwise []
  rw [← h]
  refine congrArg (V m c main_v32 : Vec Ideal S3x128x1024 .f32) (funext fun a => Fin.ext ?_)
  match a with
  | ⟨0, _⟩ => show win0_1.index t 0 * 3 + 1 * k.val = k.val; omega
  | ⟨1, _⟩ => show win0_1.index t 1 * 128 + 1 * r.val = r.val; omega
  | ⟨2, _⟩ => show win0_1.index t 2 * 1024 + 1 * q.val = q.val; omega

theorem h_block : iblk m c 2 t (ix3 0 r q) = a2 m c (ix3 0 r q) := by
  obtain ⟨-, -, ⟨e0, e1, e2⟩, -⟩ := idx t
  refine congrArg (a2 m c) (funext fun a => Fin.ext ?_)
  match a with
  | ⟨0, _⟩ => show win0_2.index t 0 * 1 + 1 * 0 = 0; omega
  | ⟨1, _⟩ => show win0_2.index t 1 * 128 + 1 * r.val = r.val; omega
  | ⟨2, _⟩ => show win0_2.index t 2 * 1024 + 1 * q.val = q.val; omega

theorem tap_block (k : Fin 4) : iblk m c 3 t (ix3 0 k q) = a3 m c (ix3 0 k q) := by
  obtain ⟨-, -, -, ⟨e0, e1, e2⟩, -⟩ := idx t
  refine congrArg (a3 m c) (funext fun a => Fin.ext ?_)
  match a with
  | ⟨0, _⟩ => show win0_3.index t 0 * 1 + 1 * 0 = 0; omega
  | ⟨1, _⟩ => show win0_3.index t 1 * 4 + 1 * k.val = k.val; omega
  | ⟨2, _⟩ => show win0_3.index t 2 * 1024 + 1 * q.val = q.val; omega

/-- A row of lanes, as the call gets it. -/
theorem lanes_at (A : Vec Ideal S2x1024 .f32) (q : Fin 1024) : shapeCast S2x1x1024 A shapeCasts_S2x1024_S2x1x1024 (ix3 0 0 q) = A (ix2 0 q) := by
  pointwise []

theorem bias_block : iblk m c 4 t (ix3 0 0 q) = a4 m c (ix2 0 q) := by
  obtain ⟨-, -, -, -, ⟨e0, e1, e2⟩, -⟩ := idx t
  rw [← lanes_at (a4 m c)]
  refine congrArg (V m c main_v33 : Vec Ideal S2x1x1024 .f32) (funext fun a => Fin.ext ?_)
  match a with
  | ⟨0, _⟩ => show win0_4.index t 0 * 1 + 1 * 0 = 0; omega
  | ⟨1, _⟩ => show win0_4.index t 1 * 1 + 1 * 0 = 0; omega
  | ⟨2, _⟩ => show win0_4.index t 2 * 1024 + 1 * q.val = q.val; omega

theorem wa_block (k : Fin 4) (i w : Fin 256) : iblk m c 5 t (ix3 k i w) = spread (a5 m c) (ix3 k i w) := by
  obtain ⟨-, -, -, -, -, ⟨e0, e1, e2⟩, -⟩ := idx t
  rw [← wa_eq]
  refine congrArg (V m c main_v14 : Vec Ideal S4x256x256 .f32) (funext fun a => Fin.ext ?_)
  match a with
  | ⟨0, _⟩ => show win0_5.index t 0 * 4 + 1 * k.val = k.val; omega
  | ⟨1, _⟩ => show win0_5.index t 1 * 256 + 1 * i.val = i.val; omega
  | ⟨2, _⟩ => show win0_5.index t 2 * 256 + 1 * w.val = w.val; omega

theorem wx_block (k : Fin 4) (i w : Fin 256) : iblk m c 6 t (ix3 k i w) = spread (a6 m c) (ix3 k i w) := by
  obtain ⟨-, -, -, -, -, -, ⟨e0, e1, e2⟩, -⟩ := idx t
  rw [← wx_eq]
  refine congrArg (V m c main_v29 : Vec Ideal S4x256x256 .f32) (funext fun a => Fin.ext ?_)
  match a with
  | ⟨0, _⟩ => show win0_6.index t 0 * 4 + 1 * k.val = k.val; omega
  | ⟨1, _⟩ => show win0_6.index t 1 * 256 + 1 * i.val = i.val; omega
  | ⟨2, _⟩ => show win0_6.index t 2 * 256 + 1 * w.val = w.val; omega

theorem ba_block : iblk m c 7 t (ix3 0 0 q) = a7 m c (ix2 0 q) := by
  obtain ⟨-, -, -, -, -, -, -, ⟨e0, e1, e2⟩, -⟩ := idx t
  rw [← lanes_at (a7 m c)]
  refine congrArg (V m c main_v34 : Vec Ideal S2x1x1024 .f32) (funext fun a => Fin.ext ?_)
  match a with
  | ⟨0, _⟩ => show win0_7.index t 0 * 1 + 1 * 0 = 0; omega
  | ⟨1, _⟩ => show win0_7.index t 1 * 1 + 1 * 0 = 0; omega
  | ⟨2, _⟩ => show win0_7.index t 2 * 1024 + 1 * q.val = q.val; omega

theorem bx_block : iblk m c 8 t (ix3 0 0 q) = a8 m c (ix2 0 q) := by
  obtain ⟨-, -, -, -, -, -, -, -, ⟨e0, e1, e2⟩, -⟩ := idx t
  rw [← lanes_at (a8 m c)]
  refine congrArg (V m c main_v35 : Vec Ideal S2x1x1024 .f32) (funext fun a => Fin.ext ?_)
  match a with
  | ⟨0, _⟩ => show win0_8.index t 0 * 1 + 1 * 0 = 0; omega
  | ⟨1, _⟩ => show win0_8.index t 1 * 1 + 1 * 0 = 0; omega
  | ⟨2, _⟩ => show win0_8.index t 2 * 1024 + 1 * q.val = q.val; omega

theorem lam_block : iblk m c 9 t (ix3 0 0 q) = a9 m c (ix2 0 q) := by
  obtain ⟨-, -, -, -, -, -, -, -, -, ⟨e0, e1, e2⟩, -⟩ := idx t
  rw [← lanes_at (a9 m c)]
  refine congrArg (V m c main_v36 : Vec Ideal S2x1x1024 .f32) (funext fun a => Fin.ext ?_)
  match a with
  | ⟨0, _⟩ => show win0_9.index t 0 * 1 + 1 * 0 = 0; omega
  | ⟨1, _⟩ => show win0_9.index t 1 * 1 + 1 * 0 = 0; omega
  | ⟨2, _⟩ => show win0_9.index t 2 * 1024 + 1 * q.val = q.val; omega

/-- The convolved inputs are the reference's. -/
theorem conv_eq : conv (X0_0 m c t) (iblk m c 1 t) (iblk m c 3 t) (iblk m c 4 t) (ix2 r q) = val_main_v34 (F := Ideal) (a0 m c) (a1 m c) (a3 m c) (a4 m c) (ix2 r q) := by
  rw [conv_at, ref_conv_at, u_block, old_block, old_block, old_block, tap_block, tap_block, tap_block, tap_block, bias_block]

/-- The arrays the reference computes of the kernel's arguments: the new state in the narrow format and as it is. -/
abbrev G10 (c : Dev nD) : Vec Ideal S128x1024 .bf16 :=
  val_main_v89 (F := Ideal) (a0 m c) (a1 m c) (a2 m c) (a3 m c) (a4 m c) (a5 m c) (a6 m c) (a7 m c) (a8 m c) (a9 m c)
abbrev G11 (c : Dev nD) : Vec Ideal S128x1024 .f32 :=
  val_main_v88 (F := Ideal) (a0 m c) (a1 m c) (a2 m c) (a3 m c) (a4 m c) (a5 m c) (a6 m c) (a7 m c) (a8 m c) (a9 m c)

/-- The body's new state is the reference's, -/
theorem at11 : k0_pay1 (decay (X0_0 m c t) (iblk m c 1 t) (iblk m c 3 t) (iblk m c 4 t) (iblk m c 5 t) (iblk m c 7 t) (iblk m c 9 t))
    (added (X0_0 m c t) (iblk m c 1 t) (iblk m c 3 t) (iblk m c 4 t) (iblk m c 5 t) (iblk m c 6 t) (iblk m c 7 t) (iblk m c 8 t) (iblk m c 9 t)) (iblk m c 2 t) (ix2 r q)
    = G11 m c (ix2 r q) := by
  refine (state_at _ _ _ _ _ _ _ _ _ _ r q).trans (Eq.trans ?_ (ref_state_at _ _ _ _ _ _ _ _ _ _ r q).symm)
  rw [ref_rate_at, ref_a_at, ref_x_at, whole_head _ _ _ _ _ _ r q (wa_block m c t), whole_head _ _ _ _ _ _ r q (wx_block m c t),
    funext (conv_eq m c t r), conv_eq, h_block, ba_block, bx_block, lam_block]

/-- in both formats. -/
theorem at10 : k0_pay2 (decay (X0_0 m c t) (iblk m c 1 t) (iblk m c 3 t) (iblk m c 4 t) (iblk m c 5 t) (iblk m c 7 t) (iblk m c 9 t))
    (added (X0_0 m c t) (iblk m c 1 t) (iblk m c 3 t) (iblk m c 4 t) (iblk m c 5 t) (iblk m c 6 t) (iblk m c 7 t) (iblk m c 8 t) (iblk m c 9 t)) (iblk m c 2 t) (ix2 r q)
    = G10 m c (ix2 r q) :=
  (stateB_at _ _ _ _ _ _ _ _ _ _ r q).trans ((at11 m c t r q).trans (ref_stateB_at _ _ _ _ _ _ _ _ _ _ r q).symm)

end blocks

/-- An index of a block, as a row and a column. -/
theorem split {a b : ℕ} (y : (⟨2, ![a, b]⟩ : Shape).Idx) : y = ix2 (y 0) (y 1) := funext fun d => match d with | ⟨0, _⟩ => rfl | ⟨1, _⟩ => rfl

/-- The narrow state's array is the reference's. -/
theorem final10 (c : Dev nD) : (dats m 0 c).arrAt 10 cfg0.N = G10 m c := by
  refine (dats m 0 c).arrAt_eq_of_cover 10 (G10 m c) (fun t _ => ?_) fun i => ?_
  · obtain ⟨-, -, -, -, -, -, -, -, -, -, ⟨e, e'⟩, -⟩ := idx t
    rw [(written m c t).1]
    funext y
    obtain ⟨r, q, rfl⟩ : ∃ (r : Fin 128) (q : Fin 1024), y = ix2 r q := ⟨_, _, split y⟩
    refine (at10 m c t r q).trans (congrArg (G10 m c) (funext fun a => Fin.ext ?_))
    match a with
    | ⟨0, _⟩ => show r.val = win0_10.index t 0 * 128 + 1 * r.val; omega
    | ⟨1, _⟩ => show q.val = win0_10.index t 1 * 1024 + 1 * q.val; omega
  · have t : Fin cfg0.N := ⟨0, by decide +kernel⟩
    obtain ⟨-, -, -, -, -, -, -, -, -, -, ⟨e, e'⟩, -⟩ := idx t
    have h0 : (i 0 : ℕ) < 128 := (i 0).isLt
    have h1 : (i 1 : ℕ) < 1024 := (i 1).isLt
    refine ⟨t, (flush_all t).1, ?_⟩
    show i ∈ ((View.whole main_v37_0).slice (win0_10.rect t)).set
    rw [View.set_slice_whole, Rect.mem_set_unit]
    intro a
    match a with
    | ⟨0, _⟩ => show win0_10.index t 0 * 128 ≤ (i 0 : ℕ) ∧ (i 0 : ℕ) < win0_10.index t 0 * 128 + 128; omega
    | ⟨1, _⟩ => show win0_10.index t 1 * 1024 ≤ (i 1 : ℕ) ∧ (i 1 : ℕ) < win0_10.index t 1 * 1024 + 1024; omega

/-- The state's array is the reference's. -/
theorem final11 (c : Dev nD) : (dats m 0 c).arrAt 11 cfg0.N = G11 m c := by
  refine (dats m 0 c).arrAt_eq_of_cover 11 (G11 m c) (fun t _ => ?_) fun i => ?_
  · obtain ⟨-, -, -, -, -, -, -, -, -, -, -, ⟨e, e'⟩⟩ := idx t
    rw [(written m c t).2]
    funext y
    obtain ⟨r, q, rfl⟩ : ∃ (r : Fin 128) (q : Fin 1024), y = ix2 r q := ⟨_, _, split y⟩
    refine (at11 m c t r q).trans (congrArg (G11 m c) (funext fun a => Fin.ext ?_))
    match a with
    | ⟨0, _⟩ => show r.val = win0_11.index t 0 * 128 + 1 * r.val; omega
    | ⟨1, _⟩ => show q.val = win0_11.index t 1 * 1024 + 1 * q.val; omega
  · have t : Fin cfg0.N := ⟨0, by decide +kernel⟩
    obtain ⟨-, -, -, -, -, -, -, -, -, -, -, ⟨e, e'⟩⟩ := idx t
    have h0 : (i 0 : ℕ) < 128 := (i 0).isLt
    have h1 : (i 1 : ℕ) < 1024 := (i 1).isLt
    refine ⟨t, (flush_all t).2, ?_⟩
    show i ∈ ((View.whole main_v37_1).slice (win0_11.rect t)).set
    rw [View.set_slice_whole, Rect.mem_set_unit]
    intro a
    match a with
    | ⟨0, _⟩ => show win0_11.index t 0 * 128 ≤ (i 0 : ℕ) ∧ (i 0 : ℕ) < win0_11.index t 0 * 128 + 128; omega
    | ⟨1, _⟩ => show win0_11.index t 1 * 1024 ≤ (i 1 : ℕ) ∧ (i 1 : ℕ) < win0_11.index t 1 * 1024 + 1024; omega

/-! ## The claims -/

/-- The kernel runs, keeps its arguments, and leaves every counter at zero. -/
theorem frame : Cert.quiescent_LruSample := fun m ρ _ => Cert.LruSample.Gen.frame m ρ

/-- So does its reading over the extended reals. -/
theorem frameIdeal : Cert.quiescent_LruSampleIdeal := fun m ρ _ => Cert.LruSampleIdeal.Gen.frame m ρ

/-- The reference runs and keeps its arguments. -/
theorem frameRef : Cert.quiescent_LruSampleRefIdeal := fun m ρ _ =>
  (θ_run Cert.LruSampleRefIdeal.defs _ _).mono (fun r h => ⟨fun c => (h c).2.2, sem_eq_zero_of_no_sems (by decide) r.2⟩)
    (Cert.LruSampleRefIdeal.Value.run (F := Ideal) m ρ)

/-- The kernel's two results are the reference's. -/
theorem algebraic : Cert.algebraic_LruSampleIdeal_LruSampleRefIdeal := by
  intro m ρ m' ρ' hpre hag
  refine ⟨fun c => G10 m c, fun c => G11 m c, ?_, ?_⟩
  · exact (θ_run Cert.LruSampleIdeal.defs _ _).mono (fun r h c =>
      ⟨(h c).1.trans (final10 m c), (h c).2.1.trans (final11 m c), (h c).2.2⟩)
      (Cert.LruSampleIdeal.Value.run_blocks (F := Ideal) m ρ)
  · refine (θ_run Cert.LruSampleRefIdeal.defs _ _).mono (fun r h c => ?_) (Cert.LruSampleRefIdeal.Value.run (F := Ideal) m' ρ')
    obtain ⟨g0, g1, g2, g3, g4, g5, g6, g7, g8, g9⟩ := hag c
    obtain ⟨h0, h1, h2⟩ := h c
    refine ⟨h0.trans ?_, h1.trans ?_, h2⟩
    · rw [val_main_v89_eq, g0, g1, g2, g3, g4, g5, g6, g7, g8, g9]
    · rw [val_main_v88_eq, g0, g1, g2, g3, g4, g5, g6, g7, g8, g9]

end Cert.LruSampleProof

end
-- ==== Proof.VUp.lean ====
/-
The prompt's values, from the key-value latents. The call gets the weight columns of the values; it keeps one block of them
in a carried copy while it goes down the prompt's rows, and leaves the plain product in bf16.
-/
module

public import proofs.«01_k».proof.Defs
public import proofs.«01_k».proof.Proof.Gen.VUp.Frame
public import proofs.«01_k».proof.Proof.Gen.VUpIdeal.Value
public import proofs.«01_k».proof.Proof.Gen.VUpRefIdeal.Run
public import proofs.«01_k».proof.Proof.Gen.VUpRefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.VUpProof

open Idealize.ShloMosaic Idealize.ShloMosaic.TcCoe Idealize.SL.Sem
open Cert.VUpIdeal Cert.VUpIdeal.Gen

variable (m : (ℓ : Loc nD τ sig) → Buf (Elt Ideal) ℓ)

/-- The arguments of the call. -/
abbrev a0 (c : Dev nD) : Vec Ideal S8320x512 .bf16 := m ((c : Thread nD τ).loc main_arg0)
abbrev a1 (c : Dev nD) : Vec Ideal S2x512x4096 .f32 := m ((c : Thread nD τ).loc main_arg1)

/-- Which blocks point `t` works on. -/
theorem idx : ∀ t : Fin grid0.N, win0_0.index t 0 = t.val % 8 ∧ win0_0.index t 1 = 0
    ∧ win0_1.index t 0 = 0 ∧ win0_1.index t 1 = t.val / 8 := by decide +kernel

theorem N_eq : cfg0.N = 16 := N_0

/-- The column of the whole up-projection that holds column `q` of the part: each of the 16 heads has 256 columns, and the
    part keeps the last 128 of them. -/
abbrev part (q : Fin 2048) : Fin 4096 := ⟨q.val / 128 * 256 + (128 + q.val % 128), by omega⟩

/-- The row of the latents that holds the prompt's row `p`. -/
abbrev row (p : Fin 8192) : Fin 8320 := ⟨p.val, by omega⟩

/-- The weight columns that point `n` multiplies by. -/
def cols (A : Vec Ideal S2x512x4096 .f32) (n : ℕ) : FVec Ideal S512x1024 .bf16 :=
  fun y => A (ix3 0 (y 0) (part (Fin.ofNat 2048 (1024 * (n / 8) + (y 1).val))))

/-- The weights as the call finds them: the part's columns alone. -/
theorem picked (c : Dev nD) (k : Fin 512) (q : Fin 2048) :
    (V m c main_v4 : Vec Ideal S512x2048 .f32) (ix2 k q) = a1 m c (ix3 0 k (part q)) := by
  have e : (V m c main_v4 : Vec Ideal S512x2048 .f32) = shapeCast S512x2048 (extractStridedSlice S512x16x128 ![0, 0, 128] (shapeCast S512x16x256 (shapeCast S512x4096 (extractStridedSlice S1x512x4096 ![0, 0, 0] (a1 m c) slices_S2x512x4096_S1x512x4096_0_0_0) shapeCasts_S1x512x4096_S512x4096) shapeCasts_S512x4096_S512x16x256) slices_S512x16x256_S512x16x128_0_0_128) shapeCasts_S512x16x128_S512x2048 := rfl
  rw [e]
  pointwise []

theorem pay1_eq (c : Dev nD) (t : Fin cfg0.N) : k0_pay1 (iblk m c 1 t) = cols (a1 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a1 m c (ix3 0 k (part (Fin.ofNat 2048 (1024 * (t.val / 8) + j.val))))
  have hj := j.isLt
  pointwise [k0_pay1]
  obtain ⟨-, -, e0, e1⟩ := idx t
  rw [← picked]
  blk_point [iblk, V, e0, e1]
  show _ = (1024 * (t.val / 8) + j.val) % 2048
  omega

/-- Below the first row block the body multiplies by the copy it finds. -/
theorem outB (c : Dev nD) (i : grid0.Coords) (arg2 : Memref sig .tc .vmem S1024x512 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S512x1024 .bf16) (harg5 : arg5.IsWhole) (hc0 : ¬cond0_0 i)
    (x0 : Vec Ideal S1024x512 .bf16) (x1 : Vec Ideal S512x1024 .f32) (xs : Vec Ideal S512x1024 .bf16) :
    out0_B_2 c i arg2 harg2 arg3 harg3 arg4 harg4 arg5 harg5 hc0 x0 x1 xs = k0_pay2 x0 xs := by
  frame_out

/-- WHAT A POINT LEAVES: its output block, and the carried copy at the columns of the point. -/
theorem holds (c : Dev nD) : ∀ (n : ℕ) (hn : n < cfg0.N), outsAt0 m c n hn
    = (k0_pay2 (F := Ideal) (X0_0 m c ⟨n, hn⟩) (cols (a1 m c) n), cols (a1 m c) n) := by
  have hA : ∀ t : Fin cfg0.N, t.val % 8 = 0 → outsAt0 m c t.val t.isLt
      = (k0_pay2 (F := Ideal) (X0_0 m c t) (cols (a1 m c) t.val), cols (a1 m c) t.val) := by
    intro t h
    rw [outsAt0_A m c t h, ← pay1_eq]
    frame_out
  intro n
  induction n with
  | zero => exact fun hn => hA ⟨0, hn⟩ rfl
  | succ n ih =>
    intro hn
    by_cases h : (n + 1) % 8 = 0
    · exact hA ⟨n + 1, hn⟩ h
    · have e := outsAt0_B m c ⟨n + 1, hn⟩ h
      dsimp only at e
      rw [e]
      have p := ih (Nat.lt_of_succ_lt hn)
      have same : ∀ A, cols A n = cols A (n + 1) := fun A => by unfold cols; rw [show (n + 1) / 8 = n / 8 by omega]
      rw [← same]
      simp only [Nat.add_sub_cancel]
      rw [p, outB]
      rfl

theorem pay2_at (x0 : Vec Ideal S1024x512 .bf16) (u : FVec Ideal S512x1024 .bf16) (r : Fin 1024) (j : Fin 1024) :
    k0_pay2 x0 u (ix2 r j) = ∑ k : Fin 512, x0 (ix2 r k) * u (ix2 k j) := by
  pointwise [k0_pay2]

theorem ref_at (A0 : Vec Ideal S8320x512 .bf16) (A1 : Vec Ideal S2x512x4096 .f32) (p : Fin 8192) (q : Fin 2048) :
    VUpRefIdeal.Read.val_main_v8 (F := Ideal) A0 A1 (ix2 p q) = ∑ k : Fin 512, A0 (ix2 (row p) k) * A1 (ix3 0 k (part q)) := by
  pointwise [VUpRefIdeal.Read.val_main_v8, VUpRefIdeal.Read.val_main_v7, VUpRefIdeal.Read.val_main_v6, VUpRefIdeal.Read.val_main_v5, VUpRefIdeal.Read.val_main_v4, VUpRefIdeal.Read.val_main_v3, VUpRefIdeal.Read.val_main_v2, VUpRefIdeal.Read.val_main_v1, VUpRefIdeal.Read.val_main_v0]

/-- The array at an index is what the point of its block left there. -/
theorem array_at (c : Dev nD) (p : Fin 8192) (q : Fin 2048) (n : ℕ) (hn : n < cfg0.N) (e : n = p.val / 1024 + 8 * (q.val / 1024)) (r : Fin 1024) (j : Fin 1024)
    (hr : r.val = p.val % 1024) (hj : j.val = q.val % 1024) :
    Value.G2 m c (ix2 p q) = k0_pay2 (F := Ideal) (X0_0 m c ⟨n, hn⟩) (cols (a1 m c) n) (ix2 r j) := by
  have hv : Value.pt2Of (ix2 p q) = n := by
    show 1 * (p.val / 1024 - 0) + 8 * (q.val / 1024 - 0) = _
    omega
  have hl : Value.loc2Of (ix2 p q) = ix2 r j := funext fun a => match a with
    | ⟨0, _⟩ => Fin.ext hr.symm
    | ⟨1, _⟩ => Fin.ext hj.symm
  have h := holds m c n hn
  have hb : Value.pt2Of (ix2 p q) < cfg0.N := hv ▸ hn
  unfold Value.G2
  rw [dif_pos hb, hl, Value.fold0_congr m c _ _ n (by omega) hv, ← Value.outsAt0_sweep m c _ hn, h]

/-- The rows of the latents that a point works on. -/
theorem rows_block (c : Dev nD) (p : Fin 8192) (t : Fin cfg0.N) (ht : t.val % 8 = p.val / 1024) (r : Fin 1024) (hr : r.val = p.val % 1024)
    (k : Fin 512) : X0_0 m c t (ix2 r k) = a0 m c (ix2 (row p) k) := by
  obtain ⟨e0, e1, -⟩ := idx t
  unfold X0_0 Pipeline.Window.fill
  rw [dif_pos (moved0_0 t _)]
  refine congrArg (a0 m c) (funext fun a => Fin.ext ?_)
  match a with
  | ⟨0, _⟩ => show win0_0.index t 0 * 1024 + 1 * r.val = p.val; omega
  | ⟨1, _⟩ => show win0_0.index t 1 * 512 + 1 * k.val = k.val; omega

/-- The array the call leaves is the reference's. -/
theorem final (c : Dev nD) : Value.G2 m c = VUpRefIdeal.Read.val_main_v8 (F := Ideal) (a0 m c) (a1 m c) := by
  funext i
  obtain ⟨p, q, rfl⟩ : ∃ (p : Fin 8192) (q : Fin 2048), i = ix2 p q := ⟨i 0, i 1, funext fun a => match a with | ⟨0, _⟩ => rfl | ⟨1, _⟩ => rfl⟩
  have hp : p.val < 8192 := p.isLt
  have hq : q.val < 2048 := q.isLt
  have hn : p.val / 1024 + 8 * (q.val / 1024) < cfg0.N := lt_of_lt_of_eq (by omega) N_eq.symm
  rw [ref_at, array_at m c p q _ hn rfl ⟨p.val % 1024, by omega⟩ ⟨q.val % 1024, by omega⟩ rfl rfl, pay2_at]
  unfold cols
  show (_ : EReal) = _
  refine Finset.sum_congr rfl fun k _ => ?_
  congr 1
  · exact rows_block m c p _ (show (p.val / 1024 + 8 * (q.val / 1024)) % 8 = _ by omega) _ rfl k
  · exact congrArg (fun y => a1 m c (ix3 0 k (part y))) (Fin.ext (show (1024 * ((p.val / 1024 + 8 * (q.val / 1024)) / 8) + q.val % 1024) % 2048 = q.val by omega))

/-! ## The claims -/

/-- The kernel runs, keeps its arguments, and leaves every counter at zero. -/
theorem frame : Cert.quiescent_VUp := fun m ρ _ => Cert.VUp.Gen.frame m ρ

/-- So does its reading over the extended reals. -/
theorem frameIdeal : Cert.quiescent_VUpIdeal := fun m ρ _ => Cert.VUpIdeal.Gen.frame m ρ

/-- The reference runs and keeps its arguments. -/
theorem frameRef : Cert.quiescent_VUpRefIdeal := fun m ρ _ =>
  (θ_run Cert.VUpRefIdeal.defs _ _).mono (fun r h => ⟨fun c => (h c).2, sem_eq_zero_of_no_sems (by decide) r.2⟩)
    (Cert.VUpRefIdeal.Value.run (F := Ideal) m ρ)

/-- The kernel's result is the reference's. -/
theorem algebraic : Cert.algebraic_VUpIdeal_VUpRefIdeal := by
  intro m ρ m' ρ' hpre hag
  refine ⟨fun c => VUpRefIdeal.Read.val_main_v8 (F := Ideal) (a0 m c) (a1 m c), ?_, ?_⟩
  · exact (θ_run Cert.VUpIdeal.defs _ _).mono (fun r h c => ⟨(h c).1.trans (final m c), (h c).2⟩)
      (Cert.VUpIdeal.Value.run (F := Ideal) m ρ)
  · refine (θ_run Cert.VUpRefIdeal.defs _ _).mono (fun r h c => ⟨(h c).1.trans ?_, (h c).2⟩)
      (Cert.VUpRefIdeal.Value.run (F := Ideal) m' ρ')
    rw [Cert.VUpRefIdeal.Read.val_main_v8_eq, (hag c).1, (hag c).2]

end Cert.VUpProof

end
-- ==== Proof.AttnBlock.lean ====
/-
What the kernel of the attention call computes at one point of its grid: the loop over the key blocks carries, for
each of the four heads of a block, the running maximum, denominator and numerator; this module reads the result block
as the quotients the loop leaves behind.
-/
module

public import proofs.«01_k».proof.Proof.Gen.AttnIdeal.Value
public import Idealize.ShloMosaic.Lib.Pipeline.Value
public import Idealize.ShloMosaic.Lib.Tactic
public import Idealize.ShloMosaic.Lib.Pointwise
public import Idealize.ShloMosaic.Lib.Pipeline.ValueKit

@[expose] public section

set_option maxRecDepth 16384

noncomputable section

namespace Cert.AttnBlock

open Idealize.ShloMosaic Idealize.ShloMosaic.TcCoe Idealize.SL.Sem
open Cert.AttnIdeal Cert.AttnIdeal.Gen

variable {F : FTy → Type} [FloatOps F]

/-- One head's running maximum, running denominator and running numerator. -/
abbrev Head (F : FTy → Type) : Type := FVec F S256x1 .f32 × FVec F S256x1 .f32 × FVec F S256x128 .f32

/-- The running values of the four heads of a block, as the loop carries them. -/
abbrev Carry (F : FTy → Type) : Type := FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32

/-- The four heads put together. -/
def pack (a b c d : Head F) : Carry F :=
  (a.1, a.2.1, a.2.2, b.1, b.2.1, b.2.2, c.1, c.2.1, c.2.2, d.1, d.2.1, d.2.2)

/-- What one trip does to one head: queries `q`, the mask of visible keys, the keys `k`, the values `v`. -/
def step (q : FVec F S256x256 .bf16) (vis : IVec S256x512 1) (k : FVec F S512x256 .bf16) (v : Vec F S512x128 .bf16)
    (s : Head F) : Head F :=
  (k0_pay2 q s.1 vis k, k0_pay5 q s.1 s.2.1 vis k, k0_pay6 q s.1 s.2.2 vis k v)

/-- The 512 keys of a trip for one head: its own 128 lanes beside the 128 lanes all heads share. -/
def keys (kn kr : Vec F S512x128 .bf16) : FVec F S512x256 .bf16 :=
  concatenate S512x256 1 [⟨S512x128, kn⟩, ⟨S512x128, kr⟩] concatenates_S512x128_S512x128_S512x256_d1

theorem pay14_eq (v : Vec F S512x128 .bf16) : k0_pay14 v = v := shapeCast_self _ _

section
variable (i : grid0.Coords) (v4 v5 : IVec S256x512 32) (q : FVec F S256x256 .bf16) (c0 c1 : BitVec 32)
  (k : Fin (k0_t1_loop i).trips) (mx l : FVec F S256x1 .f32) (o : FVec F S256x128 .f32) (kr kn v : Vec F S512x128 .bf16)
  (vis : IVec S256x512 1)

theorem head0_m : k0_pay17 i v4 v5 q c0 c1 k mx kr kn = k0_pay2 q mx (k0_pay15 i v4 v5 c0 c1 k) (keys kn kr) := by
  unfold k0_pay17 k0_pay16; rw [pay14_eq]; rfl

theorem head0_l : k0_pay20 i v4 v5 q c0 c1 k mx l kr kn = k0_pay5 q mx l (k0_pay15 i v4 v5 c0 c1 k) (keys kn kr) := by
  unfold k0_pay20 k0_pay19 k0_pay18; rw [head0_m]; unfold k0_pay16; rw [pay14_eq]; rfl

theorem head0_o : k0_pay21 i v4 v5 q c0 c1 k mx o kr kn v = k0_pay6 q mx o (k0_pay15 i v4 v5 c0 c1 k) (keys kn kr) v := by
  unfold k0_pay21 k0_pay19 k0_pay18; rw [head0_m]; unfold k0_pay16; rw [pay14_eq]; rfl

theorem head1_m : k0_pay24 mx (k0_pay23 i v4 v5 q c0 c1 k kr kn) = k0_pay2 q mx (k0_pay15 i v4 v5 c0 c1 k) (keys kn kr) := by
  unfold k0_pay24 k0_pay23 k0_pay22; rw [pay14_eq]; rfl

theorem head1_l : k0_pay27 mx l (k0_pay22 i v4 v5 q c0 c1 k kr kn) (k0_pay23 i v4 v5 q c0 c1 k kr kn)
    = k0_pay5 q mx l (k0_pay15 i v4 v5 c0 c1 k) (keys kn kr) := by
  unfold k0_pay27 k0_pay26 k0_pay25; rw [head1_m]; unfold k0_pay22; rw [pay14_eq]; rfl

theorem head1_o : k0_pay28 mx o (k0_pay22 i v4 v5 q c0 c1 k kr kn) (k0_pay23 i v4 v5 q c0 c1 k kr kn) v
    = k0_pay6 q mx o (k0_pay15 i v4 v5 c0 c1 k) (keys kn kr) v := by
  unfold k0_pay28 k0_pay26 k0_pay25; rw [head1_m]; unfold k0_pay22; rw [pay14_eq]; rfl

theorem head2_m : k0_pay30 q mx kr vis kn = k0_pay2 q mx vis (keys kn kr) := rfl

theorem head2_l : k0_pay33 q mx l kr vis kn = k0_pay5 q mx l vis (keys kn kr) := rfl

theorem head2_o : k0_pay34 q mx o kr vis kn v = k0_pay6 q mx o vis (keys kn kr) v := rfl

theorem head3_k : k0_pay35 kr kn = keys kn kr := rfl
end

theorem trip_eq (c : Dev nD) (i : grid0.Coords) (arg3 : Memref sig .tc .vmem S256x512 .bf16) (harg3 : arg3.IsWhole) (arg4 : Memref sig .tc .vmem S256x256 .bf16) (harg4 : arg4.IsWhole) (arg5 : Memref sig .tc .vmem S2048x512 .bf16) (harg5 : arg5.IsWhole) (arg6 : Memref sig .tc .vmem S2048x128 .bf16) (harg6 : arg6.IsWhole) (arg7 : Memref sig .tc .vmem S2048x512 .bf16) (harg7 : arg7.IsWhole) (arg8 : Memref sig .tc .vmem S256x512 .bf16) (harg8 : arg8.IsWhole) (v4 : IVec S256x512 32) (v5 : IVec S256x512 32) (v15 v25 v35 v45 : FVec F S256x256 .bf16)
    (x2 : Vec F S2048x512 .bf16) (x3 : Vec F S2048x128 .bf16) (x4 : Vec F S2048x512 .bf16) (k : Fin (k0_t1_loop i).trips) (a b d e : Head F) :
    tripR_k0_t1 (F := F) Variants.none c none i arg3 harg3 arg4 harg4 arg5 harg5 arg6 harg6 arg7 harg7 arg8 harg8 v4 v5 v15 v25 v35 v45 (harg5.unread x2) (harg6.unread x3) (harg7.unread x4) k (pack a b d e)
      = pack
          (step v15 (k0_pay15 i v4 v5 0#32 1#32 k)
            (keys (fun x => x2 ((Rect.unit (s := S2048x512) (k0_off2 i k) S512x128.size (k0_off2_inb i k)).idx x)) (fun x => x3 ((Rect.unit (s := S2048x128) (k0_off1 i k) S512x128.size (k0_off1_inb i k)).idx x)))
            (fun x => x4 ((Rect.unit (s := S2048x512) (k0_off2 i k) S512x128.size (k0_off2_inb i k)).idx x)) a)
          (step v25 (k0_pay15 i v4 v5 0#32 1#32 k)
            (keys (fun x => x2 ((Rect.unit (s := S2048x512) (k0_off3 i k) S512x128.size (k0_off3_inb i k)).idx x)) (fun x => x3 ((Rect.unit (s := S2048x128) (k0_off1 i k) S512x128.size (k0_off1_inb i k)).idx x)))
            (fun x => x4 ((Rect.unit (s := S2048x512) (k0_off3 i k) S512x128.size (k0_off3_inb i k)).idx x)) b)
          (step v35 (k0_pay15 i v4 v5 0#32 1#32 k)
            (keys (fun x => x2 ((Rect.unit (s := S2048x512) (k0_off4 i k) S512x128.size (k0_off4_inb i k)).idx x)) (fun x => x3 ((Rect.unit (s := S2048x128) (k0_off1 i k) S512x128.size (k0_off1_inb i k)).idx x)))
            (fun x => x4 ((Rect.unit (s := S2048x512) (k0_off4 i k) S512x128.size (k0_off4_inb i k)).idx x)) d)
          (step v45 (k0_pay15 i v4 v5 0#32 1#32 k)
            (keys (fun x => x2 ((Rect.unit (s := S2048x512) (k0_off5 i k) S512x128.size (k0_off5_inb i k)).idx x)) (fun x => x3 ((Rect.unit (s := S2048x128) (k0_off1 i k) S512x128.size (k0_off1_inb i k)).idx x)))
            (fun x => x4 ((Rect.unit (s := S2048x512) (k0_off5 i k) S512x128.size (k0_off5_inb i k)).idx x)) e) := by
  unfold tripR_k0_t1 trip_k0_t1
  dsimp only
  sl_unfold_words
  simp only [View.readAt_eq_ld, harg5.read_unread, harg6.read_unread, harg7.read_unread, pay14_eq, head0_m, head0_l, head0_o, head1_m, head1_l, head1_o, head2_m, head2_l, head2_o, head3_k]
  rfl

/-- The trip's row offset, as a number. -/
theorem row_of (n : ℕ) (h : n < 4) : BitVec.toNat (Scalar.indexCast (Scalar.muli (Scf.iv 0#32 1#32 n) 512#32)) = 512 * n := by
  interval_cases n <;> rfl

/-- The loop of query block `i 2` takes `i 2 / 2 + 1` trips: the 512-row key blocks up to the diagonal. -/
theorem trips_eq (i : grid0.Coords) : (k0_t1_loop i).trips = (i 2).val / 2 + 1 := by
  have h : (i 2).val < 8 := (i 2).isLt
  unfold k0_t1_loop
  generalize (i 2).val = n at h
  interval_cases n <;> decide +kernel

/-- The remainder loop takes none. -/
theorem trips2_eq (i : grid0.Coords) : (k0_t2_loop i).trips = 0 := by
  have h : (i 2).val < 8 := (i 2).isLt
  unfold k0_t2_loop
  generalize (i 2).val = n at h
  interval_cases n <;> decide +kernel

/-- The 512 rows from `512 n` and the 128 columns of head `o` of an array of four heads. -/
def blk (X : Vec F S2048x512 .bf16) (n o : ℕ) : Vec F S512x128 .bf16 := fun x =>
  X (ix2 (Fin.ofNat 2048 (512 * n + (x 0).val)) (Fin.ofNat 512 (128 * o + (x 1).val)))

/-- The 512 rows from `512 n` of an array of 128 columns. -/
def blkr (X : Vec F S2048x128 .bf16) (n : ℕ) : Vec F S512x128 .bf16 := fun x =>
  X (ix2 (Fin.ofNat 2048 (512 * n + (x 0).val)) (x 1))

theorem rd (X : Vec F S2048x512 .bf16) (off : Fin 2 → ℕ) (inb) (n o : ℕ) (hn : n < 4) (ho : o < 4)
    (h0 : off 0 = 512 * n) (h1 : off 1 = 128 * o) :
    (fun x => X ((Rect.unit (s := S2048x512) off S512x128.size inb).idx x)) = blk X n o := by
  funext x
  refine congrArg X (funext fun a => Fin.ext ?_)
  rw [Rect.idx_unit_val]
  have hx0 : (x 0).val < 512 := (x 0).isLt
  have hx1 : (x 1).val < 128 := (x 1).isLt
  match a with
  | ⟨0, _⟩ => show off 0 + (x 0).val = (512 * n + (x 0).val) % 2048; omega
  | ⟨1, _⟩ => show off 1 + (x 1).val = (128 * o + (x 1).val) % 512; omega

theorem rdr (X : Vec F S2048x128 .bf16) (off : Fin 2 → ℕ) (inb) (n : ℕ) (hn : n < 4)
    (h0 : off 0 = 512 * n) (h1 : off 1 = 0) :
    (fun x => X ((Rect.unit (s := S2048x128) off S512x128.size inb).idx x)) = blkr X n := by
  funext x
  refine congrArg X (funext fun a => Fin.ext ?_)
  rw [Rect.idx_unit_val]
  have hx0 : (x 0).val < 512 := (x 0).isLt
  match a with
  | ⟨0, _⟩ => show off 0 + (x 0).val = (512 * n + (x 0).val) % 2048; omega
  | ⟨1, _⟩ => show off 1 + (x 1).val = (x 1).val; omega

/-- The keys visible in trip `n`: key `512 n + column` is at or before query `256 (i 2) + row`. -/
def vis (i : grid0.Coords) (n : ℕ) : IVec S256x512 1 :=
  cmpi .sle (addi (iota .tc S256x512 32 [1] iota_S256x512_d1_w32)
    (broadcast S256x512 (Scalar.muli (Scf.iv 0#32 1#32 n) 512#32))) (k0_pay58 i)

/-- One head's running values after `n` trips. -/
def run (i : grid0.Coords) (q : FVec F S256x256 .bf16) (x2 : Vec F S2048x512 .bf16) (x3 : Vec F S2048x128 .bf16)
    (x4 : Vec F S2048x512 .bf16) (o : ℕ) : ℕ → Head F
  | 0 => (k0_pay64, k0_pay65, k0_pay66)
  | n + 1 => step q (vis i n) (keys (blk x2 n o) (blkr x3 n)) (blk x4 n o) (run i q x2 x3 x4 o n)

/-- The columns `c` to `c + 127` of the block's query rows. -/
def cols (X : Vec F S256x512 .bf16) (o : ℕ) : Vec F S256x128 .bf16 := fun x =>
  X (ix2 (x 0) (Fin.ofNat 512 (128 * o + (x 1).val)))

/-- The same of the rotary queries, two heads to 128 columns. -/
def colsr (X : Vec F S256x256 .bf16) (o : ℕ) : Vec F S256x128 .bf16 := fun x =>
  X (ix2 (x 0) (Fin.ofNat 256 (128 * o + (x 1).val)))

theorem pack_congr (q0 q1 q2 q3 : FVec F S256x256 .bf16) (m : IVec S256x512 1) (a b d e : Head F)
    {K0 K0' K1 K1' K2 K2' K3 K3' V0 V0' V1 V1' V2 V2' V3 V3' R R' : Vec F S512x128 .bf16}
    (h0 : K0 = K0') (h1 : K1 = K1') (h2 : K2 = K2') (h3 : K3 = K3') (g0 : V0 = V0') (g1 : V1 = V1') (g2 : V2 = V2')
    (g3 : V3 = V3') (hr : R = R') :
    pack (step q0 m (keys K0 R) V0 a) (step q1 m (keys K1 R) V1 b) (step q2 m (keys K2 R) V2 d) (step q3 m (keys K3 R) V3 e)
    = pack (step q0 m (keys K0' R') V0' a) (step q1 m (keys K1' R') V1' b) (step q2 m (keys K2' R') V2' d)
        (step q3 m (keys K3' R') V3' e) := by
  subst h0 h1 h2 h3 g0 g1 g2 g3 hr; rfl

/-- The loop's state is the four heads' running values. -/
theorem st_eq (c : Dev nD) (i : grid0.Coords) (arg3 : Memref sig .tc .vmem S256x512 .bf16) (harg3 : arg3.IsWhole) (arg4 : Memref sig .tc .vmem S256x256 .bf16) (harg4 : arg4.IsWhole) (arg5 : Memref sig .tc .vmem S2048x512 .bf16) (harg5 : arg5.IsWhole) (arg6 : Memref sig .tc .vmem S2048x128 .bf16) (harg6 : arg6.IsWhole) (arg7 : Memref sig .tc .vmem S2048x512 .bf16) (harg7 : arg7.IsWhole) (arg8 : Memref sig .tc .vmem S256x512 .bf16) (harg8 : arg8.IsWhole) (v15 v25 v35 v45 : FVec F S256x256 .bf16)
    (x2 : Vec F S2048x512 .bf16) (x3 : Vec F S2048x128 .bf16) (x4 : Vec F S2048x512 .bf16) (init : Carry F)
    (hi : init = pack (k0_pay64, k0_pay65, k0_pay66) (k0_pay64, k0_pay65, k0_pay66) (k0_pay64, k0_pay65, k0_pay66) (k0_pay64, k0_pay65, k0_pay66))
    (n : ℕ) (hn : n ≤ (k0_t1_loop i).trips) :
    st_k0_t1 (F := F) Variants.none c none i arg3 harg3 arg4 harg4 arg5 harg5 arg6 harg6 arg7 harg7 arg8 harg8 (k0_pay58 i) (iota .tc S256x512 32 [1] iota_S256x512_d1_w32) v15 v25 v35 v45 (harg5.unread x2) (harg6.unread x3) (harg7.unread x4) init n
      = pack (run i v15 x2 x3 x4 0 n) (run i v25 x2 x3 x4 1 n) (run i v35 x2 x3 x4 2 n) (run i v45 x2 x3 x4 3 n) := by
  induction n with
  | zero => exact hi
  | succ n ih =>
    have hlt : n < (k0_t1_loop i).trips := hn
    have h4 : n < 4 := by
      have h8 : (i 2).val < 8 := (i 2).isLt
      rw [trips_eq] at hlt; omega
    have hr := row_of n h4
    rw [st_k0_t1_succ (k := ⟨n, hlt⟩), ih (by omega), trip_eq]
    exact pack_congr _ _ _ _ _ _ _ _ _
      (rd x2 (k0_off2 i ⟨n, hlt⟩) _ n 0 h4 (by decide) hr rfl) (rd x2 (k0_off3 i ⟨n, hlt⟩) _ n 1 h4 (by decide) hr rfl)
      (rd x2 (k0_off4 i ⟨n, hlt⟩) _ n 2 h4 (by decide) hr rfl) (rd x2 (k0_off5 i ⟨n, hlt⟩) _ n 3 h4 (by decide) hr rfl)
      (rd x4 (k0_off2 i ⟨n, hlt⟩) _ n 0 h4 (by decide) hr rfl) (rd x4 (k0_off3 i ⟨n, hlt⟩) _ n 1 h4 (by decide) hr rfl)
      (rd x4 (k0_off4 i ⟨n, hlt⟩) _ n 2 h4 (by decide) hr rfl) (rd x4 (k0_off5 i ⟨n, hlt⟩) _ n 3 h4 (by decide) hr rfl)
      (rdr x3 (k0_off1 i ⟨n, hlt⟩) _ n h4 hr rfl)

/-- The four heads' queries of a block. -/
def query (x0 : Vec F S256x512 .bf16) (x1 : Vec F S256x256 .bf16) (o : ℕ) : FVec F S256x256 .bf16 :=
  if o % 2 = 0 then k0_pay59 (colsr x1 (o / 2)) (cols x0 o) else k0_pay60 (colsr x1 (o / 2)) (cols x0 o)

theorem hz : (![0, 0] : Fin 2 → Nat) = fun _ => 0 := funext fun a => by fin_cases a <;> rfl

/-- No trips of the remainder loop leave its initial value. -/
theorem st2_zero (c : Dev nD) (i : grid0.Coords) (arg3 : Memref sig .tc .vmem S256x512 .bf16) (harg3 : arg3.IsWhole) (arg4 : Memref sig .tc .vmem S256x256 .bf16) (harg4 : arg4.IsWhole) (arg5 : Memref sig .tc .vmem S2048x512 .bf16) (harg5 : arg5.IsWhole) (arg6 : Memref sig .tc .vmem S2048x128 .bf16) (harg6 : arg6.IsWhole) (arg7 : Memref sig .tc .vmem S2048x512 .bf16) (harg7 : arg7.IsWhole) (arg8 : Memref sig .tc .vmem S256x512 .bf16) (harg8 : arg8.IsWhole) (v4 v5 : IVec S256x512 32) (v15 v25 v35 v45 : FVec F S256x256 .bf16) (v83 : BitVec 32) (X5 : BufTy.Contents (Elt F) arg5.view.ty) (X6 : BufTy.Contents (Elt F) arg6.view.ty) (X7 : BufTy.Contents (Elt F) arg7.view.ty) (init : Carry F) (n : ℕ) (hn : n = 0) :
    st_k0_t2 (F := F) Variants.none c none i arg3 harg3 arg4 harg4 arg5 harg5 arg6 harg6 arg7 harg7 arg8 harg8 v4 v5 v15 v25 v35 v45 v83 X5 X6 X7 init n = init := by
  subst hn; rfl

theorem rdq (X : Vec F S256x512 .bf16) (off : Fin 2 → ℕ) (inb) (o : ℕ) (ho : o < 4)
    (h0 : off 0 = 0) (h1 : off 1 = 128 * o) :
    (fun x => X ((Rect.unit (s := S256x512) off S256x128.size inb).idx x)) = cols X o := by
  funext x
  refine congrArg X (funext fun a => Fin.ext ?_)
  rw [Rect.idx_unit_val]
  have hx1 : (x 1).val < 128 := (x 1).isLt
  match a with
  | ⟨0, _⟩ => show off 0 + (x 0).val = (x 0).val; omega
  | ⟨1, _⟩ => show off 1 + (x 1).val = (128 * o + (x 1).val) % 512; omega

theorem rdqr (X : Vec F S256x256 .bf16) (off : Fin 2 → ℕ) (inb) (o : ℕ) (ho : o < 2)
    (h0 : off 0 = 0) (h1 : off 1 = 128 * o) :
    (fun x => X ((Rect.unit (s := S256x256) off S256x128.size inb).idx x)) = colsr X o := by
  funext x
  refine congrArg X (funext fun a => Fin.ext ?_)
  rw [Rect.idx_unit_val]
  have hx1 : (x 1).val < 128 := (x 1).isLt
  match a with
  | ⟨0, _⟩ => show off 0 + (x 0).val = (x 0).val; omega
  | ⟨1, _⟩ => show off 1 + (x 1).val = (128 * o + (x 1).val) % 256; omega

attribute [local irreducible] st_k0_t1 st_k0_t2 Scf.trips

/-- WHAT THE BODY LEAVES in its output block. -/
theorem out_eq (c : Dev nD) (i : grid0.Coords) (arg3 : Memref sig .tc .vmem S256x512 .bf16) (harg3 : arg3.IsWhole) (arg4 : Memref sig .tc .vmem S256x256 .bf16) (harg4 : arg4.IsWhole) (arg5 : Memref sig .tc .vmem S2048x512 .bf16) (harg5 : arg5.IsWhole) (arg6 : Memref sig .tc .vmem S2048x128 .bf16) (harg6 : arg6.IsWhole) (arg7 : Memref sig .tc .vmem S2048x512 .bf16) (harg7 : arg7.IsWhole) (arg8 : Memref sig .tc .vmem S256x512 .bf16) (harg8 : arg8.IsWhole)
    (x0 : Vec F S256x512 .bf16) (x1 : Vec F S256x256 .bf16) (x2 : Vec F S2048x512 .bf16) (x3 : Vec F S2048x128 .bf16) (x4 : Vec F S2048x512 .bf16) :
    out0_A_5 c i arg3 harg3 arg4 harg4 arg5 harg5 arg6 harg6 arg7 harg7 arg8 harg8 x0 x1 x2 x3 x4
      = (let r := fun o => run i (query x0 x1 o) x2 x3 x4 o ((i 2).val / 2 + 1)
         k0_pay13 (r 0).2.1 (r 0).2.2 (r 1).2.1 (r 1).2.2 (r 2).2.1 (r 2).2.2 (r 3).2.1 (r 3).2.2) := by
  unfold out0_A_5
  rw [View.read_writes_eq_canon _ _ _ (cover0_A_5 c i arg3 harg3 arg4 harg4 arg5 harg5 arg6 harg6 arg7 harg7 arg8 harg8 x0 x1 x2 x3 x4)]
  unfold kernelRun0_A
  dsimp only
  rw [View.canon_unit_zero hz]
  sl_unfold_words
  have key : ∀ S : Carry F, S = pack (run i (query x0 x1 0) x2 x3 x4 0 ((i 2).val / 2 + 1)) (run i (query x0 x1 1) x2 x3 x4 1 ((i 2).val / 2 + 1))
      (run i (query x0 x1 2) x2 x3 x4 2 ((i 2).val / 2 + 1)) (run i (query x0 x1 3) x2 x3 x4 3 ((i 2).val / 2 + 1)) →
      k0_pay13 S.2.1 S.2.2.1 S.2.2.2.2.1 S.2.2.2.2.2.1 S.2.2.2.2.2.2.2.1 S.2.2.2.2.2.2.2.2.1 S.2.2.2.2.2.2.2.2.2.2.1 S.2.2.2.2.2.2.2.2.2.2.2
      = (let r := fun o => run i (query x0 x1 o) x2 x3 x4 o ((i 2).val / 2 + 1)
         k0_pay13 (r 0).2.1 (r 0).2.2 (r 1).2.1 (r 1).2.2 (r 2).2.1 (r 2).2.2 (r 3).2.1 (r 3).2.2) := by
    rintro _ rfl; rfl
  have fin : ∀ (N : ℕ) (q0 q1 q2 q3 : FVec F S256x256 .bf16), N = (i 2).val / 2 + 1 → q0 = query x0 x1 0 → q1 = query x0 x1 1 →
      q2 = query x0 x1 2 → q3 = query x0 x1 3 →
      pack (run i q0 x2 x3 x4 0 N) (run i q1 x2 x3 x4 1 N) (run i q2 x2 x3 x4 2 N) (run i q3 x2 x3 x4 3 N)
      = pack (run i (query x0 x1 0) x2 x3 x4 0 ((i 2).val / 2 + 1)) (run i (query x0 x1 1) x2 x3 x4 1 ((i 2).val / 2 + 1))
      (run i (query x0 x1 2) x2 x3 x4 2 ((i 2).val / 2 + 1)) (run i (query x0 x1 3) x2 x3 x4 3 ((i 2).val / 2 + 1)) := by
    rintro _ _ _ _ _ rfl rfl rfl rfl rfl; rfl
  refine key _ ?_
  refine (st2_zero _ _ _ _ _ _ _ _ _ _ _ _ _ _ _ _ _ _ _ _ _ _ _ _ _ _ ?_).trans ?_
  · exact trips2_eq i
  refine (st_eq c i arg3 harg3 arg4 harg4 arg5 harg5 arg6 harg6 arg7 harg7 arg8 harg8 _ _ _ _ x2 x3 x4 _ ?_ _ ?_).trans ?_
  · rfl
  · exact le_refl (k0_t1_loop i).trips
  refine fin _ _ _ _ _ ?_ ?_ ?_ ?_ ?_
  · exact trips_eq i
  all_goals simp only [View.readAt_eq_ld, harg3.read_unread, harg4.read_unread]
  · exact congrArg₂ k0_pay59 (rdqr x1 ![0, 0] _ 0 (by decide) rfl rfl) (rdq x0 ![0, 0] _ 0 (by decide) rfl rfl)
  · exact congrArg₂ k0_pay60 (rdqr x1 ![0, 0] _ 0 (by decide) rfl rfl) (rdq x0 ![0, 128] _ 1 (by decide) rfl rfl)
  · exact congrArg₂ k0_pay59 (rdqr x1 ![0, 128] _ 1 (by decide) rfl rfl) (rdq x0 ![0, 256] _ 2 (by decide) rfl rfl)
  · exact congrArg₂ k0_pay60 (rdqr x1 ![0, 128] _ 1 (by decide) rfl rfl) (rdq x0 ![0, 384] _ 3 (by decide) rfl rfl)

end Cert.AttnBlock

end
-- ==== Proof.OnlineSoftmax.lean ====
/- The arithmetic of a softmax computed block by block, over the extended reals. One query row is looked at: its
   scores `s j` (a masked key's score is `⊥`, no score is `⊤`) and one column `v j` of the values, `j` a key. -/
module

public import Idealize.ShloMosaic.PureOps.Ideal
public import Mathlib.Data.EReal.Operations
public import Mathlib.Data.EReal.Inv
public import Mathlib.Algebra.BigOperators.Fin

@[expose] public section

noncomputable section

namespace Cert.OnlineSoftmax

open Idealize.ShloMosaic
open Finset

/-- The largest score of the first `n` keys. -/
def top (s : ℕ → EReal) (n : ℕ) : EReal := (range n).sup s

/-- The sum of the first `n` keys' exponentials, each taken relative to `M`. -/
def den (s : ℕ → EReal) (n : ℕ) (M : EReal) : EReal := ∑ j ∈ range n, Ideal.exp (s j - M)

/-- The sum of the first `n` keys' exponentials relative to `M`, each times the key's value. -/
def num (s v : ℕ → EReal) (n : ℕ) (M : EReal) : EReal := ∑ j ∈ range n, Ideal.exp (s j - M) * v j

/-- An exponential is never negative. -/
theorem exp_nonneg (x : EReal) : 0 ≤ Ideal.exp x := by
  induction x using EReal.rec with
  | bot => simp
  | coe r => simpa using (Real.exp_pos r).le
  | top => simp

/-- The exponential of anything but `⊤` is finite. -/
theorem exp_ne_top {x : EReal} (h : x ≠ ⊤) : Ideal.exp x ≠ ⊤ := by
  induction x using EReal.rec with
  | bot => simp
  | coe r => simp
  | top => exact absurd rfl h

/-- A factor that is not negative and not `⊤` goes into a sum. -/
theorem sum_mul {ι : Type} (S : Finset ι) (f : ι → EReal) {c : EReal} (h0 : 0 ≤ c) (ht : c ≠ ⊤) :
    (∑ j ∈ S, f j) * c = ∑ j ∈ S, f j * c := by
  classical
  induction S using Finset.induction_on with
  | empty => simp
  | insert a S ha ih =>
    rw [sum_insert ha, sum_insert ha, EReal.right_distrib_of_nonneg_of_ne_top h0 ht, ih]

/-- `a - b` is not `⊤` when neither `a` is `⊤` nor `b` lies below it as `⊥` does below a number. -/
theorem sub_ne_top {a b : EReal} (h : a ≤ b) (hb : b ≠ ⊤) : a - b ≠ ⊤ := by
  induction b using EReal.rec with
  | bot => obtain rfl := le_bot_iff.1 h; simp
  | coe r =>
    induction a using EReal.rec with
    | bot => simp
    | coe q => exact EReal.coe_ne_top (q - r)
    | top => simp at h
  | top => exact absurd rfl hb

/-- Moving an exponential from the reference point `m` to a larger one, `m'`. -/
theorem exp_rebase {x m m' : EReal} (h : x ≤ m) (h' : m ≤ m') (ht : m' ≠ ⊤) :
    Ideal.exp (x - m) * Ideal.exp (m - m') = Ideal.exp (x - m') := by
  induction m' using EReal.rec with
  | top => exact absurd rfl ht
  | bot =>
    obtain rfl := le_bot_iff.1 h'; obtain rfl := le_bot_iff.1 h
    simp
  | coe r' =>
    induction m using EReal.rec with
    | top => simp at h'
    | bot => obtain rfl := le_bot_iff.1 h; simp
    | coe r =>
      induction x using EReal.rec with
      | top => simp at h
      | bot => simp
      | coe q =>
        rw [← EReal.coe_sub, ← EReal.coe_sub, ← EReal.coe_sub, Ideal.exp_coe, Ideal.exp_coe, Ideal.exp_coe,
          ← EReal.coe_mul, ← Real.exp_add]
        congr 2; ring

variable {s v : ℕ → EReal}

theorem le_top' {n j : ℕ} (h : j < n) : s j ≤ top s n := le_sup (f := s) (mem_range.2 h)

/-- Every score finite or `⊥`: so is the largest of some. -/
theorem top_ne_top (hs : ∀ j, s j ≠ ⊤) (n : ℕ) : top s n ≠ ⊤ := by
  have h : top s n < ⊤ := (Finset.sup_lt_iff (by simp)).2 fun j _ => lt_top_iff_ne_top.2 (hs j)
  exact h.ne

/-- The largest score of `n + m` keys is the larger of the first `n`'s and the next `m`'s. -/
theorem top_add (n m : ℕ) : top s (n + m) = max (top s n) ((univ : Finset (Fin m)).sup fun c => s (n + c)) := by
  apply le_antisymm
  · refine Finset.sup_le fun j hj => ?_
    have hj := mem_range.1 hj
    by_cases h : j < n
    · exact le_max_of_le_left (le_top' h)
    · refine le_max_of_le_right ?_
      have := le_sup (f := fun c : Fin m => s (n + c)) (mem_univ (⟨j - n, by omega⟩ : Fin m))
      simpa [Nat.add_sub_cancel' (Nat.le_of_not_lt h)] using this
  · refine max_le (Finset.sup_le fun j hj => le_top' ?_) (Finset.sup_le fun c _ => le_top' ?_)
    · have := mem_range.1 hj; omega
    · omega

/-- The denominator taken on: the first `n` keys' rescaled, and the next `m` keys'. -/
theorem den_step (hs : ∀ j, s j ≠ ⊤) (n m : ℕ) :
    den s n (top s n) * Ideal.exp (top s n - top s (n + m))
        + ∑ c : Fin m, Ideal.exp (s (n + c) - top s (n + m)) = den s (n + m) (top s (n + m)) := by
  have hle : top s n ≤ top s (n + m) := by rw [top_add]; exact le_max_left _ _
  have ht := top_ne_top hs (n + m)
  unfold den
  rw [sum_mul _ _ (exp_nonneg _) (exp_ne_top (sub_ne_top hle ht)), sum_range_add, sum_range (n := m)]
  congr 1
  exact sum_congr rfl fun j hj => exp_rebase (le_top' (mem_range.1 hj)) hle ht

/-- The numerator taken on in the same way. -/
theorem num_step (hs : ∀ j, s j ≠ ⊤) (n m : ℕ) :
    num s v n (top s n) * Ideal.exp (top s n - top s (n + m))
        + ∑ c : Fin m, Ideal.exp (s (n + c) - top s (n + m)) * v (n + c) = num s v (n + m) (top s (n + m)) := by
  have hle : top s n ≤ top s (n + m) := by rw [top_add]; exact le_max_left _ _
  have ht := top_ne_top hs (n + m)
  unfold num
  rw [sum_mul _ _ (exp_nonneg _) (exp_ne_top (sub_ne_top hle ht)), sum_range_add, sum_range (n := m)]
  congr 1
  refine sum_congr rfl fun j hj => ?_
  rw [mul_right_comm, exp_rebase (le_top' (mem_range.1 hj)) hle ht]

/-- Keys after the `n`-th whose scores are all `⊥` change nothing: not the largest score, -/
theorem top_tail {n N : ℕ} (h : n ≤ N) (hb : ∀ j, n ≤ j → s j = ⊥) : top s N = top s n := by
  obtain ⟨m, rfl⟩ := Nat.exists_eq_add_of_le h
  rw [top_add, max_eq_left]
  refine Finset.sup_le fun c _ => ?_
  rw [hb _ (Nat.le_add_right _ _)]; exact bot_le

/-- not the denominator, -/
theorem den_tail {n N : ℕ} (h : n ≤ N) (hb : ∀ j, n ≤ j → s j = ⊥) (M : EReal) : den s N M = den s n M := by
  obtain ⟨m, rfl⟩ := Nat.exists_eq_add_of_le h
  unfold den
  rw [sum_range_add, sum_eq_zero (s := range m), add_zero]
  intro j _
  rw [hb _ (Nat.le_add_right _ _)]; simp

/-- and not the numerator. -/
theorem num_tail {n N : ℕ} (h : n ≤ N) (hb : ∀ j, n ≤ j → s j = ⊥) (M : EReal) : num s v N M = num s v n M := by
  obtain ⟨m, rfl⟩ := Nat.exists_eq_add_of_le h
  unfold num
  rw [sum_range_add, sum_eq_zero (s := range m), add_zero]
  intro j _
  rw [hb _ (Nat.le_add_right _ _)]; simp

/-- With a score that is a number, the denominator is a positive number. -/
theorem den_pos (hs : ∀ j, s j ≠ ⊤) {n j₀ : ℕ} (hj : j₀ < n) (h0 : s j₀ ≠ ⊥) :
    0 < den s n (top s n) ∧ den s n (top s n) ≠ ⊤ := by
  have ht := top_ne_top hs n
  have hb : top s n ≠ ⊥ := fun h => h0 (le_bot_iff.1 (h ▸ le_top' hj))
  constructor
  · obtain ⟨j, hjm, hje⟩ := exists_mem_eq_sup (range n) ⟨j₀, mem_range.2 hj⟩ s
    have hone : Ideal.exp (s j - top s n) = 1 := by
      have : s j = top s n := hje.symm
      rw [this]
      lift top s n to ℝ using ⟨ht, hb⟩ with r
      rw [← EReal.coe_sub, sub_self, Ideal.exp_coe, Real.exp_zero, EReal.coe_one]
    have hle := single_le_sum (f := fun j => Ideal.exp (s j - top s n)) (fun i _ => exp_nonneg _) hjm
    exact lt_of_lt_of_le (by rw [hone]; exact zero_lt_one) hle
  · have : ∀ k, k ≤ n → (∑ j ∈ range k, Ideal.exp (s j - top s n)) ≠ ⊤ := by
      intro k hk
      induction k with
      | zero => simp
      | succ k ih =>
        rw [sum_range_succ]
        exact (EReal.add_lt_top (ih (by omega)) (exp_ne_top (sub_ne_top (le_top' (by omega)) ht))).ne
    exact this n le_rfl

/-- THE SOFTMAX ROW: numerator over denominator is the sum of the values times the normalised exponentials. -/
theorem quotient (hs : ∀ j, s j ≠ ⊤) {n j₀ : ℕ} (hj : j₀ < n) (h0 : s j₀ ≠ ⊥) :
    Ideal.div (num s v n (top s n)) (den s n (top s n))
      = ∑ j ∈ range n, v j * Ideal.div (Ideal.exp (s j - top s n)) (den s n (top s n)) := by
  obtain ⟨hp, ht⟩ := den_pos hs hj h0
  have hne : den s n (top s n) ≠ 0 := hp.ne'
  simp only [Ideal.div, if_neg hne]
  unfold num
  rw [sum_mul _ _ (EReal.inv_nonneg_of_nonneg hp.le) (EReal.inv_lt_top _).ne]
  refine sum_congr rfl fun j _ => ?_
  rw [mul_comm (Ideal.exp _) (v j), mul_assoc]

end Cert.OnlineSoftmax

end
-- ==== Proof.AttnRow.lean ====
/-
One row of the attention kernel's block, read over the extended reals: after `n` trips a head's carried maximum,
denominator and numerator are those of the row's first `512 n` scores.
-/
module

public import proofs.«01_k».proof.Proof.AttnBlock
public import proofs.«01_k».proof.Proof.OnlineSoftmax
public import Idealize.ShloMosaic.Lib.Pointwise
public import Idealize.ShloMosaic.Lib.WordCmp

@[expose] public section

set_option maxRecDepth 16384

noncomputable section

namespace Cert.AttnRow

open Idealize.ShloMosaic Idealize.ShloMosaic.TcCoe Idealize.SL.Sem
open Cert.AttnIdeal Cert.AttnIdeal.Gen Cert.AttnBlock Cert.OnlineSoftmax

/-- The bits of minus infinity denote it. -/
theorem negInf : Ideal.ofBits FTy.f32 0xFF800000#32 = ⊥ := by
  show Ideal.ieee 8 23 0xFF800000#32 = ⊥
  unfold Ideal.ieee
  simp

/-- The scale every score is multiplied by. -/
def scale : EReal := Ideal.ofBits FTy.f32 0x3D93CD3A#32

/-- A maximum folded from minus infinity is the supremum. -/
theorem fold_sup {n : ℕ} (f : Fin n → EReal) : Finset.univ.fold max (⊥ : EReal) f = Finset.univ.sup f := rfl

section
variable (q : FVec Ideal S256x256 .bf16) (vs : IVec S256x512 1) (kn kr v : Vec Ideal S512x128 .bf16)
  (r : Fin 256) (c : Fin 512) (d : Fin 128) (s : Head Ideal) (z : Fin 1)

/-- A score: the query row against the key row, its two halves apart, scaled; minus infinity where masked. -/
theorem pay1_at : k0_pay1 q vs (keys kn kr) (ix2 r c) = Scalar.select (vs (ix2 r c))
      ((∑ x : Fin 128, q (ix2 r ⟨x.val, by omega⟩) * kn (ix2 c x)
        + ∑ x : Fin 128, q (ix2 r ⟨128 + x.val, by omega⟩) * kr (ix2 c x)) * scale) ⊥ := by
  pointwise [k0_pay1, keys]
  rw [negInf]; rfl

/-- The new maximum: the old one and the block's. -/
theorem pay2_at (K : FVec Ideal S512x256 .bf16) : k0_pay2 q s.1 vs K (ix2 r z)
    = max (s.1 (ix2 r z)) (Finset.univ.sup fun x : Fin 512 => k0_pay1 q vs K (ix2 r x)) := by
  pointwise [k0_pay2]
  rw [negInf]; rfl

/-- The new denominator: the old one rebased, and the block's weights. -/
theorem pay5_at (K : FVec Ideal S512x256 .bf16) : k0_pay5 q s.1 s.2.1 vs K (ix2 r z)
    = s.2.1 (ix2 r z) * Ideal.exp (s.1 (ix2 r z) - k0_pay2 q s.1 vs K (ix2 r z)) +
      ∑ x : Fin 512, Ideal.exp (k0_pay1 q vs K (ix2 r x) - k0_pay2 q s.1 vs K (ix2 r 0)) := by
  pointwise [k0_pay5, k0_pay4, k0_pay3]

/-- The new numerator: the old one rebased, and the block's weighted values. -/
theorem pay6_at (K : FVec Ideal S512x256 .bf16) : k0_pay6 q s.1 s.2.2 vs K v (ix2 r d)
    = s.2.2 (ix2 r d) * Ideal.exp (s.1 (ix2 r 0) - k0_pay2 q s.1 vs K (ix2 r 0)) +
      ∑ x : Fin 512, Ideal.exp (k0_pay1 q vs K (ix2 r x) - k0_pay2 q s.1 vs K (ix2 r 0)) * v (ix2 x d) := by
  pointwise [k0_pay6, k0_pay4, k0_pay3]

/-- A key is visible when it is not after the query. -/
theorem vis_at (i : grid0.Coords) (n : ℕ) (hn : n < 4) :
    vis i n (ix2 r c) = BitVec.ofBool (decide (512 * n + c.val ≤ 256 * (i 2).val + r.val)) := by
  have e1 : vis i n (ix2 r c)
      = IntOp.cmpi CmpIPredicate.sle (IntOp.addi (BitVec.ofNat 32 c.val) (Scalar.muli (Scf.iv (0#32) (1#32) n) 512#32))
          (IntOp.addi (Scalar.muli (BitVec.ofNat 32 (i 2).val) 256#32) (BitVec.ofNat 32 r.val)) := by
    pointwise [vis, k0_pay58]
  have h2 : (i 2).val < 8 := (i 2).isLt
  have hc := c.isLt
  have hr := r.isLt
  have e2 : IntOp.addi (BitVec.ofNat 32 c.val) (Scalar.muli (Scf.iv (0#32) (1#32) n) 512#32) = BitVec.ofNat 32 (512 * n + c.val) := by
    apply BitVec.eq_of_toNat_eq
    simp [IntOp.addi, Scalar.muli, IntOp.muli, Scf.iv, BitVec.toNat_add, BitVec.toNat_mul, BitVec.toNat_ofNat]
    omega
  have e3 : IntOp.addi (Scalar.muli (BitVec.ofNat 32 (i 2).val) 256#32) (BitVec.ofNat 32 r.val) = BitVec.ofNat 32 (256 * (i 2).val + r.val) := by
    apply BitVec.eq_of_toNat_eq
    simp [IntOp.addi, Scalar.muli, IntOp.muli, BitVec.toNat_add, BitVec.toNat_mul, BitVec.toNat_ofNat]
    omega
  rw [e1, e2, e3]
  exact Idealize.ShloMosaic.WordCmp.cmpi_sle_ofNat (by omega) (by omega)

theorem init1 : k0_pay64 (F := Ideal) (ix2 r z) = ⊥ := by
  pointwise [k0_pay64]
  exact negInf
theorem init2 : k0_pay65 (F := Ideal) (ix2 r z) = 0 := by
  pointwise [k0_pay65]
theorem init3 : k0_pay66 (F := Ideal) (ix2 r d) = 0 := by
  pointwise [k0_pay66]
end

/-- After `n` trips a row holds the maximum, the denominator and the numerator of its first `512 n` scores. -/
theorem run_row (i : grid0.Coords) (q : FVec Ideal S256x256 .bf16) (x2 : Vec Ideal S2048x512 .bf16)
    (x3 : Vec Ideal S2048x128 .bf16) (x4 : Vec Ideal S2048x512 .bf16) (o : ℕ) (r : Fin 256) (s : ℕ → EReal)
    (hT : ∀ j, s j ≠ ⊤)
    (h1 : ∀ n < 4, ∀ c : Fin 512, k0_pay1 q (vis i n) (keys (blk x2 n o) (blkr x3 n)) (ix2 r c) = s (512 * n + c.val)) :
    ∀ n ≤ 4, (run i q x2 x3 x4 o n).1 (ix2 r 0) = top s (512 * n)
      ∧ (run i q x2 x3 x4 o n).2.1 (ix2 r 0) = den s (512 * n) (top s (512 * n))
      ∧ ∀ d : Fin 128, (run i q x2 x3 x4 o n).2.2 (ix2 r d)
          = num s (fun j => x4 (ix2 (Fin.ofNat 2048 j) (Fin.ofNat 512 (128 * o + d.val)))) (512 * n) (top s (512 * n)) := by
  intro n
  induction n with
  | zero =>
    intro _
    refine ⟨?_, ?_, fun d => ?_⟩
    · exact init1 r 0
    · exact (init2 r 0).trans (by simp [den])
    · exact (init3 r d).trans (by simp [num])
  | succ n ih =>
    intro hn
    obtain ⟨a1, a2, a3⟩ := ih (by omega)
    have e : 512 * (n + 1) = 512 * n + 512 := by omega
    have b1 : k0_pay2 q (run i q x2 x3 x4 o n).1 (vis i n) (keys (blk x2 n o) (blkr x3 n)) (ix2 r 0) = top s (512 * n + 512) := by
      rw [pay2_at, a1, top_add]
      simp only [h1 n (by omega)]
    rw [e]
    refine ⟨b1, ?_, fun d => ?_⟩
    · show k0_pay5 q (run i q x2 x3 x4 o n).1 (run i q x2 x3 x4 o n).2.1 (vis i n) (keys (blk x2 n o) (blkr x3 n)) (ix2 r 0) = _
      rw [pay5_at, b1, a1, a2]
      simp only [h1 n (by omega)]
      exact den_step hT (512 * n) 512
    · show k0_pay6 q (run i q x2 x3 x4 o n).1 (run i q x2 x3 x4 o n).2.2 (vis i n) (keys (blk x2 n o) (blkr x3 n)) (blk x4 n o) (ix2 r d) = _
      rw [pay6_at, b1, a1, a3 d]
      simp only [h1 n (by omega)]
      exact num_step hT (v := fun j => x4 (ix2 (Fin.ofNat 2048 j) (Fin.ofNat 512 (128 * o + d.val)))) (512 * n) 512

section
variable (x0 : Vec Ideal S256x512 .bf16) (x1 : Vec Ideal S256x256 .bf16) (x2 : Vec Ideal S2048x512 .bf16)
  (x3 : Vec Ideal S2048x128 .bf16)

/-- The score of row `r` of head `o` against key `j`, from the blocks. -/
def score (i : grid0.Coords) (o : ℕ) (r : Fin 256) (j : ℕ) : EReal :=
  if j ≤ 256 * (i 2).val + r.val then
    ((∑ l : Fin 128, x0 (ix2 r (Fin.ofNat 512 (128 * o + l.val))) * x2 (ix2 (Fin.ofNat 2048 j) (Fin.ofNat 512 (128 * o + l.val))))
      + ∑ l : Fin 64, x1 (ix2 r (Fin.ofNat 256 (64 * o + l.val))) * x3 (ix2 (Fin.ofNat 2048 j) (Fin.ofNat 128 (64 * (o % 2) + l.val)))) * scale
  else ⊥

theorem query_lo (o : ℕ) (r : Fin 256) (x : Fin 128) :
    query x0 x1 o (ix2 r ⟨x.val, by omega⟩) = x0 (ix2 r (Fin.ofNat 512 (128 * o + x.val))) := by
  unfold query
  split
  · pointwise [k0_pay59, cols]
  · pointwise [k0_pay60, cols]

/-- The lanes of a pair's first head. -/
theorem lanes_lo : ∀ x : Fin 128, IntOp.andi (IntOp.cmpi CmpIPredicate.sge (BitVec.ofNat 32 x.val) 0#32)
    (IntOp.cmpi CmpIPredicate.slt (BitVec.ofNat 32 x.val) 64#32) = BitVec.ofBool (decide (x.val < 64)) := by
  decide +kernel

/-- The lanes of a pair's second head. -/
theorem lanes_hi : ∀ x : Fin 128, IntOp.andi (IntOp.cmpi CmpIPredicate.sge (BitVec.ofNat 32 x.val) 64#32)
    (IntOp.cmpi CmpIPredicate.slt (BitVec.ofNat 32 x.val) 128#32) = BitVec.ofBool (decide (64 ≤ x.val)) := by
  decide +kernel

theorem select_ofBool (p : Prop) [Decidable p] (a b : EReal) :
    Scalar.select (BitVec.ofBool (decide p)) a b = if p then a else b := by
  by_cases h : p
  · rw [if_pos h, decide_eq_true h]; rfl
  · rw [if_neg h, decide_eq_false h]; rfl

theorem query_hi0 (o : ℕ) (ho : o % 2 = 0) (r : Fin 256) (x : Fin 128) :
    query x0 x1 o (ix2 r ⟨128 + x.val, by omega⟩) = if x.val < 64 then x1 (ix2 r (Fin.ofNat 256 (128 * (o / 2) + x.val))) else 0 := by
  unfold query
  rw [if_pos ho]
  pointwise [k0_pay59, colsr]
  exact (congrArg (fun b => Scalar.select b _ _) (lanes_lo x)).trans (select_ofBool _ _ _)

theorem query_hi1 (o : ℕ) (ho : o % 2 = 1) (r : Fin 256) (x : Fin 128) :
    query x0 x1 o (ix2 r ⟨128 + x.val, by omega⟩) = if 64 ≤ x.val then x1 (ix2 r (Fin.ofNat 256 (128 * (o / 2) + x.val))) else 0 := by
  unfold query
  rw [if_neg (by omega)]
  pointwise [k0_pay60, colsr]
  exact (congrArg (fun b => Scalar.select b _ _) (lanes_hi x)).trans (select_ofBool _ _ _)

/-- The rotary half of the score: the other head's lanes are zero in the query, and leave 64. -/
theorem rope_sum (o : ℕ) (r : Fin 256) (k : Fin 128 → EReal) :
    (∑ x : Fin 128, query x0 x1 o (ix2 r ⟨128 + x.val, by omega⟩) * k x)
      = ∑ l : Fin 64, x1 (ix2 r (Fin.ofNat 256 (64 * o + l.val))) * k (Fin.ofNat 128 (64 * (o % 2) + l.val)) := by
  rw [show (∑ x : Fin 128, query x0 x1 o (ix2 r ⟨128 + x.val, by omega⟩) * k x)
    = ∑ x : Fin (64 + 64), query x0 x1 o (ix2 r ⟨128 + x.val, by omega⟩) * k x from rfl, Fin.sum_univ_add]
  rcases Nat.mod_two_eq_zero_or_one o with h | h
  · have z : (∑ y : Fin 64, query x0 x1 o (ix2 r ⟨128 + (Fin.natAdd 64 y : Fin (64 + 64)).val, by omega⟩) * k (Fin.natAdd 64 y)) = 0 :=
      Finset.sum_eq_zero fun y _ => by
        rw [query_hi0 x0 x1 o h r (Fin.natAdd 64 y), if_neg (by simp), zero_mul]
    rw [z, add_zero]
    refine Finset.sum_congr rfl fun y _ => ?_
    rw [query_hi0 x0 x1 o h r (Fin.castAdd 64 y), if_pos (by simp)]
    congr 2
    · congr 1
      refine Fin.ext ?_
      show (128 * (o / 2) + y.val) % 256 = (64 * o + y.val) % 256
      omega
    · refine Fin.ext ?_
      show y.val = (64 * (o % 2) + y.val) % 128
      omega
  · have z : (∑ y : Fin 64, query x0 x1 o (ix2 r ⟨128 + (Fin.castAdd 64 y : Fin (64 + 64)).val, by omega⟩) * k (Fin.castAdd 64 y)) = 0 :=
      Finset.sum_eq_zero fun y _ => by
        rw [query_hi1 x0 x1 o h r (Fin.castAdd 64 y), if_neg (by simp), zero_mul]
    rw [z, zero_add]
    refine Finset.sum_congr rfl fun y _ => ?_
    rw [query_hi1 x0 x1 o h r (Fin.natAdd 64 y), if_pos (by simp)]
    congr 2
    · congr 1
      refine Fin.ext ?_
      show (128 * (o / 2) + (64 + y.val)) % 256 = (64 * o + y.val) % 256
      omega
    · refine Fin.ext ?_
      show 64 + y.val = (64 * (o % 2) + y.val) % 128
      omega

/-- The scores the kernel forms are the row's. -/
theorem pay1_score (i : grid0.Coords) (o : ℕ) (r : Fin 256) (n : ℕ) (hn : n < 4) (c : Fin 512) :
    k0_pay1 (query x0 x1 o) (vis i n) (keys (blk x2 n o) (blkr x3 n)) (ix2 r c) = score x0 x1 x2 x3 i o r (512 * n + c.val) := by
  rw [pay1_at, vis_at r c i n hn, rope_sum x0 x1 o r (fun x => blkr x3 n (ix2 c x))]
  simp only [query_lo]
  unfold score
  exact select_ofBool _ _ _
end

/-- The output block from the four heads' final states. -/
def finish (R : ℕ → Head Ideal) : FVec Ideal S256x512 .bf16 :=
  k0_pay13 (R 0).2.1 (R 0).2.2 (R 1).2.1 (R 1).2.2 (R 2).2.1 (R 2).2.2 (R 3).2.1 (R 3).2.2

/-- Each head's quotient stands in its own 128 columns. -/
theorem finish_at (R : ℕ → Head Ideal) (r : Fin 256) (o : Fin 4) (d : Fin 128) :
    finish R (ix2 r ⟨128 * o.val + d.val, by omega⟩) = Ideal.div ((R o.val).2.2 (ix2 r d)) ((R o.val).2.1 (ix2 r 0)) := by
  have hd := d.isLt
  fin_cases o
  · pointwise [finish, k0_pay13]
  · pointwise [finish, k0_pay13]
  · pointwise [finish, k0_pay13]
    rw [dif_neg (by omega), dif_neg (by omega), dif_pos (by omega)]
    exact congrArg (fun y => Ideal.div ((R 2).2.2 (ix2 r y)) ((R 2).2.1 (ix2 r 0))) (Fin.ext (show 256 + d.val - 128 - 128 = d.val by omega))
  · pointwise [finish, k0_pay13]
    rw [dif_neg (by omega), dif_neg (by omega), dif_neg (by omega)]
    exact congrArg (fun y => Ideal.div ((R 3).2.2 (ix2 r y)) ((R 3).2.1 (ix2 r 0))) (Fin.ext (show 384 + d.val - 128 - 128 - 128 = d.val by omega))

/-- The output block at a row and a column: the weighted sum over the weights' sum, over the keys walked. -/
theorem out_at (i : grid0.Coords) (x0 : Vec Ideal S256x512 .bf16) (x1 : Vec Ideal S256x256 .bf16) (x2 : Vec Ideal S2048x512 .bf16)
    (x3 : Vec Ideal S2048x128 .bf16) (x4 : Vec Ideal S2048x512 .bf16) (n : ℕ) (r : Fin 256) (o : Fin 4) (d : Fin 128)
    (hT : ∀ j, score x0 x1 x2 x3 i o.val r j ≠ ⊤) (hn : n ≤ 4) :
    finish (fun o => run i (query x0 x1 o) x2 x3 x4 o n) (ix2 r ⟨128 * o.val + d.val, by omega⟩)
      = Ideal.div
          (num (score x0 x1 x2 x3 i o.val r) (fun j => x4 (ix2 (Fin.ofNat 2048 j) (Fin.ofNat 512 (128 * o.val + d.val)))) (512 * n)
            (top (score x0 x1 x2 x3 i o.val r) (512 * n)))
          (den (score x0 x1 x2 x3 i o.val r) (512 * n) (top (score x0 x1 x2 x3 i o.val r) (512 * n))) := by
  obtain ⟨-, a2, a3⟩ := run_row i (query x0 x1 o.val) x2 x3 x4 o.val r (score x0 x1 x2 x3 i o.val r) hT
    (fun n hn c => pay1_score x0 x1 x2 x3 i o.val r n hn c) n hn
  rw [finish_at, a2, a3 d]

end Cert.AttnRow

end
-- ==== Proof.AttnArray.lean ====
/-
The array the attention kernel leaves, element by element, as a function of the arguments: block by block the row
quotients of `Cert.AttnRow`, gathered over the grid of batches, groups of four heads and blocks of 256 queries.
-/
module

public import proofs.«01_k».proof.Proof.AttnRow
public import Idealize.ShloMosaic.Lib.Pipeline.Value

@[expose] public section

set_option maxRecDepth 16384

noncomputable section

namespace Cert.AttnArray

open Idealize.ShloMosaic Idealize.ShloMosaic.TcCoe Idealize.SL.Sem
open Cert.AttnIdeal Cert.AttnIdeal.Gen Cert.AttnBlock Cert.OnlineSoftmax Cert.AttnRow

section
variable (A0 : Vec Ideal S8320x2048 .bf16) (A1 : Vec Ideal S8320x1024 .bf16) (A2 : Vec Ideal S8192x2048 .bf16)
  (A3 : Vec Ideal S8192x64 .bf16) (A4 : Vec Ideal S8192x2048 .bf16)

/-- The score of query `t` of batch `b` and head `h` against key `j`: plain and rotary products, scaled; minus
    infinity for a later key. -/
def logit (b h t j : ℕ) : EReal :=
  if j ≤ t then
    ((∑ l : Fin 128, A0 (ix2 (Fin.ofNat 8320 (2048 * b + t)) (Fin.ofNat 2048 (128 * h + l.val)))
        * A2 (ix2 (Fin.ofNat 8192 (2048 * b + j)) (Fin.ofNat 2048 (128 * h + l.val))))
      + ∑ l : Fin 64, A1 (ix2 (Fin.ofNat 8320 (2048 * b + t)) (Fin.ofNat 1024 (64 * h + l.val)))
        * A3 (ix2 (Fin.ofNat 8192 (2048 * b + j)) l)) * scale
  else ⊥

/-- The values of batch `b` at column `q`. -/
def value (b : ℕ) (q : Fin 2048) (j : ℕ) : EReal := A4 (ix2 (Fin.ofNat 8192 (2048 * b + j)) q)

/-- The attention at row `p` and column `q`: weighted values over weights, over the batch's 2048 keys. -/
def attn (p : Fin 8192) (q : Fin 2048) : EReal :=
  Ideal.div
    (num (logit A0 A1 A2 A3 (p.val / 2048) (q.val / 128) (p.val % 2048)) (value A4 (p.val / 2048) q) 2048
      (top (logit A0 A1 A2 A3 (p.val / 2048) (q.val / 128) (p.val % 2048)) 2048))
    (den (logit A0 A1 A2 A3 (p.val / 2048) (q.val / 128) (p.val % 2048)) 2048
      (top (logit A0 A1 A2 A3 (p.val / 2048) (q.val / 128) (p.val % 2048)) 2048))
end

variable (m : (ℓ : Loc nD τ sig) → Buf (Elt Ideal) ℓ)

/-- The grid's third coordinate. -/
theorem coord2 : ∀ t : Fin grid0.N, (grid0.coords t 2).val = t.val % 8 := by decide +kernel

theorem at0 : ∀ t : Fin grid0.N, win0_0.index t 0 = 8 * (t.val / 32) + t.val % 8 ∧ win0_0.index t 1 = t.val / 8 % 4 := by decide +kernel
theorem at1 : ∀ t : Fin grid0.N, win0_1.index t 0 = 8 * (t.val / 32) + t.val % 8 ∧ win0_1.index t 1 = t.val / 8 % 4 := by decide +kernel
theorem at2 : ∀ t : Fin grid0.N, win0_2.index t 0 = t.val / 32 ∧ win0_2.index t 1 = t.val / 8 % 4 := by decide +kernel
theorem at3 : ∀ t : Fin grid0.N, win0_3.index t 0 = t.val / 32 ∧ win0_3.index t 1 = 0 := by decide +kernel
theorem at4 : ∀ t : Fin grid0.N, win0_4.index t 0 = t.val / 32 ∧ win0_4.index t 1 = t.val / 8 % 4 := by decide +kernel
theorem at5 : ∀ t : Fin grid0.N, win0_5.index t 0 = 8 * (t.val / 32) + t.val % 8 ∧ win0_5.index t 1 = t.val / 8 % 4 := by decide +kernel

theorem N_lt (t : Fin cfg0.N) : t.val < 128 := lt_of_lt_of_eq t.isLt (show cfg0.N = 128 from by decide +kernel)

/-- The arguments of the call. -/
abbrev a0 (c : Dev nD) : Vec Ideal S8320x2048 .bf16 := m ((c : Thread nD τ).loc main_arg0)
abbrev a1 (c : Dev nD) : Vec Ideal S8320x1024 .bf16 := m ((c : Thread nD τ).loc main_arg1)
abbrev a2 (c : Dev nD) : Vec Ideal S8192x2048 .bf16 := m ((c : Thread nD τ).loc main_arg2)
abbrev a3 (c : Dev nD) : Vec Ideal S8192x64 .bf16 := m ((c : Thread nD τ).loc main_arg3)
abbrev a4 (c : Dev nD) : Vec Ideal S8192x2048 .bf16 := m ((c : Thread nD τ).loc main_arg4)

theorem read0 (c : Dev nD) (t : Fin cfg0.N) (r : Fin 256) (l : Fin 512) :
    X0_0 m c t (ix2 r l) = a0 m c (ix2 (Fin.ofNat 8320 (2048 * (t.val / 32) + (256 * (t.val % 8) + r.val))) (Fin.ofNat 2048 (512 * (t.val / 8 % 4) + l.val))) := by
  have ht := N_lt t
  unfold X0_0 Pipeline.Window.fill
  rw [dif_pos (moved0_0 t _)]
  unfold iblk
  rw [View.read_apply]
  show V m c main_arg0 _ = _
  rw [V_main_arg0]
  refine congrArg (a0 m c) (funext fun a => Fin.ext ?_)
  have hr := r.isLt
  have hl := l.isLt
  match a with
  | ⟨0, _⟩ =>
    show win0_0.index t 0 * 256 + 1 * r.val = (2048 * (t.val / 32) + (256 * (t.val % 8) + r.val)) % 8320
    rw [(at0 t).1]; omega
  | ⟨1, _⟩ =>
    show win0_0.index t 1 * 512 + 1 * l.val = (512 * (t.val / 8 % 4) + l.val) % 2048
    rw [(at0 t).2]; omega

theorem read1 (c : Dev nD) (t : Fin cfg0.N) (r : Fin 256) (l : Fin 256) :
    X0_1 m c t (ix2 r l) = a1 m c (ix2 (Fin.ofNat 8320 (2048 * (t.val / 32) + (256 * (t.val % 8) + r.val))) (Fin.ofNat 1024 (256 * (t.val / 8 % 4) + l.val))) := by
  have ht := N_lt t
  unfold X0_1 Pipeline.Window.fill
  rw [dif_pos (moved0_1 t _)]
  unfold iblk
  rw [View.read_apply]
  show V m c main_arg1 _ = _
  rw [V_main_arg1]
  refine congrArg (a1 m c) (funext fun a => Fin.ext ?_)
  have hr := r.isLt
  have hl := l.isLt
  match a with
  | ⟨0, _⟩ =>
    show win0_1.index t 0 * 256 + 1 * r.val = (2048 * (t.val / 32) + (256 * (t.val % 8) + r.val)) % 8320
    rw [(at1 t).1]; omega
  | ⟨1, _⟩ =>
    show win0_1.index t 1 * 256 + 1 * l.val = (256 * (t.val / 8 % 4) + l.val) % 1024
    rw [(at1 t).2]; omega

theorem read2 (c : Dev nD) (t : Fin cfg0.N) (r : Fin 2048) (l : Fin 512) :
    iblk m c 2 t (ix2 r l) = a2 m c (ix2 (Fin.ofNat 8192 (2048 * (t.val / 32) + r.val)) (Fin.ofNat 2048 (512 * (t.val / 8 % 4) + l.val))) := by
  have ht := N_lt t
  unfold iblk
  rw [View.read_apply]
  show V m c main_arg2 _ = _
  rw [V_main_arg2]
  refine congrArg (a2 m c) (funext fun a => Fin.ext ?_)
  have hr := r.isLt
  have hl := l.isLt
  match a with
  | ⟨0, _⟩ =>
    show win0_2.index t 0 * 2048 + 1 * r.val = (2048 * (t.val / 32) + r.val) % 8192
    rw [(at2 t).1]; omega
  | ⟨1, _⟩ =>
    show win0_2.index t 1 * 512 + 1 * l.val = (512 * (t.val / 8 % 4) + l.val) % 2048
    rw [(at2 t).2]; omega

theorem read4 (c : Dev nD) (t : Fin cfg0.N) (r : Fin 2048) (l : Fin 512) :
    iblk m c 4 t (ix2 r l) = a4 m c (ix2 (Fin.ofNat 8192 (2048 * (t.val / 32) + r.val)) (Fin.ofNat 2048 (512 * (t.val / 8 % 4) + l.val))) := by
  have ht := N_lt t
  unfold iblk
  rw [View.read_apply]
  show V m c main_arg4 _ = _
  rw [V_main_arg4]
  refine congrArg (a4 m c) (funext fun a => Fin.ext ?_)
  have hr := r.isLt
  have hl := l.isLt
  match a with
  | ⟨0, _⟩ =>
    show win0_4.index t 0 * 2048 + 1 * r.val = (2048 * (t.val / 32) + r.val) % 8192
    rw [(at4 t).1]; omega
  | ⟨1, _⟩ =>
    show win0_4.index t 1 * 512 + 1 * l.val = (512 * (t.val / 8 % 4) + l.val) % 2048
    rw [(at4 t).2]; omega

/-- The doubled rotary keys: both 64 columns hold the argument's. -/
theorem doubled (c : Dev nD) (p : Fin 8192) (l : Fin 128) :
    (V m c main_v0 : Vec Ideal S8192x128 .bf16) (ix2 p l) = a3 m c (ix2 p (Fin.ofNat 64 l.val)) := by
  have e : (V m c main_v0 : Vec Ideal S8192x128 .bf16)
      = concatenate S8192x128 1 [⟨S8192x64, a3 m c⟩, ⟨S8192x64, a3 m c⟩] concatenates_S8192x64_S8192x64_S8192x128_d1 := rfl
  rw [e]
  have hl := l.isLt
  pointwise
  split
  · exact congrArg (fun y => a3 m c (ix2 p y)) (Fin.ext (show l.val = l.val % 64 by omega))
  · exact congrArg (fun y => a3 m c (ix2 p y)) (Fin.ext (show l.val - 64 = l.val % 64 by omega))

theorem read3 (c : Dev nD) (t : Fin cfg0.N) (r : Fin 2048) (l : Fin 128) :
    iblk m c 3 t (ix2 r l) = a3 m c (ix2 (Fin.ofNat 8192 (2048 * (t.val / 32) + r.val)) (Fin.ofNat 64 l.val)) := by
  have ht := N_lt t
  rw [← doubled]
  unfold iblk
  rw [View.read_apply]
  refine congrArg (V m c main_v0 : Vec Ideal S8192x128 .bf16) (funext fun a => Fin.ext ?_)
  have hr := r.isLt
  have hl := l.isLt
  match a with
  | ⟨0, _⟩ =>
    show win0_3.index t 0 * 2048 + 1 * r.val = (2048 * (t.val / 32) + r.val) % 8192
    rw [(at3 t).1]; omega
  | ⟨1, _⟩ =>
    show win0_3.index t 1 * 128 + 1 * l.val = l.val
    rw [(at3 t).2]; omega

/-- The block's scores are the array's. -/
theorem score_eq (c : Dev nD) (t : Fin cfg0.N) (o : Fin 4) (r : Fin 256) :
    score (X0_0 m c t) (X0_1 m c t) (iblk m c 2 t) (iblk m c 3 t) (grid0.coords t) o.val r
      = logit (a0 m c) (a1 m c) (a2 m c) (a3 m c) (t.val / 32) (4 * (t.val / 8 % 4) + o.val) (256 * (t.val % 8) + r.val) := by
  funext j
  have ht := N_lt t
  have hr := r.isLt
  have ho := o.isLt
  unfold score logit
  rw [coord2 t]
  by_cases h : j ≤ 256 * (t.val % 8) + r.val
  · rw [if_pos h, if_pos h]
    congr 2
    · refine Finset.sum_congr rfl fun l _ => ?_
      have hl := l.isLt
      rw [read0, read2]
      congr 2
      · congr 1
        exact Fin.ext (show (512 * (t.val / 8 % 4) + (128 * o.val + l.val) % 512) % 2048 = (128 * (4 * (t.val / 8 % 4) + o.val) + l.val) % 2048 by omega)
      · congr 1
        · exact Fin.ext (show (2048 * (t.val / 32) + j % 2048) % 8192 = (2048 * (t.val / 32) + j) % 8192 by omega)
        · exact Fin.ext (show (512 * (t.val / 8 % 4) + (128 * o.val + l.val) % 512) % 2048 = (128 * (4 * (t.val / 8 % 4) + o.val) + l.val) % 2048 by omega)
    · refine Finset.sum_congr rfl fun l _ => ?_
      have hl := l.isLt
      rw [read1, read3]
      congr 2
      · congr 1
        exact Fin.ext (show (256 * (t.val / 8 % 4) + (64 * o.val + l.val) % 256) % 1024 = (64 * (4 * (t.val / 8 % 4) + o.val) + l.val) % 1024 by omega)
      · congr 1
        · exact Fin.ext (show (2048 * (t.val / 32) + j % 2048) % 8192 = (2048 * (t.val / 32) + j) % 8192 by omega)
        · exact Fin.ext (show ((64 * (o.val % 2) + l.val) % 128) % 64 = l.val by omega)
  · rw [if_neg h, if_neg h]

/-- What point `t` leaves at a row and a column of its block is the attention at the array's row and column. -/
theorem block_at (c : Dev nD) (t : Fin cfg0.N) (r : Fin 256) (o : Fin 4) (d : Fin 128)
    (hT : ∀ b h t j, logit (a0 m c) (a1 m c) (a2 m c) (a3 m c) b h t j ≠ ⊤) :
    finish (fun o => run (grid0.coords t) (query (X0_0 m c t) (X0_1 m c t) o) (iblk m c 2 t) (iblk m c 3 t) (iblk m c 4 t) o
        ((grid0.coords t 2).val / 2 + 1)) (ix2 r ⟨128 * o.val + d.val, by omega⟩)
      = attn (a0 m c) (a1 m c) (a2 m c) (a3 m c) (a4 m c)
          (Fin.ofNat 8192 (2048 * (t.val / 32) + (256 * (t.val % 8) + r.val))) (Fin.ofNat 2048 (512 * (t.val / 8 % 4) + (128 * o.val + d.val))) := by
  have ht := N_lt t
  have hr := r.isLt
  have ho := o.isLt
  have hd := d.isLt
  rw [out_at _ _ _ _ _ _ _ r o d (by rw [score_eq]; exact hT _ _ _) (by rw [coord2 t]; omega), score_eq, coord2 t]
  have e1 : (Fin.ofNat 8192 (2048 * (t.val / 32) + (256 * (t.val % 8) + r.val))).val / 2048 = t.val / 32 :=
    show (2048 * (t.val / 32) + (256 * (t.val % 8) + r.val)) % 8192 / 2048 = t.val / 32 by omega
  have e2 : (Fin.ofNat 8192 (2048 * (t.val / 32) + (256 * (t.val % 8) + r.val))).val % 2048 = 256 * (t.val % 8) + r.val :=
    show (2048 * (t.val / 32) + (256 * (t.val % 8) + r.val)) % 8192 % 2048 = 256 * (t.val % 8) + r.val by omega
  have e3 : (Fin.ofNat 2048 (512 * (t.val / 8 % 4) + (128 * o.val + d.val))).val / 128 = 4 * (t.val / 8 % 4) + o.val :=
    show (512 * (t.val / 8 % 4) + (128 * o.val + d.val)) % 2048 / 128 = 4 * (t.val / 8 % 4) + o.val by omega
  unfold attn
  rw [e1, e2, e3]
  have hle : 512 * (t.val % 8 / 2 + 1) ≤ 2048 := by omega
  have hb : ∀ j, 512 * (t.val % 8 / 2 + 1) ≤ j → logit (a0 m c) (a1 m c) (a2 m c) (a3 m c) (t.val / 32) (4 * (t.val / 8 % 4) + o.val) (256 * (t.val % 8) + r.val) j = ⊥ :=
    fun j hj => if_neg (by omega)
  have ev : (fun j => iblk m c 4 t (ix2 (Fin.ofNat 2048 j) (Fin.ofNat 512 (128 * o.val + d.val))))
      = fun j => value (a4 m c) (t.val / 32) (Fin.ofNat 2048 (512 * (t.val / 8 % 4) + (128 * o.val + d.val))) (j % 2048) := by
    funext j
    rw [read4]
    unfold value
    congr 2
    exact Fin.ext (show (512 * (t.val / 8 % 4) + (128 * o.val + d.val) % 512) % 2048 = (512 * (t.val / 8 % 4) + (128 * o.val + d.val)) % 2048 by omega)
  rw [ev, top_tail hle hb, den_tail hle hb, num_tail hle hb]
  refine congrArg (fun x => Ideal.div x _) (Finset.sum_congr rfl fun j hj => ?_)
  have hm : j % 2048 = j := Nat.mod_eq_of_lt (lt_of_lt_of_le (Finset.mem_range.mp hj) hle)
  dsimp only
  rw [hm]

/-- What the kernel leaves in its result array. -/
def G (c : Dev nD) : Buf (Elt Ideal) ((c : Thread nD τ).loc main_v1) := fun i : S8192x2048.Idx =>
  attn (a0 m c) (a1 m c) (a2 m c) (a3 m c) (a4 m c) (i 0) (i 1)

theorem flushed_eq (c : Dev nD) (hT : ∀ b h t j, logit (a0 m c) (a1 m c) (a2 m c) (a3 m c) b h t j ≠ ⊤)
    (t : Fin cfg0.N) (hf : (cfg0.win 5).flush t = true) :
    (dats m 0 c).flushed 5 t = ((cfg0.win 5).blk t).view.read (Elt Ideal) (G m c) := by
  have ht := N_lt t
  rw [Value.flushed5_A, out_eq]
  funext y
  rw [View.read_apply]
  have hy0 : (y 0).val < 256 := (y 0).isLt
  have hy1 : (y 1).val < 512 := (y 1).isLt
  refine Eq.trans (congrArg (finish (fun o => run (grid0.coords t) (query (X0_0 m c t) (X0_1 m c t) o) (iblk m c 2 t) (iblk m c 3 t) (iblk m c 4 t) o
        ((grid0.coords t 2).val / 2 + 1))) (funext fun a => Fin.ext ?_)) ((block_at m c t ⟨(y 0).val, hy0⟩ ⟨(y 1).val / 128, by omega⟩ ⟨(y 1).val % 128, by omega⟩ hT).trans ?_)
  · match a with
    | ⟨0, _⟩ => rfl
    | ⟨1, _⟩ => show (y 1).val = 128 * ((y 1).val / 128) + (y 1).val % 128; omega
  · show attn _ _ _ _ _ _ _ = attn _ _ _ _ _ _ _
    congr 1
    · refine Fin.ext ?_
      show (2048 * (t.val / 32) + (256 * (t.val % 8) + (y 0).val)) % 8192 = win0_5.index t 0 * 256 + 1 * (y 0).val
      rw [(at5 t).1]; omega
    · refine Fin.ext ?_
      show (512 * (t.val / 8 % 4) + (128 * ((y 1).val / 128) + (y 1).val % 128)) % 2048 = win0_5.index t 1 * 512 + 1 * (y 1).val
      rw [(at5 t).2]; omega

/-- Every point writes its block back, and the blocks cover the array. -/
theorem flush_all : ∀ t : Fin grid0.N, win0_5.flush t = true := by decide +kernel

theorem final (c : Dev nD) (hT : ∀ b h t j, logit (a0 m c) (a1 m c) (a2 m c) (a3 m c) b h t j ≠ ⊤) :
    (dats m 0 c).arrAt 5 cfg0.N = G m c :=
  (dats m 0 c).arrAt_eq_of_cover 5 (G m c) (flushed_eq m c hT) fun i => by
    have h0 : (i 0 : Nat) < 8192 := (i 0).isLt
    have h1 : (i 1 : Nat) < 2048 := (i 1).isLt
    have hN : cfg0.N = 128 := by decide +kernel
    let t : Fin cfg0.N := ⟨32 * ((i 0 : Nat) / 2048) + 8 * ((i 1 : Nat) / 512) + (i 0 : Nat) % 2048 / 256, by rw [hN]; omega⟩
    have htv : t.val = 32 * ((i 0 : Nat) / 2048) + 8 * ((i 1 : Nat) / 512) + (i 0 : Nat) % 2048 / 256 := rfl
    refine ⟨t, flush_all t, ?_⟩
    show i ∈ ((View.whole main_v1).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [(at5 t).1, htv]; omega
    | ⟨1, _⟩ =>
      show win0_5.index t 1 * 512 ≤ (i 1 : Nat) ∧ (i 1 : Nat) < win0_5.index t 1 * 512 + 512
      rw [(at5 t).2, htv]; omega

end Cert.AttnArray

end
-- ==== Proof.AttnRef.lean ====
/-
The reference attention read at an index: the same scores, their maximum, the sum of the weights, and the weighted sum
of the values.
-/
module

public import proofs.«01_k».proof.Proof.AttnArray
public import proofs.«01_k».proof.Proof.Gen.AttnRefIdeal.Read

@[expose] public section

set_option maxRecDepth 16384

noncomputable section

namespace Cert.AttnRef

open Idealize.ShloMosaic Idealize.ShloMosaic.TcCoe Idealize.SL.Sem
open Cert.AttnRefIdeal Cert.AttnRefIdeal.Gen Cert.AttnRefIdeal.Read Cert.OnlineSoftmax
open Cert.AttnArray (logit value attn)
open Cert.AttnRow (negInf scale select_ofBool)

/-- A row's maximum, folded over its 2048 entries from minus infinity. -/
theorem max_at (X : FVec Ideal S4x16x2048x2048 .f32) (b : Fin 4) (h : Fin 16) (t : Fin 2048) :
    Host.reduce FloatOps.maximumf X (val_main_cst_1 (F := Ideal)) reducesTo_S4x16x2048x2048_S4x16x2048_d3 h_S_ (ix3 b h t) =
      Finset.univ.sup fun x : Fin 2048 => (X (ix4 b h t x) : EReal) := by
  pointwise [val_main_cst_1]
  rw [negInf]; rfl

theorem sup_eq_top (s : ℕ → EReal) (n : ℕ) : (Finset.univ.sup fun x : Fin n => s x.val) = top s n := by
  have h := top_add (s := s) 0 n
  simpa [top] using h.symm

variable (A0 : Vec Ideal S8320x2048 .bf16) (A1 : Vec Ideal S8320x1024 .bf16) (A2 : Vec Ideal S8192x2048 .bf16)
  (A3 : Vec Ideal S8192x64 .bf16) (A4 : Vec Ideal S8192x2048 .bf16)

theorem v17_at (b : Fin 4) (h : Fin 16) (t j : Fin 2048) : val_main_v17 (F := Ideal) A0 A1 A2 A3 (ix4 b h t j) =
    ((∑ x : Fin 128, A0 (ix2 ⟨b.val * 2048 + t.val, by omega⟩ ⟨h.val * 128 + x.val, by omega⟩)
          * A2 (ix2 ⟨b.val * 2048 + j.val, by omega⟩ ⟨h.val * 128 + x.val, by omega⟩)) +
        ∑ x : Fin 64, A3 (ix2 ⟨b.val * 2048 + j.val, by omega⟩ x)
          * A1 (ix2 ⟨b.val * 2048 + t.val, by omega⟩ ⟨h.val * 64 + x.val, by omega⟩)) * scale := by
  pointwise [val_main_v17, val_main_v16, val_main_cst, val_main_v15, val_main_v14, val_main_v13, val_main_v12, val_main_v9, val_main_v8,
    val_main_v7, val_main_v6, val_main_v5, val_main_v4, val_main_v3, val_main_v2, val_main_v1, val_main_v0]
  rfl

/-- The reference's masked scores are the kernel's. -/
theorem v24_at (b : Fin 4) (h : Fin 16) (t j : Fin 2048) : val_main_v24 (F := Ideal) A0 A1 A2 A3 (ix4 b h t j)
    = logit A0 A1 A2 A3 b.val h.val t.val j.val := by
  have e : val_main_v24 (F := Ideal) A0 A1 A2 A3 (ix4 b h t j)
      = Scalar.select (IntOp.cmpi CmpIPredicate.sle (BitVec.ofNat 32 j.val) (BitVec.ofNat 32 t.val))
        (val_main_v17 A0 A1 A2 A3 (ix4 b h t j)) (Ideal.ofBits .f32 0xFF800000#32) := by
    pointwise [val_main_v24, val_main_call0_v1, val_main_call0_v2, val_main_call0_v0, val_main_cst_0, val_main_v23, val_main_v22, val_main_v21,
      val_main_v20, val_main_v19, val_main_v18]
    rfl
  have hb := b.isLt
  have hh := h.isLt
  have ht := t.isLt
  have hj := j.isLt
  rw [e, negInf, Idealize.ShloMosaic.WordCmp.cmpi_sle_ofNat (by omega) (by omega), select_ofBool]
  unfold logit
  by_cases hle : j.val ≤ t.val
  · rw [if_pos hle, if_pos hle, v17_at]
    congr 2
    · refine Finset.sum_congr rfl fun l _ => ?_
      have hl := l.isLt
      congr 2 <;> congr 1 <;> refine Fin.ext ?_
      · show b.val * 2048 + t.val = (2048 * b.val + t.val) % 8320; omega
      · show h.val * 128 + l.val = (128 * h.val + l.val) % 2048; omega
      · show b.val * 2048 + j.val = (2048 * b.val + j.val) % 8192; omega
      · show h.val * 128 + l.val = (128 * h.val + l.val) % 2048; omega
    · refine Finset.sum_congr rfl fun l _ => ?_
      have hl := l.isLt
      rw [mul_comm (A3 _)]
      congr 2 <;> congr 1 <;> refine Fin.ext ?_
      · show b.val * 2048 + t.val = (2048 * b.val + t.val) % 8320; omega
      · show h.val * 64 + l.val = (64 * h.val + l.val) % 1024; omega
      · show b.val * 2048 + j.val = (2048 * b.val + j.val) % 8192; omega
  · rw [if_neg hle, if_neg hle]

/-- The reference's maximum is the row's. -/
theorem v27_at (b : Fin 4) (h : Fin 16) (t : Fin 2048) : val_main_v27 (F := Ideal) A0 A1 A2 A3 (ix3 b h t)
    = top (logit A0 A1 A2 A3 b.val h.val t.val) 2048 := by
  have e : ∀ Y : FVec Ideal S4x16x2048 .f32, maximumf (val_main_v26 (F := Ideal)) Y (ix3 b h t) = max (⊥ : EReal) (Y (ix3 b h t)) := by
    intro Y
    pointwise [val_main_v26, val_main_cst_2]
    rw [negInf]
  unfold val_main_v27 val_main_v25
  rw [e, max_at, bot_sup_eq, ← sup_eq_top]
  simp only [v24_at]

/-- The reference's weights. -/
theorem v31_at (b : Fin 4) (h : Fin 16) (t j : Fin 2048) : val_main_v31 (F := Ideal) A0 A1 A2 A3 (ix4 b h t j)
    = Ideal.exp (logit A0 A1 A2 A3 b.val h.val t.val j.val - top (logit A0 A1 A2 A3 b.val h.val t.val) 2048) := by
  rw [← v24_at, ← v27_at]
  pointwise [val_main_v31, val_main_v30, val_main_v29, val_main_v28]

/-- The reference's shares: weights over their sum. -/
theorem v35_at (b : Fin 4) (h : Fin 16) (t j : Fin 2048) : val_main_v35 (F := Ideal) A0 A1 A2 A3 (ix4 b h t j)
    = Ideal.div (Ideal.exp (logit A0 A1 A2 A3 b.val h.val t.val j.val - top (logit A0 A1 A2 A3 b.val h.val t.val) 2048))
        (den (logit A0 A1 A2 A3 b.val h.val t.val) 2048 (top (logit A0 A1 A2 A3 b.val h.val t.val) 2048)) := by
  have e : val_main_v35 (F := Ideal) A0 A1 A2 A3 (ix4 b h t j)
      = Ideal.div (val_main_v31 A0 A1 A2 A3 (ix4 b h t j)) (∑ x : Fin 2048, val_main_v31 (F := Ideal) A0 A1 A2 A3 (ix4 b h t x)) := by
    pointwise [val_main_v35, val_main_v34, val_main_v33, val_main_v32, val_main_cst_3]
  rw [e]
  simp only [v31_at]
  unfold den
  rw [Finset.sum_range]

/-- The reference's result is the attention, when no score is plus infinity and some score of each row is a number. -/
theorem v39_at (p : Fin 8192) (q : Fin 2048) (hT : ∀ b h t j, logit A0 A1 A2 A3 b h t j ≠ ⊤) (hB : ∀ b h t, logit A0 A1 A2 A3 b h t 0 ≠ ⊥) :
    val_main_v39 (F := Ideal) A0 A1 A2 A3 A4 (ix2 p q) = attn A0 A1 A2 A3 A4 p q := by
  have hp := p.isLt
  have hq := q.isLt
  have e : val_main_v39 (F := Ideal) A0 A1 A2 A3 A4 (ix2 p q)
      = ∑ x : Fin 2048, A4 (ix2 ⟨p.val / 2048 * 2048 + x.val, by omega⟩ q) *
        val_main_v35 A0 A1 A2 A3 (ix4 ⟨p.val / 2048, by omega⟩ ⟨q.val / 128, by omega⟩ ⟨p.val % 2048, by omega⟩ x) := by
    pointwise [val_main_v39, val_main_v38, val_main_v37, val_main_v36, val_main_v11, val_main_v10]
  unfold attn
  rw [e, quotient (hT _ _ _) (show 0 < 2048 by omega) (hB _ _ _), Finset.sum_range]
  refine Finset.sum_congr rfl fun x _ => ?_
  have hx := x.isLt
  rw [v35_at]
  congr 1
  unfold value
  congr 2
  exact Fin.ext (show p.val / 2048 * 2048 + x.val = (2048 * (p.val / 2048) + x.val) % 8192 by omega)

end Cert.AttnRef

end
-- ==== Proof.AttnFinite.lean ====
/-
What the precondition gives: the queries and the keys are real numbers, so a visible score is a real number and no score
is plus infinity.
-/
module

public import proofs.«01_k».proof.Proof.AttnArray
public import proofs.«01_k».proof.Pre_finite

@[expose] public section

set_option maxRecDepth 16384

noncomputable section

namespace Cert.AttnFinite

open Idealize.ShloMosaic Idealize.ShloMosaic.TcCoe Idealize.SL.Sem
open Cert.AttnArray (logit)
open Cert.AttnRow (scale)

/-- A real number among the extended reals. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy
  exact ⟨a * b, (EReal.coe_mul a b).symm⟩

theorem Real'.add {x y : EReal} (hx : Real' x) (hy : Real' y) : Real' (x + y) := by
  obtain ⟨a, rfl⟩ := hx; obtain ⟨b, rfl⟩ := hy
  exact ⟨a + b, (EReal.coe_add a b).symm⟩

theorem Real'.sum {n : ℕ} {f : Fin n → EReal} (h : ∀ i, Real' (f i)) : Real' (∑ i, f i) :=
  Finset.sum_induction _ Real' (fun _ _ => Real'.add) ⟨0, rfl⟩ fun i _ => h i

theorem scale_real : Real' scale := by
  show Real' (Ideal.ieee 8 23 0x3D93CD3A#32)
  unfold Ideal.ieee
  simp
  exact ⟨9686330 * (2 ^ 27)⁻¹, (EReal.coe_mul _ _).symm⟩

/-- The bits of plus infinity denote it. -/
theorem posInf : Ideal.ofBits FTy.f32 0x7F800000#32 = ⊤ := by
  show Ideal.ieee 8 23 0x7F800000#32 = ⊤
  unfold Ideal.ieee
  simp

/-- An absolute value below plus infinity is that of a real number. -/
theorem abs_at {s : Shape} (x : FVec Ideal s .bf16) (i : s.Idx) (h : FTy.bits .bf16 < FTy.bits .f32) (bc) :
    cmpf .olt (Host.absf (extf .f32 x h)) (broadcastInDim s ![] bc (constant ⟨0, ![]⟩ .f32 0x7F800000#32)) i = 1#1 → Real' (x i) := by
  intro e
  pointwise at e
  rw [posInf] at e
  have h : max (x i : EReal) (-(x i)) < ⊤ := by
    by_contra hn
    rw [show decide ((FloatOps.absf (x i) : Ideal .f32) < ⊤) = false from decide_eq_false hn] at e
    exact absurd e (by decide)
  have h1 : (x i : EReal) ≠ ⊤ := ((le_max_left _ _).trans_lt h).ne
  have h2 : (x i : EReal) ≠ ⊥ := fun hb => ((le_max_right (x i : EReal) (-(x i))).trans_lt h).ne (by rw [hb]; rfl)
  exact ⟨_, (EReal.coe_toReal h1 h2).symm⟩

section
variable (A0 : Vec Ideal AttnIdeal.S8320x2048 .bf16) (A1 : Vec Ideal AttnIdeal.S8320x1024 .bf16) (A2 : Vec Ideal AttnIdeal.S8192x2048 .bf16)
  (A3 : Vec Ideal AttnIdeal.S8192x64 .bf16)

theorem visible_real (h0 : ∀ i, Real' (A0 i)) (h1 : ∀ i, Real' (A1 i)) (h2 : ∀ i, Real' (A2 i)) (h3 : ∀ i, Real' (A3 i))
    (b h t j : ℕ) (hj : j ≤ t) : Real' (logit A0 A1 A2 A3 b h t j) := by
  unfold logit
  rw [if_pos hj]
  exact ((Real'.sum fun i => (h0 _).mul (h2 _)).add (Real'.sum fun i => (h1 _).mul (h3 _))).mul scale_real

theorem ne_top (h0 : ∀ i, Real' (A0 i)) (h1 : ∀ i, Real' (A1 i)) (h2 : ∀ i, Real' (A2 i)) (h3 : ∀ i, Real' (A3 i))
    (b h t j : ℕ) : logit A0 A1 A2 A3 b h t j ≠ ⊤ := by
  by_cases hj : j ≤ t
  · obtain ⟨r, e⟩ := visible_real A0 A1 A2 A3 h0 h1 h2 h3 b h t j hj
    rw [e]; exact EReal.coe_ne_top r
  · unfold logit; rw [if_neg hj]; exact bot_ne_top

theorem first_ne_bot (h0 : ∀ i, Real' (A0 i)) (h1 : ∀ i, Real' (A1 i)) (h2 : ∀ i, Real' (A2 i)) (h3 : ∀ i, Real' (A3 i))
    (b h t : ℕ) : logit A0 A1 A2 A3 b h t 0 ≠ ⊥ := by
  obtain ⟨r, e⟩ := visible_real A0 A1 A2 A3 h0 h1 h2 h3 b h t 0 (Nat.zero_le _)
  rw [e]; exact EReal.coe_ne_bot r
end

end Cert.AttnFinite

end
-- ==== Proof.AttnClaim.lean ====
/-
The claims about the attention call: the frames, and the equality of the kernel's and the reference's results over the
extended reals where every query and key is a finite number.
-/
module

public import proofs.«01_k».proof.Defs
public import proofs.«01_k».proof.Proof.Gen.Attn.Frame
public import proofs.«01_k».proof.Proof.Gen.Pre_finite
public import proofs.«01_k».proof.Proof.AttnRef
public import proofs.«01_k».proof.Proof.AttnFinite

@[expose] public section

noncomputable section

namespace Cert.AttnClaim

open Idealize.ShloMosaic Idealize.SL.Sem

/-- The kernel runs, keeps its arguments, and leaves every counter at zero. -/
theorem frame : Cert.quiescent_Attn := fun m ρ _ => Cert.Attn.Gen.frame m ρ

/-- So does its reading over the extended reals. -/
theorem frameIdeal : Cert.quiescent_AttnIdeal := fun m ρ _ => Cert.AttnIdeal.Gen.frame m ρ

theorem frameIdeal_pre : Cert.quiescent_AttnIdeal_pre_finite := fun m ρ _ => Cert.AttnIdeal.Gen.frame m ρ

/-- The reference runs and keeps its arguments; it has no counter. -/
theorem frameRef : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem frameRef_pre : Cert.quiescent_AttnRefIdeal_pre_finite := fun m ρ _ => frameRef m ρ trivial

/-- The kernel's result is the reference's. -/
theorem algebraic : Cert.algebraic_AttnIdeal_AttnRefIdeal_pre_finite := by
  intro m ρ m' ρ' hpre hag
  have h0 : ∀ c i, AttnFinite.Real' (AttnArray.a0 m c i) := fun c i =>
    AttnFinite.abs_at (AttnArray.a0 m c) i Pre_finite.Facts.bitsLt_bf16_f32 Pre_finite.Facts.bcast_S_S8320x2048 (congrFun (hpre c).1 i)
  have h1 : ∀ c i, AttnFinite.Real' (AttnArray.a1 m c i) := fun c i =>
    AttnFinite.abs_at (AttnArray.a1 m c) i Pre_finite.Facts.bitsLt_bf16_f32 Pre_finite.Facts.bcast_S_S8320x1024 (congrFun (hpre c).2.1 i)
  have h2 : ∀ c i, AttnFinite.Real' (AttnArray.a2 m c i) := fun c i =>
    AttnFinite.abs_at (AttnArray.a2 m c) i Pre_finite.Facts.bitsLt_bf16_f32 Pre_finite.Facts.bcast_S_S8192x2048 (congrFun (hpre c).2.2.1 i)
  have h3 : ∀ c i, AttnFinite.Real' (AttnArray.a3 m c i) := fun c i =>
    AttnFinite.abs_at (AttnArray.a3 m c) i Pre_finite.Facts.bitsLt_bf16_f32 Pre_finite.Facts.bcast_S_S8192x64 (congrFun (hpre c).2.2.2 i)
  have hT : ∀ c b h t j, AttnArray.logit (AttnArray.a0 m c) (AttnArray.a1 m c) (AttnArray.a2 m c) (AttnArray.a3 m c) b h t j ≠ ⊤ :=
    fun c => AttnFinite.ne_top _ _ _ _ (h0 c) (h1 c) (h2 c) (h3 c)
  have hB : ∀ c b h t, AttnArray.logit (AttnArray.a0 m c) (AttnArray.a1 m c) (AttnArray.a2 m c) (AttnArray.a3 m c) b h t 0 ≠ ⊥ :=
    fun c => AttnFinite.first_ne_bot _ _ _ _ (h0 c) (h1 c) (h2 c) (h3 c)
  refine ⟨fun c => AttnArray.G m c, ?_, ?_⟩
  · exact (θ_run Cert.AttnIdeal.defs _ _).mono (fun r h c => ⟨(h c).1.trans (AttnArray.final m c (hT c)), (h c).2⟩)
      (Cert.AttnIdeal.Value.run_blocks (F := Ideal) m ρ)
  · refine (θ_run Cert.AttnRefIdeal.defs _ _).mono (fun r h c => ⟨(h c).1.trans ?_, (h c).2⟩)
      (Cert.AttnRefIdeal.Value.run (F := Ideal) m' ρ')
    rw [Cert.AttnRefIdeal.Read.val_main_v39_eq, (hag c).1, (hag c).2.1, (hag c).2.2.1, (hag c).2.2.2.1, (hag c).2.2.2.2]
    funext i
    have e : i = ix2 (i 0) (i 1) := funext fun a => match a with
      | ⟨0, _⟩ => rfl
      | ⟨1, _⟩ => rfl
    rw [e]
    exact AttnRef.v39_at _ _ _ _ _ (i 0) (i 1) (hT c) (hB c)

end Cert.AttnClaim

end
-- ==== Proof.Merge.lean ====
/-
The gated merge of the three branches: every branch's product scaled by the sigmoid of its gate logits, and the three added.
The kernel keeps one block of columns of each weight in a carried copy while it goes down the rows.
-/
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.MergeProof

open Idealize.ShloMosaic Idealize.ShloMosaic.TcCoe Idealize.SL.Sem
open Cert.MergeIdeal Cert.MergeIdeal.Gen

variable (m : (ℓ : Loc nD τ sig) → Buf (Elt Ideal) ℓ)

/-- The arguments of the call. -/
abbrev a0 (c : Dev nD) : Vec Ideal S8320x1024 .bf16 := m ((c : Thread nD τ).loc main_arg0)
abbrev a1 (c : Dev nD) : Vec Ideal S8320x1024 .bf16 := m ((c : Thread nD τ).loc main_arg1)
abbrev a2 (c : Dev nD) : Vec Ideal S8320x2048 .bf16 := m ((c : Thread nD τ).loc main_arg2)
abbrev a3 (c : Dev nD) : Vec Ideal S2x1024x4096 .f32 := m ((c : Thread nD τ).loc main_arg3)
abbrev a4 (c : Dev nD) : Vec Ideal S2x1024x4096 .f32 := m ((c : Thread nD τ).loc main_arg4)
abbrev a5 (c : Dev nD) : Vec Ideal S2x2048x4096 .f32 := m ((c : Thread nD τ).loc main_arg5)
abbrev a6 (c : Dev nD) : Vec Ideal S8320x12288 .f32 := m ((c : Thread nD τ).loc main_arg6)

/-- Which rows of the branches point `t` works on. -/
theorem idxRow : ∀ t : Fin grid0.N, win0_0.index t 0 = t.val % 16 ∧ win0_0.index t 1 = 0 ∧ win0_1.index t 0 = t.val % 16
    ∧ win0_1.index t 1 = 0 ∧ win0_2.index t 0 = t.val % 16 ∧ win0_2.index t 1 = 0 := by decide +kernel

/-- Which weight columns. -/
theorem idxCol : ∀ t : Fin grid0.N, (win0_3.index t 0 = 0 ∧ win0_3.index t 1 = 0 ∧ win0_3.index t 2 = t.val / 16)
    ∧ (win0_4.index t 0 = 0 ∧ win0_4.index t 1 = 0 ∧ win0_4.index t 2 = t.val / 16)
    ∧ (win0_5.index t 0 = 0 ∧ win0_5.index t 1 = 0 ∧ win0_5.index t 2 = t.val / 16) := by decide +kernel

/-- Which blocks of the gate logits. -/
theorem idxGate : ∀ t : Fin grid0.N, win0_6.index t 0 = t.val % 16 ∧ win0_6.index t 1 = t.val / 16 ∧ win0_7.index t 0 = t.val % 16
    ∧ win0_7.index t 1 = 8 + t.val / 16 ∧ win0_8.index t 0 = t.val % 16 ∧ win0_8.index t 1 = 16 + t.val / 16 := by decide +kernel

theorem N_eq : cfg0.N = 128 := N_0

/-- The columns of a narrow branch's weights that point `n` multiplies by. -/
def cols (A : Vec Ideal S2x1024x4096 .f32) (n : ℕ) : FVec Ideal S1024x512 .bf16 :=
  fun y => A (ix3 0 (y 0) (Fin.ofNat 4096 (512 * (n / 16) + (y 1).val)))

/-- Those of the wide branch's weights. -/
def wide (A : Vec Ideal S2x2048x4096 .f32) (n : ℕ) : FVec Ideal S2048x512 .bf16 :=
  fun y => A (ix3 0 (y 0) (Fin.ofNat 4096 (512 * (n / 16) + (y 1).val)))

theorem pay1_eq (c : Dev nD) (t : Fin cfg0.N) : k0_pay1 (iblk m c 3 t) = cols (a3 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a3 m c (ix3 0 k (Fin.ofNat 4096 (512 * (t.val / 16) + j.val)))
  have hj := j.isLt
  pointwise [k0_pay1]
  obtain ⟨e0, e1, e2⟩ := idxCol t |>.1
  blk_point [iblk, V, e0, e1, e2]
  show _ = (512 * (t.val / 16) + j.val) % 4096
  omega

theorem pay2_eq (c : Dev nD) (t : Fin cfg0.N) : k0_pay2 (iblk m c 4 t) = cols (a4 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a4 m c (ix3 0 k (Fin.ofNat 4096 (512 * (t.val / 16) + j.val)))
  have hj := j.isLt
  pointwise [k0_pay2]
  obtain ⟨e0, e1, e2⟩ := idxCol t |>.2.1
  blk_point [iblk, V, e0, e1, e2]
  show _ = (512 * (t.val / 16) + j.val) % 4096
  omega

theorem pay3_eq (c : Dev nD) (t : Fin cfg0.N) : k0_pay3 (iblk m c 5 t) = wide (a5 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a5 m c (ix3 0 k (Fin.ofNat 4096 (512 * (t.val / 16) + j.val)))
  have hj := j.isLt
  pointwise [k0_pay3]
  obtain ⟨e0, e1, e2⟩ := idxCol t |>.2.2
  blk_point [iblk, V, e0, e1, e2]
  show _ = (512 * (t.val / 16) + j.val) % 4096
  omega

/-- Below the first row block the body multiplies by the copies it finds. -/
theorem outB (c : Dev nD) (i : grid0.Coords) (arg2 : Memref sig .tc .vmem S520x1024 .bf16) (harg2 : arg2.IsWhole) (arg3 : Memref sig .tc .vmem S520x1024 .bf16) (harg3 : arg3.IsWhole) (arg4 : Memref sig .tc .vmem S520x2048 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x2048x512 .f32) (harg7 : arg7.IsWhole) (arg8 : Memref sig .tc .vmem S520x512 .f32) (harg8 : arg8.IsWhole) (arg9 : Memref sig .tc .vmem S520x512 .f32) (harg9 : arg9.IsWhole) (arg10 : Memref sig .tc .vmem S520x512 .f32) (harg10 : arg10.IsWhole) (arg11 : Memref sig .tc .vmem S520x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S2048x512 .bf16) (harg14 : arg14.IsWhole) (hc0 : ¬cond0_0 i)
    (x0 x1 : Vec Ideal S520x1024 .bf16) (x2 : Vec Ideal S520x2048 .bf16) (x3 x4 : Vec Ideal S1x1024x512 .f32) (x5 : Vec Ideal S1x2048x512 .f32)
    (x6 x7 x8 : Vec Ideal S520x512 .f32) (u v : Vec Ideal S1024x512 .bf16) (w : Vec Ideal S2048x512 .bf16) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 u v w = k0_pay4 x6 x0 u x7 x1 v x8 x2 w := by
  frame_out

/-- What a point's output block holds. -/
def left (c : Dev nD) (t : Fin cfg0.N) : FVec Ideal S520x512 .bf16 :=
  k0_pay4 (iblk m c 6 t) (iblk m c 0 t) (cols (a3 m c) t.val) (iblk m c 7 t) (iblk m c 1 t) (cols (a4 m c) t.val) (iblk m c 8 t) (iblk m c 2 t) (wide (a5 m c) t.val)

/-- WHAT A POINT LEAVES: its output block, and the carried copies at the columns of the point. -/
theorem holds (c : Dev nD) : ∀ (n : ℕ) (hn : n < cfg0.N), outsAt0 m c n hn
    = (left m c ⟨n, hn⟩, cols (a3 m c) n, cols (a4 m c) n, wide (a5 m c) n) := by
  have hA : ∀ t : Fin cfg0.N, t.val % 16 = 0 → outsAt0 m c t.val t.isLt
      = (left m c t, cols (a3 m c) t.val, cols (a4 m c) t.val, wide (a5 m c) t.val) := by
    intro t h
    unfold left
    rw [outsAt0_A m c t h, ← pay1_eq, ← pay2_eq, ← pay3_eq]
    frame_out
  intro n
  induction n with
  | zero => exact fun hn => hA ⟨0, hn⟩ rfl
  | succ n ih =>
    intro hn
    by_cases h : (n + 1) % 16 = 0
    · exact hA ⟨n + 1, hn⟩ h
    · have e := outsAt0_B m c ⟨n + 1, hn⟩ h
      dsimp only at e
      rw [e]
      have p := ih (Nat.lt_of_succ_lt hn)
      have same : ∀ A, cols A n = cols A (n + 1) := fun A => by unfold cols; rw [show (n + 1) / 16 = n / 16 by omega]
      have same' : ∀ A, wide A n = wide A (n + 1) := fun A => by unfold wide; rw [show (n + 1) / 16 = n / 16 by omega]
      unfold left
      dsimp only
      rw [← same, ← same, ← same']
      simp only [Nat.add_sub_cancel]
      rw [p, outB]
      rfl

/-- The gate of a logit. -/
abbrev gateOf (x : EReal) : EReal := Ideal.div 1 (1 + Ideal.exp (-x))

theorem pay4_at (g0 : Vec Ideal S520x512 .f32) (x0 : Vec Ideal S520x1024 .bf16) (u : FVec Ideal S1024x512 .bf16) (g1 : Vec Ideal S520x512 .f32)
    (x1 : Vec Ideal S520x1024 .bf16) (v : FVec Ideal S1024x512 .bf16) (g2 : Vec Ideal S520x512 .f32) (x2 : Vec Ideal S520x2048 .bf16)
    (w : FVec Ideal S2048x512 .bf16) (r : Fin 520) (j : Fin 512) :
    k0_pay4 g0 x0 u g1 x1 v g2 x2 w (ix2 r j) = gateOf (g0 (ix2 r j)) * (∑ k : Fin 1024, x0 (ix2 r k) * u (ix2 k j))
      + gateOf (g1 (ix2 r j)) * (∑ k : Fin 1024, x1 (ix2 r k) * v (ix2 k j)) + gateOf (g2 (ix2 r j)) * (∑ k : Fin 2048, x2 (ix2 r k) * w (ix2 k j)) := by
  pointwise [k0_pay4]
  rfl

theorem ref_at (A0 A1 : Vec Ideal S8320x1024 .bf16) (A2 : Vec Ideal S8320x2048 .bf16) (A3 A4 : Vec Ideal S2x1024x4096 .f32)
    (A5 : Vec Ideal S2x2048x4096 .f32) (A6 : Vec Ideal S8320x12288 .f32) (p : Fin 8320) (q : Fin 4096) :
    MergeRefIdeal.Read.val_main_v38 (F := Ideal) A0 A1 A2 A3 A4 A5 A6 (ix2 p q)
      = gateOf (A6 (ix2 p ⟨q.val, by omega⟩)) * (∑ k : Fin 1024, A0 (ix2 p k) * A3 (ix3 0 k q))
      + gateOf (A6 (ix2 p ⟨4096 + q.val, by omega⟩)) * (∑ k : Fin 1024, A1 (ix2 p k) * A4 (ix3 0 k q))
      + gateOf (A6 (ix2 p ⟨8192 + q.val, by omega⟩)) * (∑ k : Fin 2048, A2 (ix2 p k) * A5 (ix3 0 k q)) := by
  pointwise [MergeRefIdeal.Read.val_main_v38, MergeRefIdeal.Read.val_main_v37, MergeRefIdeal.Read.val_main_v36, MergeRefIdeal.Read.val_main_v35, MergeRefIdeal.Read.val_main_v34, MergeRefIdeal.Read.val_main_v33, MergeRefIdeal.Read.val_main_v32, MergeRefIdeal.Read.val_main_v31, MergeRefIdeal.Read.val_main_v30, MergeRefIdeal.Read.val_main_v29, MergeRefIdeal.Read.val_main_v28, MergeRefIdeal.Read.val_main_v27, MergeRefIdeal.Read.val_main_v26, MergeRefIdeal.Read.val_main_v25, MergeRefIdeal.Read.val_main_v24, MergeRefIdeal.Read.val_main_v23, MergeRefIdeal.Read.val_main_v22, MergeRefIdeal.Read.val_main_v21, MergeRefIdeal.Read.val_main_v20, MergeRefIdeal.Read.val_main_v19, MergeRefIdeal.Read.val_main_v18, MergeRefIdeal.Read.val_main_v17, MergeRefIdeal.Read.val_main_v16, MergeRefIdeal.Read.val_main_v15, MergeRefIdeal.Read.val_main_v14, MergeRefIdeal.Read.val_main_v13, MergeRefIdeal.Read.val_main_v12, MergeRefIdeal.Read.val_main_v11, MergeRefIdeal.Read.val_main_v10, MergeRefIdeal.Read.val_main_v9, MergeRefIdeal.Read.val_main_v8, MergeRefIdeal.Read.val_main_v7, MergeRefIdeal.Read.val_main_v6, MergeRefIdeal.Read.val_main_v5, MergeRefIdeal.Read.val_main_v4, MergeRefIdeal.Read.val_main_v3, MergeRefIdeal.Read.val_main_v2, MergeRefIdeal.Read.val_main_v1, MergeRefIdeal.Read.val_main_v0, MergeRefIdeal.Read.val_main_cst, MergeRefIdeal.Read.val_main_cst_0, MergeRefIdeal.Read.val_main_cst_1, MergeRefIdeal.Read.val_main_cst_2, MergeRefIdeal.Read.val_main_cst_3, MergeRefIdeal.Read.val_main_cst_4]

/-- The array at an index is what the point of its block left there. -/
theorem array_at (c : Dev nD) (p : Fin 8320) (q : Fin 4096) (n : ℕ) (hn : n < cfg0.N) (e : n = p.val / 520 + 16 * (q.val / 512)) (r : Fin 520) (j : Fin 512)
    (hr : r.val = p.val % 520) (hj : j.val = q.val % 512) :
    Value.G9 m c (ix2 p q) = left m c ⟨n, hn⟩ (ix2 r j) := by
  have hv : Value.pt9Of (ix2 p q) = n := by
    show 1 * (p.val / 520 - 0) + 16 * (q.val / 512 - 0) = _
    omega
  have hl : Value.loc9Of (ix2 p q) = ix2 r j := funext fun a => match a with
    | ⟨0, _⟩ => Fin.ext hr.symm
    | ⟨1, _⟩ => Fin.ext hj.symm
  have h := holds m c n hn
  have hb : Value.pt9Of (ix2 p q) < cfg0.N := hv ▸ hn
  unfold Value.G9
  rw [dif_pos hb, hl, Value.fold0_congr m c _ _ n (by omega) hv, ← Value.outsAt0_sweep m c _ hn, h]

/-- The array the call leaves is the reference's. -/
theorem final (c : Dev nD) : Value.G9 m c = MergeRefIdeal.Read.val_main_v38 (F := Ideal) (a0 m c) (a1 m c) (a2 m c) (a3 m c) (a4 m c) (a5 m c) (a6 m c) := by
  funext i
  obtain ⟨p, q, rfl⟩ : ∃ (p : Fin 8320) (q : Fin 4096), i = ix2 p q := ⟨i 0, i 1, funext fun a => match a with | ⟨0, _⟩ => rfl | ⟨1, _⟩ => rfl⟩
  have hp : p.val < 8320 := p.isLt
  have hq : q.val < 4096 := q.isLt
  have hn : p.val / 520 + 16 * (q.val / 512) < cfg0.N := lt_of_lt_of_eq (by omega) N_eq.symm
  rw [ref_at, array_at m c p q _ hn rfl ⟨p.val % 520, by omega⟩ ⟨q.val % 512, by omega⟩ rfl rfl, left, pay4_at]
  obtain ⟨e0, e1, e2, e3, e4, e5⟩ := idxRow ⟨p.val / 520 + 16 * (q.val / 512), hn⟩
  obtain ⟨f0, f1, f2, f3, f4, f5⟩ := idxGate ⟨p.val / 520 + 16 * (q.val / 512), hn⟩
  dsimp only at e0 e1 e2 e3 e4 e5 f0 f1 f2 f3 f4 f5
  have col : Fin.ofNat 4096 (512 * ((p.val / 520 + 16 * (q.val / 512)) / 16) + q.val % 512) = q :=
    Fin.ext (show (512 * ((p.val / 520 + 16 * (q.val / 512)) / 16) + q.val % 512) % 4096 = q.val by omega)
  unfold cols wide
  show (_ : EReal) = _
  refine congrArg₂ (· + ·) (congrArg₂ (· + ·) (congrArg₂ (· * ·) (congrArg gateOf ?_) (Finset.sum_congr rfl fun k _ => congrArg₂ (· * ·) ?_ ?_))
    (congrArg₂ (· * ·) (congrArg gateOf ?_) (Finset.sum_congr rfl fun k _ => congrArg₂ (· * ·) ?_ ?_)))
    (congrArg₂ (· * ·) (congrArg gateOf ?_) (Finset.sum_congr rfl fun k _ => congrArg₂ (· * ·) ?_ ?_))
  · blk_point [iblk, V, f0, f1]
  · blk_ext [iblk, V, e0, e1]
  · exact congrArg (fun y => a3 m c (ix3 0 k y)) col
  · blk_point [iblk, V, f2, f3]
  · blk_ext [iblk, V, e2, e3]
  · exact congrArg (fun y => a4 m c (ix3 0 k y)) col
  · blk_point [iblk, V, f4, f5]
  · blk_ext [iblk, V, e4, e5]
  · exact congrArg (fun y => a5 m c (ix3 0 k y)) col

/-! ## The claims -/

/-- The kernel runs, keeps its arguments, and leaves every counter at zero. -/
theorem frame : Cert.quiescent_Merge := fun m ρ _ => Cert.Merge.Gen.frame m ρ

/-- So does its reading over the extended reals. -/
theorem frameIdeal : Cert.quiescent_MergeIdeal := fun m ρ _ => Cert.MergeIdeal.Gen.frame m ρ

/-- The reference runs and keeps its arguments. -/
theorem frameRef : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The kernel's result is the reference's. -/
theorem algebraic : Cert.algebraic_MergeIdeal_MergeRefIdeal := by
  intro m ρ m' ρ' hpre hag
  refine ⟨fun c => MergeRefIdeal.Read.val_main_v38 (F := Ideal) (a0 m c) (a1 m c) (a2 m c) (a3 m c) (a4 m c) (a5 m c) (a6 m c), ?_, ?_⟩
  · exact (θ_run Cert.MergeIdeal.defs _ _).mono (fun r h c => ⟨(h c).1.trans (final m c), (h c).2⟩)
      (Cert.MergeIdeal.Value.run (F := Ideal) m ρ)
  · refine (θ_run Cert.MergeRefIdeal.defs _ _).mono (fun r h c => ⟨(h c).1.trans ?_, (h c).2⟩)
      (Cert.MergeRefIdeal.Value.run (F := Ideal) m' ρ')
    rw [Cert.MergeRefIdeal.Read.val_main_v38_eq, (hag c).1, (hag c).2.1, (hag c).2.2.1, (hag c).2.2.2.1, (hag c).2.2.2.2.1, (hag c).2.2.2.2.2.1, (hag c).2.2.2.2.2.2]

end Cert.MergeProof

end
-- ==== Proof.OutProj.lean ====
/-
The output projection of the mixing layer: the kernel keeps one block of weight columns in a carried copy while it goes
down the rows, and leaves the plain product.
-/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.OutProjProof

open Idealize.ShloMosaic Idealize.ShloMosaic.TcCoe Idealize.SL.Sem
open Cert.OutProjIdeal Cert.OutProjIdeal.Gen

variable (m : (ℓ : Loc nD τ sig) → Buf (Elt Ideal) ℓ)

/-- The arguments of the call. -/
abbrev a0 (c : Dev nD) : Vec Ideal S8320x4096 .bf16 := m ((c : Thread nD τ).loc main_arg0)
abbrev a1 (c : Dev nD) : Vec Ideal S2x4096x4096 .f32 := m ((c : Thread nD τ).loc main_arg1)

/-- Which blocks point `t` works on. -/
theorem idx : ∀ t : Fin grid0.N, win0_0.index t 0 = t.val % 8 ∧ win0_0.index t 1 = 0
    ∧ win0_1.index t 0 = 0 ∧ win0_1.index t 1 = 0 ∧ win0_1.index t 2 = t.val / 8 := by decide +kernel

theorem N_eq : cfg0.N = 64 := N_0

/-- The weight columns that point `n` multiplies by. -/
def cols (A : Vec Ideal S2x4096x4096 .f32) (n : ℕ) : FVec Ideal S4096x512 .bf16 :=
  fun y => A (ix3 0 (y 0) (Fin.ofNat 4096 (512 * (n / 8) + (y 1).val)))

theorem pay1_eq (c : Dev nD) (t : Fin cfg0.N) : k0_pay1 (iblk m c 1 t) = cols (a1 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a1 m c (ix3 0 k (Fin.ofNat 4096 (512 * (t.val / 8) + j.val)))
  have hj := j.isLt
  pointwise [k0_pay1]
  obtain ⟨-, -, e0, e1, e2⟩ := idx t
  blk_point [iblk, V, e0, e1, e2]
  show _ = (512 * (t.val / 8) + j.val) % 4096
  omega

/-- Below the first row block the body multiplies by the copy it finds. -/
theorem outB (c : Dev nD) (i : grid0.Coords) (arg2 : Memref sig .tc .vmem S1040x4096 .bf16) (harg2 : arg2.IsWhole) (arg3 : Memref sig .tc .vmem S1x4096x512 .f32) (harg3 : arg3.IsWhole) (arg4 : Memref sig .tc .vmem S1040x512 .f32) (harg4 : arg4.IsWhole) (arg5 : Memref sig .tc .vmem S4096x512 .bf16) (harg5 : arg5.IsWhole) (hc0 : ¬cond0_0 i)
    (x0 : Vec Ideal S1040x4096 .bf16) (x1 : Vec Ideal S1x4096x512 .f32) (xs : Vec Ideal S4096x512 .bf16) :
    out0_B_2 c i arg2 harg2 arg3 harg3 arg4 harg4 arg5 harg5 hc0 x0 x1 xs = k0_pay2 x0 xs := by
  frame_out

/-- WHAT A POINT LEAVES: its output block, and the carried copy at the columns of the point. -/
theorem holds (c : Dev nD) : ∀ (n : ℕ) (hn : n < cfg0.N), outsAt0 m c n hn
    = (k0_pay2 (iblk m c 0 ⟨n, hn⟩) (cols (a1 m c) n), cols (a1 m c) n) := by
  have hA : ∀ t : Fin cfg0.N, t.val % 8 = 0 → outsAt0 m c t.val t.isLt
      = (k0_pay2 (iblk m c 0 t) (cols (a1 m c) t.val), cols (a1 m c) t.val) := by
    intro t h
    rw [outsAt0_A m c t h, ← pay1_eq]
    frame_out
  intro n
  induction n with
  | zero => exact fun hn => hA ⟨0, hn⟩ rfl
  | succ n ih =>
    intro hn
    by_cases h : (n + 1) % 8 = 0
    · exact hA ⟨n + 1, hn⟩ h
    · have e := outsAt0_B m c ⟨n + 1, hn⟩ h
      dsimp only at e
      rw [e]
      have p := ih (Nat.lt_of_succ_lt hn)
      have same : ∀ A, cols A n = cols A (n + 1) := fun A => by unfold cols; rw [show (n + 1) / 8 = n / 8 by omega]
      rw [← same]
      simp only [Nat.add_sub_cancel]
      rw [p, outB]
      rfl

theorem pay2_at (x0 : Vec Ideal S1040x4096 .bf16) (u : FVec Ideal S4096x512 .bf16) (r : Fin 1040) (j : Fin 512) :
    k0_pay2 x0 u (ix2 r j) = ∑ k : Fin 4096, x0 (ix2 r k) * u (ix2 k j) := by
  pointwise [k0_pay2]

theorem ref_at (A0 : Vec Ideal S8320x4096 .bf16) (A1 : Vec Ideal S2x4096x4096 .f32) (p : Fin 8320) (q : Fin 4096) :
    OutProjRefIdeal.Read.val_main_v3 (F := Ideal) A0 A1 (ix2 p q) = ∑ k : Fin 4096, A0 (ix2 p k) * A1 (ix3 0 k q) := by
  pointwise [OutProjRefIdeal.Read.val_main_v3, OutProjRefIdeal.Read.val_main_v2, OutProjRefIdeal.Read.val_main_v1, OutProjRefIdeal.Read.val_main_v0]

/-- The array at an index is what the point of its block left there. -/
theorem array_at (c : Dev nD) (p : Fin 8320) (q : Fin 4096) (n : ℕ) (hn : n < cfg0.N) (e : n = p.val / 1040 + 8 * (q.val / 512)) (r : Fin 1040) (j : Fin 512)
    (hr : r.val = p.val % 1040) (hj : j.val = q.val % 512) :
    Value.G2 m c (ix2 p q) = k0_pay2 (iblk m c 0 ⟨n, hn⟩) (cols (a1 m c) n) (ix2 r j) := by
  have hv : Value.pt2Of (ix2 p q) = n := by
    show 1 * (p.val / 1040 - 0) + 8 * (q.val / 512 - 0) = _
    omega
  have hl : Value.loc2Of (ix2 p q) = ix2 r j := funext fun a => match a with
    | ⟨0, _⟩ => Fin.ext hr.symm
    | ⟨1, _⟩ => Fin.ext hj.symm
  have h := holds m c n hn
  have hb : Value.pt2Of (ix2 p q) < cfg0.N := hv ▸ hn
  unfold Value.G2
  rw [dif_pos hb, hl, Value.fold0_congr m c _ _ n (by omega) hv, ← Value.outsAt0_sweep m c _ hn, h]

/-- The array the call leaves is the reference's. -/
theorem final (c : Dev nD) : Value.G2 m c = OutProjRefIdeal.Read.val_main_v3 (F := Ideal) (a0 m c) (a1 m c) := by
  funext i
  obtain ⟨p, q, rfl⟩ : ∃ (p : Fin 8320) (q : Fin 4096), i = ix2 p q := ⟨i 0, i 1, funext fun a => match a with | ⟨0, _⟩ => rfl | ⟨1, _⟩ => rfl⟩
  have hp : p.val < 8320 := p.isLt
  have hq : q.val < 4096 := q.isLt
  have hn : p.val / 1040 + 8 * (q.val / 512) < cfg0.N := lt_of_lt_of_eq (by omega) N_eq.symm
  rw [ref_at, array_at m c p q _ hn rfl ⟨p.val % 1040, by omega⟩ ⟨q.val % 512, by omega⟩ rfl rfl, pay2_at]
  obtain ⟨e0, e1, -⟩ := idx ⟨p.val / 1040 + 8 * (q.val / 512), hn⟩
  dsimp only at e0 e1
  unfold cols
  show (_ : EReal) = _
  refine Finset.sum_congr rfl fun k _ => ?_
  congr 1
  · blk_ext [iblk, V, e0, e1]
  · exact congrArg (fun y => a1 m c (ix3 0 k y)) (Fin.ext (show (512 * ((p.val / 1040 + 8 * (q.val / 512)) / 8) + q.val % 512) % 4096 = q.val by omega))

/-! ## The claims -/

/-- The kernel runs, keeps its arguments, and leaves every counter at zero. -/
theorem frame : Cert.quiescent_OutProj := fun m ρ _ => Cert.OutProj.Gen.frame m ρ

/-- So does its reading over the extended reals. -/
theorem frameIdeal : Cert.quiescent_OutProjIdeal := fun m ρ _ => Cert.OutProjIdeal.Gen.frame m ρ

/-- The reference runs and keeps its arguments. -/
theorem frameRef : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The kernel's result is the reference's. -/
theorem algebraic : Cert.algebraic_OutProjIdeal_OutProjRefIdeal := by
  intro m ρ m' ρ' hpre hag
  refine ⟨fun c => OutProjRefIdeal.Read.val_main_v3 (F := Ideal) (a0 m c) (a1 m c), ?_, ?_⟩
  · exact (θ_run Cert.OutProjIdeal.defs _ _).mono (fun r h c => ⟨(h c).1.trans (final m c), (h c).2⟩)
      (Cert.OutProjIdeal.Value.run (F := Ideal) m ρ)
  · refine (θ_run Cert.OutProjRefIdeal.defs _ _).mono (fun r h c => ⟨(h c).1.trans ?_, (h c).2⟩)
      (Cert.OutProjRefIdeal.Value.run (F := Ideal) m' ρ')
    rw [Cert.OutProjRefIdeal.Read.val_main_v3_eq, (hag c).1, (hag c).2]

end Cert.OutProjProof

end
-- ==== Proof.DownB.lean ====
/-
The feed-forward layer's down projection, its second call: the product over the second half of the inner axis. The kernel keeps one block of weight columns in a carried copy while it goes
down the rows, and leaves that product added to the array it is given.
-/
module

public import proofs.«01_k».proof.Defs
public import proofs.«01_k».proof.Proof.Gen.DownB.Frame
public import proofs.«01_k».proof.Proof.Gen.DownBIdeal.Value
public import proofs.«01_k».proof.Proof.Gen.DownBRefIdeal.Run
public import proofs.«01_k».proof.Proof.Gen.DownBRefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.DownBProof

open Idealize.ShloMosaic Idealize.ShloMosaic.TcCoe Idealize.SL.Sem
open Cert.DownBIdeal Cert.DownBIdeal.Gen

variable (m : (ℓ : Loc nD τ sig) → Buf (Elt Ideal) ℓ)

/-- The arguments of the call. -/
abbrev a0 (c : Dev nD) : Vec Ideal S8320x11008 .bf16 := m ((c : Thread nD τ).loc main_arg0)
abbrev a1 (c : Dev nD) : Vec Ideal S1x11008x4096 .f32 := m ((c : Thread nD τ).loc main_arg1)
abbrev a2 (c : Dev nD) : Vec Ideal S8320x4096 .f32 := m ((c : Thread nD τ).loc main_arg2)

/-- Which blocks point `t` works on. -/
theorem idx : ∀ t : Fin grid0.N, win0_0.index t 0 = t.val % 13 ∧ win0_0.index t 1 = 1
    ∧ win0_1.index t 0 = 0 ∧ win0_1.index t 1 = 1 ∧ win0_1.index t 2 = t.val / 13
    ∧ win0_2.index t 0 = t.val % 13 ∧ win0_2.index t 1 = t.val / 13 := by decide +kernel

theorem N_eq : cfg0.N = 104 := N_0

/-- An index of the second half of the inner axis. -/
abbrev low (k : Fin 5504) : Fin 11008 := ⟨5504 + k.val, by omega⟩

/-- The weight columns that point `n` multiplies by. -/
def cols (A : Vec Ideal S1x11008x4096 .f32) (n : ℕ) : FVec Ideal S5504x512 .bf16 :=
  fun y => A (ix3 0 (low (y 0)) (Fin.ofNat 4096 (512 * (n / 13) + (y 1).val)))

theorem pay1_eq (c : Dev nD) (t : Fin cfg0.N) : k0_pay1 (iblk m c 1 t) = cols (a1 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a1 m c (ix3 0 (low k) (Fin.ofNat 4096 (512 * (t.val / 13) + j.val)))
  have hj := j.isLt
  pointwise [k0_pay1]
  obtain ⟨-, -, e0, e1, e2, -⟩ := idx t
  blk_point [iblk, V, e0, e1, e2]
  show _ = (512 * (t.val / 13) + j.val) % 4096
  omega

/-- Below the first row block the body multiplies by the copy it finds. -/
theorem outB (c : Dev nD) (i : grid0.Coords) (arg2 : Memref sig .tc .vmem S640x5504 .bf16) (harg2 : arg2.IsWhole) (arg3 : Memref sig .tc .vmem S1x5504x512 .f32) (harg3 : arg3.IsWhole) (arg4 : Memref sig .tc .vmem S640x512 .f32) (harg4 : arg4.IsWhole) (arg5 : Memref sig .tc .vmem S640x512 .f32) (harg5 : arg5.IsWhole) (arg6 : Memref sig .tc .vmem S5504x512 .bf16) (harg6 : arg6.IsWhole) (hc0 : ¬cond0_0 i)
    (x0 : Vec Ideal S640x5504 .bf16) (x1 : Vec Ideal S1x5504x512 .f32) (x2 : Vec Ideal S640x512 .f32) (xs : Vec Ideal S5504x512 .bf16) :
    out0_B_3 c i arg2 harg2 arg3 harg3 arg4 harg4 arg5 harg5 arg6 harg6 hc0 x0 x1 x2 xs = k0_pay2 x0 xs x2 := by
  frame_out

/-- WHAT A POINT LEAVES: its output block, and the carried copy at the columns of the point. -/
theorem holds (c : Dev nD) : ∀ (n : ℕ) (hn : n < cfg0.N), outsAt0 m c n hn
    = (k0_pay2 (iblk m c 0 ⟨n, hn⟩) (cols (a1 m c) n) (iblk m c 2 ⟨n, hn⟩), cols (a1 m c) n) := by
  have hA : ∀ t : Fin cfg0.N, t.val % 13 = 0 → outsAt0 m c t.val t.isLt
      = (k0_pay2 (iblk m c 0 t) (cols (a1 m c) t.val) (iblk m c 2 t), cols (a1 m c) t.val) := by
    intro t h
    rw [outsAt0_A m c t h, ← pay1_eq]
    frame_out
  intro n
  induction n with
  | zero => exact fun hn => hA ⟨0, hn⟩ rfl
  | succ n ih =>
    intro hn
    by_cases h : (n + 1) % 13 = 0
    · exact hA ⟨n + 1, hn⟩ h
    · have e := outsAt0_B m c ⟨n + 1, hn⟩ h
      dsimp only at e
      rw [e]
      have p := ih (Nat.lt_of_succ_lt hn)
      have same : ∀ A, cols A n = cols A (n + 1) := fun A => by unfold cols; rw [show (n + 1) / 13 = n / 13 by omega]
      rw [← same]
      simp only [Nat.add_sub_cancel]
      rw [p, outB]
      rfl

theorem pay2_at (x0 : Vec Ideal S640x5504 .bf16) (u : FVec Ideal S5504x512 .bf16) (x2 : Vec Ideal S640x512 .f32) (r : Fin 640) (j : Fin 512) :
    k0_pay2 x0 u x2 (ix2 r j) = x2 (ix2 r j) + ∑ k : Fin 5504, x0 (ix2 r k) * u (ix2 k j) := by
  pointwise [k0_pay2]

theorem ref_at (A0 : Vec Ideal S8320x11008 .bf16) (A1 : Vec Ideal S1x11008x4096 .f32) (A2 : Vec Ideal S8320x4096 .f32) (p : Fin 8320) (q : Fin 4096) :
    DownBRefIdeal.Read.val_main_v5 (F := Ideal) A0 A1 A2 (ix2 p q) = A2 (ix2 p q) + ∑ k : Fin 5504, A0 (ix2 p (low k)) * A1 (ix3 0 (low k) q) := by
  pointwise [DownBRefIdeal.Read.val_main_v5, DownBRefIdeal.Read.val_main_v4, DownBRefIdeal.Read.val_main_v3, DownBRefIdeal.Read.val_main_v2, DownBRefIdeal.Read.val_main_v1, DownBRefIdeal.Read.val_main_v0]

/-- The array at an index is what the point of its block left there. -/
theorem array_at (c : Dev nD) (p : Fin 8320) (q : Fin 4096) (n : ℕ) (hn : n < cfg0.N) (e : n = p.val / 640 + 13 * (q.val / 512)) (r : Fin 640) (j : Fin 512)
    (hr : r.val = p.val % 640) (hj : j.val = q.val % 512) :
    Value.G3 m c (ix2 p q) = k0_pay2 (iblk m c 0 ⟨n, hn⟩) (cols (a1 m c) n) (iblk m c 2 ⟨n, hn⟩) (ix2 r j) := by
  have hv : Value.pt3Of (ix2 p q) = n := by
    show 1 * (p.val / 640 - 0) + 13 * (q.val / 512 - 0) = _
    omega
  have hl : Value.loc3Of (ix2 p q) = ix2 r j := funext fun a => match a with
    | ⟨0, _⟩ => Fin.ext hr.symm
    | ⟨1, _⟩ => Fin.ext hj.symm
  have h := holds m c n hn
  have hb : Value.pt3Of (ix2 p q) < cfg0.N := hv ▸ hn
  unfold Value.G3
  rw [dif_pos hb, hl, Value.fold0_congr m c _ _ n (by omega) hv, ← Value.outsAt0_sweep m c _ hn, h]

/-- The array the call leaves is the reference's. -/
theorem final (c : Dev nD) : Value.G3 m c = DownBRefIdeal.Read.val_main_v5 (F := Ideal) (a0 m c) (a1 m c) (a2 m c) := by
  funext i
  obtain ⟨p, q, rfl⟩ : ∃ (p : Fin 8320) (q : Fin 4096), i = ix2 p q := ⟨i 0, i 1, funext fun a => match a with | ⟨0, _⟩ => rfl | ⟨1, _⟩ => rfl⟩
  have hp : p.val < 8320 := p.isLt
  have hq : q.val < 4096 := q.isLt
  have hn : p.val / 640 + 13 * (q.val / 512) < cfg0.N := lt_of_lt_of_eq (by omega) N_eq.symm
  rw [ref_at, array_at m c p q _ hn rfl ⟨p.val % 640, by omega⟩ ⟨q.val % 512, by omega⟩ rfl rfl, pay2_at]
  obtain ⟨e0, e1, -, -, -, f0, f1⟩ := idx ⟨p.val / 640 + 13 * (q.val / 512), hn⟩
  dsimp only at e0 e1 f0 f1
  unfold cols
  show (_ : EReal) = _
  refine congrArg₂ (· + ·) ?_ (Finset.sum_congr rfl fun k _ => ?_)
  · blk_point [iblk, V, f0, f1]
  congr 1
  · blk_ext [iblk, V, e0, e1]
  · exact congrArg (fun y => a1 m c (ix3 0 (low k) y)) (Fin.ext (show (512 * ((p.val / 640 + 13 * (q.val / 512)) / 13) + q.val % 512) % 4096 = q.val by omega))

/-! ## The claims -/

/-- The kernel runs, keeps its arguments, and leaves every counter at zero. -/
theorem frame : Cert.quiescent_DownB := fun m ρ _ => Cert.DownB.Gen.frame m ρ

/-- So does its reading over the extended reals. -/
theorem frameIdeal : Cert.quiescent_DownBIdeal := fun m ρ _ => Cert.DownBIdeal.Gen.frame m ρ

/-- The reference runs and keeps its arguments. -/
theorem frameRef : Cert.quiescent_DownBRefIdeal := fun m ρ _ =>
  (θ_run Cert.DownBRefIdeal.defs _ _).mono (fun r h => ⟨fun c => (h c).2, sem_eq_zero_of_no_sems (by decide) r.2⟩)
    (Cert.DownBRefIdeal.Value.run (F := Ideal) m ρ)

/-- The kernel's result is the reference's. -/
theorem algebraic : Cert.algebraic_DownBIdeal_DownBRefIdeal := by
  intro m ρ m' ρ' hpre hag
  refine ⟨fun c => DownBRefIdeal.Read.val_main_v5 (F := Ideal) (a0 m c) (a1 m c) (a2 m c), ?_, ?_⟩
  · exact (θ_run Cert.DownBIdeal.defs _ _).mono (fun r h c => ⟨(h c).1.trans (final m c), (h c).2⟩)
      (Cert.DownBIdeal.Value.run (F := Ideal) m ρ)
  · refine (θ_run Cert.DownBRefIdeal.defs _ _).mono (fun r h c => ⟨(h c).1.trans ?_, (h c).2⟩)
      (Cert.DownBRefIdeal.Value.run (F := Ideal) m' ρ')
    rw [Cert.DownBRefIdeal.Read.val_main_v5_eq, (hag c).1, (hag c).2.1, (hag c).2.2]

end Cert.DownBProof

end
-- ==== Proof.DownA.lean ====
/-
The feed-forward layer's down projection, its first call: the product over the first half of the inner axis. The kernel keeps one block of weight columns in a carried copy while it goes
down the rows, and leaves the plain product over that half.
-/
module

public import proofs.«01_k».proof.Defs
public import proofs.«01_k».proof.Proof.Gen.DownA.Frame
public import proofs.«01_k».proof.Proof.Gen.DownAIdeal.Value
public import proofs.«01_k».proof.Proof.Gen.DownARefIdeal.Run
public import proofs.«01_k».proof.Proof.Gen.DownARefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.DownAProof

open Idealize.ShloMosaic Idealize.ShloMosaic.TcCoe Idealize.SL.Sem
open Cert.DownAIdeal Cert.DownAIdeal.Gen

variable (m : (ℓ : Loc nD τ sig) → Buf (Elt Ideal) ℓ)

/-- The arguments of the call. -/
abbrev a0 (c : Dev nD) : Vec Ideal S8320x11008 .bf16 := m ((c : Thread nD τ).loc main_arg0)
abbrev a1 (c : Dev nD) : Vec Ideal S1x11008x4096 .f32 := m ((c : Thread nD τ).loc main_arg1)

/-- Which blocks point `t` works on. -/
theorem idx : ∀ t : Fin grid0.N, win0_0.index t 0 = t.val % 13 ∧ win0_0.index t 1 = 0
    ∧ win0_1.index t 0 = 0 ∧ win0_1.index t 1 = 0 ∧ win0_1.index t 2 = t.val / 13 := by decide +kernel

theorem N_eq : cfg0.N = 104 := N_0

/-- An index of the first half of the inner axis. -/
abbrev top (k : Fin 5504) : Fin 11008 := ⟨k.val, by omega⟩

/-- The weight columns that point `n` multiplies by. -/
def cols (A : Vec Ideal S1x11008x4096 .f32) (n : ℕ) : FVec Ideal S5504x512 .bf16 :=
  fun y => A (ix3 0 (top (y 0)) (Fin.ofNat 4096 (512 * (n / 13) + (y 1).val)))

theorem pay1_eq (c : Dev nD) (t : Fin cfg0.N) : k0_pay1 (iblk m c 1 t) = cols (a1 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a1 m c (ix3 0 (top k) (Fin.ofNat 4096 (512 * (t.val / 13) + j.val)))
  have hj := j.isLt
  pointwise [k0_pay1]
  obtain ⟨-, -, e0, e1, e2⟩ := idx t
  blk_point [iblk, V, e0, e1, e2]
  show _ = (512 * (t.val / 13) + j.val) % 4096
  omega

/-- Below the first row block the body multiplies by the copy it finds. -/
theorem outB (c : Dev nD) (i : grid0.Coords) (arg2 : Memref sig .tc .vmem S640x5504 .bf16) (harg2 : arg2.IsWhole) (arg3 : Memref sig .tc .vmem S1x5504x512 .f32) (harg3 : arg3.IsWhole) (arg4 : Memref sig .tc .vmem S640x512 .f32) (harg4 : arg4.IsWhole) (arg5 : Memref sig .tc .vmem S5504x512 .bf16) (harg5 : arg5.IsWhole) (hc0 : ¬cond0_0 i)
    (x0 : Vec Ideal S640x5504 .bf16) (x1 : Vec Ideal S1x5504x512 .f32) (xs : Vec Ideal S5504x512 .bf16) :
    out0_B_2 c i arg2 harg2 arg3 harg3 arg4 harg4 arg5 harg5 hc0 x0 x1 xs = k0_pay2 x0 xs := by
  frame_out

/-- WHAT A POINT LEAVES: its output block, and the carried copy at the columns of the point. -/
theorem holds (c : Dev nD) : ∀ (n : ℕ) (hn : n < cfg0.N), outsAt0 m c n hn
    = (k0_pay2 (iblk m c 0 ⟨n, hn⟩) (cols (a1 m c) n), cols (a1 m c) n) := by
  have hA : ∀ t : Fin cfg0.N, t.val % 13 = 0 → outsAt0 m c t.val t.isLt
      = (k0_pay2 (iblk m c 0 t) (cols (a1 m c) t.val), cols (a1 m c) t.val) := by
    intro t h
    rw [outsAt0_A m c t h, ← pay1_eq]
    frame_out
  intro n
  induction n with
  | zero => exact fun hn => hA ⟨0, hn⟩ rfl
  | succ n ih =>
    intro hn
    by_cases h : (n + 1) % 13 = 0
    · exact hA ⟨n + 1, hn⟩ h
    · have e := outsAt0_B m c ⟨n + 1, hn⟩ h
      dsimp only at e
      rw [e]
      have p := ih (Nat.lt_of_succ_lt hn)
      have same : ∀ A, cols A n = cols A (n + 1) := fun A => by unfold cols; rw [show (n + 1) / 13 = n / 13 by omega]
      rw [← same]
      simp only [Nat.add_sub_cancel]
      rw [p, outB]
      rfl

theorem pay2_at (x0 : Vec Ideal S640x5504 .bf16) (u : FVec Ideal S5504x512 .bf16) (r : Fin 640) (j : Fin 512) :
    k0_pay2 x0 u (ix2 r j) = ∑ k : Fin 5504, x0 (ix2 r k) * u (ix2 k j) := by
  pointwise [k0_pay2]

theorem ref_at (A0 : Vec Ideal S8320x11008 .bf16) (A1 : Vec Ideal S1x11008x4096 .f32) (p : Fin 8320) (q : Fin 4096) :
    DownARefIdeal.Read.val_main_v4 (F := Ideal) A0 A1 (ix2 p q) = ∑ k : Fin 5504, A0 (ix2 p (top k)) * A1 (ix3 0 (top k) q) := by
  pointwise [DownARefIdeal.Read.val_main_v4, DownARefIdeal.Read.val_main_v3, DownARefIdeal.Read.val_main_v2, DownARefIdeal.Read.val_main_v1, DownARefIdeal.Read.val_main_v0]

/-- The array at an index is what the point of its block left there. -/
theorem array_at (c : Dev nD) (p : Fin 8320) (q : Fin 4096) (n : ℕ) (hn : n < cfg0.N) (e : n = p.val / 640 + 13 * (q.val / 512)) (r : Fin 640) (j : Fin 512)
    (hr : r.val = p.val % 640) (hj : j.val = q.val % 512) :
    Value.G2 m c (ix2 p q) = k0_pay2 (iblk m c 0 ⟨n, hn⟩) (cols (a1 m c) n) (ix2 r j) := by
  have hv : Value.pt2Of (ix2 p q) = n := by
    show 1 * (p.val / 640 - 0) + 13 * (q.val / 512 - 0) = _
    omega
  have hl : Value.loc2Of (ix2 p q) = ix2 r j := funext fun a => match a with
    | ⟨0, _⟩ => Fin.ext hr.symm
    | ⟨1, _⟩ => Fin.ext hj.symm
  have h := holds m c n hn
  have hb : Value.pt2Of (ix2 p q) < cfg0.N := hv ▸ hn
  unfold Value.G2
  rw [dif_pos hb, hl, Value.fold0_congr m c _ _ n (by omega) hv, ← Value.outsAt0_sweep m c _ hn, h]

/-- The array the call leaves is the reference's. -/
theorem final (c : Dev nD) : Value.G2 m c = DownARefIdeal.Read.val_main_v4 (F := Ideal) (a0 m c) (a1 m c) := by
  funext i
  obtain ⟨p, q, rfl⟩ : ∃ (p : Fin 8320) (q : Fin 4096), i = ix2 p q := ⟨i 0, i 1, funext fun a => match a with | ⟨0, _⟩ => rfl | ⟨1, _⟩ => rfl⟩
  have hp : p.val < 8320 := p.isLt
  have hq : q.val < 4096 := q.isLt
  have hn : p.val / 640 + 13 * (q.val / 512) < cfg0.N := lt_of_lt_of_eq (by omega) N_eq.symm
  rw [ref_at, array_at m c p q _ hn rfl ⟨p.val % 640, by omega⟩ ⟨q.val % 512, by omega⟩ rfl rfl, pay2_at]
  obtain ⟨e0, e1, -⟩ := idx ⟨p.val / 640 + 13 * (q.val / 512), hn⟩
  dsimp only at e0 e1
  unfold cols
  show (_ : EReal) = _
  refine Finset.sum_congr rfl fun k _ => ?_
  congr 1
  · blk_ext [iblk, V, e0, e1]
  · exact congrArg (fun y => a1 m c (ix3 0 (top k) y)) (Fin.ext (show (512 * ((p.val / 640 + 13 * (q.val / 512)) / 13) + q.val % 512) % 4096 = q.val by omega))

/-! ## The claims -/

/-- The kernel runs, keeps its arguments, and leaves every counter at zero. -/
theorem frame : Cert.quiescent_DownA := fun m ρ _ => Cert.DownA.Gen.frame m ρ

/-- So does its reading over the extended reals. -/
theorem frameIdeal : Cert.quiescent_DownAIdeal := fun m ρ _ => Cert.DownAIdeal.Gen.frame m ρ

/-- The reference runs and keeps its arguments. -/
theorem frameRef : Cert.quiescent_DownARefIdeal := fun m ρ _ =>
  (θ_run Cert.DownARefIdeal.defs _ _).mono (fun r h => ⟨fun c => (h c).2, sem_eq_zero_of_no_sems (by decide) r.2⟩)
    (Cert.DownARefIdeal.Value.run (F := Ideal) m ρ)

/-- The kernel's result is the reference's. -/
theorem algebraic : Cert.algebraic_DownAIdeal_DownARefIdeal := by
  intro m ρ m' ρ' hpre hag
  refine ⟨fun c => DownARefIdeal.Read.val_main_v4 (F := Ideal) (a0 m c) (a1 m c), ?_, ?_⟩
  · exact (θ_run Cert.DownAIdeal.defs _ _).mono (fun r h c => ⟨(h c).1.trans (final m c), (h c).2⟩)
      (Cert.DownAIdeal.Value.run (F := Ideal) m ρ)
  · refine (θ_run Cert.DownARefIdeal.defs _ _).mono (fun r h c => ⟨(h c).1.trans ?_, (h c).2⟩)
      (Cert.DownARefIdeal.Value.run (F := Ideal) m' ρ')
    rw [Cert.DownARefIdeal.Read.val_main_v4_eq, (hag c).1, (hag c).2]

end Cert.DownAProof

end
-- ==== Proof.Gates.lean ====
/-
The gate columns of the mixing layer's input projection. The kernel reads the weights transposed, from column 3648 on, keeps
one block of their columns in a carried copy while it goes down the rows, and leaves the plain product.
-/
module

public import proofs.«01_k».proof.Defs
public import proofs.«01_k».proof.Proof.Gen.Gates.Frame
public import proofs.«01_k».proof.Proof.Gen.GatesIdeal.Value
public import proofs.«01_k».proof.Proof.Gen.GatesRefIdeal.Run
public import proofs.«01_k».proof.Proof.Gen.GatesRefIdeal.Read
public import Idealize.ShloMosaic.Lib.Tactic
public import Idealize.ShloMosaic.Lib.Pointwise
public import Idealize.ShloMosaic.Lib.Pipeline.ValueKit

@[expose] public section

set_option maxRecDepth 16384

noncomputable section

namespace Cert.GatesProof

open Idealize.ShloMosaic Idealize.ShloMosaic.TcCoe Idealize.SL.Sem
open Cert.GatesIdeal Cert.GatesIdeal.Gen

variable (m : (ℓ : Loc nD τ sig) → Buf (Elt Ideal) ℓ)

/-- The arguments of the call. -/
abbrev a0 (c : Dev nD) : Vec Ideal S8320x4096 .bf16 := m ((c : Thread nD τ).loc main_arg0)
abbrev a1 (c : Dev nD) : Vec Ideal S2x4096x15936 .f32 := m ((c : Thread nD τ).loc main_arg1)

/-- Which blocks point `t` works on. -/
theorem idx : ∀ t : Fin grid0.N, win0_0.index t 0 = t.val % 8 ∧ win0_0.index t 1 = 0
    ∧ win0_1.index t 0 = 0 ∧ win0_1.index t 1 = 3648 + 512 * (t.val / 8) ∧ win0_1.index t 2 = 0 := by decide +kernel

theorem N_eq : cfg0.N = 192 := N_0

/-- The column of the projection that holds gate column `q`. -/
abbrev gate (q : Fin 12288) : Fin 15936 := ⟨3648 + q.val, by omega⟩

/-- The weight columns that point `n` multiplies by. -/
def cols (A : Vec Ideal S2x4096x15936 .f32) (n : ℕ) : FVec Ideal S512x4096 .bf16 :=
  fun y => A (ix3 0 (y 1) (Fin.ofNat 15936 (3648 + 512 * (n / 8) + (y 0).val)))

/-- The weights as the call finds them: transposed. -/
theorem turned (c : Dev nD) (q : Fin 15936) (k : Fin 4096) :
    (V m c main_v0 : Vec Ideal S2x15936x4096 .f32) (ix3 0 q k) = a1 m c (ix3 0 k q) := by
  have e : (V m c main_v0 : Vec Ideal S2x15936x4096 .f32) = transpose S2x15936x4096 [0, 2, 1] (a1 m c) transposes_S2x4096x15936_S2x15936x4096_0_2_1 := rfl
  rw [e]
  pointwise []

theorem pay1_eq (c : Dev nD) (t : Fin cfg0.N) : k0_pay1 (iblk m c 1 t) = cols (a1 m c) t.val := by
  have ht := lt_of_lt_of_eq t.isLt N_eq
  funext y
  obtain ⟨k, j, rfl⟩ : ∃ k j, y = ix2 k j := ⟨y 0, y 1, funext fun a => match a with | ⟨0, _⟩ => rfl | ⟨1, _⟩ => rfl⟩
  show _ = a1 m c (ix3 0 j (Fin.ofNat 15936 (3648 + 512 * (t.val / 8) + k.val)))
  have hk := k.isLt
  pointwise [k0_pay1]
  obtain ⟨-, -, e0, e1, e2⟩ := idx t
  rw [← turned]
  blk_point [iblk, V, e0, e1, e2]
  · show win0_1.index t 0 + 1 * 0 = 0
    omega
  · show win0_1.index t 1 + 1 * k.val = (3648 + 512 * (t.val / 8) + k.val) % 15936
    omega
  · show win0_1.index t 2 + 1 * j.val = j.val
    omega

/-- Below the first row block the body multiplies by the copy it finds. -/
theorem outB (c : Dev nD) (i : grid0.Coords) (arg2 : Memref sig .tc .vmem S1040x4096 .bf16) (harg2 : arg2.IsWhole) (arg3 : Memref sig .tc .vmem S1x512x4096 .f32) (harg3 : arg3.IsWhole) (arg4 : Memref sig .tc .vmem S1040x512 .f32) (harg4 : arg4.IsWhole) (arg5 : Memref sig .tc .vmem S512x4096 .bf16) (harg5 : arg5.IsWhole) (hc0 : ¬cond0_0 i)
    (x0 : Vec Ideal S1040x4096 .bf16) (x1 : Vec Ideal S1x512x4096 .f32) (xs : Vec Ideal S512x4096 .bf16) :
    out0_B_2 c i arg2 harg2 arg3 harg3 arg4 harg4 arg5 harg5 hc0 x0 x1 xs = k0_pay2 x0 xs := by
  frame_out

/-- WHAT A POINT LEAVES: its output block, and the carried copy at the columns of the point. -/
theorem holds (c : Dev nD) : ∀ (n : ℕ) (hn : n < cfg0.N), outsAt0 m c n hn
    = (k0_pay2 (iblk m c 0 ⟨n, hn⟩) (cols (a1 m c) n), cols (a1 m c) n) := by
  have hA : ∀ t : Fin cfg0.N, t.val % 8 = 0 → outsAt0 m c t.val t.isLt
      = (k0_pay2 (iblk m c 0 t) (cols (a1 m c) t.val), cols (a1 m c) t.val) := by
    intro t h
    rw [outsAt0_A m c t h, ← pay1_eq]
    frame_out
  intro n
  induction n with
  | zero => exact fun hn => hA ⟨0, hn⟩ rfl
  | succ n ih =>
    intro hn
    by_cases h : (n + 1) % 8 = 0
    · exact hA ⟨n + 1, hn⟩ h
    · have e := outsAt0_B m c ⟨n + 1, hn⟩ h
      dsimp only at e
      rw [e]
      have p := ih (Nat.lt_of_succ_lt hn)
      have same : ∀ A, cols A n = cols A (n + 1) := fun A => by unfold cols; rw [show (n + 1) / 8 = n / 8 by omega]
      rw [← same]
      simp only [Nat.add_sub_cancel]
      rw [p, outB]
      rfl

theorem pay2_at (x0 : Vec Ideal S1040x4096 .bf16) (u : FVec Ideal S512x4096 .bf16) (r : Fin 1040) (j : Fin 512) :
    k0_pay2 x0 u (ix2 r j) = ∑ k : Fin 4096, x0 (ix2 r k) * u (ix2 j k) := by
  pointwise [k0_pay2]

theorem ref_at (A0 : Vec Ideal S8320x4096 .bf16) (A1 : Vec Ideal S2x4096x15936 .f32) (p : Fin 8320) (q : Fin 12288) :
    GatesRefIdeal.Read.val_main_v4 (F := Ideal) A0 A1 (ix2 p q) = ∑ k : Fin 4096, A0 (ix2 p k) * A1 (ix3 0 k (gate q)) := by
  pointwise [GatesRefIdeal.Read.val_main_v4, GatesRefIdeal.Read.val_main_v3, GatesRefIdeal.Read.val_main_v2, GatesRefIdeal.Read.val_main_v1, GatesRefIdeal.Read.val_main_v0]

/-- The array at an index is what the point of its block left there. -/
theorem array_at (c : Dev nD) (p : Fin 8320) (q : Fin 12288) (n : ℕ) (hn : n < cfg0.N) (e : n = p.val / 1040 + 8 * (q.val / 512)) (r : Fin 1040) (j : Fin 512)
    (hr : r.val = p.val % 1040) (hj : j.val = q.val % 512) :
    Value.G2 m c (ix2 p q) = k0_pay2 (iblk m c 0 ⟨n, hn⟩) (cols (a1 m c) n) (ix2 r j) := by
  have hv : Value.pt2Of (ix2 p q) = n := by
    show 1 * (p.val / 1040 - 0) + 8 * (q.val / 512 - 0) = _
    omega
  have hl : Value.loc2Of (ix2 p q) = ix2 r j := funext fun a => match a with
    | ⟨0, _⟩ => Fin.ext hr.symm
    | ⟨1, _⟩ => Fin.ext hj.symm
  have h := holds m c n hn
  have hb : Value.pt2Of (ix2 p q) < cfg0.N := hv ▸ hn
  unfold Value.G2
  rw [dif_pos hb, hl, Value.fold0_congr m c _ _ n (by omega) hv, ← Value.outsAt0_sweep m c _ hn, h]

/-- The array the call leaves is the reference's. -/
theorem final (c : Dev nD) : Value.G2 m c = GatesRefIdeal.Read.val_main_v4 (F := Ideal) (a0 m c) (a1 m c) := by
  funext i
  obtain ⟨p, q, rfl⟩ : ∃ (p : Fin 8320) (q : Fin 12288), i = ix2 p q := ⟨i 0, i 1, funext fun a => match a with | ⟨0, _⟩ => rfl | ⟨1, _⟩ => rfl⟩
  have hp : p.val < 8320 := p.isLt
  have hq : q.val < 12288 := q.isLt
  have hn : p.val / 1040 + 8 * (q.val / 512) < cfg0.N := lt_of_lt_of_eq (by omega) N_eq.symm
  rw [ref_at, array_at m c p q _ hn rfl ⟨p.val % 1040, by omega⟩ ⟨q.val % 512, by omega⟩ rfl rfl, pay2_at]
  obtain ⟨e0, e1, -⟩ := idx ⟨p.val / 1040 + 8 * (q.val / 512), hn⟩
  dsimp only at e0 e1
  unfold cols
  show (_ : EReal) = _
  refine Finset.sum_congr rfl fun k _ => ?_
  congr 1
  · blk_ext [iblk, V, e0, e1]
  · exact congrArg (fun y => a1 m c (ix3 0 k y)) (Fin.ext (show (3648 + 512 * ((p.val / 1040 + 8 * (q.val / 512)) / 8) + q.val % 512) % 15936 = 3648 + q.val by omega))

/-! ## The claims -/

/-- The kernel runs, keeps its arguments, and leaves every counter at zero. -/
theorem frame : Cert.quiescent_Gates := fun m ρ _ => Cert.Gates.Gen.frame m ρ

/-- So does its reading over the extended reals. -/
theorem frameIdeal : Cert.quiescent_GatesIdeal := fun m ρ _ => Cert.GatesIdeal.Gen.frame m ρ

/-- The reference runs and keeps its arguments. -/
theorem frameRef : Cert.quiescent_GatesRefIdeal := fun m ρ _ =>
  (θ_run Cert.GatesRefIdeal.defs _ _).mono (fun r h => ⟨fun c => (h c).2, sem_eq_zero_of_no_sems (by decide) r.2⟩)
    (Cert.GatesRefIdeal.Value.run (F := Ideal) m ρ)

/-- The kernel's result is the reference's. -/
theorem algebraic : Cert.algebraic_GatesIdeal_GatesRefIdeal := by
  intro m ρ m' ρ' hpre hag
  refine ⟨fun c => GatesRefIdeal.Read.val_main_v4 (F := Ideal) (a0 m c) (a1 m c), ?_, ?_⟩
  · exact (θ_run Cert.GatesIdeal.defs _ _).mono (fun r h c => ⟨(h c).1.trans (final m c), (h c).2⟩)
      (Cert.GatesIdeal.Value.run (F := Ideal) m ρ)
  · refine (θ_run Cert.GatesRefIdeal.defs _ _).mono (fun r h c => ⟨(h c).1.trans ?_, (h c).2⟩)
      (Cert.GatesRefIdeal.Value.run (F := Ideal) m' ρ')
    rw [Cert.GatesRefIdeal.Read.val_main_v4_eq, (hag c).1, (hag c).2]

end Cert.GatesProof

end
-- ==== Proof.lean ====
/-
The proof of the claim: the frames of the programs, the idealization and the value of each call, assembled from the
modules under Proof/.
-/
module

public import proofs.«01_k».proof.Defs
public import proofs.«01_k».proof.Proof.ExpUpClaim
public import proofs.«01_k».proof.Proof.ExpDownClaim
public import proofs.«01_k».proof.Proof.InProj
public import proofs.«01_k».proof.Proof.Resid
public import proofs.«01_k».proof.Proof.Latents
public import proofs.«01_k».proof.Proof.KeyCols
public import proofs.«01_k».proof.Proof.QNope
public import proofs.«01_k».proof.Proof.KNope
public import proofs.«01_k».proof.Proof.LruSample
public import proofs.«01_k».proof.Proof.VUp
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Pre_finite
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluIdeal.Value
public import proofs.«01_k».proof.Proof.Gen.SwigluRefIdeal
public import proofs.«01_k».proof.Proof.Gen.SwigluRefIdeal.Run
public import proofs.«01_k».proof.Proof.Gen.SwigluRefIdeal.Read
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.GatesRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.DownA
public import proofs.«01_k».proof.Proof.Gen.DownA.Skeleton
public import proofs.«01_k».proof.Proof.Gen.DownA.Launch
public import proofs.«01_k».proof.Proof.Gen.DownA.Points
public import proofs.«01_k».proof.Proof.Gen.DownA.Frame
public import proofs.«01_k».proof.Proof.Gen.DownAIdeal
public import proofs.«01_k».proof.Proof.Gen.DownAIdeal.Skeleton
public import proofs.«01_k».proof.Proof.Gen.DownAIdeal.Launch
public import proofs.«01_k».proof.Proof.Gen.DownAIdeal.Points
public import proofs.«01_k».proof.Proof.Gen.DownAIdeal.Frame
public import proofs.«01_k».proof.Proof.Gen.DownAIdeal.Value
public import proofs.«01_k».proof.Proof.Gen.DownARefIdeal
public import proofs.«01_k».proof.Proof.Gen.DownARefIdeal.Run
public import proofs.«01_k».proof.Proof.Gen.DownARefIdeal.Read
public import proofs.«01_k».proof.Proof.Gen.DownB
public import proofs.«01_k».proof.Proof.Gen.DownB.Skeleton
public import proofs.«01_k».proof.Proof.Gen.DownB.Launch
public import proofs.«01_k».proof.Proof.Gen.DownB.Points
public import proofs.«01_k».proof.Proof.Gen.DownB.Frame
public import proofs.«01_k».proof.Proof.Gen.DownBIdeal
public import proofs.«01_k».proof.Proof.Gen.DownBIdeal.Skeleton
public import proofs.«01_k».proof.Proof.Gen.DownBIdeal.Launch
public import proofs.«01_k».proof.Proof.Gen.DownBIdeal.Points
public import proofs.«01_k».proof.Proof.Gen.DownBIdeal.Frame
public import proofs.«01_k».proof.Proof.Gen.DownBIdeal.Value
public import proofs.«01_k».proof.Proof.Gen.DownBRefIdeal
public import proofs.«01_k».proof.Proof.Gen.DownBRefIdeal.Run
public import proofs.«01_k».proof.Proof.Gen.DownBRefIdeal.Read
public import proofs.«01_k».proof.Proof.AttnClaim
public import proofs.«01_k».proof.Proof.Merge
public import proofs.«01_k».proof.Proof.OutProj
public import proofs.«01_k».proof.Proof.DownB
public import proofs.«01_k».proof.Proof.DownA
public import proofs.«01_k».proof.Proof.Gates
public import proofs.«01_k».proof.Proof.Swiglu
public import Idealize.ShloMosaic.Adequacy
public import Idealize.ShloMosaic.Init

@[expose] public section

noncomputable section

namespace Cert.Proof

/-- Everything claimed. -/
theorem claim : Cert.Claim := ⟨
  Cert.Attn.Gen.facts, Cert.AttnIdeal.Gen.facts, Cert.AttnRefIdeal.Gen.facts,
  Cert.Swiglu.Gen.facts, Cert.SwigluIdeal.Gen.facts, Cert.SwigluRefIdeal.Gen.facts,
  Cert.Gates.Gen.facts, Cert.GatesIdeal.Gen.facts, Cert.GatesRefIdeal.Gen.facts,
  Cert.DownA.Gen.facts, Cert.DownAIdeal.Gen.facts, Cert.DownARefIdeal.Gen.facts,
  Cert.DownB.Gen.facts, Cert.DownBIdeal.Gen.facts, Cert.DownBRefIdeal.Gen.facts,
  Cert.OutProj.Gen.facts, Cert.OutProjIdeal.Gen.facts, Cert.OutProjRefIdeal.Gen.facts,
  Cert.Merge.Gen.facts, Cert.MergeIdeal.Gen.facts, Cert.MergeRefIdeal.Gen.facts,
  Cert.ExpUp.Gen.facts, Cert.ExpUpIdeal.Gen.facts, Cert.ExpUpRefIdeal.Gen.facts,
  Cert.ExpDown.Gen.facts, Cert.ExpDownIdeal.Gen.facts, Cert.ExpDownRefIdeal.Gen.facts,
  Cert.InProj.Gen.facts, Cert.InProjIdeal.Gen.facts, Cert.InProjRefIdeal.Gen.facts,
  Cert.Resid.Gen.facts, Cert.ResidIdeal.Gen.facts, Cert.ResidRefIdeal.Gen.facts,
  Cert.Latents.Gen.facts, Cert.LatentsIdeal.Gen.facts, Cert.LatentsRefIdeal.Gen.facts,
  Cert.KeyCols.Gen.facts, Cert.KeyColsIdeal.Gen.facts, Cert.KeyColsRefIdeal.Gen.facts,
  Cert.QNope.Gen.facts, Cert.QNopeIdeal.Gen.facts, Cert.QNopeRefIdeal.Gen.facts,
  Cert.KNope.Gen.facts, Cert.KNopeIdeal.Gen.facts, Cert.KNopeRefIdeal.Gen.facts,
  Cert.LruSample.Gen.facts, Cert.LruSampleIdeal.Gen.facts, Cert.LruSampleRefIdeal.Gen.facts,
  Cert.VUp.Gen.facts, Cert.VUpIdeal.Gen.facts, Cert.VUpRefIdeal.Gen.facts,
  Cert.Pre_finite.Gen.facts, Cert.Pre_tables_up.Gen.facts, Cert.Pre_tables_down.Gen.facts,
  AttnClaim.frame, AttnClaim.frameIdeal, AttnClaim.frameIdeal_pre, AttnClaim.frameRef, AttnClaim.frameRef_pre,
  SwigluProof.frame, SwigluProof.frameIdeal, SwigluProof.frameRef,
  GatesProof.frame, GatesProof.frameIdeal, GatesProof.frameRef,
  DownAProof.frame, DownAProof.frameIdeal, DownAProof.frameRef,
  DownBProof.frame, DownBProof.frameIdeal, DownBProof.frameRef,
  OutProjProof.frame, OutProjProof.frameIdeal, OutProjProof.frameRef,
  MergeProof.frame, MergeProof.frameIdeal, MergeProof.frameRef,
  ExpUpProof.frame, ExpUpProof.frameIdeal, ExpUpProof.frameRef,
  ExpDownProof.frame, ExpDownProof.frameIdeal, ExpDownProof.frameRef,
  InProjProof.frame, InProjProof.frameIdeal, InProjProof.frameRef,
  ResidProof.frame, ResidProof.frameIdeal, ResidProof.frameRef,
  LatentsProof.frame, LatentsProof.frameIdeal, LatentsProof.frameRef,
  KeyColsProof.frame, KeyColsProof.frameIdeal, KeyColsProof.frameRef,
  QNopeProof.frame, QNopeProof.frameIdeal, QNopeProof.frameRef,
  KNopeProof.frame, KNopeProof.frameIdeal, KNopeProof.frameRef,
  LruSampleProof.frame, LruSampleProof.frameIdeal, LruSampleProof.frameRef,
  VUpProof.frame, VUpProof.frameIdeal, VUpProof.frameRef,
  trivial, AttnClaim.algebraic,
  trivial, SwigluProof.algebraic,
  trivial, GatesProof.algebraic,
  trivial, DownAProof.algebraic,
  trivial, DownBProof.algebraic,
  trivial, OutProjProof.algebraic,
  trivial, MergeProof.algebraic,
  trivial, ExpUpProof.algebraic,
  trivial, ExpDownProof.algebraic,
  trivial, InProjProof.algebraic,
  trivial, ResidProof.algebraic,
  trivial, LatentsProof.algebraic,
  trivial, KeyColsProof.algebraic,
  trivial, QNopeProof.algebraic,
  trivial, KNopeProof.algebraic,
  trivial, LruSampleProof.algebraic,
  trivial, VUpProof.algebraic⟩

end Cert.Proof

end
